-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_RollK (m : (ℓ : Loc Cert.RollK.nD Cert.RollK.τ Cert.RollK.sig) → Buf (Elt Bits) ℓ) : Prop :=
  True

def Pre_RollKIdeal (m : (ℓ : Loc Cert.RollKIdeal.nD Cert.RollKIdeal.τ Cert.RollKIdeal.sig) → Buf (Elt Ideal) ℓ) : Prop :=
  True

def Pre_RollKReferenceIdeal (m : (ℓ : Loc Cert.RollKReferenceIdeal.nD Cert.RollKReferenceIdeal.τ Cert.RollKReferenceIdeal.sig) → Buf (Elt Ideal) ℓ) : Prop :=
  True

def Pre_RollV (m : (ℓ : Loc Cert.RollV.nD Cert.RollV.τ Cert.RollV.sig) → Buf (Elt Bits) ℓ) : Prop :=
  True

def Pre_RollVIdeal (m : (ℓ : Loc Cert.RollVIdeal.nD Cert.RollVIdeal.τ Cert.RollVIdeal.sig) → Buf (Elt Ideal) ℓ) : Prop :=
  True

def Pre_RollVReferenceIdeal (m : (ℓ : Loc Cert.RollVReferenceIdeal.nD Cert.RollVReferenceIdeal.τ Cert.RollVReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_RollK [hRollK : Cert.RollK.Facts] : Prop :=
  ∀ (m : (ℓ : Loc Cert.RollK.nD Cert.RollK.τ Cert.RollK.sig) → Buf (Elt Bits) ℓ) (g : Dev Cert.RollK.nD → PrngReg), Pre_RollK m →
    θ_run (Cert.RollK.defs (F := Bits)) (onTc (τ := Cert.RollK.τ) (Cert.RollK.main (F := Bits))) ⟨m, fun _ => 0, g⟩ (fun r => (∀ c : Dev Cert.RollK.nD,
      r.2.mem ((c.tc : Thread Cert.RollK.nD Cert.RollK.τ).loc Cert.RollK.main_arg0) = m ((c.tc : Thread Cert.RollK.nD Cert.RollK.τ).loc Cert.RollK.main_arg0)
      ∧ r.2.mem ((c.tc : Thread Cert.RollK.nD Cert.RollK.τ).loc Cert.RollK.main_arg1) = m ((c.tc : Thread Cert.RollK.nD Cert.RollK.τ).loc Cert.RollK.main_arg1)
      ∧ r.2.mem ((c.tc : Thread Cert.RollK.nD Cert.RollK.τ).loc Cert.RollK.main_arg2) = m ((c.tc : Thread Cert.RollK.nD Cert.RollK.τ).loc Cert.RollK.main_arg2))
      ∧ r.2.sem = fun _ => 0)

def quiescent_RollKIdeal [hRollKIdeal : Cert.RollKIdeal.Facts] : Prop :=
  ∀ (m : (ℓ : Loc Cert.RollKIdeal.nD Cert.RollKIdeal.τ Cert.RollKIdeal.sig) → Buf (Elt Ideal) ℓ) (g : Dev Cert.RollKIdeal.nD → PrngReg), Pre_RollKIdeal m →
    θ_run (Cert.RollKIdeal.defs (F := Ideal)) (onTc (τ := Cert.RollKIdeal.τ) (Cert.RollKIdeal.main (F := Ideal))) ⟨m, fun _ => 0, g⟩ (fun r => (∀ c : Dev Cert.RollKIdeal.nD,
      r.2.mem ((c.tc : Thread Cert.RollKIdeal.nD Cert.RollKIdeal.τ).loc Cert.RollKIdeal.main_arg0) = m ((c.tc : Thread Cert.RollKIdeal.nD Cert.RollKIdeal.τ).loc Cert.RollKIdeal.main_arg0)
      ∧ r.2.mem ((c.tc : Thread Cert.RollKIdeal.nD Cert.RollKIdeal.τ).loc Cert.RollKIdeal.main_arg1) = m ((c.tc : Thread Cert.RollKIdeal.nD Cert.RollKIdeal.τ).loc Cert.RollKIdeal.main_arg1)
      ∧ r.2.mem ((c.tc : Thread Cert.RollKIdeal.nD Cert.RollKIdeal.τ).loc Cert.RollKIdeal.main_arg2) = m ((c.tc : Thread Cert.RollKIdeal.nD Cert.RollKIdeal.τ).loc Cert.RollKIdeal.main_arg2))
      ∧ r.2.sem = fun _ => 0)

def quiescent_RollKReferenceIdeal [hRollKReferenceIdeal : Cert.RollKReferenceIdeal.Facts] : Prop :=
  ∀ (m : (ℓ : Loc Cert.RollKReferenceIdeal.nD Cert.RollKReferenceIdeal.τ Cert.RollKReferenceIdeal.sig) → Buf (Elt Ideal) ℓ) (g : Dev Cert.RollKReferenceIdeal.nD → PrngReg), Pre_RollKReferenceIdeal m →
    θ_run (Cert.RollKReferenceIdeal.defs (F := Ideal)) (onTc (τ := Cert.RollKReferenceIdeal.τ) (Cert.RollKReferenceIdeal.main (F := Ideal))) ⟨m, fun _ => 0, g⟩ (fun r => (∀ c : Dev Cert.RollKReferenceIdeal.nD,
      r.2.mem ((c.tc : Thread Cert.RollKReferenceIdeal.nD Cert.RollKReferenceIdeal.τ).loc Cert.RollKReferenceIdeal.main_arg0) = m ((c.tc : Thread Cert.RollKReferenceIdeal.nD Cert.RollKReferenceIdeal.τ).loc Cert.RollKReferenceIdeal.main_arg0)
      ∧ r.2.mem ((c.tc : Thread Cert.RollKReferenceIdeal.nD Cert.RollKReferenceIdeal.τ).loc Cert.RollKReferenceIdeal.main_arg1) = m ((c.tc : Thread Cert.RollKReferenceIdeal.nD Cert.RollKReferenceIdeal.τ).loc Cert.RollKReferenceIdeal.main_arg1)
      ∧ r.2.mem ((c.tc : Thread Cert.RollKReferenceIdeal.nD Cert.RollKReferenceIdeal.τ).loc Cert.RollKReferenceIdeal.main_arg2) = m ((c.tc : Thread Cert.RollKReferenceIdeal.nD Cert.RollKReferenceIdeal.τ).loc Cert.RollKReferenceIdeal.main_arg2))
      ∧ r.2.sem = fun _ => 0)

def quiescent_RollV [hRollV : Cert.RollV.Facts] : Prop :=
  ∀ (m : (ℓ : Loc Cert.RollV.nD Cert.RollV.τ Cert.RollV.sig) → Buf (Elt Bits) ℓ) (g : Dev Cert.RollV.nD → PrngReg), Pre_RollV m →
    θ_run (Cert.RollV.defs (F := Bits)) (onTc (τ := Cert.RollV.τ) (Cert.RollV.main (F := Bits))) ⟨m, fun _ => 0, g⟩ (fun r => (∀ c : Dev Cert.RollV.nD,
      r.2.mem ((c.tc : Thread Cert.RollV.nD Cert.RollV.τ).loc Cert.RollV.main_arg0) = m ((c.tc : Thread Cert.RollV.nD Cert.RollV.τ).loc Cert.RollV.main_arg0)
      ∧ r.2.mem ((c.tc : Thread Cert.RollV.nD Cert.RollV.τ).loc Cert.RollV.main_arg1) = m ((c.tc : Thread Cert.RollV.nD Cert.RollV.τ).loc Cert.RollV.main_arg1)
      ∧ r.2.mem ((c.tc : Thread Cert.RollV.nD Cert.RollV.τ).loc Cert.RollV.main_arg2) = m ((c.tc : Thread Cert.RollV.nD Cert.RollV.τ).loc Cert.RollV.main_arg2))
      ∧ r.2.sem = fun _ => 0)

def quiescent_RollVIdeal [hRollVIdeal : Cert.RollVIdeal.Facts] : Prop :=
  ∀ (m : (ℓ : Loc Cert.RollVIdeal.nD Cert.RollVIdeal.τ Cert.RollVIdeal.sig) → Buf (Elt Ideal) ℓ) (g : Dev Cert.RollVIdeal.nD → PrngReg), Pre_RollVIdeal m →
    θ_run (Cert.RollVIdeal.defs (F := Ideal)) (onTc (τ := Cert.RollVIdeal.τ) (Cert.RollVIdeal.main (F := Ideal))) ⟨m, fun _ => 0, g⟩ (fun r => (∀ c : Dev Cert.RollVIdeal.nD,
      r.2.mem ((c.tc : Thread Cert.RollVIdeal.nD Cert.RollVIdeal.τ).loc Cert.RollVIdeal.main_arg0) = m ((c.tc : Thread Cert.RollVIdeal.nD Cert.RollVIdeal.τ).loc Cert.RollVIdeal.main_arg0)
      ∧ r.2.mem ((c.tc : Thread Cert.RollVIdeal.nD Cert.RollVIdeal.τ).loc Cert.RollVIdeal.main_arg1) = m ((c.tc : Thread Cert.RollVIdeal.nD Cert.RollVIdeal.τ).loc Cert.RollVIdeal.main_arg1)
      ∧ r.2.mem ((c.tc : Thread Cert.RollVIdeal.nD Cert.RollVIdeal.τ).loc Cert.RollVIdeal.main_arg2) = m ((c.tc : Thread Cert.RollVIdeal.nD Cert.RollVIdeal.τ).loc Cert.RollVIdeal.main_arg2))
      ∧ r.2.sem = fun _ => 0)

def quiescent_RollVReferenceIdeal [hRollVReferenceIdeal : Cert.RollVReferenceIdeal.Facts] : Prop :=
  ∀ (m : (ℓ : Loc Cert.RollVReferenceIdeal.nD Cert.RollVReferenceIdeal.τ Cert.RollVReferenceIdeal.sig) → Buf (Elt Ideal) ℓ) (g : Dev Cert.RollVReferenceIdeal.nD → PrngReg), Pre_RollVReferenceIdeal m →
    θ_run (Cert.RollVReferenceIdeal.defs (F := Ideal)) (onTc (τ := Cert.RollVReferenceIdeal.τ) (Cert.RollVReferenceIdeal.main (F := Ideal))) ⟨m, fun _ => 0, g⟩ (fun r => (∀ c : Dev Cert.RollVReferenceIdeal.nD,
      r.2.mem ((c.tc : Thread Cert.RollVReferenceIdeal.nD Cert.RollVReferenceIdeal.τ).loc Cert.RollVReferenceIdeal.main_arg0) = m ((c.tc : Thread Cert.RollVReferenceIdeal.nD Cert.RollVReferenceIdeal.τ).loc Cert.RollVReferenceIdeal.main_arg0)
      ∧ r.2.mem ((c.tc : Thread Cert.RollVReferenceIdeal.nD Cert.RollVReferenceIdeal.τ).loc Cert.RollVReferenceIdeal.main_arg1) = m ((c.tc : Thread Cert.RollVReferenceIdeal.nD Cert.RollVReferenceIdeal.τ).loc Cert.RollVReferenceIdeal.main_arg1)
      ∧ r.2.mem ((c.tc : Thread Cert.RollVReferenceIdeal.nD Cert.RollVReferenceIdeal.τ).loc Cert.RollVReferenceIdeal.main_arg2) = m ((c.tc : Thread Cert.RollVReferenceIdeal.nD Cert.RollVReferenceIdeal.τ).loc Cert.RollVReferenceIdeal.main_arg2))
      ∧ r.2.sem = fun _ => 0)

def preserves_Kernel_KernelIdeal : Prop :=
  True

def algebraic_KernelIdeal_ReferenceIdeal_on_normal_scales [hKernelIdeal : Cert.KernelIdeal.Facts] [hReferenceIdeal : Cert.ReferenceIdeal.Facts] [hOn_normal_scales : Cert.On_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3072, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.KernelIdeal.nD Cert.KernelIdeal.τ).loc Cert.KernelIdeal.main_v9_0) i = v0 c i)
          ∧ (∀ i : (⟨2, ![3072, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.KernelIdeal.nD Cert.KernelIdeal.τ).loc Cert.KernelIdeal.main_v9_1) i = v1 c i)
          ∧ (∀ i : (⟨3, ![192, 8, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.KernelIdeal.nD Cert.KernelIdeal.τ).loc Cert.KernelIdeal.main_v9_2) i = v2 c i)
          ∧ (∀ i : (⟨2, ![192, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 i = 1#1 → r.2.mem ((c.tc : Thread Cert.KernelIdeal.nD Cert.KernelIdeal.τ).loc Cert.KernelIdeal.main_v9_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3072, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.ReferenceIdeal.nD Cert.ReferenceIdeal.τ).loc Cert.ReferenceIdeal.main_v12_0) i = v0 c i)
          ∧ (∀ i : (⟨2, ![3072, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.ReferenceIdeal.nD Cert.ReferenceIdeal.τ).loc Cert.ReferenceIdeal.main_v12_1) i = v1 c i)
          ∧ (∀ i : (⟨3, ![192, 8, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.ReferenceIdeal.nD Cert.ReferenceIdeal.τ).loc Cert.ReferenceIdeal.main_v12_2) i = v2 c i)
          ∧ (∀ i : (⟨2, ![192, 2048]⟩ : Shape).Idx, (Cert.On_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 i = 1#1 → r.2.mem ((c.tc : Thread Cert.ReferenceIdeal.nD Cert.ReferenceIdeal.τ).loc Cert.ReferenceIdeal.main_v12_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v33) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_RollK_RollKIdeal : Prop :=
  True

def algebraic_RollKIdeal_RollKReferenceIdeal [hRollKIdeal : Cert.RollKIdeal.Facts] [hRollKReferenceIdeal : Cert.RollKReferenceIdeal.Facts] : Prop :=
  ∀ (m : (ℓ : Loc Cert.RollKIdeal.nD Cert.RollKIdeal.τ Cert.RollKIdeal.sig) → Buf (Elt Ideal) ℓ) (g : Dev Cert.RollKIdeal.nD → PrngReg)
    (m' : (ℓ : Loc Cert.RollKReferenceIdeal.nD Cert.RollKReferenceIdeal.τ Cert.RollKReferenceIdeal.sig) → Buf (Elt Ideal) ℓ) (g' : Dev Cert.RollKReferenceIdeal.nD → PrngReg), Pre_RollKIdeal m →
    (∀ c : Dev Cert.RollKIdeal.nD,
      m' ((c.tc : Thread Cert.RollKReferenceIdeal.nD Cert.RollKReferenceIdeal.τ).loc Cert.RollKReferenceIdeal.main_arg0) = m ((c.tc : Thread Cert.RollKIdeal.nD Cert.RollKIdeal.τ).loc Cert.RollKIdeal.main_arg0)
      ∧ m' ((c.tc : Thread Cert.RollKReferenceIdeal.nD Cert.RollKReferenceIdeal.τ).loc Cert.RollKReferenceIdeal.main_arg1) = m ((c.tc : Thread Cert.RollKIdeal.nD Cert.RollKIdeal.τ).loc Cert.RollKIdeal.main_arg1)
      ∧ m' ((c.tc : Thread Cert.RollKReferenceIdeal.nD Cert.RollKReferenceIdeal.τ).loc Cert.RollKReferenceIdeal.main_arg2) = m ((c.tc : Thread Cert.RollKIdeal.nD Cert.RollKIdeal.τ).loc Cert.RollKIdeal.main_arg2)) →
    ∃ (v0 : (c : Dev Cert.RollKIdeal.nD) → Buf (Elt Ideal) ((c.tc : Thread Cert.RollKIdeal.nD Cert.RollKIdeal.τ).loc Cert.RollKIdeal.main_v6)) (v1 : (c : Dev Cert.RollKIdeal.nD) → Buf (Elt Ideal) ((c.tc : Thread Cert.RollKIdeal.nD Cert.RollKIdeal.τ).loc Cert.RollKIdeal.main_v7)),
      θ_run (Cert.RollKIdeal.defs (F := Ideal)) (onTc (τ := Cert.RollKIdeal.τ) (Cert.RollKIdeal.main (F := Ideal))) ⟨m, fun _ => 0, g⟩ (fun r => ∀ c : Dev Cert.RollKIdeal.nD,
          r.2.mem ((c.tc : Thread Cert.RollKIdeal.nD Cert.RollKIdeal.τ).loc Cert.RollKIdeal.main_v6) = v0 c
          ∧ r.2.mem ((c.tc : Thread Cert.RollKIdeal.nD Cert.RollKIdeal.τ).loc Cert.RollKIdeal.main_v7) = v1 c
          ∧ r.2.mem ((c.tc : Thread Cert.RollKIdeal.nD Cert.RollKIdeal.τ).loc Cert.RollKIdeal.main_arg0) = m ((c.tc : Thread Cert.RollKIdeal.nD Cert.RollKIdeal.τ).loc Cert.RollKIdeal.main_arg0)
          ∧ r.2.mem ((c.tc : Thread Cert.RollKIdeal.nD Cert.RollKIdeal.τ).loc Cert.RollKIdeal.main_arg1) = m ((c.tc : Thread Cert.RollKIdeal.nD Cert.RollKIdeal.τ).loc Cert.RollKIdeal.main_arg1)
          ∧ r.2.mem ((c.tc : Thread Cert.RollKIdeal.nD Cert.RollKIdeal.τ).loc Cert.RollKIdeal.main_arg2) = m ((c.tc : Thread Cert.RollKIdeal.nD Cert.RollKIdeal.τ).loc Cert.RollKIdeal.main_arg2))
      ∧ θ_run (Cert.RollKReferenceIdeal.defs (F := Ideal)) (onTc (τ := Cert.RollKReferenceIdeal.τ) (Cert.RollKReferenceIdeal.main (F := Ideal))) ⟨m', fun _ => 0, g'⟩ (fun r => ∀ c : Dev Cert.RollKReferenceIdeal.nD,
          r.2.mem ((c.tc : Thread Cert.RollKReferenceIdeal.nD Cert.RollKReferenceIdeal.τ).loc Cert.RollKReferenceIdeal.main_v3_0) = v0 c
          ∧ r.2.mem ((c.tc : Thread Cert.RollKReferenceIdeal.nD Cert.RollKReferenceIdeal.τ).loc Cert.RollKReferenceIdeal.main_v3_1) = v1 c
          ∧ r.2.mem ((c.tc : Thread Cert.RollKReferenceIdeal.nD Cert.RollKReferenceIdeal.τ).loc Cert.RollKReferenceIdeal.main_arg0) = m' ((c.tc : Thread Cert.RollKReferenceIdeal.nD Cert.RollKReferenceIdeal.τ).loc Cert.RollKReferenceIdeal.main_arg0)
          ∧ r.2.mem ((c.tc : Thread Cert.RollKReferenceIdeal.nD Cert.RollKReferenceIdeal.τ).loc Cert.RollKReferenceIdeal.main_arg1) = m' ((c.tc : Thread Cert.RollKReferenceIdeal.nD Cert.RollKReferenceIdeal.τ).loc Cert.RollKReferenceIdeal.main_arg1)
          ∧ r.2.mem ((c.tc : Thread Cert.RollKReferenceIdeal.nD Cert.RollKReferenceIdeal.τ).loc Cert.RollKReferenceIdeal.main_arg2) = m' ((c.tc : Thread Cert.RollKReferenceIdeal.nD Cert.RollKReferenceIdeal.τ).loc Cert.RollKReferenceIdeal.main_arg2))

def preserves_RollV_RollVIdeal : Prop :=
  True

def algebraic_RollVIdeal_RollVReferenceIdeal [hRollVIdeal : Cert.RollVIdeal.Facts] [hRollVReferenceIdeal : Cert.RollVReferenceIdeal.Facts] : Prop :=
  ∀ (m : (ℓ : Loc Cert.RollVIdeal.nD Cert.RollVIdeal.τ Cert.RollVIdeal.sig) → Buf (Elt Ideal) ℓ) (g : Dev Cert.RollVIdeal.nD → PrngReg)
    (m' : (ℓ : Loc Cert.RollVReferenceIdeal.nD Cert.RollVReferenceIdeal.τ Cert.RollVReferenceIdeal.sig) → Buf (Elt Ideal) ℓ) (g' : Dev Cert.RollVReferenceIdeal.nD → PrngReg), Pre_RollVIdeal m →
    (∀ c : Dev Cert.RollVIdeal.nD,
      m' ((c.tc : Thread Cert.RollVReferenceIdeal.nD Cert.RollVReferenceIdeal.τ).loc Cert.RollVReferenceIdeal.main_arg0) = m ((c.tc : Thread Cert.RollVIdeal.nD Cert.RollVIdeal.τ).loc Cert.RollVIdeal.main_arg0)
      ∧ m' ((c.tc : Thread Cert.RollVReferenceIdeal.nD Cert.RollVReferenceIdeal.τ).loc Cert.RollVReferenceIdeal.main_arg1) = m ((c.tc : Thread Cert.RollVIdeal.nD Cert.RollVIdeal.τ).loc Cert.RollVIdeal.main_arg1)
      ∧ m' ((c.tc : Thread Cert.RollVReferenceIdeal.nD Cert.RollVReferenceIdeal.τ).loc Cert.RollVReferenceIdeal.main_arg2) = m ((c.tc : Thread Cert.RollVIdeal.nD Cert.RollVIdeal.τ).loc Cert.RollVIdeal.main_arg2)) →
    ∃ (v0 : (c : Dev Cert.RollVIdeal.nD) → Buf (Elt Ideal) ((c.tc : Thread Cert.RollVIdeal.nD Cert.RollVIdeal.τ).loc Cert.RollVIdeal.main_v6)) (v1 : (c : Dev Cert.RollVIdeal.nD) → Buf (Elt Ideal) ((c.tc : Thread Cert.RollVIdeal.nD Cert.RollVIdeal.τ).loc Cert.RollVIdeal.main_v7)),
      θ_run (Cert.RollVIdeal.defs (F := Ideal)) (onTc (τ := Cert.RollVIdeal.τ) (Cert.RollVIdeal.main (F := Ideal))) ⟨m, fun _ => 0, g⟩ (fun r => ∀ c : Dev Cert.RollVIdeal.nD,
          r.2.mem ((c.tc : Thread Cert.RollVIdeal.nD Cert.RollVIdeal.τ).loc Cert.RollVIdeal.main_v6) = v0 c
          ∧ r.2.mem ((c.tc : Thread Cert.RollVIdeal.nD Cert.RollVIdeal.τ).loc Cert.RollVIdeal.main_v7) = v1 c
          ∧ r.2.mem ((c.tc : Thread Cert.RollVIdeal.nD Cert.RollVIdeal.τ).loc Cert.RollVIdeal.main_arg0) = m ((c.tc : Thread Cert.RollVIdeal.nD Cert.RollVIdeal.τ).loc Cert.RollVIdeal.main_arg0)
          ∧ r.2.mem ((c.tc : Thread Cert.RollVIdeal.nD Cert.RollVIdeal.τ).loc Cert.RollVIdeal.main_arg1) = m ((c.tc : Thread Cert.RollVIdeal.nD Cert.RollVIdeal.τ).loc Cert.RollVIdeal.main_arg1)
          ∧ r.2.mem ((c.tc : Thread Cert.RollVIdeal.nD Cert.RollVIdeal.τ).loc Cert.RollVIdeal.main_arg2) = m ((c.tc : Thread Cert.RollVIdeal.nD Cert.RollVIdeal.τ).loc Cert.RollVIdeal.main_arg2))
      ∧ θ_run (Cert.RollVReferenceIdeal.defs (F := Ideal)) (onTc (τ := Cert.RollVReferenceIdeal.τ) (Cert.RollVReferenceIdeal.main (F := Ideal))) ⟨m', fun _ => 0, g'⟩ (fun r => ∀ c : Dev Cert.RollVReferenceIdeal.nD,
          r.2.mem ((c.tc : Thread Cert.RollVReferenceIdeal.nD Cert.RollVReferenceIdeal.τ).loc Cert.RollVReferenceIdeal.main_v3_0) = v0 c
          ∧ r.2.mem ((c.tc : Thread Cert.RollVReferenceIdeal.nD Cert.RollVReferenceIdeal.τ).loc Cert.RollVReferenceIdeal.main_v3_1) = v1 c
          ∧ r.2.mem ((c.tc : Thread Cert.RollVReferenceIdeal.nD Cert.RollVReferenceIdeal.τ).loc Cert.RollVReferenceIdeal.main_arg0) = m' ((c.tc : Thread Cert.RollVReferenceIdeal.nD Cert.RollVReferenceIdeal.τ).loc Cert.RollVReferenceIdeal.main_arg0)
          ∧ r.2.mem ((c.tc : Thread Cert.RollVReferenceIdeal.nD Cert.RollVReferenceIdeal.τ).loc Cert.RollVReferenceIdeal.main_arg1) = m' ((c.tc : Thread Cert.RollVReferenceIdeal.nD Cert.RollVReferenceIdeal.τ).loc Cert.RollVReferenceIdeal.main_arg1)
          ∧ r.2.mem ((c.tc : Thread Cert.RollVReferenceIdeal.nD Cert.RollVReferenceIdeal.τ).loc Cert.RollVReferenceIdeal.main_arg2) = m' ((c.tc : Thread Cert.RollVReferenceIdeal.nD Cert.RollVReferenceIdeal.τ).loc Cert.RollVReferenceIdeal.main_arg2))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hRollK : Cert.RollK.Facts) (hRollKIdeal : Cert.RollKIdeal.Facts) (hRollKReferenceIdeal : Cert.RollKReferenceIdeal.Facts) (hRollV : Cert.RollV.Facts) (hRollVIdeal : Cert.RollVIdeal.Facts) (hRollVReferenceIdeal : Cert.RollVReferenceIdeal.Facts) (hOn_normal_scales : Cert.On_normal_scales.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_RollK (hRollK := hRollK)
    ∧ quiescent_RollKIdeal (hRollKIdeal := hRollKIdeal)
    ∧ quiescent_RollKReferenceIdeal (hRollKReferenceIdeal := hRollKReferenceIdeal)
    ∧ quiescent_RollV (hRollV := hRollV)
    ∧ quiescent_RollVIdeal (hRollVIdeal := hRollVIdeal)
    ∧ quiescent_RollVReferenceIdeal (hRollVReferenceIdeal := hRollVReferenceIdeal)
    ∧ preserves_Kernel_KernelIdeal
    ∧ algebraic_KernelIdeal_ReferenceIdeal_on_normal_scales (hKernelIdeal := hKernelIdeal) (hReferenceIdeal := hReferenceIdeal) (hOn_normal_scales := hOn_normal_scales)
    ∧ preserves_Qkv_QkvIdeal
    ∧ algebraic_QkvIdeal_QkvReferenceIdeal (hQkvIdeal := hQkvIdeal) (hQkvReferenceIdeal := hQkvReferenceIdeal)
    ∧ preserves_RollK_RollKIdeal
    ∧ algebraic_RollKIdeal_RollKReferenceIdeal (hRollKIdeal := hRollKIdeal) (hRollKReferenceIdeal := hRollKReferenceIdeal)
    ∧ preserves_RollV_RollVIdeal
    ∧ algebraic_RollVIdeal_RollVReferenceIdeal (hRollVIdeal := hRollVIdeal) (hRollVReferenceIdeal := hRollVReferenceIdeal)
-- ==== On_normal_scales.lean ====
abbrev S3072x2048 : Shape := ⟨2, ![3072, 2048]⟩
abbrev S192x16x2048 : Shape := ⟨3, ![192, 16, 2048]⟩
abbrev S32x64x2048 : Shape := ⟨3, ![32, 64, 2048]⟩
abbrev S2048 : Shape := ⟨1, ![2048]⟩
abbrev S2048x2x2048 : Shape := ⟨3, ![2048, 2, 2048]⟩
abbrev S2x2048 : Shape := ⟨2, ![2, 2048]⟩
abbrev S192x8x2048 : Shape := ⟨3, ![192, 8, 2048]⟩
abbrev S192x2048 : Shape := ⟨2, ![192, 2048]⟩
abbrev S9x2048 : Shape := ⟨2, ![9, 2048]⟩
abbrev S2048x2048 : Shape := ⟨2, ![2048, 2048]⟩
abbrev S1x2048 : Shape := ⟨2, ![1, 2048]⟩
abbrev S_ : Shape := ⟨0, ![]⟩
abbrev S3072 : Shape := ⟨1, ![3072]⟩
abbrev S3072x1 : Shape := ⟨2, ![3072, 1]⟩
abbrev S2048x1x2048 : Shape := ⟨3, ![2048, 1, 2048]⟩
abbrev S192x1x2048 : Shape := ⟨3, ![192, 1, 2048]⟩

class Facts : Prop where
  shapeCasts_S192x16x2048_S3072x2048 : S192x16x2048.ShapeCasts S3072x2048
  bitsLt_bf16_f32 : FTy.bits .bf16 < FTy.bits .f32
  shapeCasts_S32x64x2048_S2048x2048 : S32x64x2048.ShapeCasts S2048x2048
  bcast_S2048_S1x2048_1 : S2048.BroadcastsInDim S1x2048 (![1] : Fin 1 → Fin S1x2048.rank)
  bcast_S1x2048_S3072x2048_0_1 : S1x2048.BroadcastsInDim S3072x2048 (![0, 1] : Fin 2 → Fin S3072x2048.rank)
  reducesTo_S3072x2048_S3072_d1 : S3072x2048.ReducesTo [1] S3072
  h_S_ : 0 < S_.numel
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S3072x1_S3072x2048_0_1 : S3072x1.BroadcastsInDim S3072x2048 (![0, 1] : Fin 2 → Fin S3072x2048.rank)
  slices_S2048x2x2048_S2048x1x2048_0_0_0 : S2048x2x2048.Slices ![0, 0, 0] S2048x1x2048
  shapeCasts_S2048x1x2048_S2048x2048 : S2048x1x2048.ShapeCasts S2048x2048
  slices_S2x2048_S1x2048_0_0 : S2x2048.Slices ![0, 0] S1x2048
  shapeCasts_S1x2048_S2048 : S1x2048.ShapeCasts S2048
  slices_S2048x2x2048_S2048x1x2048_0_1_0 : S2048x2x2048.Slices ![0, 1, 0] S2048x1x2048
  slices_S2x2048_S1x2048_1_0 : S2x2048.Slices ![1, 0] S1x2048
  bcast_S_S3072x2048 : S_.BroadcastsInDim S3072x2048 (![] : Fin 0 → Fin S3072x2048.rank)
  shapeCasts_S3072x2048_S192x16x2048 : S3072x2048.ShapeCasts S192x16x2048
  slices_S192x16x2048_S192x8x2048_0_8_0 : S192x16x2048.Slices ![0, 8, 0] S192x8x2048
  reducesTo_S192x8x2048_S192x2048_d1 : S192x8x2048.ReducesTo [1] S192x2048
  bcast_S_S192x2048 : S_.BroadcastsInDim S192x2048 (![] : Fin 0 → Fin S192x2048.rank)
  bcast_S192x2048_S192x1x2048_0_2 : S192x2048.BroadcastsInDim S192x1x2048 (![0, 2] : Fin 2 → Fin S192x1x2048.rank)
  bcast_S192x1x2048_S192x8x2048_0_1_2 : S192x1x2048.BroadcastsInDim S192x8x2048 (![0, 1, 2] : Fin 3 → Fin S192x8x2048.rank)
  dot_S3072x2048_S2048x2048_S3072x2048_1_0_0_1_n_n_wf : DotDims.WF S3072x2048 S2048x2048 S3072x2048 [1] [0] [0] [1] [] []

variable [Facts]

def dot_S3072x2048_S2048x2048_S3072x2048_1_0_0_1_n_n : DotDims S3072x2048 S2048x2048 S3072x2048 where
  lhsContracting := [1]
  rhsContracting := [0]
  lhsNonContracting := [0]
  rhsNonContracting := [1]
  lhsBatch := []
  rhsBatch := []
  wf := dot_S3072x2048_S2048x2048_S3072x2048_1_0_0_1_n_n_wf
def fn_part3 {F : FTy → Type} [FloatOps F] (main_v61 : FVec F S192x2048 .f32) (main_cst_8 : FVec F S_ .f32) : IVec S3072x2048 1 × IVec S3072x2048 1 × IVec S192x8x2048 1 × IVec S192x2048 1 :=
  let main_v62 : FVec F S192x2048 .f32 := broadcastInDim S192x2048 ![] bcast_S_S192x2048 main_cst_8
  let main_v63 : IVec S192x2048 1 := cmpf .oeq main_v61 main_v62
  let main_cst_9 : FVec F S_ .f32 := constant S_ .f32 0x00800000#32
  let main_v64 : FVec F S192x2048 .f32 := broadcastInDim S192x2048 ![] bcast_S_S192x2048 main_cst_9
  let main_v65 : IVec S192x2048 1 := cmpf .oge main_v61 main_v64
  let main_cst_10 : FVec F S_ .f32 := constant S_ .f32 0x7E800000#32
  let main_v66 : FVec F S192x2048 .f32 := broadcastInDim S192x2048 ![] bcast_S_S192x2048 main_cst_10
  let main_v67 : IVec S192x2048 1 := cmpf .olt main_v61 main_v66
  let main_v68 : IVec S192x2048 1 := andi main_v65 main_v67
  let main_v69 : IVec S192x2048 1 := ori main_v63 main_v68
  let main_c : IVec S_ 1 := constantI S_ 1 1#1
  let main_v70 : IVec S3072x2048 1 := broadcastInDim S3072x2048 ![] bcast_S_S3072x2048 main_c
  let main_c_11 : IVec S_ 1 := constantI S_ 1 1#1
  let main_v71 : IVec S3072x2048 1 := broadcastInDim S3072x2048 ![] bcast_S_S3072x2048 main_c_11
  let main_v72 : IVec S192x1x2048 1 := broadcastInDim S192x1x2048 ![0, 2] bcast_S192x2048_S192x1x2048_0_2 main_v69
  let main_v73 : IVec S192x8x2048 1 := broadcastInDim S192x8x2048 ![0, 1, 2] bcast_S192x1x2048_S192x8x2048_0_1_2 main_v72
  (main_v70, main_v71, main_v73, main_v69)

def fn_part2 {F : FTy → Type} [FloatOps F] (main_arg7 : FVec F S2x2048 .f32) (main_v32 : FVec F S3072x2048 .bf16) (main_v40 : FVec F S3072x2048 .f32) (main_v42 : FVec F S2048x2048 .bf16) : IVec S3072x2048 1 × IVec S3072x2048 1 × IVec S192x8x2048 1 × IVec S192x2048 1 :=
  let main_v43 : FVec F S3072x2048 .f32 := (fun l r => Host.dotGeneral dot_S3072x2048_S2048x2048_S3072x2048_1_0_0_1_n_n none l r) main_v32 main_v42
  let main_v44 : FVec F S1x2048 .f32 := (extractStridedSlice S1x2048 ![1, 0] · slices_S2x2048_S1x2048_1_0) main_arg7
  let main_v45 : FVec F S2048 .f32 := shapeCast S2048 main_v44 shapeCasts_S1x2048_S2048
  let main_v46 : FVec F S1x2048 .f32 := broadcastInDim S1x2048 ![1] bcast_S2048_S1x2048_1 main_v45
  let main_v47 : FVec F S3072x2048 .f32 := broadcastInDim S3072x2048 ![0, 1] bcast_S1x2048_S3072x2048_0_1 main_v46
  let main_v48 : FVec F S3072x2048 .f32 := addf main_v43 main_v47
  let main_v49 : FVec F S3072x2048 .f32 := Host.negf main_v48
  let main_v50 : FVec F S3072x2048 .f32 := Host.exp main_v49
  let main_cst_4 : FVec F S_ .f32 := constant S_ .f32 0x3F800000#32
  let main_v51 : FVec F S3072x2048 .f32 := broadcastInDim S3072x2048 ![] bcast_S_S3072x2048 main_cst_4
  let main_v52 : FVec F S3072x2048 .f32 := addf main_v51 main_v50
  let main_cst_5 : FVec F S_ .f32 := constant S_ .f32 0x3F800000#32
  let main_v53 : FVec F S3072x2048 .f32 := broadcastInDim S3072x2048 ![] bcast_S_S3072x2048 main_cst_5
  let main_v54 : FVec F S3072x2048 .f32 := Host.divf main_v53 main_v52
  let main_v55 : FVec F S3072x2048 .f32 := mulf main_v40 main_v54
  let main_v56 : FVec F S192x16x2048 .f32 := shapeCast S192x16x2048 main_v55 shapeCasts_S3072x2048_S192x16x2048
  let main_v57 : FVec F S192x8x2048 .f32 := (extractStridedSlice S192x8x2048 ![0, 8, 0] · slices_S192x16x2048_S192x8x2048_0_8_0) main_v56
  let main_v58 : FVec F S192x8x2048 .f32 := Host.absf main_v57
  let main_cst_6 : FVec F S_ .f32 := constant S_ .f32 0xFF800000#32
  let main_v59 : FVec F S192x2048 .f32 := (fun x v => Host.reduce FloatOps.maximumf x v reducesTo_S192x8x2048_S192x2048_d1 h_S_) main_v58 main_cst_6
  let main_cst_7 : FVec F S_ .f32 := constant S_ .f32 0x3B124925#32
  let main_v60 : FVec F S192x2048 .f32 := broadcastInDim S192x2048 ![] bcast_S_S192x2048 main_cst_7
  let main_v61 : FVec F S192x2048 .f32 := mulf main_v59 main_v60
  let main_cst_8 : FVec F S_ .f32 := constant S_ .f32 0x00000000#32
  fn_part3 (F := F) main_v61 main_cst_8

def fn_part1 {F : FTy → Type} [FloatOps F] (main_arg4 : FVec F S2048 .f32) (main_arg5 : FVec F S2048 .f32) (main_arg6 : FVec F S2048x2x2048 .bf16) (main_arg7 : FVec F S2x2048 .f32) (main_v7 : FVec F S3072x2048 .f32) (main_v18 : FVec F S3072x1 .f32) (main_v19 : FVec F S3072x2048 .f32) : IVec S3072x2048 1 × IVec S3072x2048 1 × IVec S192x8x2048 1 × IVec S192x2048 1 :=
  let main_v20 : FVec F S3072x2048 .f32 := subf main_v7 main_v19
  let main_cst_3 : FVec F S_ .f32 := constant S_ .f32 0x3727C5AC#32
  let main_v21 : FVec F S3072x1 .f32 := broadcastInDim S3072x1 ![] bcast_S_S3072x1 main_cst_3
  let main_v22 : FVec F S3072x1 .f32 := addf main_v18 main_v21
  let main_v23 : FVec F S3072x1 .f32 := Host.rsqrt main_v22
  let main_v24 : FVec F S3072x2048 .f32 := broadcastInDim S3072x2048 ![0, 1] bcast_S3072x1_S3072x2048_0_1 main_v23
  let main_v25 : FVec F S3072x2048 .f32 := mulf main_v20 main_v24
  let main_v26 : FVec F S1x2048 .f32 := broadcastInDim S1x2048 ![1] bcast_S2048_S1x2048_1 main_arg4
  let main_v27 : FVec F S3072x2048 .f32 := broadcastInDim S3072x2048 ![0, 1] bcast_S1x2048_S3072x2048_0_1 main_v26
  let main_v28 : FVec F S3072x2048 .f32 := mulf main_v25 main_v27
  let main_v29 : FVec F S1x2048 .f32 := broadcastInDim S1x2048 ![1] bcast_S2048_S1x2048_1 main_arg5
  let main_v30 : FVec F S3072x2048 .f32 := broadcastInDim S3072x2048 ![0, 1] bcast_S1x2048_S3072x2048_0_1 main_v29
  let main_v31 : FVec F S3072x2048 .f32 := addf main_v28 main_v30
  let main_v32 : FVec F S3072x2048 .bf16 := (truncf .bf16 · bitsLt_bf16_f32) main_v31
  let main_v33 : FVec F S2048x1x2048 .bf16 := (extractStridedSlice S2048x1x2048 ![0, 0, 0] · slices_S2048x2x2048_S2048x1x2048_0_0_0) main_arg6
  let main_v34 : FVec F S2048x2048 .bf16 := shapeCast S2048x2048 main_v33 shapeCasts_S2048x1x2048_S2048x2048
  let main_v35 : FVec F S3072x2048 .f32 := (fun l r => Host.dotGeneral dot_S3072x2048_S2048x2048_S3072x2048_1_0_0_1_n_n none l r) main_v32 main_v34
  let main_v36 : FVec F S1x2048 .f32 := (extractStridedSlice S1x2048 ![0, 0] · slices_S2x2048_S1x2048_0_0) main_arg7
  let main_v37 : FVec F S2048 .f32 := shapeCast S2048 main_v36 shapeCasts_S1x2048_S2048
  let main_v38 : FVec F S1x2048 .f32 := broadcastInDim S1x2048 ![1] bcast_S2048_S1x2048_1 main_v37
  let main_v39 : FVec F S3072x2048 .f32 := broadcastInDim S3072x2048 ![0, 1] bcast_S1x2048_S3072x2048_0_1 main_v38
  let main_v40 : FVec F S3072x2048 .f32 := addf main_v35 main_v39
  let main_v41 : FVec F S2048x1x2048 .bf16 := (extractStridedSlice S2048x1x2048 ![0, 1, 0] · slices_S2048x2x2048_S2048x1x2048_0_1_0) main_arg6
  let main_v42 : FVec F S2048x2048 .bf16 := shapeCast S2048x2048 main_v41 shapeCasts_S2048x1x2048_S2048x2048
  fn_part2 (F := F) main_arg7 main_v32 main_v40 main_v42

def fn {F : FTy → Type} [FloatOps F] (main_arg0 : FVec F S3072x2048 .bf16) (main_arg1 : FVec F S192x16x2048 .bf16) (main_arg2 : FVec F S32x64x2048 .bf16) (main_arg3 : FVec F S2048 .f32) (main_arg4 : FVec F S2048 .f32) (main_arg5 : FVec F S2048 .f32) (main_arg6 : FVec F S2048x2x2048 .bf16) (main_arg7 : FVec F S2x2048 .f32) (main_arg8 : FVec F S192x8x2048 .fp8e4m3) (main_arg9 : FVec F S192x2048 .f32) (main_arg10 : FVec F S9x2048 .f32) (main_arg11 : FVec F S2048 .f32) (main_arg12 : FVec F S2048 .f32) (main_arg13 : FVec F S2048x2048 .bf16) (main_arg14 : FVec F S2048 .f32) : IVec S3072x2048 1 × IVec S3072x2048 1 × IVec S192x8x2048 1 × IVec S192x2048 1 :=
  let main_v0 : FVec F S3072x2048 .bf16 := shapeCast S3072x2048 main_arg1 shapeCasts_S192x16x2048_S3072x2048
  let main_v1 : FVec F S3072x2048 .f32 := (extf .f32 · bitsLt_bf16_f32) main_v0
  let main_v2 : FVec F S2048x2048 .bf16 := shapeCast S2048x2048 main_arg2 shapeCasts_S32x64x2048_S2048x2048
  let main_v3 : FVec F S3072x2048 .f32 := (fun l r => Host.dotGeneral dot_S3072x2048_S2048x2048_S3072x2048_1_0_0_1_n_n none l r) main_arg0 main_v2
  let main_v4 : FVec F S3072x2048 .f32 := addf main_v1 main_v3
  let main_v5 : FVec F S1x2048 .f32 := broadcastInDim S1x2048 ![1] bcast_S2048_S1x2048_1 main_arg3
  let main_v6 : FVec F S3072x2048 .f32 := broadcastInDim S3072x2048 ![0, 1] bcast_S1x2048_S3072x2048_0_1 main_v5
  let main_v7 : FVec F S3072x2048 .f32 := addf main_v4 main_v6
  let main_cst : FVec F S_ .f32 := constant S_ .f32 0x00000000#32
  let main_v8 : FVec F S3072 .f32 := (fun x v => Host.reduceAdd x v reducesTo_S3072x2048_S3072_d1 h_S_) main_v7 main_cst
  let main_v9 : FVec F S3072x1 .f32 := broadcastInDim S3072x1 ![0] bcast_S3072_S3072x1_0 main_v8
  let main_cst_0 : FVec F S_ .f32 := constant S_ .f32 0x45000000#32
  let main_v10 : FVec F S3072x1 .f32 := broadcastInDim S3072x1 ![] bcast_S_S3072x1 main_cst_0
  let main_v11 : FVec F S3072x1 .f32 := Host.divf main_v9 main_v10
  let main_v12 : FVec F S3072x2048 .f32 := broadcastInDim S3072x2048 ![0, 1] bcast_S3072x1_S3072x2048_0_1 main_v11
  let main_v13 : FVec F S3072x2048 .f32 := subf main_v7 main_v12
  let main_v14 : FVec F S3072x2048 .f32 := mulf main_v13 main_v13
  let main_cst_1 : FVec F S_ .f32 := constant S_ .f32 0x00000000#32
  let main_v15 : FVec F S3072 .f32 := (fun x v => Host.reduceAdd x v reducesTo_S3072x2048_S3072_d1 h_S_) main_v14 main_cst_1
  let main_v16 : FVec F S3072x1 .f32 := broadcastInDim S3072x1 ![0] bcast_S3072_S3072x1_0 main_v15
  let main_cst_2 : FVec F S_ .f32 := constant S_ .f32 0x45000000#32
  let main_v17 : FVec F S3072x1 .f32 := broadcastInDim S3072x1 ![] bcast_S_S3072x1 main_cst_2
  let main_v18 : FVec F S3072x1 .f32 := Host.divf main_v16 main_v17
  let main_v19 : FVec F S3072x2048 .f32 := broadcastInDim S3072x2048 ![0, 1] bcast_S3072x1_S3072x2048_0_1 main_v11
  fn_part1 (F := F) main_arg4 main_arg5 main_arg6 main_arg7 main_v7 main_v18 main_v19
-- ==== Kernel.lean ====
abbrev S3072x2048 : Shape := ⟨2, ![3072, 2048]⟩
abbrev S192x16x2048 : Shape := ⟨3, ![192, 16, 2048]⟩
abbrev S32x64x2048 : Shape := ⟨3, ![32, 64, 2048]⟩
abbrev S2048 : Shape := ⟨1, ![2048]⟩
abbrev S2048x2x2048 : Shape := ⟨3, ![2048, 2, 2048]⟩
abbrev S2x2048 : Shape := ⟨2, ![2, 2048]⟩
abbrev S192x8x2048 : Shape := ⟨3, ![192, 8, 2048]⟩
abbrev S192x2048 : Shape := ⟨2, ![192, 2048]⟩
abbrev S9x2048 : Shape := ⟨2, ![9, 2048]⟩
abbrev S2048x2048 : Shape := ⟨2, ![2048, 2048]⟩
abbrev S1x2048 : Shape := ⟨2, ![1, 2048]⟩
abbrev S2048x4096 : Shape := ⟨2, ![2048, 4096]⟩
abbrev S256x2048 : Shape := ⟨2, ![256, 2048]⟩
abbrev S16x8x2048 : Shape := ⟨3, ![16, 8, 2048]⟩
abbrev S16x2048 : Shape := ⟨2, ![16, 2048]⟩
abbrev S16x24x128 : Shape := ⟨3, ![16, 24, 128]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S1x256 : Shape := ⟨2, ![1, 256]⟩
abbrev S16x16x256 : Shape := ⟨3, ![16, 16, 256]⟩
abbrev S16x16x128 : Shape := ⟨3, ![16, 16, 128]⟩
abbrev S16x8x128 : Shape := ⟨3, ![16, 8, 128]⟩
abbrev S16x128 : Shape := ⟨2, ![16, 128]⟩
abbrev S16x1x128 : Shape := ⟨3, ![16, 1, 128]⟩
abbrev S1x128 : Shape := ⟨2, ![1, 128]⟩
abbrev S1x1x128 : Shape := ⟨3, ![1, 1, 128]⟩
abbrev S256x128 : Shape := ⟨2, ![256, 128]⟩
abbrev S255x16x128 : Shape := ⟨3, ![255, 16, 128]⟩
abbrev S1x16x128 : Shape := ⟨3, ![1, 16, 128]⟩

abbrev nBuf : Space → Nat
  | .hbm => 28
  | .vmem => 28
  | .smem => 0
  | _ => 0

abbrev bufTy : (tb : Table) → Fin (tcTables nBuf tb) → BufTy
  | .hbm, ⟨0, _⟩ => ⟨S3072x2048, .bf16⟩
  | .hbm, ⟨1, _⟩ => ⟨S192x16x2048, .bf16⟩
  | .hbm, ⟨2, _⟩ => ⟨S32x64x2048, .bf16⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x2x2048, .bf16⟩
  | .hbm, ⟨7, _⟩ => ⟨S2x2048, .f32⟩
  | .hbm, ⟨8, _⟩ => ⟨S192x8x2048, .fp8e4m3⟩
  | .hbm, ⟨9, _⟩ => ⟨S192x2048, .f32⟩
  | .hbm, ⟨10, _⟩ => ⟨S9x2048, .f32⟩
  | .hbm, ⟨11, _⟩ => ⟨S2048, .f32⟩
  | .hbm, ⟨12, _⟩ => ⟨S2048, .f32⟩
  | .hbm, ⟨13, _⟩ => ⟨S2048x2048, .bf16⟩
  | .hbm, ⟨14, _⟩ => ⟨S2048, .f32⟩
  | .hbm, ⟨15, _⟩ => ⟨S3072x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048x4096, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S3072x2048, .bf16⟩
  | .hbm, ⟨25, _⟩ => ⟨S3072x2048, .bf16⟩
  | .hbm, ⟨26, _⟩ => ⟨S192x8x2048, .fp8e4m3⟩
  | .hbm, ⟨27, _⟩ => ⟨S192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x4096, .bf16⟩
  | .local _ .vmem, ⟨9, _⟩ => ⟨S2x2048, .f32⟩
  | .local _ .vmem, ⟨10, _⟩ => ⟨S16x8x2048, .fp8e4m3⟩
  | .local _ .vmem, ⟨11, _⟩ => ⟨S16x8x2048, .fp8e4m3⟩
  | .local _ .vmem, ⟨12, _⟩ => ⟨S16x2048, .f32⟩
  | .local _ .vmem, ⟨13, _⟩ => ⟨S16x2048, .f32⟩
  | .local _ .vmem, ⟨14, _⟩ => ⟨S9x2048, .f32⟩
  | .local _ .vmem, ⟨15, _⟩ => ⟨S1x2048, .f32⟩
  | .local _ .vmem, ⟨16, _⟩ => ⟨S1x2048, .f32⟩
  | .local _ .vmem, ⟨17, _⟩ => ⟨S2048x2048, .bf16⟩
  | .local _ .vmem, ⟨18, _⟩ => ⟨S1x2048, .f32⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S16x8x2048, .fp8e4m3⟩
  | .local _ .vmem, ⟨24, _⟩ => ⟨S16x8x2048, .fp8e4m3⟩
  | .local _ .vmem, ⟨25, _⟩ => ⟨S16x2048, .f32⟩
  | .local _ .vmem, ⟨26, _⟩ => ⟨S16x2048, .f32⟩
  | .local _ .vmem, ⟨27, _⟩ => ⟨S16x24x128, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x8x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S9x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x8x2048 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S3072x2048 : Shape := ⟨2, ![3072, 2048]⟩
abbrev S192x16x2048 : Shape := ⟨3, ![192, 16, 2048]⟩
abbrev S32x64x2048 : Shape := ⟨3, ![32, 64, 2048]⟩
abbrev S2048 : Shape := ⟨1, ![2048]⟩
abbrev S2048x2x2048 : Shape := ⟨3, ![2048, 2, 2048]⟩
abbrev S2x2048 : Shape := ⟨2, ![2, 2048]⟩
abbrev S192x8x2048 : Shape := ⟨3, ![192, 8, 2048]⟩
abbrev S192x2048 : Shape := ⟨2, ![192, 2048]⟩
abbrev S9x2048 : Shape := ⟨2, ![9, 2048]⟩
abbrev S2048x2048 : Shape := ⟨2, ![2048, 2048]⟩
abbrev S1x2048 : Shape := ⟨2, ![1, 2048]⟩
abbrev S2048x1x2048 : Shape := ⟨3, ![2048, 1, 2048]⟩
abbrev S3072 : Shape := ⟨1, ![3072]⟩
abbrev S3072x1 : Shape := ⟨2, ![3072, 1]⟩
abbrev S192x1x2048 : Shape := ⟨3, ![192, 1, 2048]⟩
abbrev S192x24x2048 : Shape := ⟨3, ![192, 24, 2048]⟩
abbrev S1x1x2048 : Shape := ⟨3, ![1, 1, 2048]⟩
abbrev S254x1x1 : Shape := ⟨3, ![254, 1, 1]⟩
abbrev S1x192x2048 : Shape := ⟨3, ![1, 192, 2048]⟩
abbrev S254x192x2048 : Shape := ⟨3, ![254, 192, 2048]⟩

abbrev nBuf : Space → Nat
  | .hbm => 31
  | .vmem => 20
  | .smem => 0
  | _ => 0

abbrev bufTy : (tb : Table) → Fin (tcTables nBuf tb) → BufTy
  | .hbm, ⟨0, _⟩ => ⟨S3072x2048, .bf16⟩
  | .hbm, ⟨1, _⟩ => ⟨S192x16x2048, .bf16⟩
  | .hbm, ⟨2, _⟩ => ⟨S32x64x2048, .bf16⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x2x2048, .bf16⟩
  | .hbm, ⟨7, _⟩ => ⟨S2x2048, .f32⟩
  | .hbm, ⟨8, _⟩ => ⟨S192x8x2048, .fp8e4m3⟩
  | .hbm, ⟨9, _⟩ => ⟨S192x2048, .f32⟩
  | .hbm, ⟨10, _⟩ => ⟨S9x2048, .f32⟩
  | .hbm, ⟨11, _⟩ => ⟨S2048, .f32⟩
  | .hbm, ⟨12, _⟩ => ⟨S2048, .f32⟩
  | .hbm, ⟨13, _⟩ => ⟨S2048x2048, .bf16⟩
  | .hbm, ⟨14, _⟩ => ⟨S2048, .f32⟩
  | .hbm, ⟨15, _⟩ => ⟨S3072x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048x1x2048, .bf16⟩
  | .hbm, ⟨21, _⟩ => ⟨S2048x2048, .bf16⟩
  | .hbm, ⟨22, _⟩ => ⟨S2048x1x2048, .bf16⟩
  | .hbm, ⟨23, _⟩ => ⟨S2048x2048, .bf16⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S3072x2048, .bf16⟩
  | .hbm, ⟨28, _⟩ => ⟨S3072x2048, .bf16⟩
  | .hbm, ⟨29, _⟩ => ⟨S192x8x2048, .fp8e4m3⟩
  | .hbm, ⟨30, _⟩ => ⟨S192x2048, .f32⟩
  | .local _ .vmem, ⟨0, _⟩ => ⟨S3072x2048, .bf16⟩
  | .local _ .vmem, ⟨1, _⟩ => ⟨S3072x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S2048x2048, .bf16⟩
  | .local _ .vmem, ⟨8, _⟩ => ⟨S2x2048, .f32⟩
  | .local _ .vmem, ⟨9, _⟩ => ⟨S192x8x2048, .fp8e4m3⟩
  | .local _ .vmem, ⟨10, _⟩ => ⟨S192x2048, .f32⟩
  | .local _ .vmem, ⟨11, _⟩ => ⟨S9x2048, .f32⟩
  | .local _ .vmem, ⟨12, _⟩ => ⟨S1x2048, .f32⟩
  | .local _ .vmem, ⟨13, _⟩ => ⟨S1x2048, .f32⟩
  | .local _ .vmem, ⟨14, _⟩ => ⟨S2048x2048, .bf16⟩
  | .local _ .vmem, ⟨15, _⟩ => ⟨S1x2048, .f32⟩
  | .local _ .vmem, ⟨16, _⟩ => ⟨S3072x2048, .bf16⟩
  | .local _ .vmem, ⟨17, _⟩ => ⟨S3072x2048, .bf16⟩
  | .local _ .vmem, ⟨18, _⟩ => ⟨S192x8x2048, .fp8e4m3⟩
  | .local _ .vmem, ⟨19, _⟩ => ⟨S192x2048, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192x8x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S192x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3072x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3072x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S192x8x2048 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S192x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Qkv.lean ====
abbrev S192x16x2048 : Shape := ⟨3, ![192, 16, 2048]⟩
abbrev S2048 : Shape := ⟨1, ![2048]⟩
abbrev S2048x3x32x64 : Shape := ⟨4, ![2048, 3, 32, 64]⟩
abbrev S3x32x64 : Shape := ⟨3, ![3, 32, 64]⟩
abbrev S3072x2048 : Shape := ⟨2, ![3072, 2048]⟩
abbrev S3x32x64x2048 : Shape := ⟨4, ![3, 32, 64, 2048]⟩
abbrev S6144x2048 : Shape := ⟨2, ![6144, 2048]⟩
abbrev S1x2048 : Shape := ⟨2, ![1, 2048]⟩
abbrev S1x6144 : Shape := ⟨2, ![1, 6144]⟩
abbrev S3072x6144 : Shape := ⟨2, ![3072, 6144]⟩
abbrev S512x2048 : Shape := ⟨2, ![512, 2048]⟩
abbrev S512x6144 : Shape := ⟨2, ![512, 6144]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 12
  | .vmem => 8
  | .smem => 0
  | _ => 0

abbrev bufTy : (tb : Table) → Fin (tcTables nBuf tb) → BufTy
  | .hbm, ⟨0, _⟩ => ⟨S192x16x2048, .bf16⟩
  | .hbm, ⟨1, _⟩ => ⟨S2048, .f32⟩
  | .hbm, ⟨2, _⟩ => ⟨S2048, .f32⟩
  | .hbm, ⟨3, _⟩ => ⟨S2048x3x32x64, .bf16⟩
  | .hbm, ⟨4, _⟩ => ⟨S3x32x64, .f32⟩
  | .hbm, ⟨5, _⟩ => ⟨S3072x2048, .bf16⟩
  | .hbm, ⟨6, _⟩ => ⟨S3x32x64x2048, .bf16⟩
  | .hbm, ⟨7, _⟩ => ⟨S6144x2048, .bf16⟩
  | .hbm, ⟨8, _⟩ => ⟨S1x2048, .f32⟩
  | .hbm, ⟨9, _⟩ => ⟨S1x2048, .f32⟩
  | .hbm, ⟨10, _⟩ => ⟨S1x6144, .f32⟩
  | .hbm, ⟨11, _⟩ => ⟨S3072x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S1x2048, .f32⟩
  | .local _ .vmem, ⟨4, _⟩ => ⟨S6144x2048, .bf16⟩
  | .local _ .vmem, ⟨5, _⟩ => ⟨S1x6144, .f32⟩
  | .local _ .vmem, ⟨6, _⟩ => ⟨S512x6144, .bf16⟩
  | .local _ .vmem, ⟨7, _⟩ => ⟨S512x6144, .bf16⟩
  | _, _ => ⟨S192x16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6144x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvReferenceIdeal.lean ====
abbrev S192x16x2048 : Shape := ⟨3, ![192, 16, 2048]⟩
abbrev S2048 : Shape := ⟨1, ![2048]⟩
abbrev S2048x3x32x64 : Shape := ⟨4, ![2048, 3, 32, 64]⟩
abbrev S3x32x64 : Shape := ⟨3, ![3, 32, 64]⟩
abbrev S3072x2048 : Shape := ⟨2, ![3072, 2048]⟩
abbrev S_ : Shape := ⟨0, ![]⟩
abbrev S3072 : Shape := ⟨1, ![3072]⟩
abbrev S3072x1 : Shape := ⟨2, ![3072, 1]⟩
abbrev S1x2048 : Shape := ⟨2, ![1, 2048]⟩
abbrev S2048x6144 : Shape := ⟨2, ![2048, 6144]⟩
abbrev S3072x6144 : Shape := ⟨2, ![3072, 6144]⟩
abbrev S6144 : Shape := ⟨1, ![6144]⟩
abbrev S1x6144 : Shape := ⟨2, ![1, 6144]⟩

abbrev nBuf : Space → Nat
  | .hbm => 44
  | .vmem => 0
  | .smem => 0
  | _ => 0

abbrev bufTy : (tb : Table) → Fin (tcTables nBuf tb) → BufTy
  | .hbm, ⟨0, _⟩ => ⟨S192x16x2048, .bf16⟩
  | .hbm, ⟨1, _⟩ => ⟨S2048, .f32⟩
  | .hbm, ⟨2, _⟩ => ⟨S2048, .f32⟩
  | .hbm, ⟨3, _⟩ => ⟨S2048x3x32x64, .bf16⟩
  | .hbm, ⟨4, _⟩ => ⟨S3x32x64, .f32⟩
  | .hbm, ⟨5, _⟩ => ⟨S3072x2048, .bf16⟩
  | .hbm, ⟨6, _⟩ => ⟨S3072x2048, .f32⟩
  | .hbm, ⟨7, _⟩ => ⟨S_, .f32⟩
  | .hbm, ⟨8, _⟩ => ⟨S3072, .f32⟩
  | .hbm, ⟨9, _⟩ => ⟨S3072x1, .f32⟩
  | .hbm, ⟨10, _⟩ => ⟨S_, .f32⟩
  | .hbm, ⟨11, _⟩ => ⟨S3072x1, .f32⟩
  | .hbm, ⟨12, _⟩ => ⟨S3072x1, .f32⟩
  | .hbm, ⟨13, _⟩ => ⟨S3072x2048, .f32⟩
  | .hbm, ⟨14, _⟩ => ⟨S3072x2048, .f32⟩
  | .hbm, ⟨15, _⟩ => ⟨S3072x2048, .f32⟩
  | .hbm, ⟨16, _⟩ => ⟨S_, .f32⟩
  | .hbm, ⟨17, _⟩ => ⟨S3072, .f32⟩
  | .hbm, ⟨18, _⟩ => ⟨S3072x1, .f32⟩
  | .hbm, ⟨19, _⟩ => ⟨S_, .f32⟩
  | .hbm, ⟨20, _⟩ => ⟨S3072x1, .f32⟩
  | .hbm, ⟨21, _⟩ => ⟨S3072x1, .f32⟩
  | .hbm, ⟨22, _⟩ => ⟨S3072x2048, .f32⟩
  | .hbm, ⟨23, _⟩ => ⟨S3072x2048, .f32⟩
  | .hbm, ⟨24, _⟩ => ⟨S_, .f32⟩
  | .hbm, ⟨25, _⟩ => ⟨S3072x1, .f32⟩
  | .hbm, ⟨26, _⟩ => ⟨S3072x1, .f32⟩
  | .hbm, ⟨27, _⟩ => ⟨S3072x1, .f32⟩
  | .hbm, ⟨28, _⟩ => ⟨S3072x2048, .f32⟩
  | .hbm, ⟨29, _⟩ => ⟨S3072x2048, .f32⟩
  | .hbm, ⟨30, _⟩ => ⟨S1x2048, .f32⟩
  | .hbm, ⟨31, _⟩ => ⟨S3072x2048, .f32⟩
  | .hbm, ⟨32, _⟩ => ⟨S3072x2048, .f32⟩
  | .hbm, ⟨33, _⟩ => ⟨S1x2048, .f32⟩
  | .hbm, ⟨34, _⟩ => ⟨S3072x2048, .f32⟩
  | .hbm, ⟨35, _⟩ => ⟨S3072x2048, .f32⟩
  | .hbm, ⟨36, _⟩ => ⟨S3072x2048, .bf16⟩
  | .hbm, ⟨37, _⟩ => ⟨S2048x6144, .bf16⟩
  | .hbm, ⟨38, _⟩ => ⟨S3072x6144, .f32⟩
  | .hbm, ⟨39, _⟩ => ⟨S6144, .f32⟩
  | .hbm, ⟨40, _⟩ => ⟨S1x6144, .f32⟩
  | .hbm, ⟨41, _⟩ => ⟨S3072x6144, .f32⟩
  | .hbm, ⟨42, _⟩ => ⟨S3072x6144, .f32⟩
  | .hbm, ⟨43, _⟩ => ⟨S3072x6144, .bf16⟩
  | _, _ => ⟨S192x16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== RollK.lean ====
abbrev S3072x6144 : Shape := ⟨2, ![3072, 6144]⟩
abbrev S192x70x32x64 : Shape := ⟨4, ![192, 70, 32, 64]⟩
abbrev S192x70x32 : Shape := ⟨3, ![192, 70, 32]⟩
abbrev S70x32x64x192 : Shape := ⟨4, ![70, 32, 64, 192]⟩
abbrev S70x2048x192 : Shape := ⟨3, ![70, 2048, 192]⟩
abbrev S70x32x192 : Shape := ⟨3, ![70, 32, 192]⟩
abbrev S192x16x6144 : Shape := ⟨3, ![192, 16, 6144]⟩
abbrev S192x16x512 : Shape := ⟨3, ![192, 16, 512]⟩
abbrev S70x512x192 : Shape := ⟨3, ![70, 512, 192]⟩
abbrev S70x8x192 : Shape := ⟨3, ![70, 8, 192]⟩
abbrev S54x512x192 : Shape := ⟨3, ![54, 512, 192]⟩
abbrev S54x8x192 : Shape := ⟨3, ![54, 8, 192]⟩
abbrev S128x1x128 : Shape := ⟨3, ![128, 1, 128]⟩
abbrev S128x128 : Shape := ⟨2, ![128, 128]⟩
abbrev S64x128 : Shape := ⟨2, ![64, 128]⟩
abbrev S128 : Shape := ⟨1, ![128]⟩
abbrev S1x128 : Shape := ⟨2, ![1, 128]⟩
abbrev S1x64x128 : Shape := ⟨3, ![1, 64, 128]⟩
abbrev S1x1x128 : Shape := ⟨3, ![1, 1, 128]⟩
abbrev S64x1x128 : Shape := ⟨3, ![64, 1, 128]⟩
abbrev S128x64 : Shape := ⟨2, ![128, 64]⟩
abbrev S64x64 : Shape := ⟨2, ![64, 64]⟩
abbrev S64 : Shape := ⟨1, ![64]⟩
abbrev S1x64 : Shape := ⟨2, ![1, 64]⟩
abbrev S1x64x64 : Shape := ⟨3, ![1, 64, 64]⟩
abbrev S1x1x64 : Shape := ⟨3, ![1, 1, 64]⟩

abbrev nBuf : Space → Nat
  | .hbm => 12
  | .vmem => 10
  | .smem => 0
  | _ => 0

abbrev bufTy : (tb : Table) → Fin (tcTables nBuf tb) → BufTy
  | .hbm, ⟨0, _⟩ => ⟨S3072x6144, .bf16⟩
  | .hbm, ⟨1, _⟩ => ⟨S192x70x32x64, .i8⟩
  | .hbm, ⟨2, _⟩ => ⟨S192x70x32, .f32⟩
  | .hbm, ⟨3, _⟩ => ⟨S70x32x64x192, .i8⟩
  | .hbm, ⟨4, _⟩ => ⟨S70x2048x192, .i8⟩
  | .hbm, ⟨5, _⟩ => ⟨S70x32x192, .f32⟩
  | .hbm, ⟨6, _⟩ => ⟨S192x16x6144, .bf16⟩
  | .hbm, ⟨7, _⟩ => ⟨S70x2048x192, .i8⟩
  | .hbm, ⟨8, _⟩ => ⟨S70x32x192, .f32⟩
  | .hbm, ⟨9, _⟩ => ⟨S70x32x64x192, .i8⟩
  | .hbm, ⟨10, _⟩ => ⟨S192x70x32x64, .i8⟩
  | .hbm, ⟨11, _⟩ => ⟨S192x70x32, .f32⟩
  | .local _ .vmem, ⟨0, _⟩ => ⟨S192x16x512, .bf16⟩
  | .local _ .vmem, ⟨1, _⟩ => ⟨S192x16x512, .bf16⟩
  | .local _ .vmem, ⟨2, _⟩ => ⟨S70x512x192, .i8⟩
  | .local _ .vmem, ⟨3, _⟩ => ⟨S70x512x192, .i8⟩
  | .local _ .vmem, ⟨4, _⟩ => ⟨S70x8x192, .f32⟩
  | .local _ .vmem, ⟨5, _⟩ => ⟨S70x8x192, .f32⟩
  | .local _ .vmem, ⟨6, _⟩ => ⟨S70x512x192, .i8⟩
  | .local _ .vmem, ⟨7, _⟩ => ⟨S70x512x192, .i8⟩
  | .local _ .vmem, ⟨8, _⟩ => ⟨S70x8x192, .f32⟩
  | .local _ .vmem, ⟨9, _⟩ => ⟨S70x8x192, .f32⟩
  | _, _ => ⟨S3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S192x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S70x512x192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S70x8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S70x512x192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S70x8x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RollKReferenceIdeal.lean ====
abbrev S3072x6144 : Shape := ⟨2, ![3072, 6144]⟩
abbrev S192x70x32x64 : Shape := ⟨4, ![192, 70, 32, 64]⟩
abbrev S192x70x32 : Shape := ⟨3, ![192, 70, 32]⟩
abbrev S192x16x3x32x64 : Shape := ⟨5, ![192, 16, 3, 32, 64]⟩
abbrev S192x16x1x32x64 : Shape := ⟨5, ![192, 16, 1, 32, 64]⟩
abbrev S192x16x32x64 : Shape := ⟨4, ![192, 16, 32, 64]⟩
abbrev S192x16x32 : Shape := ⟨3, ![192, 16, 32]⟩
abbrev S192x16x32x1 : Shape := ⟨4, ![192, 16, 32, 1]⟩
abbrev S192x54x32x64 : Shape := ⟨4, ![192, 54, 32, 64]⟩
abbrev S192x54x32 : Shape := ⟨3, ![192, 54, 32]⟩

abbrev nBuf : Space → Nat
  | .hbm => 8
  | .vmem => 5
  | .smem => 0
  | _ => 0

abbrev bufTy : (tb : Table) → Fin (tcTables nBuf tb) → BufTy
  | .hbm, ⟨0, _⟩ => ⟨S3072x6144, .bf16⟩
  | .hbm, ⟨1, _⟩ => ⟨S192x70x32x64, .i8⟩
  | .hbm, ⟨2, _⟩ => ⟨S192x70x32, .f32⟩
  | .hbm, ⟨3, _⟩ => ⟨S192x16x3x32x64, .bf16⟩
  | .hbm, ⟨4, _⟩ => ⟨S192x16x1x32x64, .bf16⟩
  | .hbm, ⟨5, _⟩ => ⟨S192x16x32x64, .bf16⟩
  | .hbm, ⟨6, _⟩ => ⟨S192x70x32x64, .i8⟩
  | .hbm, ⟨7, _⟩ => ⟨S192x70x32, .f32⟩
  | .local _ .vmem, ⟨0, _⟩ => ⟨S192x16x32x64, .bf16⟩
  | .local _ .vmem, ⟨1, _⟩ => ⟨S192x70x32x64, .i8⟩
  | .local _ .vmem, ⟨2, _⟩ => ⟨S192x70x32, .f32⟩
  | .local _ .vmem, ⟨3, _⟩ => ⟨S192x70x32x64, .i8⟩
  | .local _ .vmem, ⟨4, _⟩ => ⟨S192x70x32, .f32⟩
  | _, _ => ⟨S3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x16x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x70x32x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x70x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x70x32x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x70x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== RollV.lean ====
abbrev S3072x6144 : Shape := ⟨2, ![3072, 6144]⟩
abbrev S192x70x32x64 : Shape := ⟨4, ![192, 70, 32, 64]⟩
abbrev S192x70x32 : Shape := ⟨3, ![192, 70, 32]⟩
abbrev S70x32x64x192 : Shape := ⟨4, ![70, 32, 64, 192]⟩
abbrev S70x2048x192 : Shape := ⟨3, ![70, 2048, 192]⟩
abbrev S70x32x192 : Shape := ⟨3, ![70, 32, 192]⟩
abbrev S192x16x6144 : Shape := ⟨3, ![192, 16, 6144]⟩
abbrev S192x16x512 : Shape := ⟨3, ![192, 16, 512]⟩
abbrev S70x512x192 : Shape := ⟨3, ![70, 512, 192]⟩
abbrev S70x8x192 : Shape := ⟨3, ![70, 8, 192]⟩
abbrev S54x512x192 : Shape := ⟨3, ![54, 512, 192]⟩
abbrev S54x8x192 : Shape := ⟨3, ![54, 8, 192]⟩
abbrev S128x1x128 : Shape := ⟨3, ![128, 1, 128]⟩
abbrev S128x128 : Shape := ⟨2, ![128, 128]⟩
abbrev S64x128 : Shape := ⟨2, ![64, 128]⟩
abbrev S128 : Shape := ⟨1, ![128]⟩
abbrev S1x128 : Shape := ⟨2, ![1, 128]⟩
abbrev S1x64x128 : Shape := ⟨3, ![1, 64, 128]⟩
abbrev S1x1x128 : Shape := ⟨3, ![1, 1, 128]⟩
abbrev S64x1x128 : Shape := ⟨3, ![64, 1, 128]⟩
abbrev S128x64 : Shape := ⟨2, ![128, 64]⟩
abbrev S64x64 : Shape := ⟨2, ![64, 64]⟩
abbrev S64 : Shape := ⟨1, ![64]⟩
abbrev S1x64 : Shape := ⟨2, ![1, 64]⟩
abbrev S1x64x64 : Shape := ⟨3, ![1, 64, 64]⟩
abbrev S1x1x64 : Shape := ⟨3, ![1, 1, 64]⟩

abbrev nBuf : Space → Nat
  | .hbm => 12
  | .vmem => 10
  | .smem => 0
  | _ => 0

abbrev bufTy : (tb : Table) → Fin (tcTables nBuf tb) → BufTy
  | .hbm, ⟨0, _⟩ => ⟨S3072x6144, .bf16⟩
  | .hbm, ⟨1, _⟩ => ⟨S192x70x32x64, .i8⟩
  | .hbm, ⟨2, _⟩ => ⟨S192x70x32, .f32⟩
  | .hbm, ⟨3, _⟩ => ⟨S70x32x64x192, .i8⟩
  | .hbm, ⟨4, _⟩ => ⟨S70x2048x192, .i8⟩
  | .hbm, ⟨5, _⟩ => ⟨S70x32x192, .f32⟩
  | .hbm, ⟨6, _⟩ => ⟨S192x16x6144, .bf16⟩
  | .hbm, ⟨7, _⟩ => ⟨S70x2048x192, .i8⟩
  | .hbm, ⟨8, _⟩ => ⟨S70x32x192, .f32⟩
  | .hbm, ⟨9, _⟩ => ⟨S70x32x64x192, .i8⟩
  | .hbm, ⟨10, _⟩ => ⟨S192x70x32x64, .i8⟩
  | .hbm, ⟨11, _⟩ => ⟨S192x70x32, .f32⟩
  | .local _ .vmem, ⟨0, _⟩ => ⟨S192x16x512, .bf16⟩
  | .local _ .vmem, ⟨1, _⟩ => ⟨S192x16x512, .bf16⟩
  | .local _ .vmem, ⟨2, _⟩ => ⟨S70x512x192, .i8⟩
  | .local _ .vmem, ⟨3, _⟩ => ⟨S70x512x192, .i8⟩
  | .local _ .vmem, ⟨4, _⟩ => ⟨S70x8x192, .f32⟩
  | .local _ .vmem, ⟨5, _⟩ => ⟨S70x8x192, .f32⟩
  | .local _ .vmem, ⟨6, _⟩ => ⟨S70x512x192, .i8⟩
  | .local _ .vmem, ⟨7, _⟩ => ⟨S70x512x192, .i8⟩
  | .local _ .vmem, ⟨8, _⟩ => ⟨S70x8x192, .f32⟩
  | .local _ .vmem, ⟨9, _⟩ => ⟨S70x8x192, .f32⟩
  | _, _ => ⟨S3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S192x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S70x512x192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S70x8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S70x512x192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S70x8x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RollVReferenceIdeal.lean ====
abbrev S3072x6144 : Shape := ⟨2, ![3072, 6144]⟩
abbrev S192x70x32x64 : Shape := ⟨4, ![192, 70, 32, 64]⟩
abbrev S192x70x32 : Shape := ⟨3, ![192, 70, 32]⟩
abbrev S192x16x3x32x64 : Shape := ⟨5, ![192, 16, 3, 32, 64]⟩
abbrev S192x16x1x32x64 : Shape := ⟨5, ![192, 16, 1, 32, 64]⟩
abbrev S192x16x32x64 : Shape := ⟨4, ![192, 16, 32, 64]⟩
abbrev S192x16x32 : Shape := ⟨3, ![192, 16, 32]⟩
abbrev S192x16x32x1 : Shape := ⟨4, ![192, 16, 32, 1]⟩
abbrev S192x54x32x64 : Shape := ⟨4, ![192, 54, 32, 64]⟩
abbrev S192x54x32 : Shape := ⟨3, ![192, 54, 32]⟩

abbrev nBuf : Space → Nat
  | .hbm => 8
  | .vmem => 5
  | .smem => 0
  | _ => 0

abbrev bufTy : (tb : Table) → Fin (tcTables nBuf tb) → BufTy
  | .hbm, ⟨0, _⟩ => ⟨S3072x6144, .bf16⟩
  | .hbm, ⟨1, _⟩ => ⟨S192x70x32x64, .i8⟩
  | .hbm, ⟨2, _⟩ => ⟨S192x70x32, .f32⟩
  | .hbm, ⟨3, _⟩ => ⟨S192x16x3x32x64, .bf16⟩
  | .hbm, ⟨4, _⟩ => ⟨S192x16x1x32x64, .bf16⟩
  | .hbm, ⟨5, _⟩ => ⟨S192x16x32x64, .bf16⟩
  | .hbm, ⟨6, _⟩ => ⟨S192x70x32x64, .i8⟩
  | .hbm, ⟨7, _⟩ => ⟨S192x70x32, .f32⟩
  | .local _ .vmem, ⟨0, _⟩ => ⟨S192x16x32x64, .bf16⟩
  | .local _ .vmem, ⟨1, _⟩ => ⟨S192x70x32x64, .i8⟩
  | .local _ .vmem, ⟨2, _⟩ => ⟨S192x70x32, .f32⟩
  | .local _ .vmem, ⟨3, _⟩ => ⟨S192x70x32x64, .i8⟩
  | .local _ .vmem, ⟨4, _⟩ => ⟨S192x70x32, .f32⟩
  | _, _ => ⟨S3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x16x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x70x32x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x70x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x70x32x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x70x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  The mathematics of the convolution module over the extended reals, one stream of sixteen frames at a time: what
  both the kernel and the reference are shown to compute. Every function here speaks of numbers indexed by frame and
  channel only: no tile, no block, no grid point.
-/
module

public import Idealize.ShloMosaic.Lib.Pointwise

@[expose] public section

noncomputable section

namespace Cert.Conv

open Idealize.ShloMosaic

/-- The weights of the module: the attention output projection `wo`, `bo`; the layer norm's `g2`, `b2`; the two halves
    of the gated pointwise product (value `wv`, `bv`; gate `wg`, `bg`); the nine depthwise taps `dw`; the batch norm's
    `bs`, `bb`; the last pointwise product `w2`, `b3`. -/
structure Weights where
  wo : Fin 2048 → Fin 2048 → EReal
  bo : Fin 2048 → EReal
  g2 : Fin 2048 → EReal
  b2 : Fin 2048 → EReal
  wv : Fin 2048 → Fin 2048 → EReal
  wg : Fin 2048 → Fin 2048 → EReal
  bv : Fin 2048 → EReal
  bg : Fin 2048 → EReal
  dw : Fin 9 → Fin 2048 → EReal
  bs : Fin 2048 → EReal
  bb : Fin 2048 → EReal
  w2 : Fin 2048 → Fin 2048 → EReal
  b3 : Fin 2048 → EReal

/-- One stream's inputs: its sixteen rows of the attention array and of `x`, the eight cached rows' codes and their
    scales. -/
structure Stream where
  a : Fin 16 → Fin 2048 → EReal
  x : Fin 16 → Fin 2048 → EReal
  cc : Fin 8 → Fin 2048 → EReal
  cs : Fin 2048 → EReal

/-- The residual row after the attention projection. -/
def hRow (W : Weights) (a x : Fin 2048 → EReal) (c : Fin 2048) : EReal :=
  x c + ∑ k, a k * W.wo k c + W.bo c

/-- The mean of a row of 2048 numbers. -/
def mean (h : Fin 2048 → EReal) : EReal :=
  Ideal.div (∑ k, h k) (Ideal.ofBits FTy.f32 0x45000000#32)

/-- The layer norm of a row. -/
def cRow (W : Weights) (h : Fin 2048 → EReal) (c : Fin 2048) : EReal :=
  (h c - mean h) * Ideal.rsqrt (mean (fun k => (h k - mean h) * (h k - mean h)) + Ideal.ofBits FTy.f32 0x3727C5AC#32)
    * W.g2 c + W.b2 c

/-- The gated linear unit of a normalised row: value times the logistic of the gate. -/
def gRow (W : Weights) (n : Fin 2048 → EReal) (c : Fin 2048) : EReal :=
  (∑ k, n k * W.wv k c + W.bv c) * Ideal.logistic (∑ k, n k * W.wg k c + W.bg c)

/-- One channel of the depthwise convolution's input: eight dequantised cached frames, then the sixteen new ones. -/
def zCol (cc : Fin 8 → EReal) (cs : EReal) (g : Fin 16 → EReal) (j : Fin 24) : EReal :=
  if h : (j : ℕ) < 8 then cc ⟨j, h⟩ * cs else g ⟨(j : ℕ) - 8, by omega⟩

/-- The nine taps at frame `s`, summed in order. -/
def taps (z : Fin 24 → EReal) (dw : Fin 9 → EReal) (s : Fin 16) : EReal :=
  z ⟨s, by omega⟩ * dw 0 + z ⟨1 + s, by omega⟩ * dw 1 + z ⟨2 + s, by omega⟩ * dw 2 + z ⟨3 + s, by omega⟩ * dw 3
    + z ⟨4 + s, by omega⟩ * dw 4 + z ⟨5 + s, by omega⟩ * dw 5 + z ⟨6 + s, by omega⟩ * dw 6
    + z ⟨7 + s, by omega⟩ * dw 7 + z ⟨8 + s, by omega⟩ * dw 8

/-- `u` times its logistic. -/
def silu (u : EReal) : EReal := u * Ideal.logistic u

/-- The residual rows of a stream. -/
def Stream.h (S : Stream) (W : Weights) (s : Fin 16) : Fin 2048 → EReal := hRow W (S.a s) (S.x s)

/-- The gated rows of a stream. -/
def Stream.g (S : Stream) (W : Weights) (s : Fin 16) : Fin 2048 → EReal := gRow W (cRow W (S.h W s))

/-- The depthwise convolution's input of a stream: twenty-four frames. -/
def Stream.z (S : Stream) (W : Weights) (c : Fin 2048) : Fin 24 → EReal :=
  zCol (fun j => S.cc j c) (S.cs c) (fun s => S.g W s c)

/-- The convolution's output: taps, batch norm, silu. -/
def Stream.co (S : Stream) (W : Weights) (s : Fin 16) (c : Fin 2048) : EReal :=
  silu (taps (S.z W c) (fun j => W.dw j c) s * W.bs c + W.bb c)

/-- The module's output: the residual plus the last pointwise product. -/
def Stream.y (S : Stream) (W : Weights) (s : Fin 16) (c : Fin 2048) : EReal :=
  S.h W s c + ∑ k, S.co W s k * W.w2 k c + W.b3 c

end Cert.Conv
-- ==== Proof.Tile.lean ====
/-
  One column tile of the kernel's body, 128 lanes wide, in terms of the mathematics of `Spec.lean`: what the scratch
  buffer holds after a tile's two stores, and what a shifted load of it reads.
-/
module

public import proofs.«01_k».proof.Proof.Spec
public import proofs.«01_k».proof.Proof.Gen.KernelIdeal.Value

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

/-- The weights a grid point's blocks hold, as numbers: the value and the gate half of the first pointwise product lie
    side by side in one array of 4096 columns. -/
def weights (x2 : Vec Ideal S2048x2048 .bf16) (x3 x4 x5 : Vec Ideal S1x2048 .f32) (x6 : Vec Ideal S2048x4096 .bf16)
    (x7 : Vec Ideal S2x2048 .f32) (x10 : Vec Ideal S9x2048 .f32) (x11 x12 : Vec Ideal S1x2048 .f32)
    (x13 : Vec Ideal S2048x2048 .bf16) (x14 : Vec Ideal S1x2048 .f32) : Weights where
  wo k c := x2 (ix2 k c)
  bo c := x3 (ix2 0 c)
  g2 c := x4 (ix2 0 c)
  b2 c := x5 (ix2 0 c)
  wv k c := x6 (ix2 k ⟨c, by omega⟩)
  wg k c := x6 (ix2 k ⟨2048 + c, by omega⟩)
  bv c := x7 (ix2 0 c)
  bg c := x7 (ix2 1 c)
  dw j c := x10 (ix2 j c)
  bs c := x11 (ix2 0 c)
  bb c := x12 (ix2 0 c)
  w2 k c := x13 (ix2 k c)
  b3 c := x14 (ix2 0 c)

/-- Stream `b` of the sixteen a grid point works on, as numbers. -/
def stream (x0 x1 : Vec Ideal S256x2048 .bf16) (x8 : Vec Ideal S16x8x2048 .fp8e4m3) (x9 : Vec Ideal S16x2048 .f32)
    (b : Fin 16) : Stream where
  a s k := x0 (ix2 ⟨b * 16 + s, by omega⟩ k)
  x s k := x1 (ix2 ⟨b * 16 + s, by omega⟩ k)
  cc j c := x8 (ix3 b j c)
  cs c := x9 (ix2 b c)

/-- `L` leaves in the scratch buffer the convolution's input of the 128 channels from `o` on. -/
def IsTile (W : Weights) (S : Fin 16 → Stream) (o : ℕ) (ho : o + 128 ≤ 2048)
    (L : List (View.Piece (Elt Ideal) S16x24x128 .f32)) : Prop :=
  ∀ (b : Fin 16) (j : Fin 24) (l : Fin 128), View.canon L (ix3 b j l) = (S b).z W ⟨o + l, by omega⟩ j

/-- A tile's two stores, the sixteen gated rows below the eight dequantised ones, over whatever earlier tiles left. -/
theorem isTile_stores (W : Weights) (S : Fin 16 → Stream) (o : ℕ) (ho : o + 128 ≤ 2048)
    (pg : Vec Ideal S16x16x128 .f32) (pc : Vec Ideal S16x8x128 .f32) (ig : ∀ a, _) (ic : ∀ a, _)
    (L : List (View.Piece (Elt Ideal) S16x24x128 .f32))
    (hg : ∀ (b s : Fin 16) (l : Fin 128), pg (ix3 b s l) = (S b).g W s ⟨o + l, by omega⟩)
    (hc : ∀ (b : Fin 16) (j : Fin 8) (l : Fin 128),
      pc (ix3 b j l) = (S b).cc j ⟨o + l, by omega⟩ * (S b).cs ⟨o + l, by omega⟩) :
    IsTile W S o ho (⟨Rect.unit ![0, 8, 0] S16x16x128.size ig, pg⟩ :: ⟨Rect.unit ![0, 0, 0] S16x8x128.size ic, pc⟩ :: L) := by
  intro b j l
  unfold Stream.z zCol
  by_cases h : (j : ℕ) < 8
  · rw [dif_pos h, View.canon_cons_of_not_mem]
    · refine Eq.trans ?_ ((View.canon_cons_emb (Rect.unit (s := S16x24x128) ![0, 0, 0] S16x8x128.size ic) pc L
        (ix3 b ⟨j, h⟩ l)).trans (hc b ⟨j, h⟩ l))
      congr 1
      funext a
      fin_cases a <;> exact Fin.ext (by simp [Rect.emb, LoadRect.idx, Rect.unit, ix3])
    · rw [Rect.mem_set_unit]
      intro hm
      have := (hm 1).1
      simp [ix3] at this
      omega
  · rw [dif_neg h]
    refine Eq.trans ?_ ((View.canon_cons_emb (Rect.unit (s := S16x24x128) ![0, 8, 0] S16x16x128.size ig) pg
      (⟨Rect.unit ![0, 0, 0] S16x8x128.size ic, pc⟩ :: L)
      (ix3 b ⟨(j : ℕ) - 8, by omega⟩ l)).trans (hg b ⟨(j : ℕ) - 8, by omega⟩ l))
    congr 1
    funext a
    fin_cases a <;> exact Fin.ext (by simp [Rect.emb, LoadRect.idx, Rect.unit, ix3]; try omega)

/-- A load of sixteen frames from frame `k` of a tile's scratch buffer on. -/
theorem IsTile.read {W : Weights} {S : Fin 16 → Stream} {o : ℕ} {ho : o + 128 ≤ 2048}
    {L : List (View.Piece (Elt Ideal) S16x24x128 .f32)} (h : IsTile W S o ho L) {sig : RefSig} {κ : Kind} {sp : Space}
    (v : View sig κ sp S16x24x128 .f32) (k : ℕ) (hk : k ≤ 8) (inb : ∀ a, _) (b s : Fin 16) (l : Fin 128) :
    v.readCov L (Rect.unit (s := S16x24x128) ![0, k, 0] S16x16x128.size inb).toLoadRect (ix3 b s l)
      = (S b).z W ⟨o + l, by omega⟩ ⟨k + s, by omega⟩ := by
  rw [View.readCov_eq_canon', ← h b ⟨k + s, by omega⟩ l]
  show View.canon L _ = _
  congr 1
  funext a
  fin_cases a <;> exact Fin.ext (by simp [Rect.toLoadRect, LoadRect.idx, Rect.unit, ix3])

end Cert.KernelIdeal.Hand
-- ==== Proof.Rows.lean ====
/-
  The rows of a grid point's block: the residual rows and the normalised rows of its sixteen streams.
-/
module

public import proofs.«01_k».proof.Proof.Tile

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

/-- The residual rows. -/
theorem h_eq (b s : Fin 16) (k : Fin 2048) :
    kernelRun0_A.sl.r c arg1 harg1 arg2 harg2 arg3 harg3 arg4 harg4 x0 x1 x2 x3 (ix2 ⟨b * 16 + s, by omega⟩ k)
      = (stream x0 x1 x8 x9 b).h (weights x2 x3 x4 x5 x6 x7 x10 x11 x12 x13 x14) s k := by
  unfold kernelRun0_A.sl.r
  simp only [View.readAt_eq_ld, harg1.read_unread, harg2.read_unread, harg3.read_unread, harg4.read_unread]
  pointwise [k0_pay1]
  rfl

/-- The normalised rows: the left factor of both halves of the gated product. -/
theorem c_eq (b s : Fin 16) (k : Fin 2048) :
    kernelRun0_A.sl.r_1 c arg1 harg1 arg2 harg2 arg3 harg3 arg4 harg4 arg5 harg5 arg6 harg6 x0 x1 x2 x3 x4 x5 (ix2 ⟨b * 16 + s, by omega⟩ k)
      = cRow (weights x2 x3 x4 x5 x6 x7 x10 x11 x12 x13 x14) ((stream x0 x1 x8 x9 b).h (weights x2 x3 x4 x5 x6 x7 x10 x11 x12 x13 x14) s) k := by
  have e := h_eq c arg1 harg1 arg2 harg2 arg3 harg3 arg4 harg4 x0 x1 x2 x3 x4 x5 x6 x7 x8 x9 x10 x11 x12 x13 x14 b s
  unfold kernelRun0_A.sl.r at e
  unfold kernelRun0_A.sl.r_1
  pointwise [k0_pay2]
  simp only [e]
  simp only [View.readAt_eq_ld, harg5.read_unread, harg6.read_unread]
  pointwise
  rfl

end Cert.KernelIdeal.Hand
-- ==== Proof.Tiles.lean ====
/-
  The scratch buffer tile by tile: after the stores of the tile whose first channel is `o` it holds the depthwise
  convolution's input of the channels `o`, …, `o + 127`.
-/
module

public import proofs.«01_k».proof.Proof.Rows

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

/-- The gate's columns lie in the upper half of the one weight array. -/
theorem gate (k d : Fin 2048) :
    (weights x2 x3 x4 x5 x6 x7 x10 x11 x12 x13 x14).wg k d = x6 (ix2 k ⟨2048 + d, by omega⟩) := rfl

/-- The sixteen tiles, in the order the body runs through them. -/
theorem tiles :
    IsTile (weights x2 x3 x4 x5 x6 x7 x10 x11 x12 x13 x14) (stream x0 x1 x8 x9) 0 (by decide)
      (kernelRun0_A.sl.HS0_2 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 128 (by decide)
      (kernelRun0_A.sl.HS0_4 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 256 (by decide)
      (kernelRun0_A.sl.HS0_6 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 384 (by decide)
      (kernelRun0_A.sl.HS0_8 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 512 (by decide)
      (kernelRun0_A.sl.HS0_10 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 640 (by decide)
      (kernelRun0_A.sl.HS0_12 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 768 (by decide)
      (kernelRun0_A.sl.HS0_14 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 896 (by decide)
      (kernelRun0_A.sl.HS0_16 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1024 (by decide)
      (kernelRun0_A.sl.HS0_18 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1152 (by decide)
      (kernelRun0_A.sl.HS0_20 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1280 (by decide)
      (kernelRun0_A.sl.HS0_22 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1408 (by decide)
      (kernelRun0_A.sl.HS0_24 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1536 (by decide)
      (kernelRun0_A.sl.HS0_26 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1664 (by decide)
      (kernelRun0_A.sl.HS0_28 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1792 (by decide)
      (kernelRun0_A.sl.HS0_30 c arg1 harg1 arg2 harg2 arg3 harg3 arg4 harg4 arg5 harg5 arg6 harg6 arg7 harg7 arg8 harg8 arg9 harg9 arg10 harg10
        x0 x1 x2 x3 x4 x5 x6 x7 x8 x9)
    ∧ IsTile (weights x2 x3 x4 x5 x6 x7 x10 x11 x12 x13 x14) (stream x0 x1 x8 x9) 1920 (by decide)
      (kernelRun0_A.sl.HS0_32 c arg1 harg1 arg2 harg2 arg3 harg3 arg4 harg4 arg5 harg5 arg6 harg6 arg7 harg7 arg8 harg8 arg9 harg9 arg10 harg10
        x0 x1 x2 x3 x4 x5 x6 x7 x8 x9) := by
  have e := c_eq c arg1 harg1 arg2 harg2 arg3 harg3 arg4 harg4 arg5 harg5 arg6 harg6 x0 x1 x2 x3 x4 x5 x6 x7 x8 x9 x10 x11 x12 x13 x14
  refine ⟨?_, ?_, ?_, ?_, ?_, ?_, ?_, ?_, ?_, ?_, ?_, ?_, ?_, ?_, ?_, ?_⟩ <;>
  refine isTile_stores _ _ _ _ _ _ _ _ _ (fun b s l => ?_) (fun b j l => ?_) <;>
  simp only [kernelRun0_A.sl.r_2, kernelRun0_A.sl.r_20, kernelRun0_A.sl.r_35, kernelRun0_A.sl.r_51, kernelRun0_A.sl.r_50,
      kernelRun0_A.sl.r_63, kernelRun0_A.sl.r_64, kernelRun0_A.sl.r_62, kernelRun0_A.sl.r_78, kernelRun0_A.sl.r_79,
      kernelRun0_A.sl.r_86, kernelRun0_A.sl.r_77, kernelRun0_A.sl.r_93, kernelRun0_A.sl.r_94, kernelRun0_A.sl.r_103,
      kernelRun0_A.sl.r_92, kernelRun0_A.sl.r_104, kernelRun0_A.sl.r_112, kernelRun0_A.sl.r_121,
      kernelRun0_A.sl.r_111, kernelRun0_A.sl.r_122,
    View.readAt_eq_ld, harg7.read_unread, harg8.read_unread, harg9.read_unread, harg10.read_unread] <;>
  unfold_payloads <;>
  pointwise <;>
  (try simp only [e, Stream.g, gRow, gate, ← Nat.add_assoc, Nat.reduceAdd, Nat.zero_add]) <;>
  rfl

end Cert.KernelIdeal.Hand
-- ==== Proof.Conv.lean ====
/-
  The convolution's output of a grid point's block: sixteen stores of 128 channels each.
-/
module

public import proofs.«01_k».proof.Proof.Tiles
public import Idealize.ShloMosaic.Lib.Pipeline.ReadBack

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

/-- The block of the convolution's output: row `r` is frame `r % 16` of stream `r / 16`. -/
def coBlock (W : Weights) (S : Fin 16 → Stream) (y : S256x2048.Idx) : EReal :=
  (S ⟨(y 0 : ℕ) / 16, by have := (y 0).isLt; change (y 0 : ℕ) < 256 at this; omega⟩).co W
    ⟨(y 0 : ℕ) % 16, Nat.mod_lt _ (by decide)⟩ (y 1)

/-- A store of 128 channels from `o` on, block of `coBlock` row by row, over stores that are blocks of it. -/
theorem piece_co (W : Weights) (S : Fin 16 → Stream) (o : ℕ) (ho : o + 128 ≤ 2048) (inb : ∀ a, _)
    (p : Vec Ideal S256x128 .bf16) (L : List (View.Piece (Elt Ideal) S256x2048 .bf16))
    (h : ∀ (b s : Fin 16) (l : Fin 128), p (ix2 ⟨b * 16 + s, by omega⟩ l) = (S b).co W s ⟨o + l, by omega⟩)
    (hL : View.PiecesOf (coBlock W S) L) :
    View.PiecesOf (coBlock W S) (⟨Rect.unit (s := S256x2048) ![0, o] S256x128.size inb, p⟩ :: L) := by
  refine ⟨fun x => ?_, hL⟩
  change S256x128.Idx at x
  show p x = coBlock W S ((Rect.unit (s := S256x2048) ![0, o] S256x128.size inb).emb x)
  obtain ⟨r, l, rfl⟩ : ∃ (r : Fin 256) (l : Fin 128), x = ix2 r l := ⟨x 0, x 1, eq_ix2 x⟩
  have e := h ⟨r / 16, by omega⟩ ⟨r % 16, by omega⟩ l
  have er : (⟨(r : ℕ) / 16 * 16 + r % 16, by omega⟩ : Fin 256) = r := Fin.ext (by simp only []; omega)
  rw [er] at e
  rw [e]
  unfold coBlock
  congr 1
  · congr 1
    exact Fin.ext (by simp [Rect.emb, LoadRect.idx, Rect.unit])
  · exact Fin.ext (by simp [Rect.emb, LoadRect.idx, Rect.unit])
  · exact Fin.ext (by simp [Rect.emb, LoadRect.idx, Rect.unit])

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

set_option maxHeartbeats 2000000 in
/-- The sixteen stores are blocks of `coBlock`. -/
theorem pieces_co :
    View.PiecesOf (coBlock (weights x2 x3 x4 x5 x6 x7 x10 x11 x12 x13 x14) (stream x0 x1 x8 x9))
      (kernelRun0_A.sl.H16_16 c arg1 harg1 arg2 harg2 arg3 harg3 arg4 harg4 arg5 harg5 arg6 harg6 arg7 harg7 arg8 harg8 arg9 harg9 arg10 harg10 arg11 harg11 arg12 harg12 arg13 harg13 arg20
        x0 x1 x2 x3 x4 x5 x6 x7 x8 x9 x10 x11 x12) := by
  obtain ⟨t0, t1, t2, t3, t4, t5, t6, t7, t8, t9, t10, t11, t12, t13, t14, t15⟩ :=
    tiles c arg1 harg1 arg2 harg2 arg3 harg3 arg4 harg4 arg5 harg5 arg6 harg6 arg7 harg7 arg8 harg8 arg9 harg9 arg10 harg10 x0 x1 x2 x3 x4 x5 x6 x7 x8 x9 x10 x11 x12 x13 x14
  unfold kernelRun0_A.sl.H16_16
  iterate 16 refine piece_co _ _ _ (by decide) _ _ _ (fun b s l => ?_) ?_; rotate_left
  · trivial
  all_goals
  simp only [kernelRun0_A.sl.r_124, kernelRun0_A.sl.r_123, kernelRun0_A.sl.v2227, kernelRun0_A.sl.v2232, kernelRun0_A.sl.v2238,
      kernelRun0_A.sl.v2244, kernelRun0_A.sl.v2250, kernelRun0_A.sl.v2256, kernelRun0_A.sl.v2262,
      kernelRun0_A.sl.v2268, kernelRun0_A.sl.v2274, kernelRun0_A.sl.r_114, kernelRun0_A.sl.r_113,
      kernelRun0_A.sl.v2090, kernelRun0_A.sl.v2095, kernelRun0_A.sl.v2101, kernelRun0_A.sl.v2107,
      kernelRun0_A.sl.v2113, kernelRun0_A.sl.v2119, kernelRun0_A.sl.v2125, kernelRun0_A.sl.v2131,
      kernelRun0_A.sl.v2137, kernelRun0_A.sl.r_115, kernelRun0_A.sl.r_107, kernelRun0_A.sl.r_105,
      kernelRun0_A.sl.v1938, kernelRun0_A.sl.v1943, kernelRun0_A.sl.v1949, kernelRun0_A.sl.v1955,
      kernelRun0_A.sl.v1961, kernelRun0_A.sl.r_106, kernelRun0_A.sl.v1967, kernelRun0_A.sl.v1973,
      kernelRun0_A.sl.v1979, kernelRun0_A.sl.v1985, kernelRun0_A.sl.r_108, kernelRun0_A.sl.r_97, kernelRun0_A.sl.r_95,
      kernelRun0_A.sl.v1801, kernelRun0_A.sl.v1806, kernelRun0_A.sl.v1812, kernelRun0_A.sl.v1818,
      kernelRun0_A.sl.r_96, kernelRun0_A.sl.v1824, kernelRun0_A.sl.v1830, kernelRun0_A.sl.v1836,
      kernelRun0_A.sl.v1842, kernelRun0_A.sl.v1848, kernelRun0_A.sl.r_98, kernelRun0_A.sl.r_88, kernelRun0_A.sl.r_87,
      kernelRun0_A.sl.v1649, kernelRun0_A.sl.v1654, kernelRun0_A.sl.v1660, kernelRun0_A.sl.v1666,
      kernelRun0_A.sl.v1672, kernelRun0_A.sl.v1678, kernelRun0_A.sl.v1684, kernelRun0_A.sl.v1690,
      kernelRun0_A.sl.v1696, kernelRun0_A.sl.r_81, kernelRun0_A.sl.r_80, kernelRun0_A.sl.v1512, kernelRun0_A.sl.v1517,
      kernelRun0_A.sl.v1523, kernelRun0_A.sl.v1529, kernelRun0_A.sl.v1535, kernelRun0_A.sl.v1541,
      kernelRun0_A.sl.v1547, kernelRun0_A.sl.v1553, kernelRun0_A.sl.v1559, kernelRun0_A.sl.r_72,
      kernelRun0_A.sl.v1360, kernelRun0_A.sl.v1365, kernelRun0_A.sl.v1371, kernelRun0_A.sl.v1377,
      kernelRun0_A.sl.v1383, kernelRun0_A.sl.v1389, kernelRun0_A.sl.r_73, kernelRun0_A.sl.v1395,
      kernelRun0_A.sl.v1401, kernelRun0_A.sl.v1407, kernelRun0_A.sl.r_67, kernelRun0_A.sl.r_65, kernelRun0_A.sl.v1223,
      kernelRun0_A.sl.v1228, kernelRun0_A.sl.v1234, kernelRun0_A.sl.v1240, kernelRun0_A.sl.v1246,
      kernelRun0_A.sl.r_66, kernelRun0_A.sl.v1252, kernelRun0_A.sl.v1258, kernelRun0_A.sl.v1264,
      kernelRun0_A.sl.v1270, kernelRun0_A.sl.r_68, kernelRun0_A.sl.r_58, kernelRun0_A.sl.v1071, kernelRun0_A.sl.v1076,
      kernelRun0_A.sl.v1082, kernelRun0_A.sl.v1088, kernelRun0_A.sl.v1094, kernelRun0_A.sl.v1100,
      kernelRun0_A.sl.v1106, kernelRun0_A.sl.v1112, kernelRun0_A.sl.v1118, kernelRun0_A.sl.r_53, kernelRun0_A.sl.r_52,
      kernelRun0_A.sl.v934, kernelRun0_A.sl.v939, kernelRun0_A.sl.v945, kernelRun0_A.sl.v951, kernelRun0_A.sl.v957,
      kernelRun0_A.sl.v963, kernelRun0_A.sl.v969, kernelRun0_A.sl.v975, kernelRun0_A.sl.v981, kernelRun0_A.sl.r_44,
      kernelRun0_A.sl.r_43, kernelRun0_A.sl.v782, kernelRun0_A.sl.v787, kernelRun0_A.sl.v793, kernelRun0_A.sl.v799,
      kernelRun0_A.sl.v805, kernelRun0_A.sl.v811, kernelRun0_A.sl.v817, kernelRun0_A.sl.v823, kernelRun0_A.sl.v829,
      kernelRun0_A.sl.r_37, kernelRun0_A.sl.v645, kernelRun0_A.sl.v650, kernelRun0_A.sl.v656, kernelRun0_A.sl.v662,
      kernelRun0_A.sl.v668, kernelRun0_A.sl.v674, kernelRun0_A.sl.r_38, kernelRun0_A.sl.v680, kernelRun0_A.sl.v686,
      kernelRun0_A.sl.v692, kernelRun0_A.sl.r_28, kernelRun0_A.sl.r_27, kernelRun0_A.sl.v493, kernelRun0_A.sl.v498,
      kernelRun0_A.sl.v504, kernelRun0_A.sl.v510, kernelRun0_A.sl.v516, kernelRun0_A.sl.v522, kernelRun0_A.sl.v528,
      kernelRun0_A.sl.v534, kernelRun0_A.sl.v540, kernelRun0_A.sl.r_22, kernelRun0_A.sl.v356, kernelRun0_A.sl.v361,
      kernelRun0_A.sl.v367, kernelRun0_A.sl.v373, kernelRun0_A.sl.v379, kernelRun0_A.sl.v385, kernelRun0_A.sl.v391,
      kernelRun0_A.sl.v397, kernelRun0_A.sl.v403, kernelRun0_A.sl.r_13, kernelRun0_A.sl.r_12, kernelRun0_A.sl.v204,
      kernelRun0_A.sl.v209, kernelRun0_A.sl.v215, kernelRun0_A.sl.v221, kernelRun0_A.sl.v227, kernelRun0_A.sl.v233,
      kernelRun0_A.sl.v239, kernelRun0_A.sl.v245, kernelRun0_A.sl.v251, kernelRun0_A.sl.r_5, kernelRun0_A.sl.r_4,
      kernelRun0_A.sl.v67, kernelRun0_A.sl.v72, kernelRun0_A.sl.v78, kernelRun0_A.sl.v84, kernelRun0_A.sl.v90,
      kernelRun0_A.sl.v96, kernelRun0_A.sl.v102, kernelRun0_A.sl.v108, kernelRun0_A.sl.v114,
    View.readAt_eq_ld, harg11.read_unread, harg12.read_unread, harg13.read_unread] <;>
  unfold_payloads <;>
  pointwise <;>
  simp only [t0.read, t1.read, t2.read, t3.read, t4.read, t5.read, t6.read, t7.read, t8.read, t9.read, t10.read, t11.read,
    t12.read, t13.read, t14.read, t15.read, Nat.zero_add, Nat.reduceLeDiff, Nat.zero_le, Nat.le_refl] <;>
  rfl

end Cert.KernelIdeal.Hand
-- ==== Proof.Block.lean ====
/-
  What a grid point leaves in the staging buffers of the two results: the module's output and the convolution's output of
  its sixteen streams.
-/
module

public import proofs.«01_k».proof.Proof.Conv

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

theorem hz : (![0, 0] : Fin 2 → Nat) = fun _ => 0 := funext fun a => by fin_cases a <;> rfl

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

/-- The convolution's output, as the sixteen stores leave it. -/
theorem conv_canon (y : S256x2048.Idx)

      (hy : ∃ p ∈ kernelRun0_A.sl.H16_16 c arg1 harg1 arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11 x12, y ∈ p.1.set)
      :
    View.canon
      (kernelRun0_A.sl.H16_16 c arg1 harg1 arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11 x12)
      y = coBlock (weights x2 x3 x4 x5 x6 x7 x10 x11 x12 x13 x14) (stream x0 x1 x8 x9) y :=
  View.canon_apply_of_pieces _ _ (View.PiecesOf.mem
      (pieces_co c arg1 harg1 arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11 x12 x13 x14)
      ) y hy

/-- The convolution's output at a block's row and channel. -/
theorem conv_at
      (hc : ∀ y, ∃ p ∈ kernelRun0_A.sl.H16_16 c arg1 harg1 arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11 x12, y ∈ p.1.set)
      (b s : Fin 16) (k : Fin 2048) :
    View.canon
      (kernelRun0_A.sl.H16_16 c arg1 harg1 arg2 harg2 arg3 harg3 arg4 harg4 arg5 harg5 arg6 harg6 arg7 harg7 arg8 harg8 arg9 harg9 arg10 harg10 arg11 harg11 arg12 harg12 arg13 harg13 arg20 x0 x1 x2 x3 x4 x5 x6 x7 x8 x9 x10 x11 x12)
      (ix2 ⟨b * 16 + s, by omega⟩ k)
      = ((stream x0 x1 x8 x9) b).co (weights x2 x3 x4 x5 x6 x7 x10 x11 x12 x13 x14) s k := by
  rw [conv_canon c arg1 harg1 arg2 harg2 arg3 harg3 arg4 harg4 arg5 harg5 arg6 harg6 arg7 harg7 arg8 harg8 arg9 harg9
      arg10 harg10 arg11 harg11 arg12 harg12 arg13 harg13 arg20 x0 x1 x2 x3 x4 x5 x6 x7 x8 x9 x10 x11 x12 x13 x14 _
      (hc _) ]
  unfold coBlock
  congr 1
  · congr 1
    exact Fin.ext (by simp only [ix2_0]; omega)
  · exact Fin.ext (by simp only [ix2_0]; omega)

/-- The block of the second result. -/
theorem out_co (b s : Fin 16) (k : Fin 2048) :
    out0_A_16 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 x0 x1 x2 x3 x4 x5 x6 x7 x8 x9 x10 x11 x12 x13 x14 (ix2 ⟨b * 16 + s, by omega⟩ k)
      = ((stream x0 x1 x8 x9) b).co (weights x2 x3 x4 x5 x6 x7 x10 x11 x12 x13 x14) s k := by
  unfold out0_A_16
  rw [View.read_writes_eq_canon _ _ _
      (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14)
      ]
  unfold kernelRun0_A
  dsimp only
  exact conv_at c arg1 harg1 arg2 harg2 arg3 harg3 arg4 harg4 arg5 harg5 arg6 harg6 arg7 harg7 arg8 harg8 arg9 harg9
      arg10 harg10 arg11 harg11 arg12 harg12 arg13 harg13 arg20 x0 x1 x2 x3 x4 x5 x6 x7 x8 x9 x10 x11 x12 x13 x14
      (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14)
      b s k

/-- The block of the first result. -/
theorem out_y (b s : Fin 16) (k : Fin 2048) :
    out0_A_15 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 x0 x1 x2 x3 x4 x5 x6 x7 x8 x9 x10 x11 x12 x13 x14 (ix2 ⟨b * 16 + s, by omega⟩ k)
      = ((stream x0 x1 x8 x9) b).y (weights x2 x3 x4 x5 x6 x7 x10 x11 x12 x13 x14) s k := by
  have e := conv_at c arg1 harg1 arg2 harg2 arg3 harg3 arg4 harg4 arg5 harg5 arg6 harg6 arg7 harg7 arg8 harg8 arg9 harg9
      arg10 harg10 arg11 harg11 arg12 harg12 arg13 harg13 arg20 x0 x1 x2 x3 x4 x5 x6 x7 x8 x9 x10 x11 x12 x13 x14
      (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14)
  have e' := h_eq c arg1 harg1 arg2 harg2 arg3 harg3 arg4 harg4 x0 x1 x2 x3 x4 x5 x6 x7 x8 x9 x10 x11 x12 x13 x14
  unfold out0_A_15
  rw [View.read_writes_eq_canon _ _ _
      (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14)
      ]
  unfold kernelRun0_A
  dsimp only
  rw [View.canon_unit_zero hz]
  unfold kernelRun0_A.sl.r_129 kernelRun0_A.sl.v2351
  simp only [View.readCov_eq_canon', View.readAt_eq_ld, harg14.read_unread, harg15.read_unread]
  pointwise [k0_pay221]
  simp only [e, e']
  rfl

end Cert.KernelIdeal.Hand
-- ==== Proof.Arrays.lean ====
/-
  The two results as functions of the argument arrays.
-/
module

public import proofs.«01_k».proof.Proof.Spec

@[expose] public section

noncomputable section

namespace Cert.Conv

open Idealize.ShloMosaic

variable (a0 : Vec Ideal ⟨2, ![3072, 2048]⟩ .bf16) (a1 : Vec Ideal ⟨3, ![192, 16, 2048]⟩ .bf16)
  (a2 : Vec Ideal ⟨3, ![32, 64, 2048]⟩ .bf16) (a3 a4 a5 : Vec Ideal ⟨1, ![2048]⟩ .f32)
  (a6 : Vec Ideal ⟨3, ![2048, 2, 2048]⟩ .bf16) (a7 : Vec Ideal ⟨2, ![2, 2048]⟩ .f32)
  (a8 : Vec Ideal ⟨3, ![192, 8, 2048]⟩ .fp8e4m3) (a9 : Vec Ideal ⟨2, ![192, 2048]⟩ .f32)
  (a10 : Vec Ideal ⟨2, ![9, 2048]⟩ .f32) (a11 a12 : Vec Ideal ⟨1, ![2048]⟩ .f32)
  (a13 : Vec Ideal ⟨2, ![2048, 2048]⟩ .bf16) (a14 : Vec Ideal ⟨1, ![2048]⟩ .f32)

/-- The weights, read off the argument arrays. -/
def argWeights : Weights where
  wo k c := a2 (ix3 ⟨k / 64, by omega⟩ ⟨k % 64, Nat.mod_lt _ (by decide)⟩ c)
  bo c := a3 (ix1 c)
  g2 c := a4 (ix1 c)
  b2 c := a5 (ix1 c)
  wv k c := a6 (ix3 k 0 c)
  wg k c := a6 (ix3 k 1 c)
  bv c := a7 (ix2 0 c)
  bg c := a7 (ix2 1 c)
  dw j c := a10 (ix2 j c)
  bs c := a11 (ix1 c)
  bb c := a12 (ix1 c)
  w2 k c := a13 (ix2 k c)
  b3 c := a14 (ix1 c)

/-- Stream `b`, read off the argument arrays. -/
def argStream (b : Fin 192) : Stream where
  a s k := a0 (ix2 ⟨b * 16 + s, by omega⟩ k)
  x s k := a1 (ix3 b s k)
  cc j c := a8 (ix3 b j c)
  cs c := a9 (ix2 b c)

/-- The stream that row `r` belongs to. -/
def streamOf (r : Fin 3072) : Fin 192 := ⟨r / 16, by omega⟩

/-- The frame of its stream that row `r` is. -/
def frameOf (r : Fin 3072) : Fin 16 := ⟨r % 16, Nat.mod_lt _ (by decide)⟩

/-- The first result: the module's output. -/
def yArr : Vec Ideal ⟨2, ![3072, 2048]⟩ .bf16 := fun i =>
  (argStream a0 a1 a8 a9 (streamOf (i 0))).y (argWeights a2 a3 a4 a5 a6 a7 a10 a11 a12 a13 a14) (frameOf (i 0)) (i 1)

/-- The second result: the convolution's output. -/
def coArr : Vec Ideal ⟨2, ![3072, 2048]⟩ .bf16 := fun i =>
  (argStream a0 a1 a8 a9 (streamOf (i 0))).co (argWeights a2 a3 a4 a5 a6 a7 a10 a11 a12 a13 a14) (frameOf (i 0)) (i 1)

end Cert.Conv
-- ==== Proof.Inputs.lean ====
/-
  What a grid point stages of each argument.
-/
module

public import proofs.«01_k».proof.Proof.Block
public import proofs.«01_k».proof.Proof.Arrays
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.KernelIdeal.Value Cert.Conv Idealize.ShloMosaic Idealize.ShloMosaic.TcCoe
  Idealize.SL.Sem

variable (m : (ℓ : Loc nD τ sig) → Buf (Elt Ideal) ℓ) (ρ : Dev nD → PrngReg) (c : Dev nD)

/-- The block index of every window at every grid point. -/
theorem idx : ∀ t : Fin grid0.N,
    win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val, 0]
    ∧ win0_16.index t = ![t.val, 0]
    ∧ win0_17.index t = ![t.val, 0, 0]
    ∧ win0_18.index t = ![t.val, 0] :=
  by decide +kernel

/-- There are twelve grid points. -/
theorem lt12 (t : Fin cfg0.N) : (t : ℕ) < 12 := lt_of_lt_of_eq t.isLt N_0

/-- A grid point's weights are the arguments' weights. -/
theorem weights_eq (t : Fin cfg0.N) :
    weights (iblk m c 2 t) (iblk m c 3 t) (iblk m c 4 t) (iblk m c 5 t) (iblk m c 6 t) (iblk m c 7 t) (iblk m c 10 t)
      (iblk m c 11 t) (iblk m c 12 t) (iblk m c 13 t) (iblk m c 14 t) = (argWeights (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c : Thread
      nD τ).loc main_arg10)) (m ((c : Thread nD τ).loc main_arg11)) (m ((c : Thread nD τ).loc main_arg12)) (m ((c :
      Thread nD τ).loc main_arg13)) (m ((c : Thread nD τ).loc main_arg14))) := by
  unfold weights argWeights
  simp only [Weights.mk.injEq]
  refine ⟨?_, ?_, ?_, ?_, ?_, ?_, ?_, ?_, ?_, ?_, ?_, ?_, ?_⟩
  all_goals first | (funext k d; blk_point [iblk, V, idx t]) | (funext d; blk_point [iblk, V, idx t])

/-- Stream `b` of grid point `t` is stream `16 t + b` of the arguments. -/
theorem stream_eq (t : Fin cfg0.N) (b : Fin 16) :
    stream (iblk m c 0 t) (iblk m c 1 t) (iblk m c 8 t) (iblk m c 9 t) b
      = (argStream (m ((c : Thread nD τ).loc main_arg0)) (m ((c : Thread nD τ).loc main_arg1)) (m ((c : Thread nD
      τ).loc main_arg8)) (m ((c : Thread nD τ).loc main_arg9))) ⟨t * 16 + b, by have := lt12 t; omega⟩ := by
  unfold stream argStream
  simp only [Conv.Stream.mk.injEq]
  refine ⟨?_, ?_, ?_, ?_⟩
  all_goals first | (funext k d; blk_point [iblk, V, idx t]) | (funext d; blk_point [iblk, V, idx t])

end Cert.KernelIdeal.Hand
-- ==== Proof.Final.lean ====
/-
  The kernel's two result arrays after the run.
-/
module

public import proofs.«01_k».proof.Proof.Inputs

@[expose] public section

set_option maxRecDepth 16384

noncomputable section

namespace Cert.KernelIdeal.Hand

open Cert.KernelIdeal Cert.KernelIdeal.Gen Cert.KernelIdeal.Value Cert.Conv Idealize.ShloMosaic Idealize.ShloMosaic.TcCoe
  Idealize.SL.Sem

variable (m : (ℓ : Loc nD τ sig) → Buf (Elt Ideal) ℓ) (ρ : Dev nD → PrngReg) (c : Dev nD)

/-- Row `r` of block `t` belongs to stream `16 t + r / 16` and is its frame `r % 16`. -/
theorem row_split (t : Fin cfg0.N) (r : Fin 256) :
    streamOf ⟨t * 256 + r, by have := lt12 t; omega⟩ = ⟨t * 16 + (r : ℕ) / 16, by have := lt12 t; omega⟩
      ∧ frameOf ⟨t * 256 + r, by have := lt12 t; omega⟩ = ⟨(r : ℕ) % 16, Nat.mod_lt _ (by decide)⟩ :=
  ⟨Fin.ext (by simp only [streamOf]; omega), Fin.ext (by simp only [frameOf]; omega)⟩

/-- Row `r` is frame `r % 16` of the block's stream `r / 16`. -/
theorem row_join (r : Fin 256) :
    (⟨((⟨(r : ℕ) / 16, by omega⟩ : Fin 16) : ℕ) * 16 + ((⟨(r : ℕ) % 16, Nat.mod_lt _ (by decide)⟩ : Fin 16) : ℕ), by
      have := r.isLt; simp only []; omega⟩ : Fin 256) = r := Fin.ext (by simp only []; omega)

/-- The first result array after the run. -/
theorem final_y : (dats m 0 c).arrAt 15 cfg0.N = yArr (m ((c : Thread nD τ).loc main_arg0)) (m ((c : Thread nD τ).loc
      main_arg1)) (m ((c : Thread nD τ).loc main_arg2)) (m ((c : Thread nD τ).loc main_arg3)) (m ((c : Thread nD
      τ).loc main_arg4)) (m ((c : Thread nD τ).loc main_arg5)) (m ((c : Thread nD τ).loc main_arg6)) (m ((c : Thread
      nD τ).loc main_arg7)) (m ((c : Thread nD τ).loc main_arg8)) (m ((c : Thread nD τ).loc main_arg9)) (m ((c :
      Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 15 _ (by decide +kernel) fun t hf y => ?_
  obtain ⟨r, k, rfl⟩ : ∃ (r : Fin 256) (k : Fin 2048), y = ix2 r k := ⟨y 0, y 1, eq_ix2 y⟩
  have he : (win0_15.blk t).view.emb (ix2 r k) = ix2 ⟨t * 256 + r, by have := lt12 t; omega⟩ k := by
    blk_ext [idx t]
  blk_simp
  rw [after0_15]
  refine Eq.trans ?_ (congrArg _ he.symm)
  unfold outsAt0 yArr
  simp only [ix2_0, ix2_1, (row_split t r).1, (row_split t r).2]
  have e := out_y c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (ms0_15 t) (hs0_15 t) (ms0_16 t) (hs0_16 t) (ms0_17 t) (hs0_17 t) (ms0_18 t) (hs0_18 t) scM0_0
      (Memref.isWhole_whole _) (iblk m c 0 t) (iblk m c 1 t) (iblk m c 2 t) (iblk m c 3 t) (iblk m c 4 t) (iblk m c 5
      t) (iblk m c 6 t) (iblk m c 7 t) (iblk m c 8 t) (iblk m c 9 t) (iblk m c 10 t) (iblk m c 11 t) (iblk m c 12 t)
      (iblk m c 13 t) (iblk m c 14 t) ⟨r / 16, by omega⟩ ⟨r % 16, by omega⟩ k
  rw [weights_eq, stream_eq] at e
  rw [row_join r] at e
  exact e

/-- The second result array after the run. -/
theorem final_co : (dats m 0 c).arrAt 16 cfg0.N = coArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 16 _ (by decide +kernel) fun t hf y => ?_
  obtain ⟨r, k, rfl⟩ : ∃ (r : Fin 256) (k : Fin 2048), y = ix2 r k := ⟨y 0, y 1, eq_ix2 y⟩
  have he : (win0_16.blk t).view.emb (ix2 r k) = ix2 ⟨t * 256 + r, by have := lt12 t; omega⟩ k := by
    blk_ext [idx t]
  blk_simp
  rw [after0_16]
  refine Eq.trans ?_ (congrArg _ he.symm)
  unfold outsAt0 coArr
  simp only [ix2_0, ix2_1, (row_split t r).1, (row_split t r).2]
  have e := out_co c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (ms0_15 t) (hs0_15 t) (ms0_16 t) (hs0_16 t) (ms0_17 t) (hs0_17 t) (ms0_18 t) (hs0_18 t) scM0_0
      (Memref.isWhole_whole _) (iblk m c 0 t) (iblk m c 1 t) (iblk m c 2 t) (iblk m c 3 t) (iblk m c 4 t) (iblk m c 5
      t) (iblk m c 6 t) (iblk m c 7 t) (iblk m c 8 t) (iblk m c 9 t) (iblk m c 10 t) (iblk m c 11 t) (iblk m c 12 t)
      (iblk m c 13 t) (iblk m c 14 t) ⟨r / 16, by omega⟩ ⟨r % 16, by omega⟩ k
  rw [weights_eq, stream_eq] at e
  rw [row_join r] at e
  exact e

end Cert.KernelIdeal.Hand
-- ==== Proof.RefBlock.lean ====
/-
  The reference's body read at an index: on its whole arrays it computes, for every stream, the mathematics of
  `Spec.lean`.
-/
module

public import proofs.«01_k».proof.Proof.Spec
public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen Cert.Conv Idealize.ShloMosaic Idealize.ShloMosaic.TcCoe Idealize.SL.Sem

/-- The reference's weights, as numbers. -/
def weights (x2 : Vec Ideal S2048x2048 .bf16) (x3 x4 x5 : Vec Ideal S1x2048 .f32) (x6 x7 : Vec Ideal S2048x2048 .bf16)
    (x8 : Vec Ideal S2x2048 .f32) (x11 : Vec Ideal S9x2048 .f32) (x12 x13 : Vec Ideal S1x2048 .f32)
    (x14 : Vec Ideal S2048x2048 .bf16) (x15 : Vec Ideal S1x2048 .f32) : Weights where
  wo k c := x2 (ix2 k c)
  bo c := x3 (ix2 0 c)
  g2 c := x4 (ix2 0 c)
  b2 c := x5 (ix2 0 c)
  wv k c := x6 (ix2 k c)
  wg k c := x7 (ix2 k c)
  bv c := x8 (ix2 0 c)
  bg c := x8 (ix2 1 c)
  dw j c := x11 (ix2 j c)
  bs c := x12 (ix2 0 c)
  bb c := x13 (ix2 0 c)
  w2 k c := x14 (ix2 k c)
  b3 c := x15 (ix2 0 c)

/-- Stream `b` of the reference's arrays, as numbers. -/
def stream (x0 x1 : Vec Ideal S3072x2048 .bf16) (x9 : Vec Ideal S192x8x2048 .fp8e4m3) (x10 : Vec Ideal S192x2048 .f32)
    (b : Fin 192) : Stream where
  a s k := x0 (ix2 ⟨b * 16 + s, by omega⟩ k)
  x s k := x1 (ix2 ⟨b * 16 + s, by omega⟩ k)
  cc j c := x9 (ix3 b j c)
  cs c := x10 (ix2 b c)

theorem hz : (![0, 0] : Fin 2 → Nat) = fun _ => 0 := funext fun a => by fin_cases a <;> rfl

section
variable (x0 x1 : Vec Ideal S3072x2048 .bf16) (x2 : Vec Ideal S2048x2048 .bf16) (x3 x4 x5 : Vec Ideal S1x2048 .f32)
  (x6 x7 : Vec Ideal S2048x2048 .bf16) (x8 : Vec Ideal S2x2048 .f32) (x9 : Vec Ideal S192x8x2048 .fp8e4m3)
  (x10 : Vec Ideal S192x2048 .f32) (x11 : Vec Ideal S9x2048 .f32) (x12 x13 : Vec Ideal S1x2048 .f32)
  (x14 : Vec Ideal S2048x2048 .bf16) (x15 : Vec Ideal S1x2048 .f32)

/-- The residual rows. -/
theorem h_eq (b : Fin 192) (s : Fin 16) (c : Fin 2048) :
    k0_pay2 (View.ld x1 r0_0) (View.ld x0 r0_0) (View.ld x2 r0_1) (View.ld x3 r0_2) (ix2 ⟨b * 16 + s, by omega⟩ c)
      = (stream x0 x1 x9 x10 b).h (weights x2 x3 x4 x5 x6 x7 x8 x11 x12 x13 x14 x15) s c := by
  pointwise [k0_pay2]
  rfl

/-- The normalised rows. -/
theorem c_eq (b : Fin 192) (s : Fin 16) (c : Fin 2048) :
    k0_pay3 (View.ld x1 r0_0) (View.ld x0 r0_0) (View.ld x2 r0_1) (View.ld x3 r0_2) (View.ld x4 r0_2) (View.ld x5 r0_2)
        (ix2 ⟨b * 16 + s, by omega⟩ c)
      = cRow (weights x2 x3 x4 x5 x6 x7 x8 x11 x12 x13 x14 x15) ((stream x0 x1 x9 x10 b).h (weights x2 x3 x4 x5 x6 x7 x8 x11 x12 x13 x14 x15) s) c := by
  pointwise [k0_pay3]
  simp only [h_eq x0 x1 x2 x3 x4 x5 x6 x7 x8 x9 x10 x11 x12 x13 x14 x15]
  rfl

/-- What the depthwise convolution reads: the cached rows, dequantised, then the gated rows. -/
theorem z_eq (b : Fin 192) (j : Fin 24) (c : Fin 2048) :
    k0_pay4 (k0_pay3 (View.ld x1 r0_0) (View.ld x0 r0_0) (View.ld x2 r0_1) (View.ld x3 r0_2) (View.ld x4 r0_2) (View.ld x5 r0_2))
        (View.ld x6 r0_1) (View.ld x8 r0_3) (View.ld x7 r0_1) (View.ld x8 r0_4) (View.ld x9 r0_5) (View.ld x10 r0_6)
        (ix3 b j c)
      = (stream x0 x1 x9 x10 b).z (weights x2 x3 x4 x5 x6 x7 x8 x11 x12 x13 x14 x15) c j := by
  pointwise [k0_pay4]
  unfold Stream.z zCol
  by_cases h : (j : ℕ) < 8
  · rw [dif_pos h, dif_pos h]; rfl
  · rw [dif_neg h, dif_neg h]
    have hj : (j : ℕ) - 8 < 16 := by omega
    have e := fun k => c_eq x0 x1 x2 x3 x4 x5 x6 x7 x8 x9 x10 x11 x12 x13 x14 x15 b ⟨(j : ℕ) - 8, hj⟩ k
    simp only [Fin.val_mk] at e
    simp only [e]
    rfl

/-- The convolution's output before its silu, and its last bias. -/
theorem s_eq (b : Fin 192) (s : Fin 16) (c : Fin 2048) :
    k0_pay14 x0 x1 x2 x3 x4 x5 x6 x7 x8 x9 x10 x11 x12 x13 x14 x15 (ix3 b s c)
      = taps ((stream x0 x1 x9 x10 b).z (weights x2 x3 x4 x5 x6 x7 x8 x11 x12 x13 x14 x15) c) (fun j => (weights x2 x3 x4 x5 x6 x7 x8 x11 x12 x13 x14 x15).dw j c) s * (weights x2 x3 x4 x5 x6 x7 x8 x11 x12 x13 x14 x15).bs c := by
  unfold k0_pay14 k0_pay13 k0_pay12
  pointwise [k0_pay6, k0_pay5]
  simp only [z_eq x0 x1 x2 x3 x4 x5 x6 x7 x8 x9 x10 x11 x12 x13 x14 x15]
  rfl

/-- The reference's second result: the convolution's output. -/
theorem co_eq (b : Fin 192) (s : Fin 16) (c : Fin 2048) :
    out0_17 x0 x1 x2 x3 x4 x5 x6 x7 x8 x9 x10 x11 x12 x13 x14 x15 (ix2 ⟨b * 16 + s, by omega⟩ c)
      = (stream x0 x1 x9 x10 b).co (weights x2 x3 x4 x5 x6 x7 x8 x11 x12 x13 x14 x15) s c := by
  unfold out0_17 k0_pay15
  rw [View.canon_unit_zero hz]
  pointwise [k0_pay8, k0_pay7]
  simp only [s_eq x0 x1 x2 x3 x4 x5 x6 x7 x8 x9 x10 x11 x12 x13 x14 x15]
  rfl

/-- The reference's first result: the module's output. -/
theorem y_eq (b : Fin 192) (s : Fin 16) (c : Fin 2048) :
    out0_16 x0 x1 x2 x3 x4 x5 x6 x7 x8 x9 x10 x11 x12 x13 x14 x15 (ix2 ⟨b * 16 + s, by omega⟩ c)
      = (stream x0 x1 x9 x10 b).y (weights x2 x3 x4 x5 x6 x7 x8 x11 x12 x13 x14 x15) s c := by
  have e := fun k => co_eq x0 x1 x2 x3 x4 x5 x6 x7 x8 x9 x10 x11 x12 x13 x14 x15 b s k
  unfold out0_17 at e
  rw [View.canon_unit_zero hz] at e
  unfold out0_16
  rw [View.canon_unit_zero hz]
  pointwise [k0_pay9]
  simp only [e, h_eq x0 x1 x2 x3 x4 x5 x6 x7 x8 x9 x10 x11 x12 x13 x14 x15]
  rfl

end

end Cert.ReferenceIdeal.Hand
-- ==== Proof.RefFinal.lean ====
/-
  The reference's two result arrays after the run.
-/
module

public import proofs.«01_k».proof.Proof.RefBlock
public import proofs.«01_k».proof.Proof.Arrays
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen Cert.ReferenceIdeal.Value Cert.Conv Idealize.ShloMosaic
  Idealize.ShloMosaic.TcCoe Idealize.SL.Sem

variable (m : (ℓ : Loc nD τ sig) → Buf (Elt Ideal) ℓ) (ρ : Dev nD → PrngReg) (c : Dev nD)

/-- The block index of every window at the one grid point. -/
theorem idx : ∀ t : Fin grid0.N,
    win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0, 0]
    ∧ win0_19.index t = ![0, 0] :=
  by decide +kernel

/-- The reference's weights are the arguments' weights. -/
theorem weights_eq (t : Fin cfg0.N) :
    weights (iblk m c 2 t) (iblk m c 3 t) (iblk m c 4 t) (iblk m c 5 t) (iblk m c 6 t) (iblk m c 7 t) (iblk m c 8 t)
      (iblk m c 11 t) (iblk m c 12 t) (iblk m c 13 t) (iblk m c 14 t) (iblk m c 15 t) = (argWeights (m ((c : Thread nD
      τ).loc main_arg2)) (m ((c : Thread nD τ).loc main_arg3)) (m ((c : Thread nD τ).loc main_arg4)) (m ((c : Thread
      nD τ).loc main_arg5)) (m ((c : Thread nD τ).loc main_arg6)) (m ((c : Thread nD τ).loc main_arg7)) (m ((c :
      Thread nD τ).loc main_arg10)) (m ((c : Thread nD τ).loc main_arg11)) (m ((c : Thread nD τ).loc main_arg12)) (m
      ((c : Thread nD τ).loc main_arg13)) (m ((c : Thread nD τ).loc main_arg14))) := by
  unfold weights argWeights
  simp only [Weights.mk.injEq]
  refine ⟨?_, ?_, ?_, ?_, ?_, ?_, ?_, ?_, ?_, ?_, ?_, ?_, ?_⟩
  all_goals first | (funext k d; blk_point [iblk, V, idx t]) | (funext d; blk_point [iblk, V, idx t])

/-- The reference's streams are the arguments' streams. -/
theorem stream_eq (t : Fin cfg0.N) (b : Fin 192) :
    stream (iblk m c 0 t) (iblk m c 1 t) (iblk m c 9 t) (iblk m c 10 t) b
      = (argStream (m ((c : Thread nD τ).loc main_arg0)) (m ((c : Thread nD τ).loc main_arg1)) (m ((c : Thread nD
      τ).loc main_arg8)) (m ((c : Thread nD τ).loc main_arg9))) b := by
  unfold stream argStream
  simp only [Conv.Stream.mk.injEq]
  refine ⟨?_, ?_, ?_, ?_⟩
  all_goals first | (funext k d; blk_point [iblk, V, idx t]) | (funext d; blk_point [iblk, V, idx t])

/-- Row `r` is frame `r % 16` of stream `r / 16`. -/
theorem row_join (r : Fin 3072) :
    (⟨((streamOf r : Fin 192) : ℕ) * 16 + ((frameOf r : Fin 16) : ℕ), by
      have := (streamOf r).isLt; have := (frameOf r).isLt; omega⟩ : Fin 3072) = r :=
  Fin.ext (by simp only [streamOf, frameOf]; omega)

/-- The first result array after the run. -/
theorem final_y : (dats m 0 c).arrAt 16 cfg0.N = yArr (m ((c : Thread nD τ).loc main_arg0)) (m ((c : Thread nD τ).loc
      main_arg1)) (m ((c : Thread nD τ).loc main_arg2)) (m ((c : Thread nD τ).loc main_arg3)) (m ((c : Thread nD
      τ).loc main_arg4)) (m ((c : Thread nD τ).loc main_arg5)) (m ((c : Thread nD τ).loc main_arg6)) (m ((c : Thread
      nD τ).loc main_arg7)) (m ((c : Thread nD τ).loc main_arg8)) (m ((c : Thread nD τ).loc main_arg9)) (m ((c :
      Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 16 _ (by decide +kernel) fun t hf y => ?_
  obtain ⟨r, k, rfl⟩ : ∃ (r : Fin 3072) (k : Fin 2048), y = ix2 r k := ⟨y 0, y 1, eq_ix2 y⟩
  have he : (win0_16.blk t).view.emb (ix2 r k) = ix2 r k := by
    blk_ext [idx t]
  blk_simp
  rw [after0_16]
  refine Eq.trans ?_ (congrArg _ he.symm)
  unfold yArr
  simp only [ix2_0, ix2_1]
  have e := y_eq (iblk m c 0 t) (iblk m c 1 t) (iblk m c 2 t) (iblk m c 3 t) (iblk m c 4 t) (iblk m c 5 t) (iblk m c 6
      t) (iblk m c 7 t) (iblk m c 8 t) (iblk m c 9 t) (iblk m c 10 t) (iblk m c 11 t) (iblk m c 12 t) (iblk m c 13 t)
      (iblk m c 14 t) (iblk m c 15 t) (streamOf r) (frameOf r) k
  rw [weights_eq, stream_eq] at e
  rw [row_join r] at e
  exact e

/-- The second result array after the run. -/
theorem final_co : (dats m 0 c).arrAt 17 cfg0.N = coArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 17 _ (by decide +kernel) fun t hf y => ?_
  obtain ⟨r, k, rfl⟩ : ∃ (r : Fin 3072) (k : Fin 2048), y = ix2 r k := ⟨y 0, y 1, eq_ix2 y⟩
  have he : (win0_17.blk t).view.emb (ix2 r k) = ix2 r k := by
    blk_ext [idx t]
  blk_simp
  rw [after0_17]
  refine Eq.trans ?_ (congrArg _ he.symm)
  unfold coArr
  simp only [ix2_0, ix2_1]
  have e := co_eq (iblk m c 0 t) (iblk m c 1 t) (iblk m c 2 t) (iblk m c 3 t) (iblk m c 4 t) (iblk m c 5 t) (iblk m c
      6 t) (iblk m c 7 t) (iblk m c 8 t) (iblk m c 9 t) (iblk m c 10 t) (iblk m c 11 t) (iblk m c 12 t) (iblk m c 13
      t) (iblk m c 14 t) (iblk m c 15 t) (streamOf r) (frameOf r) k
  rw [weights_eq, stream_eq] at e
  rw [row_join r] at e
  exact e

end Cert.ReferenceIdeal.Hand
-- ==== Proof.TailSpec.lean ====
/-
  The requantised tail of a channel over the extended reals: its scale, a power of two, and its eight codes; and the
  scale and its inverse as the kernel takes them, by counting powers of two and placing an exponent field.
-/
module

public import proofs.«01_k».proof.Proof.Spec
public import Idealize.ShloMosaic.Lib.Pointwise
public import Idealize.ShloMosaic.Lib.IdealHost
public import Mathlib.Data.BitVec

@[expose] public section

noncomputable section

namespace Cert.Conv

open Idealize.ShloMosaic

/-- The `n`-th power of two of the floats: `2 ^ (n - 127)`. -/
def pow2 (n : ℕ) : EReal := (((2 : ℝ) ^ ((n : ℤ) - 127) : ℝ) : EReal)

/-- The greatest absolute value of a channel's eight last frames. -/
def tailMax (w : Fin 8 → EReal) : EReal :=
  Finset.univ.fold max (Ideal.ofBits .f32 0xFF800000#32) fun k => FloatOps.absf (F := Ideal) (φ := .f32) (w k)

/-- That value over 448. -/
def tailT (w : Fin 8 → EReal) : EReal := tailMax w * Ideal.ofBits .f32 0x3B124925#32

/-- The scale of a tail whose greatest absolute value over 448 is `t`: the least power of two above `t`, or 1 where `t` is
    0. -/
def tailScale (t : EReal) : EReal :=
  if t = 0 then 1 else Finset.univ.fold min ⊤ fun j : Fin 254 => if t < pow2 (j + 1) then pow2 (j + 1) else ⊤

/-- The code of one number: it over the scale, held within ±448. -/
def tailCode (w inv : EReal) : EReal :=
  min (Ideal.ofBits .f32 0x43E00000#32) (max (Ideal.ofBits .f32 0xC3E00000#32) (w * inv))

/-- `t` is 0, or the power of two above it and that power's inverse are normal floats. -/
def InRange (t : EReal) : Prop :=
  t = 0 ∨ (Ideal.ofBits .f32 0x00800000#32 ≤ t ∧ t < Ideal.ofBits .f32 0x7E800000#32)

/-- The float whose exponent field is `w` and whose other bits are 0. -/
def ofField (w : BitVec 32) : EReal := Ideal.ofBits .f32 (IntOp.shli ArithUnit.vector w 23#32)

/-- The kernel's exponent of `t`: the number of powers of two not above it, less 126; 0 where `a` or `t` is 0. -/
def kExp (a t : EReal) : BitVec 32 :=
  Scalar.select (IntOp.ori (BitVec.ofBool (decide (a = 0))) (BitVec.ofBool (decide (t = 0)))) (0#32)
    (IntOp.subi (IntOp.subi (Finset.univ.fold IntOp.addi (0#32) fun x : Fin 255 =>
        if (if t < Ideal.ofBits .f32 0x00800000#32 then t * Ideal.ofBits .f32 0x4B000000#32 else t)
          < ofField (IntOp.addi (BitVec.ofNat 32 x) 1#32) then 0#32 else 1#32) 126#32)
      (if t < Ideal.ofBits .f32 0x00800000#32 then 23#32 else 0#32))

/-- The kernel's scale. -/
def kScale (a t : EReal) : EReal := ofField (IntOp.addi (kExp a t) 127#32)

/-- The kernel's inverse of the scale. -/
def kInv (a t : EReal) : EReal := ofField (IntOp.subi 127#32 (kExp a t))

/-- A larger exponent, a larger power. -/
theorem pow2_lt {a b : ℕ} (h : a < b) : pow2 a < pow2 b := by
  unfold pow2
  exact EReal.coe_lt_coe_iff.2 (zpow_lt_zpow_right₀ (by norm_num) (by omega))

/-- No smaller an exponent, no smaller a power. -/
theorem pow2_le {a b : ℕ} (h : a ≤ b) : pow2 a ≤ pow2 b := by
  rcases Nat.lt_or_ge a b with h' | h'
  · exact (pow2_lt h').le
  · rw [le_antisymm h h']

/-- The bits of a float given by its exponent field. -/
theorem field_bits : ∀ n : Fin 256,
    ((IntOp.shli ArithUnit.vector (BitVec.ofNat 32 n) 23#32).extractLsb' 31 1 == 1#1) = false
    ∧ ((IntOp.shli ArithUnit.vector (BitVec.ofNat 32 n) 23#32).extractLsb' 23 8).toNat = n
    ∧ ((IntOp.shli ArithUnit.vector (BitVec.ofNat 32 n) 23#32).extractLsb' 0 23).toNat = 0 := by
  decide +kernel

/-- The value of a float of exponent field `ex`, no sign and no fraction. -/
theorem ieee_field (b : BitVec 32) (ex : ℕ) (hn : (b.extractLsb' 31 1 == 1#1) = false)
    (he : (b.extractLsb' 23 8).toNat = ex) (hf : (b.extractLsb' 0 23).toNat = 0) :
    Ideal.ofBits .f32 b = if ex = 255 then ⊤ else if ex = 0 then 0 else pow2 ex := by
  have e : Ideal.ofBits .f32 b = Ideal.ieee 8 23 b := rfl
  have hn' : (b.extractLsb' (8 + 23) 1 == 1#1) = false := hn
  rw [e]
  unfold Ideal.ieee
  dsimp only
  rw [hn', he, hf]
  by_cases h : ex = 255
  · simp [h]
  · rw [if_neg (by simpa using h), if_neg h]
    by_cases h0 : ex = 0
    · simp [h0]
    · rw [if_neg h0, if_neg h0]
      unfold pow2
      congr 1
      have e : ((ex : ℤ) - (2 ^ (8 - 1) - 1) - (23 : ℕ)) = ((ex : ℤ) - 127) - 23 := by norm_num
      rw [e, zpow_sub₀ (by norm_num : (2 : ℝ) ≠ 0)]
      norm_num
      ring

/-- A float given by an exponent field between 1 and 254 is that power of two. -/
theorem ofField_pow2 (n : ℕ) (h1 : 1 ≤ n) (h2 : n < 255) : ofField (BitVec.ofNat 32 n) = pow2 n := by
  obtain ⟨a, b, c⟩ := field_bits ⟨n, by omega⟩
  unfold ofField
  rw [ieee_field _ n a b c, if_neg (by omega), if_neg (by omega)]

/-- The float given by the exponent field 255 is infinity. -/
theorem ofField_top : ofField (BitVec.ofNat 32 255) = ⊤ := by
  obtain ⟨a, b, c⟩ := field_bits ⟨255, by omega⟩
  unfold ofField
  rw [ieee_field _ 255 a b c, if_pos rfl]

/-- The smallest normal float. -/
theorem min_normal : Ideal.ofBits .f32 0x00800000#32 = pow2 1 := ofField_pow2 1 (by decide) (by decide)

/-- The upper end of the range: the power of two of exponent field 253. -/
theorem max_range : Ideal.ofBits .f32 0x7E800000#32 = pow2 253 := ofField_pow2 253 (by decide) (by decide)

/-- A number in a range of powers of two lies between two neighbours. -/
theorem between (t : EReal) (h : pow2 1 ≤ t) : ∀ n, t < pow2 n → ∃ k, 1 ≤ k ∧ k < n ∧ pow2 k ≤ t ∧ t < pow2 (k + 1)
  | 0, h' => absurd (h'.trans_le ((pow2_le (by decide)).trans h)) (lt_irrefl _)
  | n + 1, h' => by
    by_cases hn : t < pow2 n
    · obtain ⟨k, a, b, c⟩ := between t h n hn
      exact ⟨k, a, by omega, c⟩
    · refine ⟨n, ?_, by omega, not_lt.1 hn, h'⟩
      rcases Nat.eq_zero_or_pos n with rfl | hp
      · exact absurd (h.trans_lt h') (lt_irrefl _)
      · exact hp

/-- The number of the first `k` of `n` numbers, as a word. -/
theorem count (k : ℕ) : ∀ n : ℕ,
    (∑ x : Fin n, if (x : ℕ) < k then (1#32 : BitVec 32) else 0#32) = BitVec.ofNat 32 (min n k)
  | 0 => by simp
  | n + 1 => by
    rw [Fin.sum_univ_castSucc]
    have e := count k n
    simp only [Fin.val_castSucc, Fin.val_last] at e ⊢
    rw [e]
    by_cases h : n < k
    · rw [if_pos h, show min (n + 1) k = n + 1 by omega, show min n k = n by omega, ← BitVec.ofNat_add]
    · rw [if_neg h, show min (n + 1) k = k by omega, show min n k = k by omega]
      simp

/-- The fold of the words' addition is their sum. -/
theorem fold_addi {n : ℕ} (f : Fin n → BitVec 32) : Finset.univ.fold IntOp.addi (0#32) f = ∑ x, f x := rfl

/-- The two exponent fields as words. -/
theorem field_words : ∀ k : Fin 253,
    IntOp.addi (IntOp.subi (IntOp.subi (BitVec.ofNat 32 k) 126#32) 0#32) 127#32 = BitVec.ofNat 32 (k + 1)
    ∧ IntOp.subi 127#32 (IntOp.subi (IntOp.subi (BitVec.ofNat 32 k) 126#32) 0#32) = BitVec.ofNat 32 (253 - k) := by
  decide +kernel

/-- The next exponent field as a word. -/
theorem next_word : ∀ x : Fin 255, IntOp.addi (BitVec.ofNat 32 x) 1#32 = BitVec.ofNat 32 (x + 1) := by
  decide +kernel

/-- Between the powers `k` and `k + 1` the kernel's exponent is `k - 126`. -/
theorem kExp_eq (a t : EReal) (ha : a ≠ 0) (ht : t ≠ 0) (k : ℕ) (h1 : 1 ≤ k) (h2 : k < 253) (hk : pow2 k ≤ t)
    (hk' : t < pow2 (k + 1)) : kExp a t = IntOp.subi (IntOp.subi (BitVec.ofNat 32 k) 126#32) 0#32 := by
  have hs : ¬ t < Ideal.ofBits .f32 0x00800000#32 := by
    rw [min_normal]; exact not_lt.2 ((pow2_le h1).trans hk)
  have hf : (fun x : Fin 255 => if t < ofField (IntOp.addi (BitVec.ofNat 32 x) 1#32) then 0#32 else 1#32)
      = fun x : Fin 255 => if (x : ℕ) < k then 1#32 else 0#32 := by
    funext x
    rw [next_word x]
    by_cases hx : (x : ℕ) < k
    · rw [if_pos hx, if_neg]
      rw [ofField_pow2 _ (by omega) (by omega)]
      exact not_lt.2 ((pow2_le (by omega)).trans hk)
    · rw [if_neg hx, if_pos]
      by_cases hx' : (x : ℕ) + 1 < 255
      · rw [ofField_pow2 _ (by omega) hx']
        exact hk'.trans_le (pow2_le (by omega))
      · have : (x : ℕ) + 1 = 255 := by omega
        rw [this, ofField_top]
        exact hk'.trans (EReal.coe_lt_top _)
  unfold kExp
  simp only [if_neg hs]
  rw [hf, fold_addi, count, show min 255 k = k by omega]
  simp [ha, ht, Scalar.select, IntOp.ori]

/-- Between the powers `k` and `k + 1` the least power above is `k + 1`. -/
theorem tailScale_eq (t : EReal) (ht : t ≠ 0) (k : ℕ) (h2 : k < 253) (hk : pow2 k ≤ t)
    (hk' : t < pow2 (k + 1)) : tailScale t = pow2 (k + 1) := by
  unfold tailScale
  rw [if_neg ht]
  refine le_antisymm ?_ ?_
  · refine (Finset.fold_min_le _).2 (Or.inr ⟨⟨k, by omega⟩, Finset.mem_univ _, ?_⟩)
    simp [hk']
  · refine (Finset.le_fold_min _).2 ⟨le_top, fun x _ => ?_⟩
    by_cases hx : t < pow2 (x + 1)
    · rw [if_pos hx]
      refine pow2_le ?_
      by_contra hc
      exact absurd (hx.trans_le (pow2_le (by omega : (x : ℕ) + 1 ≤ k))) (not_lt.2 hk)
    · rw [if_neg hx]; exact le_top

/-- The inverse of a power of two. -/
theorem inv_pow2 (k : ℕ) (h : k < 253) : Ideal.div 1 (pow2 (k + 1)) = pow2 (253 - k) := by
  have h0 : pow2 (k + 1) ≠ 0 := by
    unfold pow2
    exact_mod_cast (zpow_pos (by norm_num : (0 : ℝ) < 2) _).ne'
  unfold Ideal.div
  rw [if_neg h0, one_mul]
  unfold pow2
  rw [← EReal.coe_inv, ← zpow_neg]
  congr 2
  push_cast [Nat.cast_sub (by omega : k ≤ 253)]
  ring

/-- Where the scale is a normal float, the kernel's scale is the least power of two above `t`, and its inverse that
    scale's. -/
theorem kernel_scale (a t : EReal) (hat : t = a * Ideal.ofBits .f32 0x3B124925#32) (h : InRange t) :
    kScale a t = tailScale t ∧ kInv a t = Ideal.div 1 (tailScale t) := by
  by_cases ht : t = 0
  · have e : kExp a t = 0#32 := by
      unfold kExp
      rw [ht]
      by_cases ha : a = 0 <;> simp [ha, Scalar.select, IntOp.ori]
    have e1 : tailScale t = 1 := by unfold tailScale; rw [if_pos ht]
    have e2 : pow2 127 = 1 := by unfold pow2; norm_num
    have e3 : Ideal.div 1 1 = 1 := by simp [Ideal.div]
    rw [kScale, kInv, e, e1, e3]
    have w1 : IntOp.addi 0#32 127#32 = BitVec.ofNat 32 127 := by decide
    have w2 : IntOp.subi 127#32 0#32 = BitVec.ofNat 32 127 := by decide
    rw [w1, w2, ofField_pow2 127 (by decide) (by decide), e2]
    exact ⟨rfl, rfl⟩
  · have ha : a ≠ 0 := by
      rintro rfl
      exact ht (by rw [hat, zero_mul])
    rcases h with h | ⟨hl, hu⟩
    · exact absurd h ht
    · rw [min_normal] at hl
      rw [max_range] at hu
      obtain ⟨k, h1, h2, hk, hk'⟩ := between t hl 253 hu
      have e := kExp_eq a t ha ht k h1 h2 hk hk'
      obtain ⟨w1, w2⟩ := field_words ⟨k, h2⟩
      simp only [Fin.val_mk] at w1 w2
      rw [kScale, kInv, e, w1, w2, tailScale_eq t ht k h2 hk hk', inv_pow2 k h2,
        ofField_pow2 _ (by omega) (by omega), ofField_pow2 _ (by omega) (by omega)]
      exact ⟨rfl, rfl⟩

/-- The tail of a stream's channel: its last eight gated frames. -/
def Stream.tail (S : Stream) (W : Weights) (c : Fin 2048) (k : Fin 8) : EReal := S.g W ⟨8 + k, by omega⟩ c

end Cert.Conv
-- ==== Proof.TailArrays.lean ====
/-
  The two results of the requantised tail as functions of the argument arrays, and as the kernel's steps give them.
-/
module

public import proofs.«01_k».proof.Proof.Arrays
public import proofs.«01_k».proof.Proof.TailSpec

@[expose] public section

noncomputable section

namespace Cert.Conv

open Idealize.ShloMosaic

variable (a0 : Vec Ideal ⟨2, ![3072, 2048]⟩ .bf16) (a1 : Vec Ideal ⟨3, ![192, 16, 2048]⟩ .bf16)
  (a2 : Vec Ideal ⟨3, ![32, 64, 2048]⟩ .bf16) (a3 a4 a5 : Vec Ideal ⟨1, ![2048]⟩ .f32)
  (a6 : Vec Ideal ⟨3, ![2048, 2, 2048]⟩ .bf16) (a7 : Vec Ideal ⟨2, ![2, 2048]⟩ .f32)
  (a8 : Vec Ideal ⟨3, ![192, 8, 2048]⟩ .fp8e4m3) (a9 : Vec Ideal ⟨2, ![192, 2048]⟩ .f32)
  (a10 : Vec Ideal ⟨2, ![9, 2048]⟩ .f32) (a11 a12 : Vec Ideal ⟨1, ![2048]⟩ .f32)
  (a13 : Vec Ideal ⟨2, ![2048, 2048]⟩ .bf16) (a14 : Vec Ideal ⟨1, ![2048]⟩ .f32)

/-- The last eight gated frames of a stream's channel. -/
def argTail (b : Fin 192) (c : Fin 2048) : Fin 8 → EReal :=
  (argStream a0 a1 a8 a9 b).tail (argWeights a2 a3 a4 a5 a6 a7 a10 a11 a12 a13 a14) c

/-- The codes of the last eight gated frames. -/
def codeArr : Vec Ideal ⟨3, ![192, 8, 2048]⟩ .fp8e4m3 := fun i =>
  tailCode (argTail a0 a1 a2 a3 a4 a5 a6 a7 a8 a9 a10 a11 a12 a13 a14 (i 0) (i 2) (i 1))
    (Ideal.div 1 (tailScale (tailT (argTail a0 a1 a2 a3 a4 a5 a6 a7 a8 a9 a10 a11 a12 a13 a14 (i 0) (i 2)))))

/-- Their scales. -/
def scaleArr : Vec Ideal ⟨2, ![192, 2048]⟩ .f32 := fun i =>
  tailScale (tailT (argTail a0 a1 a2 a3 a4 a5 a6 a7 a8 a9 a10 a11 a12 a13 a14 (i 0) (i 1)))

/-- The codes by the kernel's inverse scale. -/
def kCodeArr : Vec Ideal ⟨3, ![192, 8, 2048]⟩ .fp8e4m3 := fun i =>
  tailCode (argTail a0 a1 a2 a3 a4 a5 a6 a7 a8 a9 a10 a11 a12 a13 a14 (i 0) (i 2) (i 1))
    (kInv (tailMax (argTail a0 a1 a2 a3 a4 a5 a6 a7 a8 a9 a10 a11 a12 a13 a14 (i 0) (i 2)))
      (tailT (argTail a0 a1 a2 a3 a4 a5 a6 a7 a8 a9 a10 a11 a12 a13 a14 (i 0) (i 2))))

/-- The kernel's scales. -/
def kScaleArr : Vec Ideal ⟨2, ![192, 2048]⟩ .f32 := fun i =>
  kScale (tailMax (argTail a0 a1 a2 a3 a4 a5 a6 a7 a8 a9 a10 a11 a12 a13 a14 (i 0) (i 1)))
    (tailT (argTail a0 a1 a2 a3 a4 a5 a6 a7 a8 a9 a10 a11 a12 a13 a14 (i 0) (i 1)))

/-- Where the scale is in range the kernel's code is the code. -/
theorem kCode_eq (i : (⟨3, ![192, 8, 2048]⟩ : Shape).Idx)
    (h : InRange (tailT (argTail a0 a1 a2 a3 a4 a5 a6 a7 a8 a9 a10 a11 a12 a13 a14 (i 0) (i 2)))) :
    kCodeArr a0 a1 a2 a3 a4 a5 a6 a7 a8 a9 a10 a11 a12 a13 a14 i
      = codeArr a0 a1 a2 a3 a4 a5 a6 a7 a8 a9 a10 a11 a12 a13 a14 i := by
  unfold kCodeArr codeArr
  exact congrArg (tailCode _) (kernel_scale _ _ rfl h).2

/-- Where the scale is in range the kernel's scale is the scale. -/
theorem kScale_eq (i : (⟨2, ![192, 2048]⟩ : Shape).Idx)
    (h : InRange (tailT (argTail a0 a1 a2 a3 a4 a5 a6 a7 a8 a9 a10 a11 a12 a13 a14 (i 0) (i 1)))) :
    kScaleArr a0 a1 a2 a3 a4 a5 a6 a7 a8 a9 a10 a11 a12 a13 a14 i
      = scaleArr a0 a1 a2 a3 a4 a5 a6 a7 a8 a9 a10 a11 a12 a13 a14 i := by
  unfold kScaleArr scaleArr
  exact (kernel_scale _ _ rfl h).1

end Cert.Conv
-- ==== Proof.TailPieces.lean ====
/-
  The stores of the requantised tail's two results: 128 channels' scales, or their codes, of sixteen streams.
-/
module

public import proofs.«01_k».proof.Proof.Conv
public import proofs.«01_k».proof.Proof.TailSpec

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

/-- The scales of sixteen streams, as the kernel takes them. -/
def scaleBlock (W : Weights) (S : Fin 16 → Stream) (y : S16x2048.Idx) : EReal :=
  kScale (tailMax ((S (y 0)).tail W (y 1))) (tailT ((S (y 0)).tail W (y 1)))

/-- The codes of sixteen streams, as the kernel takes them. -/
def codeBlock (W : Weights) (S : Fin 16 → Stream) (y : S16x8x2048.Idx) : EReal :=
  tailCode ((S (y 0)).tail W (y 2) (y 1)) (kInv (tailMax ((S (y 0)).tail W (y 2))) (tailT ((S (y 0)).tail W (y 2))))

/-- A store of the scales of 128 channels from `o` on, over stores that are blocks of `scaleBlock`. -/
theorem piece_scale (W : Weights) (S : Fin 16 → Stream) (o : ℕ) (ho : o + 128 ≤ 2048) (inb : ∀ a, _)
    (p : Vec Ideal S16x128 .f32) (L : List (View.Piece (Elt Ideal) S16x2048 .f32))
    (h : ∀ (b : Fin 16) (l : Fin 128), p (ix2 b l) = kScale (tailMax ((S b).tail W ⟨o + l, by omega⟩))
      (tailT ((S b).tail W ⟨o + l, by omega⟩)))
    (hL : View.PiecesOf (scaleBlock W S) L) :
    View.PiecesOf (scaleBlock W S) (⟨Rect.unit (s := S16x2048) ![0, o] S16x128.size inb, p⟩ :: L) := by
  refine ⟨fun x => ?_, hL⟩
  change S16x128.Idx at x
  show p x = scaleBlock W S ((Rect.unit (s := S16x2048) ![0, o] S16x128.size inb).emb x)
  obtain ⟨b, l, rfl⟩ : ∃ (b : Fin 16) (l : Fin 128), x = ix2 b l := ⟨x 0, x 1, eq_ix2 x⟩
  have e : (Rect.unit (s := S16x2048) ![0, o] S16x128.size inb).emb (ix2 b l) = ix2 b ⟨o + l, by omega⟩ := by
    funext a
    fin_cases a <;> exact Fin.ext (by simp [Rect.emb, LoadRect.idx, Rect.unit])
  rw [e, h b l]
  rfl

/-- A store of the codes of 128 channels from `o` on, over stores that are blocks of `codeBlock`. -/
theorem piece_code (W : Weights) (S : Fin 16 → Stream) (o : ℕ) (ho : o + 128 ≤ 2048) (inb : ∀ a, _)
    (p : Vec Ideal S16x8x128 .fp8e4m3) (L : List (View.Piece (Elt Ideal) S16x8x2048 .fp8e4m3))
    (h : ∀ (b : Fin 16) (k : Fin 8) (l : Fin 128), p (ix3 b k l) = tailCode ((S b).tail W ⟨o + l, by omega⟩ k)
      (kInv (tailMax ((S b).tail W ⟨o + l, by omega⟩)) (tailT ((S b).tail W ⟨o + l, by omega⟩))))
    (hL : View.PiecesOf (codeBlock W S) L) :
    View.PiecesOf (codeBlock W S) (⟨Rect.unit (s := S16x8x2048) ![0, 0, o] S16x8x128.size inb, p⟩ :: L) := by
  refine ⟨fun x => ?_, hL⟩
  change S16x8x128.Idx at x
  show p x = codeBlock W S ((Rect.unit (s := S16x8x2048) ![0, 0, o] S16x8x128.size inb).emb x)
  obtain ⟨b, k, l, rfl⟩ : ∃ (b : Fin 16) (k : Fin 8) (l : Fin 128), x = ix3 b k l := ⟨x 0, x 1, x 2, eq_ix3 x⟩
  have e : (Rect.unit (s := S16x8x2048) ![0, 0, o] S16x8x128.size inb).emb (ix3 b k l) = ix3 b k ⟨o + l, by omega⟩ := by
    funext a
    fin_cases a <;> exact Fin.ext (by simp [Rect.emb, LoadRect.idx, Rect.unit])
  rw [e, h b k l]
  rfl

end Cert.KernelIdeal.Hand
-- ==== Proof.TailCode.lean ====
/-
  What a grid point leaves in the staging buffer of the codes of its sixteen streams' last gated frames.
-/
module

public import proofs.«01_k».proof.Proof.TailPieces

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

set_option maxHeartbeats 4000000 in
/-- The sixteen stores of the codes are blocks of `codeBlock`. -/
theorem pieces_code :
    View.PiecesOf (codeBlock (weights x2 x3 x4 x5 x6 x7 x10 x11 x12 x13 x14) (stream x0 x1 x8 x9))
      (kernelRun0_A c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14).2.2.1 := by
  have e8 (b : Fin 16) (k : Fin 8) (d : Fin 2048) (h : (b : ℕ) * 16 + 8 + (k : ℕ) < 256) :
      kernelRun0_A.sl.r_1 c arg1 harg1 arg2 harg2 arg3 harg3 arg4 harg4 arg5 harg5 arg6 harg6 x0 x1 x2 x3 x4 x5 (ix2 ⟨b * 16 + 8 + k, h⟩ d)
        = cRow (weights x2 x3 x4 x5 x6 x7 x10 x11 x12 x13 x14)
            ((stream x0 x1 x8 x9 b).h (weights x2 x3 x4 x5 x6 x7 x10 x11 x12 x13 x14) ⟨8 + k, by omega⟩) d := by
    rw [← c_eq c arg1 harg1 arg2 harg2 arg3 harg3 arg4 harg4 arg5 harg5 arg6 harg6 x0 x1 x2 x3 x4 x5 x6 x7 x8 x9 x10 x11 x12 x13 x14]
    exact congrArg (fun r => kernelRun0_A.sl.r_1 c arg1 harg1 arg2 harg2 arg3 harg3 arg4 harg4 arg5 harg5 arg6 harg6 x0 x1 x2 x3 x4 x5 (ix2 r d))
      (Fin.ext (Nat.add_assoc _ _ _))
  unfold kernelRun0_A
  dsimp only
  iterate 16 refine piece_code _ _ _ (by decide) _ _ _ (fun b k l => ?_) ?_; rotate_left
  · trivial
  all_goals
  simp only [
      kernelRun0_A.sl.cst_366, kernelRun0_A.sl.cst_82, kernelRun0_A.sl.r_10, kernelRun0_A.sl.r_100,
      kernelRun0_A.sl.r_101, kernelRun0_A.sl.r_102, kernelRun0_A.sl.r_103, kernelRun0_A.sl.r_109,
      kernelRun0_A.sl.r_11, kernelRun0_A.sl.r_110, kernelRun0_A.sl.r_111, kernelRun0_A.sl.r_112,
      kernelRun0_A.sl.r_116, kernelRun0_A.sl.r_117, kernelRun0_A.sl.r_118, kernelRun0_A.sl.r_119,
      kernelRun0_A.sl.r_120, kernelRun0_A.sl.r_121, kernelRun0_A.sl.r_125, kernelRun0_A.sl.r_126,
      kernelRun0_A.sl.r_127, kernelRun0_A.sl.r_128, kernelRun0_A.sl.r_14, kernelRun0_A.sl.r_15, kernelRun0_A.sl.r_16,
      kernelRun0_A.sl.r_17, kernelRun0_A.sl.r_18, kernelRun0_A.sl.r_19, kernelRun0_A.sl.r_2, kernelRun0_A.sl.r_20,
      kernelRun0_A.sl.r_21, kernelRun0_A.sl.r_23, kernelRun0_A.sl.r_24, kernelRun0_A.sl.r_25, kernelRun0_A.sl.r_26,
      kernelRun0_A.sl.r_29, kernelRun0_A.sl.r_3, kernelRun0_A.sl.r_30, kernelRun0_A.sl.r_31, kernelRun0_A.sl.r_32,
      kernelRun0_A.sl.r_33, kernelRun0_A.sl.r_34, kernelRun0_A.sl.r_35, kernelRun0_A.sl.r_36, kernelRun0_A.sl.r_39,
      kernelRun0_A.sl.r_40, kernelRun0_A.sl.r_41, kernelRun0_A.sl.r_42, kernelRun0_A.sl.r_45, kernelRun0_A.sl.r_46,
      kernelRun0_A.sl.r_47, kernelRun0_A.sl.r_48, kernelRun0_A.sl.r_49, kernelRun0_A.sl.r_50, kernelRun0_A.sl.r_51,
      kernelRun0_A.sl.r_54, kernelRun0_A.sl.r_55, kernelRun0_A.sl.r_56, kernelRun0_A.sl.r_57, kernelRun0_A.sl.r_59,
      kernelRun0_A.sl.r_6, kernelRun0_A.sl.r_60, kernelRun0_A.sl.r_61, kernelRun0_A.sl.r_62, kernelRun0_A.sl.r_63,
      kernelRun0_A.sl.r_69, kernelRun0_A.sl.r_7, kernelRun0_A.sl.r_70, kernelRun0_A.sl.r_71, kernelRun0_A.sl.r_74,
      kernelRun0_A.sl.r_75, kernelRun0_A.sl.r_76, kernelRun0_A.sl.r_77, kernelRun0_A.sl.r_78, kernelRun0_A.sl.r_8,
      kernelRun0_A.sl.r_82, kernelRun0_A.sl.r_83, kernelRun0_A.sl.r_84, kernelRun0_A.sl.r_85, kernelRun0_A.sl.r_86,
      kernelRun0_A.sl.r_89, kernelRun0_A.sl.r_9, kernelRun0_A.sl.r_90, kernelRun0_A.sl.r_91, kernelRun0_A.sl.r_92,
      kernelRun0_A.sl.r_93, kernelRun0_A.sl.r_99, kernelRun0_A.sl.v571,
    View.readAt_eq_ld, harg7.read_unread, harg8.read_unread, harg9.read_unread, harg10.read_unread] <;>
  unfold_payloads <;>
  pointwise <;>
  (try simp only [e8, gate, kScale, kInv, kExp, ofField, tailCode, tailT, tailMax, Stream.tail, Stream.g, gRow, ← Nat.add_assoc,
    Nat.reduceAdd, Nat.zero_add]) <;>
  rfl

/-- The block of the codes. -/
theorem out_codes (b : Fin 16) (k : Fin 8) (l : Fin 2048) :
    out0_A_17 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14 (ix3 b k l)
      = codeBlock (weights x2 x3 x4 x5 x6 x7 x10 x11 x12 x13 x14) (stream x0 x1 x8 x9) (ix3 b k l) := by
  unfold out0_A_17
  rw [View.read_writes_eq_canon _ _ _ (cover0_A_17 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14)]
  exact View.canon_apply_of_pieces _ _ (View.PiecesOf.mem (pieces_code c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14)) _
    (cover0_A_17 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14 _)

end Cert.KernelIdeal.Hand
-- ==== Proof.TailScale.lean ====
/-
  What a grid point leaves in the staging buffer of the scales of its sixteen streams' last gated frames.
-/
module

public import proofs.«01_k».proof.Proof.TailPieces

@[expose] public section

set_option maxRecDepth 16384

noncomputable section

namespace Cert.KernelIdeal.Hand

open Cert.KernelIdeal Cert.KernelIdeal.Gen Cert.Conv Idealize.ShloMosaic Idealize.ShloMosaic.TcCoe Idealize.SL.Sem

variable (c : Dev nD) (i : grid0.Coords) (arg1 : Memref sig .tc .vmem S256x2048 .bf16) (harg1 : arg1.IsWhole)
  (arg2 : Memref sig .tc .vmem S256x2048 .bf16) (harg2 : arg2.IsWhole) (arg3 : Memref sig .tc .vmem S2048x2048 .bf16)
  (harg3 : arg3.IsWhole) (arg4 : Memref sig .tc .vmem S1x2048 .f32) (harg4 : arg4.IsWhole)
  (arg5 : Memref sig .tc .vmem S1x2048 .f32) (harg5 : arg5.IsWhole) (arg6 : Memref sig .tc .vmem S1x2048 .f32)
  (harg6 : arg6.IsWhole) (arg7 : Memref sig .tc .vmem S2048x4096 .bf16) (harg7 : arg7.IsWhole)
  (arg8 : Memref sig .tc .vmem S2x2048 .f32) (harg8 : arg8.IsWhole) (arg9 : Memref sig .tc .vmem S16x8x2048 .fp8e4m3)
  (harg9 : arg9.IsWhole) (arg10 : Memref sig .tc .vmem S16x2048 .f32) (harg10 : arg10.IsWhole)
  (arg11 : Memref sig .tc .vmem S9x2048 .f32) (harg11 : arg11.IsWhole) (arg12 : Memref sig .tc .vmem S1x2048 .f32)
  (harg12 : arg12.IsWhole) (arg13 : Memref sig .tc .vmem S1x2048 .f32) (harg13 : arg13.IsWhole)
  (arg14 : Memref sig .tc .vmem S2048x2048 .bf16) (harg14 : arg14.IsWhole) (arg15 : Memref sig .tc .vmem S1x2048 .f32)
  (harg15 : arg15.IsWhole) (arg16 : Memref sig .tc .vmem S256x2048 .bf16) (harg16 : arg16.IsWhole)
  (arg17 : Memref sig .tc .vmem S256x2048 .bf16) (harg17 : arg17.IsWhole)
  (arg18 : Memref sig .tc .vmem S16x8x2048 .fp8e4m3) (harg18 : arg18.IsWhole)
  (arg19 : Memref sig .tc .vmem S16x2048 .f32) (harg19 : arg19.IsWhole) (arg20 : Memref sig .tc .vmem S16x24x128 .f32)
  (harg20 : arg20.IsWhole) (x0 : Vec Ideal S256x2048 .bf16) (x1 : Vec Ideal S256x2048 .bf16)
  (x2 : Vec Ideal S2048x2048 .bf16) (x3 : Vec Ideal S1x2048 .f32) (x4 : Vec Ideal S1x2048 .f32)
  (x5 : Vec Ideal S1x2048 .f32) (x6 : Vec Ideal S2048x4096 .bf16) (x7 : Vec Ideal S2x2048 .f32)
  (x8 : Vec Ideal S16x8x2048 .fp8e4m3) (x9 : Vec Ideal S16x2048 .f32) (x10 : Vec Ideal S9x2048 .f32)
  (x11 : Vec Ideal S1x2048 .f32) (x12 : Vec Ideal S1x2048 .f32) (x13 : Vec Ideal S2048x2048 .bf16)
  (x14 : Vec Ideal S1x2048 .f32)

set_option maxHeartbeats 4000000 in
/-- The sixteen stores of the scales are blocks of `scaleBlock`. -/
theorem pieces_scale :
    View.PiecesOf (scaleBlock (weights x2 x3 x4 x5 x6 x7 x10 x11 x12 x13 x14) (stream x0 x1 x8 x9))
      (kernelRun0_A c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14).2.2.2.1 := by
  have e8 (b : Fin 16) (k : Fin 8) (d : Fin 2048) (h : (b : ℕ) * 16 + 8 + (k : ℕ) < 256) :
      kernelRun0_A.sl.r_1 c arg1 harg1 arg2 harg2 arg3 harg3 arg4 harg4 arg5 harg5 arg6 harg6 x0 x1 x2 x3 x4 x5 (ix2 ⟨b * 16 + 8 + k, h⟩ d)
        = cRow (weights x2 x3 x4 x5 x6 x7 x10 x11 x12 x13 x14)
            ((stream x0 x1 x8 x9 b).h (weights x2 x3 x4 x5 x6 x7 x10 x11 x12 x13 x14) ⟨8 + k, by omega⟩) d := by
    rw [← c_eq c arg1 harg1 arg2 harg2 arg3 harg3 arg4 harg4 arg5 harg5 arg6 harg6 x0 x1 x2 x3 x4 x5 x6 x7 x8 x9 x10 x11 x12 x13 x14]
    exact congrArg (fun r => kernelRun0_A.sl.r_1 c arg1 harg1 arg2 harg2 arg3 harg3 arg4 harg4 arg5 harg5 arg6 harg6 x0 x1 x2 x3 x4 x5 (ix2 r d))
      (Fin.ext (Nat.add_assoc _ _ _))
  unfold kernelRun0_A
  dsimp only
  iterate 16 refine piece_scale _ _ _ (by decide) _ _ _ (fun b l => ?_) ?_; rotate_left
  · trivial
  all_goals
  simp only [
      kernelRun0_A.sl.cst_366, kernelRun0_A.sl.cst_82, kernelRun0_A.sl.r_10, kernelRun0_A.sl.r_100,
      kernelRun0_A.sl.r_101, kernelRun0_A.sl.r_102, kernelRun0_A.sl.r_103, kernelRun0_A.sl.r_109,
      kernelRun0_A.sl.r_11, kernelRun0_A.sl.r_110, kernelRun0_A.sl.r_111, kernelRun0_A.sl.r_112,
      kernelRun0_A.sl.r_116, kernelRun0_A.sl.r_117, kernelRun0_A.sl.r_118, kernelRun0_A.sl.r_119,
      kernelRun0_A.sl.r_120, kernelRun0_A.sl.r_121, kernelRun0_A.sl.r_125, kernelRun0_A.sl.r_126,
      kernelRun0_A.sl.r_127, kernelRun0_A.sl.r_128, kernelRun0_A.sl.r_14, kernelRun0_A.sl.r_15, kernelRun0_A.sl.r_16,
      kernelRun0_A.sl.r_17, kernelRun0_A.sl.r_18, kernelRun0_A.sl.r_19, kernelRun0_A.sl.r_2, kernelRun0_A.sl.r_20,
      kernelRun0_A.sl.r_21, kernelRun0_A.sl.r_23, kernelRun0_A.sl.r_24, kernelRun0_A.sl.r_25, kernelRun0_A.sl.r_26,
      kernelRun0_A.sl.r_29, kernelRun0_A.sl.r_3, kernelRun0_A.sl.r_30, kernelRun0_A.sl.r_31, kernelRun0_A.sl.r_32,
      kernelRun0_A.sl.r_33, kernelRun0_A.sl.r_34, kernelRun0_A.sl.r_35, kernelRun0_A.sl.r_36, kernelRun0_A.sl.r_39,
      kernelRun0_A.sl.r_40, kernelRun0_A.sl.r_41, kernelRun0_A.sl.r_42, kernelRun0_A.sl.r_45, kernelRun0_A.sl.r_46,
      kernelRun0_A.sl.r_47, kernelRun0_A.sl.r_48, kernelRun0_A.sl.r_49, kernelRun0_A.sl.r_50, kernelRun0_A.sl.r_51,
      kernelRun0_A.sl.r_54, kernelRun0_A.sl.r_55, kernelRun0_A.sl.r_56, kernelRun0_A.sl.r_57, kernelRun0_A.sl.r_59,
      kernelRun0_A.sl.r_6, kernelRun0_A.sl.r_60, kernelRun0_A.sl.r_61, kernelRun0_A.sl.r_62, kernelRun0_A.sl.r_63,
      kernelRun0_A.sl.r_69, kernelRun0_A.sl.r_7, kernelRun0_A.sl.r_70, kernelRun0_A.sl.r_71, kernelRun0_A.sl.r_74,
      kernelRun0_A.sl.r_75, kernelRun0_A.sl.r_76, kernelRun0_A.sl.r_77, kernelRun0_A.sl.r_78, kernelRun0_A.sl.r_8,
      kernelRun0_A.sl.r_82, kernelRun0_A.sl.r_83, kernelRun0_A.sl.r_84, kernelRun0_A.sl.r_85, kernelRun0_A.sl.r_86,
      kernelRun0_A.sl.r_89, kernelRun0_A.sl.r_9, kernelRun0_A.sl.r_90, kernelRun0_A.sl.r_91, kernelRun0_A.sl.r_92,
      kernelRun0_A.sl.r_93, kernelRun0_A.sl.r_99, kernelRun0_A.sl.v571,
    View.readAt_eq_ld, harg7.read_unread, harg8.read_unread, harg9.read_unread, harg10.read_unread] <;>
  unfold_payloads <;>
  pointwise <;>
  (try simp only [e8, gate, kScale, kInv, kExp, ofField, tailCode, tailT, tailMax, Stream.tail, Stream.g, gRow, ← Nat.add_assoc,
    Nat.reduceAdd, Nat.zero_add]) <;>
  rfl

/-- The block of the scales. -/
theorem out_scales (b : Fin 16) (l : Fin 2048) :
    out0_A_18 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14 (ix2 b l)
      = scaleBlock (weights x2 x3 x4 x5 x6 x7 x10 x11 x12 x13 x14) (stream x0 x1 x8 x9) (ix2 b l) := by
  unfold out0_A_18
  rw [View.read_writes_eq_canon _ _ _ (cover0_A_18 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14)]
  exact View.canon_apply_of_pieces _ _ (View.PiecesOf.mem (pieces_scale c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14)) _
    (cover0_A_18 c i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 x0 x1 x2 x3 x4 x5 x6 x7 x8 x9 x10 x11 x12 x13 x14 _)

end Cert.KernelIdeal.Hand
-- ==== Proof.TailFinal.lean ====
/-
  The kernel's arrays of the requantised tail after the run.
-/
module

public import proofs.«01_k».proof.Proof.Inputs
public import proofs.«01_k».proof.Proof.TailArrays
public import proofs.«01_k».proof.Proof.TailCode
public import proofs.«01_k».proof.Proof.TailScale

@[expose] public section

set_option maxRecDepth 16384

noncomputable section

namespace Cert.KernelIdeal.Hand

open Cert.KernelIdeal Cert.KernelIdeal.Gen Cert.KernelIdeal.Value Cert.Conv Idealize.ShloMosaic Idealize.ShloMosaic.TcCoe
  Idealize.SL.Sem

variable (m : (ℓ : Loc nD τ sig) → Buf (Elt Ideal) ℓ) (ρ : Dev nD → PrngReg) (c : Dev nD)

/-- The array of the codes after the run. -/
theorem final_codes : (dats m 0 c).arrAt 17 cfg0.N = kCodeArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 17 _ (by decide +kernel) fun t hf y => ?_
  obtain ⟨b, k, l, rfl⟩ : ∃ (b : Fin 16) (k : Fin 8) (l : Fin 2048), y = ix3 b k l := ⟨y 0, y 1, y 2, eq_ix3 y⟩
  have he : (win0_17.blk t).view.emb (ix3 b k l) = ix3 ⟨t * 16 + b, by have := lt12 t; omega⟩ k l := by
    blk_ext [idx t]
  blk_simp
  rw [after0_17]
  refine Eq.trans ?_ (congrArg _ he.symm)
  unfold outsAt0 kCodeArr
  simp only [ix3_0, ix3_1, ix3_2]
  have e := out_codes c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (ms0_15 t) (hs0_15 t) (ms0_16 t) (hs0_16 t) (ms0_17 t) (hs0_17 t) (ms0_18 t) (hs0_18 t) scM0_0
      (Memref.isWhole_whole _) (iblk m c 0 t) (iblk m c 1 t) (iblk m c 2 t) (iblk m c 3 t) (iblk m c 4 t) (iblk m c 5
      t) (iblk m c 6 t) (iblk m c 7 t) (iblk m c 8 t) (iblk m c 9 t) (iblk m c 10 t) (iblk m c 11 t) (iblk m c 12 t)
      (iblk m c 13 t) (iblk m c 14 t) b k l
  unfold codeBlock at e
  simp only [ix3_0, ix3_1, ix3_2] at e
  rw [weights_eq, stream_eq] at e
  exact e

/-- The array of the scales after the run. -/
theorem final_scales : (dats m 0 c).arrAt 18 cfg0.N = kScaleArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 18 _ (by decide +kernel) fun t hf y => ?_
  obtain ⟨b, l, rfl⟩ : ∃ (b : Fin 16) (l : Fin 2048), y = ix2 b l := ⟨y 0, y 1, eq_ix2 y⟩
  have he : (win0_18.blk t).view.emb (ix2 b l) = ix2 ⟨t * 16 + b, by have := lt12 t; omega⟩ l := by
    blk_ext [idx t]
  blk_simp
  rw [after0_18]
  refine Eq.trans ?_ (congrArg _ he.symm)
  unfold outsAt0 kScaleArr
  simp only [ix2_0, ix2_1]
  have e := out_scales c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (ms0_15 t) (hs0_15 t) (ms0_16 t) (hs0_16 t) (ms0_17 t) (hs0_17 t) (ms0_18 t) (hs0_18 t) scM0_0
      (Memref.isWhole_whole _) (iblk m c 0 t) (iblk m c 1 t) (iblk m c 2 t) (iblk m c 3 t) (iblk m c 4 t) (iblk m c 5
      t) (iblk m c 6 t) (iblk m c 7 t) (iblk m c 8 t) (iblk m c 9 t) (iblk m c 10 t) (iblk m c 11 t) (iblk m c 12 t)
      (iblk m c 13 t) (iblk m c 14 t) b l
  unfold scaleBlock at e
  simp only [ix2_0, ix2_1] at e
  rw [weights_eq, stream_eq] at e
  exact e

end Cert.KernelIdeal.Hand
-- ==== Proof.RefTail.lean ====
/-
  The reference's body read at an index, for its requantised tail: the least power of two above the greatest absolute
  value over 448, and the codes over it.
-/
module

public import proofs.«01_k».proof.Proof.TailSpec
public import proofs.«01_k».proof.Proof.RefBlock
public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen Cert.Conv Idealize.ShloMosaic Idealize.ShloMosaic.TcCoe Idealize.SL.Sem

/-- The corner of a rank-three array. -/
theorem hz3 : (![0, 0, 0] : Fin 3 → Nat) = fun _ => 0 := funext fun a => by fin_cases a <;> rfl

/-- The constant 126. -/
theorem bias_eq : Ideal.ofBits .f32 0x42FC0000#32 = ((126 : ℝ) : EReal) := by
  simp [Ideal.ofBits, Ideal.ieee, -EReal.coe_mul]
  norm_num

/-- A small number's word, read with its sign, is the number. -/
theorem small_toInt : ∀ x : Fin 254, (BitVec.ofNat 32 x).toInt = ((x : ℕ) : ℤ) := by decide +kernel

/-- The `x`-th power the reference tries. -/
theorem power_eq (x : Fin 254) :
    FloatOps.exp2 (F := Ideal) (φ := .f32) (FloatOps.sitofp (F := Ideal) FTy.f32 (BitVec.ofNat 32 x) - Ideal.ofBits .f32 0x42FC0000#32) = pow2 (x + 1) := by
  have e : (FloatOps.sitofp (F := Ideal) FTy.f32 (BitVec.ofNat 32 x) : EReal) - Ideal.ofBits .f32 0x42FC0000#32
      = (((((x : ℕ) : ℤ) - 126 : ℤ) : ℝ) : EReal) := by
    rw [bias_eq]
    show ((((BitVec.ofNat 32 x).toInt : ℤ) : ℝ) : EReal) - ((126 : ℝ) : EReal) = _
    rw [small_toInt x, ← EReal.coe_sub]
    push_cast
    rfl
  have e2 := congrArg Ideal.exp2 e
  refine e2.trans ?_
  rw [Ideal.exp2_coe]
  unfold pow2
  refine congrArg _ ((Real.rpow_intCast 2 _).trans (congrArg _ ?_))
  push_cast
  ring

/-- The greatest absolute value of every channel's last eight frames, over 448. -/
def top (z : FVec Ideal S192x24x2048 .f32) : FVec Ideal S192x2048 .f32 :=
  mulf (multiReduction .maximumf [1] S192x2048 (absf (k0_pay10 z)) 0xFF800000#32 reduces_S192x8x2048_S192x2048 (.inl rfl) rfl)
    (broadcast S192x2048 (Scalar.ofBits .f32 0x3B124925#32))

/-- The powers of two the reference tries. -/
def powers : FVec Ideal S254x1x1 .f32 :=
  exp2 (subf (sitofp .f32 (iota .tc S254x1x1 32 [0] iota_S254x1x1_d0_w32)) (broadcast S254x1x1 (Scalar.ofBits .f32 0x42FC0000#32)))

/-- The powers above each channel's value; infinity for the others. -/
def above (P : FVec Ideal S254x1x1 .f32) (T : FVec Ideal S192x2048 .f32) : FVec Ideal S254x192x2048 .f32 :=
  select (cmpf .ogt (broadcastTo S254x192x2048 P broadcasts_S254x1x1_S254x192x2048)
      (broadcastTo S254x192x2048 (shapeCast S1x192x2048 T shapeCasts_S192x2048_S1x192x2048) broadcasts_S1x192x2048_S254x192x2048))
    (broadcastTo S254x192x2048 (shapeCast S254x1x1 P shapeCasts_S254x1x1_S254x1x1) broadcasts_S254x1x1_S254x192x2048)
    (broadcast S254x192x2048 (Scalar.ofBits .f32 0x7F800000#32))

/-- The least of them, or 1. -/
def least (A : FVec Ideal S254x192x2048 .f32) (T : FVec Ideal S192x2048 .f32) : FVec Ideal S192x2048 .f32 :=
  select (cmpf .oeq T (broadcast S192x2048 (Scalar.ofBits .f32 0x00000000#32)))
    (broadcast S192x2048 (Scalar.ofBits .f32 0x3F800000#32))
    (multiReduction .minimumf [0] S192x2048 A 0x7F800000#32 reduces_S254x192x2048_S192x2048 (.inl rfl) rfl)

/-- The reference's scales in these steps. -/
theorem steps (z : FVec Ideal S192x24x2048 .f32) : k0_pay11 z = least (above powers (top z)) (top z) := by
  unfold k0_pay11 least above powers top
  with_reducible rfl

/-- A maximum over the frames. -/
theorem max_frames (X : FVec Ideal S192x8x2048 .f32) (b : Fin 192) (l : Fin 2048) :
    multiReduction .maximumf [1] S192x2048 X 0xFF800000#32 reduces_S192x8x2048_S192x2048 (.inl rfl) rfl (ix2 b l)
      = Finset.univ.fold max (Ideal.ofBits .f32 0xFF800000#32) fun k : Fin 8 => X (ix3 b k l) := by
  pointwise

/-- The absolute value of a frame. -/
theorem abs_frame (z : FVec Ideal S192x24x2048 .f32) (b : Fin 192) (k : Fin 8) (l : Fin 2048) :
    absf (k0_pay10 z) (ix3 b k l) = FloatOps.absf (F := Ideal) (φ := .f32) (z (ix3 b ⟨16 + k, by omega⟩ l)) := by
  pointwise [k0_pay10]

/-- An entry of the values over 448. -/
theorem top_eq (z : FVec Ideal S192x24x2048 .f32) (b : Fin 192) (l : Fin 2048) :
    top z (ix2 b l) = tailT fun k => z (ix3 b ⟨16 + k, by omega⟩ l) := by
  have e : broadcast S192x2048 (Scalar.ofBits (F := Ideal) .f32 0x3B124925#32) (ix2 b l) = Ideal.ofBits .f32 0x3B124925#32 := rfl
  unfold top
  rw [mulf_apply, max_frames, Ideal.mulf_def, e]
  simp only [abs_frame]
  unfold tailT tailMax
  with_reducible rfl

/-- An entry of the powers. -/
theorem powers_eq (x : Fin 254) : powers (ix3 x 0 0) = pow2 (x + 1) := by
  refine Eq.trans ?_ (power_eq x)
  pointwise [powers]

/-- An entry of the powers above the values. -/
theorem above_eq (P : FVec Ideal S254x1x1 .f32) (T : FVec Ideal S192x2048 .f32) (x : Fin 254) (b : Fin 192) (l : Fin 2048) :
    above P T (ix3 x b l) = if T (ix2 b l) < P (ix3 x 0 0) then P (ix3 x 0 0) else Ideal.ofBits .f32 0x7F800000#32 := by
  pointwise [above]

/-- An entry of the least powers. -/
theorem least_eq (A : FVec Ideal S254x192x2048 .f32) (T : FVec Ideal S192x2048 .f32) (b : Fin 192) (l : Fin 2048) :
    least A T (ix2 b l) = if T (ix2 b l) = 0 then 1 else
      Finset.univ.fold min (Ideal.ofBits .f32 0x7F800000#32) fun x : Fin 254 => A (ix3 x b l) := by
  pointwise [least]

/-- The float infinity. -/
theorem inf_eq : Ideal.ofBits .f32 0x7F800000#32 = ⊤ := ofField_top

/-- The scale of a tail, from the convolution's input. -/
theorem pay_scale (z : FVec Ideal S192x24x2048 .f32) (b : Fin 192) (l : Fin 2048) :
    k0_pay11 z (ix2 b l) = tailScale (tailT fun k => z (ix3 b ⟨16 + k, by omega⟩ l)) := by
  rw [steps, least_eq, top_eq]
  simp only [above_eq, top_eq, powers_eq, inf_eq]
  unfold tailScale
  with_reducible rfl

/-- The codes of a tail, from the convolution's input and the scales. -/
theorem pay_code (z : FVec Ideal S192x24x2048 .f32) (s : FVec Ideal S192x2048 .f32) (b : Fin 192) (k : Fin 8) (l : Fin 2048) :
    k0_pay1 (k0_pay10 z) s (ix3 b k l) = tailCode (z (ix3 b ⟨16 + k, by omega⟩ l)) (Ideal.div 1 (s (ix2 b l))) := by
  unfold tailCode
  pointwise [k0_pay1, k0_pay10]

section
variable (x0 x1 : Vec Ideal S3072x2048 .bf16) (x2 : Vec Ideal S2048x2048 .bf16) (x3 x4 x5 : Vec Ideal S1x2048 .f32)
  (x6 x7 : Vec Ideal S2048x2048 .bf16) (x8 : Vec Ideal S2x2048 .f32) (x9 : Vec Ideal S192x8x2048 .fp8e4m3)
  (x10 : Vec Ideal S192x2048 .f32) (x11 : Vec Ideal S9x2048 .f32) (x12 x13 : Vec Ideal S1x2048 .f32)
  (x14 : Vec Ideal S2048x2048 .bf16) (x15 : Vec Ideal S1x2048 .f32)

/-- The last eight frames of the convolution's input are the last eight gated frames. -/
theorem tail_eq (b : Fin 192) (k : Fin 8) (l : Fin 2048) :
    k0_pay13 x0 x1 x2 x3 x4 x5 x6 x7 x8 x9 x10 x11 x12 x13 x14 x15 (ix3 b ⟨16 + k, by omega⟩ l) = (stream x0 x1 x9 x10 b).tail (weights x2 x3 x4 x5 x6 x7 x8 x11 x12 x13 x14 x15) l k := by
  unfold k0_pay13 k0_pay12
  rw [z_eq]
  unfold Stream.z zCol Stream.tail
  rw [dif_neg (by simp only []; omega)]
  exact congrArg (fun s => (stream x0 x1 x9 x10 b).g (weights x2 x3 x4 x5 x6 x7 x8 x11 x12 x13 x14 x15) s l) (Fin.ext (by simp only []; omega))

/-- The reference's scales. -/
theorem scale_eq (b : Fin 192) (l : Fin 2048) :
    out0_19 x0 x1 x2 x3 x4 x5 x6 x7 x8 x9 x10 x11 x12 x13 x14 x15 (ix2 b l) = tailScale (tailT ((stream x0 x1 x9 x10 b).tail (weights x2 x3 x4 x5 x6 x7 x8 x11 x12 x13 x14 x15) l)) := by
  unfold out0_19 k0_pay16
  rw [View.canon_unit_zero hz, pay_scale]
  simp only [tail_eq]

/-- The reference's codes. -/
theorem code_eq (b : Fin 192) (k : Fin 8) (l : Fin 2048) :
    out0_18 x0 x1 x2 x3 x4 x5 x6 x7 x8 x9 x10 x11 x12 x13 x14 x15 (ix3 b k l) = tailCode ((stream x0 x1 x9 x10 b).tail (weights x2 x3 x4 x5 x6 x7 x8 x11 x12 x13 x14 x15) l k)
      (Ideal.div 1 (tailScale (tailT ((stream x0 x1 x9 x10 b).tail (weights x2 x3 x4 x5 x6 x7 x8 x11 x12 x13 x14 x15) l)))) := by
  unfold out0_18 k0_pay16
  rw [View.canon_unit_zero hz3, pay_code, pay_scale]
  simp only [tail_eq]

end

end Cert.ReferenceIdeal.Hand
-- ==== Proof.RefTailFinal.lean ====
/-
  The reference's arrays of the requantised tail after the run.
-/
module

public import proofs.«01_k».proof.Proof.RefBlock
public import proofs.«01_k».proof.Proof.Arrays
public import proofs.«01_k».proof.Proof.Gen.ReferenceIdeal.Value
public import Idealize.ShloMosaic.Lib.Pipeline.ValueKit
public import Idealize.ShloMosaic.Lib.Claim
public import proofs.«01_k».proof.Proof.RefFinal
public import proofs.«01_k».proof.Proof.RefTail
public import proofs.«01_k».proof.Proof.TailArrays

@[expose] public section

set_option maxRecDepth 16384

noncomputable section

namespace Cert.ReferenceIdeal.Hand

open Cert.ReferenceIdeal Cert.ReferenceIdeal.Gen Cert.ReferenceIdeal.Value Cert.Conv Idealize.ShloMosaic
  Idealize.ShloMosaic.TcCoe Idealize.SL.Sem

variable (m : (ℓ : Loc nD τ sig) → Buf (Elt Ideal) ℓ) (ρ : Dev nD → PrngReg) (c : Dev nD)

/-- The array of the codes after the run. -/
theorem final_codes : (dats m 0 c).arrAt 18 cfg0.N = codeArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 18 _ (by decide +kernel) fun t hf y => ?_
  obtain ⟨b, k, l, rfl⟩ : ∃ (b : Fin 192) (k : Fin 8) (l : Fin 2048), y = ix3 b k l := ⟨y 0, y 1, y 2, eq_ix3 y⟩
  have he : (win0_18.blk t).view.emb (ix3 b k l) = ix3 b k l := by
    blk_ext [idx t]
  blk_simp
  rw [after0_18]
  refine Eq.trans ?_ (congrArg _ he.symm)
  unfold codeArr
  simp only [ix3_0, ix3_1, ix3_2]
  have e := code_eq (iblk m c 0 t) (iblk m c 1 t) (iblk m c 2 t) (iblk m c 3 t) (iblk m c 4 t) (iblk m c 5 t) (iblk m c
      6 t) (iblk m c 7 t) (iblk m c 8 t) (iblk m c 9 t) (iblk m c 10 t) (iblk m c 11 t) (iblk m c 12 t) (iblk m c 13
      t) (iblk m c 14 t) (iblk m c 15 t) b k l
  rw [weights_eq, stream_eq] at e
  exact e

/-- The array of the scales after the run. -/
theorem final_scales : (dats m 0 c).arrAt 19 cfg0.N = scaleArr (m ((c : Thread nD τ).loc main_arg0)) (m ((c : Thread nD
      τ).loc main_arg1)) (m ((c : Thread nD τ).loc main_arg2)) (m ((c : Thread nD τ).loc main_arg3)) (m ((c : Thread
      nD τ).loc main_arg4)) (m ((c : Thread nD τ).loc main_arg5)) (m ((c : Thread nD τ).loc main_arg6)) (m ((c :
      Thread nD τ).loc main_arg7)) (m ((c : Thread nD τ).loc main_arg8)) (m ((c : Thread nD τ).loc main_arg9)) (m ((c
      : Thread nD τ).loc main_arg10)) (m ((c : Thread nD τ).loc main_arg11)) (m ((c : Thread nD τ).loc main_arg12)) (m
      ((c : Thread nD τ).loc main_arg13)) (m ((c : Thread nD τ).loc main_arg14)) := by
  refine (dats m 0 c).arrAt_eq_of_covers 19 _ (by decide +kernel) fun t hf y => ?_
  obtain ⟨b, l, rfl⟩ : ∃ (b : Fin 192) (l : Fin 2048), y = ix2 b l := ⟨y 0, y 1, eq_ix2 y⟩
  have he : (win0_19.blk t).view.emb (ix2 b l) = ix2 b l := by
    blk_ext [idx t]
  blk_simp
  rw [after0_19]
  refine Eq.trans ?_ (congrArg _ he.symm)
  unfold scaleArr
  simp only [ix2_0, ix2_1]
  have e := scale_eq (iblk m c 0 t) (iblk m c 1 t) (iblk m c 2 t) (iblk m c 3 t) (iblk m c 4 t) (iblk m c 5 t) (iblk m c
      6 t) (iblk m c 7 t) (iblk m c 8 t) (iblk m c 9 t) (iblk m c 10 t) (iblk m c 11 t) (iblk m c 12 t) (iblk m c 13
      t) (iblk m c 14 t) (iblk m c 15 t) b l
  rw [weights_eq, stream_eq] at e
  exact e

end Cert.ReferenceIdeal.Hand
-- ==== Proof.TailMask.lean ====
/-
  The mask on the requantised tail's results: where it is set, the scale is in range.
-/
module

public import proofs.«01_k».proof.Proof.TailArrays
public import proofs.«01_k».proof.Proof.Gen.On_normal_scales
public import Idealize.ShloMosaic.Lib.KernelVsHost
public import Idealize.ShloMosaic.Lib.Pipeline.Value

@[expose] public section

set_option maxRecDepth 16384

noncomputable section

namespace Cert.On_normal_scales.Hand

open Cert.On_normal_scales Cert.On_normal_scales.Facts Cert.Conv Idealize.ShloMosaic

/-- The mean of every row. -/
def means (X : FVec Ideal S3072x2048 .f32) : FVec Ideal S3072x1 .f32 :=
  Host.divf (broadcastInDim S3072x1 ![0] bcast_S3072_S3072x1_0
      (Host.reduceAdd X (constant S_ .f32 0x00000000#32) reducesTo_S3072x2048_S3072_d1 h_S_))
    (broadcastInDim S3072x1 ![] bcast_S_S3072x1 (constant S_ .f32 0x45000000#32))

/-- Each entry of the means is the mean of its row. -/
theorem means_eq (X : FVec Ideal S3072x2048 .f32) (r : Fin 3072) (z : Fin 1) :
    means X (ix2 r z) = Conv.mean fun k => X (ix2 r k) := by
  pointwise [means]
  rfl

/-- Every row less its mean. -/
def centred (X : FVec Ideal S3072x2048 .f32) : FVec Ideal S3072x2048 .f32 :=
  subf X (broadcastInDim S3072x2048 ![0, 1] bcast_S3072x1_S3072x2048_0_1 (means X))

/-- Each entry less the mean of its row. -/
theorem centred_eq (X : FVec Ideal S3072x2048 .f32) (r : Fin 3072) (k : Fin 2048) :
    centred X (ix2 r k) = X (ix2 r k) - Conv.mean fun k => X (ix2 r k) := by
  pointwise [centred]
  simp only [means_eq]

/-- The layer norm of every row. -/
def normed (X : FVec Ideal S3072x2048 .f32) (g b : FVec Ideal S2048 .f32) : FVec Ideal S3072x2048 .bf16 :=
  truncf .bf16 (addf (mulf (mulf (centred X) (broadcastInDim S3072x2048 ![0, 1] bcast_S3072x1_S3072x2048_0_1
      (Host.rsqrt (addf (means (mulf (centred X) (centred X)))
        (broadcastInDim S3072x1 ![] bcast_S_S3072x1 (constant S_ .f32 0x3727C5AC#32))))))
      (broadcastInDim S3072x2048 ![0, 1] bcast_S1x2048_S3072x2048_0_1 (broadcastInDim S1x2048 ![1] bcast_S2048_S1x2048_1 g)))
    (broadcastInDim S3072x2048 ![0, 1] bcast_S1x2048_S3072x2048_0_1 (broadcastInDim S1x2048 ![1] bcast_S2048_S1x2048_1 b)))
    bitsLt_bf16_f32

/-- Each row of the layer norm is the layer norm of that row. -/
theorem normed_eq (W : Weights) (X : FVec Ideal S3072x2048 .f32) (g b : FVec Ideal S2048 .f32)
    (hg : ∀ k, g (ix1 k) = W.g2 k) (hb : ∀ k, b (ix1 k) = W.b2 k) (r : Fin 3072) (k : Fin 2048) :
    normed X g b (ix2 r k) = cRow W (fun k => X (ix2 r k)) k := by
  pointwise [normed]
  simp only [means_eq]
  pointwise
  simp only [centred_eq, hg, hb]
  rfl

/-- The residual rows after the attention projection. -/
def rows (a0 : FVec Ideal S3072x2048 .bf16) (a1 : FVec Ideal S192x16x2048 .bf16) (a2 : FVec Ideal S32x64x2048 .bf16)
    (a3 : FVec Ideal S2048 .f32) : FVec Ideal S3072x2048 .f32 :=
  addf (addf (extf .f32 (shapeCast S3072x2048 a1 shapeCasts_S192x16x2048_S3072x2048) bitsLt_bf16_f32)
      (Host.dotGeneral dot_S3072x2048_S2048x2048_S3072x2048_1_0_0_1_n_n none a0
        (shapeCast S2048x2048 a2 shapeCasts_S32x64x2048_S2048x2048)))
    (broadcastInDim S3072x2048 ![0, 1] bcast_S1x2048_S3072x2048_0_1 (broadcastInDim S1x2048 ![1] bcast_S2048_S1x2048_1 a3))

/-- A normalised row against one half of the gated unit's weights, plus its bias. -/
def half (N : FVec Ideal S3072x2048 .bf16) (w : FVec Ideal S2048x2048 .bf16) (b : FVec Ideal S2048 .f32) :
    FVec Ideal S3072x2048 .f32 :=
  addf (Host.dotGeneral dot_S3072x2048_S2048x2048_S3072x2048_1_0_0_1_n_n none N w)
    (broadcastInDim S3072x2048 ![0, 1] bcast_S1x2048_S3072x2048_0_1 (broadcastInDim S1x2048 ![1] bcast_S2048_S1x2048_1 b))

/-- An entry of that product. -/
theorem half_eq (N : FVec Ideal S3072x2048 .bf16) (w : FVec Ideal S2048x2048 .bf16) (b : FVec Ideal S2048 .f32)
    (r : Fin 3072) (n : Fin 2048) :
    half N w b (ix2 r n) = (∑ k : Fin 2048, N (ix2 r k) * w (ix2 k n) + b (ix1 n) : EReal) := by
  pointwise [half]

/-- The gated linear unit of normalised rows. -/
def gated (N : FVec Ideal S3072x2048 .bf16) (a6 : FVec Ideal S2048x2x2048 .bf16) (a7 : FVec Ideal S2x2048 .f32) :
    FVec Ideal S3072x2048 .f32 :=
  mulf (half N (shapeCast S2048x2048 (extractStridedSlice S2048x1x2048 ![0, 0, 0] a6
        slices_S2048x2x2048_S2048x1x2048_0_0_0) shapeCasts_S2048x1x2048_S2048x2048)
      (shapeCast S2048 (extractStridedSlice S1x2048 ![0, 0] a7 slices_S2x2048_S1x2048_0_0) shapeCasts_S1x2048_S2048))
    (Host.divf (broadcastInDim S3072x2048 ![] bcast_S_S3072x2048 (constant S_ .f32 0x3F800000#32))
      (addf (broadcastInDim S3072x2048 ![] bcast_S_S3072x2048 (constant S_ .f32 0x3F800000#32))
        (Host.exp (Host.negf (half N (shapeCast S2048x2048 (extractStridedSlice S2048x1x2048 ![0, 1, 0] a6
            slices_S2048x2x2048_S2048x1x2048_0_1_0) shapeCasts_S2048x1x2048_S2048x2048)
          (shapeCast S2048 (extractStridedSlice S1x2048 ![1, 0] a7 slices_S2x2048_S1x2048_1_0)
            shapeCasts_S1x2048_S2048))))))

/-- An entry of the gated rows. -/
theorem gated_eq (W : Weights) (N : FVec Ideal S3072x2048 .bf16) (a6 : Vec Ideal S2048x2x2048 .bf16)
    (a7 : Vec Ideal S2x2048 .f32) (hv : ∀ k c, a6 (ix3 k 0 c) = W.wv k c) (hg : ∀ k c, a6 (ix3 k 1 c) = W.wg k c)
    (hbv : ∀ c, a7 (ix2 0 c) = W.bv c) (hbg : ∀ c, a7 (ix2 1 c) = W.bg c) (r : Fin 3072) (c : Fin 2048) :
    gated N a6 a7 (ix2 r c) = gRow W (fun k => N (ix2 r k)) c := by
  pointwise [gated]
  simp only [half_eq]
  pointwise
  simp only [← hv, ← hg, ← hbv, ← hbg, gRow, Ideal.logistic, Ideal.ofBits_one_f32]

/-- The greatest absolute value of every channel's last eight frames, over 448. -/
def tops (G : FVec Ideal S3072x2048 .f32) : FVec Ideal S192x2048 .f32 :=
  mulf (Host.reduce FloatOps.maximumf (Host.absf (extractStridedSlice S192x8x2048 ![0, 8, 0]
      (shapeCast S192x16x2048 G shapeCasts_S3072x2048_S192x16x2048) slices_S192x16x2048_S192x8x2048_0_8_0))
      (constant S_ .f32 0xFF800000#32) reducesTo_S192x8x2048_S192x2048_d1 h_S_)
    (broadcastInDim S192x2048 ![] bcast_S_S192x2048 (constant S_ .f32 0x3B124925#32))

/-- The host's maximum over the frames. -/
theorem host_top (X : FVec Ideal S192x8x2048 .f32) (b : Fin 192) (c : Fin 2048) :
    Host.reduce FloatOps.maximumf X (constant S_ .f32 0xFF800000#32) reducesTo_S192x8x2048_S192x2048_d1 h_S_ (ix2 b c)
      = Finset.univ.fold max (Ideal.ofBits .f32 0xFF800000#32) fun k : Fin 8 => X (ix3 b k c) := by
  rw [hostReduce_maximumf_eq_multiReduction X (0xFF800000#32 : BitVec (FTy.bits .f32)) _ _ (⟨rfl, (by decide), reducesTo_S192x8x2048_S192x2048_d1.2⟩ :
    S192x8x2048.Reduces [1] S192x2048) (.inl rfl) rfl]
  pointwise

/-- The absolute value of one of the last eight frames. -/
theorem last_eq (G : FVec Ideal S3072x2048 .f32) (b : Fin 192) (k : Fin 8) (c : Fin 2048) :
    Host.absf (extractStridedSlice S192x8x2048 ![0, 8, 0]
      (shapeCast S192x16x2048 G shapeCasts_S3072x2048_S192x16x2048) slices_S192x16x2048_S192x8x2048_0_8_0) (ix3 b k c)
      = FloatOps.absf (F := Ideal) (φ := .f32) (G (ix2 ⟨b * 16 + (8 + k), by omega⟩ c)) := by
  pointwise

/-- The constant over 448. -/
theorem over_eq (b : Fin 192) (c : Fin 2048) :
    broadcastInDim S192x2048 ![] bcast_S_S192x2048 (constant (F := Ideal) S_ .f32 0x3B124925#32) (ix2 b c)
      = Ideal.ofBits .f32 0x3B124925#32 := by
  pointwise

/-- An entry of the values over 448. -/
theorem tops_eq (G : FVec Ideal S3072x2048 .f32) (b : Fin 192) (c : Fin 2048) :
    tops G (ix2 b c) = tailT fun k => G (ix2 ⟨b * 16 + (8 + k), by omega⟩ c) := by
  unfold tops
  rw [mulf_apply, host_top, over_eq, Ideal.mulf_def]
  simp only [last_eq]
  unfold tailT tailMax
  with_reducible rfl

/-- The bit of a number that is 0 or between the smallest normal power and the greatest but one. -/
def bits (T : FVec Ideal S192x2048 .f32) : IVec S192x2048 1 :=
  ori (cmpf .oeq T (broadcastInDim S192x2048 ![] bcast_S_S192x2048 (constant S_ .f32 0x00000000#32)))
    (andi (cmpf .oge T (broadcastInDim S192x2048 ![] bcast_S_S192x2048 (constant S_ .f32 0x00800000#32)))
      (cmpf .olt T (broadcastInDim S192x2048 ![] bcast_S_S192x2048 (constant S_ .f32 0x7E800000#32))))

/-- Where that bit is set the number is in range. -/
theorem bits_eq (T : FVec Ideal S192x2048 .f32) (b : Fin 192) (c : Fin 2048) (h : bits T (ix2 b c) = 1#1) :
    InRange (T (ix2 b c)) := by
  revert h
  pointwise [bits]
  intro h
  unfold InRange
  by_cases h0 : T (ix2 b c) = 0
  · exact Or.inl h0
  · by_cases h1 : Ideal.ofBits .f32 0x00800000#32 ≤ T (ix2 b c)
    · by_cases h2 : T (ix2 b c) < Ideal.ofBits .f32 0x7E800000#32
      · exact Or.inr ⟨h1, h2⟩
      · rw [decide_eq_false h0, decide_eq_false h2] at h
        exfalso
        revert h
        cases decide (Ideal.ofBits .f32 0x00800000#32 ≤ T (ix2 b c)) <;> decide
    · rw [decide_eq_false h0, decide_eq_false h1] at h
      exfalso
      revert h
      cases decide (T (ix2 b c) < Ideal.ofBits .f32 0x7E800000#32) <;> decide

variable (a0 : Vec Ideal ⟨2, ![3072, 2048]⟩ .bf16) (a1 : Vec Ideal ⟨3, ![192, 16, 2048]⟩ .bf16)
  (a2 : Vec Ideal ⟨3, ![32, 64, 2048]⟩ .bf16) (a3 a4 a5 : Vec Ideal ⟨1, ![2048]⟩ .f32)
  (a6 : Vec Ideal ⟨3, ![2048, 2, 2048]⟩ .bf16) (a7 : Vec Ideal ⟨2, ![2, 2048]⟩ .f32)
  (a8 : Vec Ideal ⟨3, ![192, 8, 2048]⟩ .fp8e4m3) (a9 : Vec Ideal ⟨2, ![192, 2048]⟩ .f32)
  (a10 : Vec Ideal ⟨2, ![9, 2048]⟩ .f32) (a11 a12 : Vec Ideal ⟨1, ![2048]⟩ .f32)
  (a13 : Vec Ideal ⟨2, ![2048, 2048]⟩ .bf16) (a14 : Vec Ideal ⟨1, ![2048]⟩ .f32)

/-- The mask of the scales. -/
theorem fn_scales : (fn (F := Ideal) a0 a1 a2 a3 a4 a5 a6 a7 a8 a9 a10 a11 a12 a13 a14).2.2.2
    = bits (tops (gated (normed (rows a0 a1 a2 a3) a4 a5) a6 a7)) := by
  unfold fn fn_part1 fn_part2 fn_part3
  rfl

/-- The mask of the codes. -/
theorem fn_codes : (fn (F := Ideal) a0 a1 a2 a3 a4 a5 a6 a7 a8 a9 a10 a11 a12 a13 a14).2.2.1
    = broadcastInDim S192x8x2048 ![0, 1, 2] bcast_S192x1x2048_S192x8x2048_0_1_2
      (broadcastInDim S192x1x2048 ![0, 2] bcast_S192x2048_S192x1x2048_0_2
        (bits (tops (gated (normed (rows a0 a1 a2 a3) a4 a5) a6 a7)))) := by
  unfold fn fn_part1 fn_part2 fn_part3
  rfl

/-- The residual rows are the streams' residual rows. -/
theorem rows_eq (b : Fin 192) (s : Fin 16) (k : Fin 2048) :
    rows a0 a1 a2 a3 (ix2 ⟨b * 16 + s, by omega⟩ k)
      = (argStream a0 a1 a8 a9 b).h (argWeights a2 a3 a4 a5 a6 a7 a10 a11 a12 a13 a14) s k := by
  pointwise [rows]
  rfl

/-- What the mask's bits are taken of is the streams' greatest value over 448. -/
theorem tops_args (b : Fin 192) (c : Fin 2048) :
    tops (gated (normed (rows a0 a1 a2 a3) a4 a5) a6 a7) (ix2 b c)
      = tailT (argTail a0 a1 a2 a3 a4 a5 a6 a7 a8 a9 a10 a11 a12 a13 a14 b c) := by
  rw [tops_eq]
  congr 1
  funext k
  rw [gated_eq (argWeights a2 a3 a4 a5 a6 a7 a10 a11 a12 a13 a14) _ _ _ (fun _ _ => rfl) (fun _ _ => rfl) (fun _ => rfl) (fun _ => rfl)]
  have e : (fun k' => normed (rows a0 a1 a2 a3) a4 a5 (ix2 ⟨b * 16 + (8 + k), by omega⟩ k'))
      = cRow (argWeights a2 a3 a4 a5 a6 a7 a10 a11 a12 a13 a14) ((argStream a0 a1 a8 a9 b).h
        (argWeights a2 a3 a4 a5 a6 a7 a10 a11 a12 a13 a14) ⟨8 + k, by omega⟩) := by
    funext k'
    rw [normed_eq (argWeights a2 a3 a4 a5 a6 a7 a10 a11 a12 a13 a14) _ _ _ (fun _ => rfl) (fun _ => rfl)]
    congr 1
    funext k''
    exact rows_eq a0 a1 a2 a3 a4 a5 a6 a7 a8 a9 a10 a11 a12 a13 a14 b ⟨8 + k, by omega⟩ k''
  rw [e]
  rfl

/-- Where the mask of the scales is set, the scale is in range. -/
theorem inRange_scales (i : S192x2048.Idx)
    (h : (fn (F := Ideal) a0 a1 a2 a3 a4 a5 a6 a7 a8 a9 a10 a11 a12 a13 a14).2.2.2 i = 1#1) :
    InRange (tailT (argTail a0 a1 a2 a3 a4 a5 a6 a7 a8 a9 a10 a11 a12 a13 a14 (i 0) (i 1))) := by
  obtain ⟨b, c, rfl⟩ : ∃ (b : Fin 192) (c : Fin 2048), i = ix2 b c := ⟨i 0, i 1, eq_ix2 i⟩
  rw [fn_scales] at h
  have e := bits_eq _ b c h
  rw [tops_args a0 a1 a2 a3 a4 a5 a6 a7 a8 a9 a10 a11 a12 a13 a14] at e
  exact e

/-- Where the mask of the codes is set, the scale is in range. -/
theorem inRange_codes (i : S192x8x2048.Idx)
    (h : (fn (F := Ideal) a0 a1 a2 a3 a4 a5 a6 a7 a8 a9 a10 a11 a12 a13 a14).2.2.1 i = 1#1) :
    InRange (tailT (argTail a0 a1 a2 a3 a4 a5 a6 a7 a8 a9 a10 a11 a12 a13 a14 (i 0) (i 2))) := by
  obtain ⟨b, k, c, rfl⟩ : ∃ (b : Fin 192) (k : Fin 8) (c : Fin 2048), i = ix3 b k c := ⟨i 0, i 1, i 2, eq_ix3 i⟩
  rw [fn_codes] at h
  have h' : bits (tops (gated (normed (rows a0 a1 a2 a3) a4 a5) a6 a7)) (ix2 b c) = 1#1 := by
    revert h
    pointwise
    exact id
  have e := bits_eq _ b c h'
  rw [tops_args a0 a1 a2 a3 a4 a5 a6 a7 a8 a9 a10 a11 a12 a13 a14] at e
  exact e

end Cert.On_normal_scales.Hand
-- ==== Proof.QkvSpec.lean ====
/-
  The mathematics of the first projection over the extended reals: a layer norm of each row, then the product with the
  query, key and value weights of every head.
-/
module

public import proofs.«01_k».proof.Proof.Spec

@[expose] public section

noncomputable section

namespace Cert.Proj

open Idealize.ShloMosaic Cert.Conv

/-- The layer norm of a row of 2048 numbers, with gains `g` and offsets `b`. -/
def norm (g b h : Fin 2048 → EReal) (c : Fin 2048) : EReal :=
  (h c - mean h) * Ideal.rsqrt (mean (fun k => (h k - mean h) * (h k - mean h)) + Ideal.ofBits FTy.f32 0x3727C5AC#32)
    * g c + b c

/-- One number of the projection: the normalised row against a column `w` of the weights, plus its bias. -/
def proj (g b h w : Fin 2048 → EReal) (bias : EReal) : EReal := ∑ k, norm g b h k * w k + bias

/-- The projection of every frame of every stream: row `16 b + s` is frame `s` of stream `b`, column
    `2048 part + 64 head + channel` is that channel of the head's query (part 0), key (1) or value (2). -/
def qkvArr (a0 : Vec Ideal ⟨3, ![192, 16, 2048]⟩ .bf16) (a1 a2 : Vec Ideal ⟨1, ![2048]⟩ .f32)
    (a3 : Vec Ideal ⟨4, ![2048, 3, 32, 64]⟩ .bf16) (a4 : Vec Ideal ⟨3, ![3, 32, 64]⟩ .f32) :
    Vec Ideal ⟨2, ![3072, 6144]⟩ .bf16 := fun i =>
  proj (fun k => a1 (ix1 k)) (fun k => a2 (ix1 k))
    (fun k => a0 (ix3 ⟨(i 0 : ℕ) / 16, by have := (i 0).isLt; change (i 0 : ℕ) < 3072 at this; omega⟩
      ⟨(i 0 : ℕ) % 16, Nat.mod_lt _ (by decide)⟩ k))
    (fun k => a3 (ix4 k ⟨(i 1 : ℕ) / 2048, by have := (i 1).isLt; change (i 1 : ℕ) < 6144 at this; omega⟩
      ⟨(i 1 : ℕ) / 64 % 32, Nat.mod_lt _ (by decide)⟩ ⟨(i 1 : ℕ) % 64, Nat.mod_lt _ (by decide)⟩))
    (a4 (ix3 ⟨(i 1 : ℕ) / 2048, by have := (i 1).isLt; change (i 1 : ℕ) < 6144 at this; omega⟩
      ⟨(i 1 : ℕ) / 64 % 32, Nat.mod_lt _ (by decide)⟩ ⟨(i 1 : ℕ) % 64, Nat.mod_lt _ (by decide)⟩))

end Cert.Proj
-- ==== Proof.QkvBlock.lean ====
/-
  What a grid point of the first projection leaves in its result's staging buffer: twelve stores of 512 columns each.
-/
module

public import proofs.«01_k».proof.Proof.QkvSpec
public import proofs.«01_k».proof.Proof.Gen.QkvIdeal.Frame
public import Idealize.ShloMosaic.Lib.Pipeline.Value
public import Idealize.ShloMosaic.Lib.Pipeline.ReadBack

@[expose] public section

set_option maxRecDepth 16384

noncomputable section

namespace Cert.QkvIdeal.Hand

open Cert.QkvIdeal Cert.QkvIdeal.Gen Cert.Proj Idealize.ShloMosaic Idealize.ShloMosaic.TcCoe Idealize.SL.Sem

variable (x0 : Vec Ideal S512x2048 .bf16) (x1 x2 : Vec Ideal S1x2048 .f32) (x3 : Vec Ideal S6144x2048 .bf16)
  (x4 : Vec Ideal S1x6144 .f32)

/-- The block of the result, from the blocks of the operands. -/
def qkvBlock (y : S512x6144.Idx) : EReal :=
  proj (fun k => x1 (ix2 0 k)) (fun k => x2 (ix2 0 k)) (fun k => x0 (ix2 (y 0) k)) (fun k => x3 (ix2 (y 1) k))
    (x4 (ix2 0 (y 1)))

/-- The normalised rows: the left factor of all twelve products. -/
theorem norm_eq (r : Fin 512) (k : Fin 2048) :
    k0_pay2 (View.ld x0 r0_0) (View.ld x1 r0_1) (View.ld x2 r0_1) (ix2 r k)
      = norm (fun k => x1 (ix2 0 k)) (fun k => x2 (ix2 0 k)) (fun k => x0 (ix2 r k)) k := by
  pointwise [k0_pay2]
  rfl

/-- A store of 512 columns from `o` on, a block of `qkvBlock`, over stores that are blocks of it. -/
theorem piece (o : ℕ) (ho : o + 512 ≤ 6144) (inb : ∀ a, _) (p : Vec Ideal S512x512 .bf16)
    (L : List (View.Piece (Elt Ideal) S512x6144 .bf16))
    (h : ∀ r l : Fin 512, p (ix2 r l) = proj (fun k => x1 (ix2 0 k)) (fun k => x2 (ix2 0 k)) (fun k => x0 (ix2 r k))
      (fun k => x3 (ix2 ⟨o + l, by omega⟩ k)) (x4 (ix2 0 ⟨o + l, by omega⟩)))
    (hL : View.PiecesOf (qkvBlock x0 x1 x2 x3 x4) L) :
    View.PiecesOf (qkvBlock x0 x1 x2 x3 x4) (⟨Rect.unit (s := S512x6144) ![0, o] S512x512.size inb, p⟩ :: L) := by
  refine ⟨fun x => ?_, hL⟩
  change S512x512.Idx at x
  show p x = qkvBlock x0 x1 x2 x3 x4 ((Rect.unit (s := S512x6144) ![0, o] S512x512.size inb).emb x)
  obtain ⟨r, l, rfl⟩ : ∃ (r l : Fin 512), x = ix2 r l := ⟨x 0, x 1, eq_ix2 x⟩
  have e0 : (Rect.unit (s := S512x6144) ![0, o] S512x512.size inb).emb (ix2 r l) 0 = r :=
    Fin.ext (by simp [Rect.emb, LoadRect.idx, Rect.unit])
  have e1 : (Rect.unit (s := S512x6144) ![0, o] S512x512.size inb).emb (ix2 r l) 1 = (⟨o + l, by omega⟩ : Fin 6144) :=
    Fin.ext (by simp [Rect.emb, LoadRect.idx, Rect.unit])
  rw [h]
  unfold qkvBlock
  rw [e0, e1]

/-- The twelve stores are blocks of `qkvBlock`. -/
theorem out_eq (y : S512x6144.Idx) : out0_5 x0 x1 x2 x3 x4 y = qkvBlock x0 x1 x2 x3 x4 y := by
  have e := norm_eq x0 x1 x2
  unfold out0_5 k0_pay18
  refine View.canon_apply_of_pieces _ _ (View.PiecesOf.mem ?_) y (cover0_5 _ _ _ _ _ _ _ _ _ _ _ _ y)
  iterate 12 refine piece x0 x1 x2 x3 x4 _ (by decide) _ _ _ (fun r l => ?_) ?_; rotate_left
  · trivial
  all_goals
  (pointwise [k0_pay1, k0_pay3, k0_pay4, k0_pay5, k0_pay6, k0_pay7, k0_pay8, k0_pay9, k0_pay10, k0_pay11, k0_pay12,
     k0_pay13, k0_pay14, k0_pay15, k0_pay16, k0_pay17]
   simp only [e, Nat.zero_add]
   rfl)

end Cert.QkvIdeal.Hand
-- ==== Proof.QkvFinal.lean ====
/-
  The result array of the first projection after the kernel's run.
-/
module

public import proofs.«01_k».proof.Proof.QkvBlock
public import proofs.«01_k».proof.Proof.Gen.QkvIdeal.Value
public import Idealize.ShloMosaic.Lib.Pipeline.ValueKit
public import Idealize.ShloMosaic.Lib.Claim

@[expose] public section

set_option maxRecDepth 16384

noncomputable section

namespace Cert.QkvIdeal.Hand

open Cert.QkvIdeal Cert.QkvIdeal.Gen Cert.QkvIdeal.Value Cert.Proj Idealize.ShloMosaic Idealize.ShloMosaic.TcCoe
  Idealize.SL.Sem

variable (m : (ℓ : Loc nD τ sig) → Buf (Elt Ideal) ℓ) (c : Dev nD)

/-- The block index of every window at every grid point. -/
theorem idx : ∀ t : Fin grid0.N,
    win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  by decide +kernel

/-- There are six grid points. -/
theorem lt6 (t : Fin cfg0.N) : (t : ℕ) < 6 := lt_of_lt_of_eq t.isLt N_0

/-- The gains of the layer norm, as staged. -/
theorem gain_eq (t : Fin cfg0.N) (k : Fin 2048) :
    (iblk m c 1 t : Vec Ideal S1x2048 .f32) (ix2 0 k) = m ((c : Thread nD τ).loc main_arg1) (ix1 k) := by
  blk_point [iblk, V, idx t]

/-- The offsets of the layer norm, as staged. -/
theorem offset_eq (t : Fin cfg0.N) (k : Fin 2048) :
    (iblk m c 2 t : Vec Ideal S1x2048 .f32) (ix2 0 k) = m ((c : Thread nD τ).loc main_arg2) (ix1 k) := by
  blk_point [iblk, V, idx t]

/-- The rows of point `t`'s block of the input are rows `512 t`, `512 t + 1`, … of the input. -/
theorem row_eq (t : Fin cfg0.N) (r : Fin 512) (k : Fin 2048) :
    (iblk m c 0 t : Vec Ideal S512x2048 .bf16) (ix2 r k) = m ((c : Thread nD τ).loc main_arg0)
      (ix3 ⟨(t * 512 + r) / 16, by have := lt6 t; omega⟩ ⟨(t * 512 + r) % 16, Nat.mod_lt _ (by decide)⟩ k) := by
  blk_point [iblk, V, idx t]

/-- Row `n` of the staged weights is column `n` of the weights. -/
theorem weight_eq (t : Fin cfg0.N) (n : Fin 6144) (k : Fin 2048) :
    (iblk m c 3 t : Vec Ideal S6144x2048 .bf16) (ix2 n k) = m ((c : Thread nD τ).loc main_arg3)
      (ix4 k ⟨n / 2048, by omega⟩ ⟨n / 64 % 32, Nat.mod_lt _ (by decide)⟩ ⟨n % 64, Nat.mod_lt _ (by decide)⟩) := by
  blk_point [iblk, V, idx t]

/-- The staged biases. -/
theorem bias_eq (t : Fin cfg0.N) (n : Fin 6144) :
    (iblk m c 4 t : Vec Ideal S1x6144 .f32) (ix2 0 n) = m ((c : Thread nD τ).loc main_arg4)
      (ix3 ⟨n / 2048, by omega⟩ ⟨n / 64 % 32, Nat.mod_lt _ (by decide)⟩ ⟨n % 64, Nat.mod_lt _ (by decide)⟩) := by
  blk_point [iblk, V, idx t]

/-- The result array after the run. -/
theorem final : (dats m 0 c).arrAt 5 cfg0.N = qkvArr (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  obtain ⟨r, n, rfl⟩ : ∃ (r : Fin 512) (n : Fin 6144), y = ix2 r n := ⟨y 0, y 1, eq_ix2 y⟩
  have he : (win0_5.blk t).view.emb (ix2 r n) = ix2 ⟨t * 512 + r, by have := lt6 t; omega⟩ n := by
    blk_ext [idx t]
  blk_simp
  rw [after0_5]
  refine Eq.trans ?_ (congrArg _ he.symm)
  rw [out_eq]
  unfold qkvBlock qkvArr
  simp only [ix2_0, ix2_1, gain_eq, offset_eq, row_eq, weight_eq, bias_eq]

end Cert.QkvIdeal.Hand
-- ==== Proof.QkvRef.lean ====
/-
  The result array of the reference of the first projection.
-/
module

public import proofs.«01_k».proof.Proof.QkvSpec
public import proofs.«01_k».proof.Proof.Gen.QkvReferenceIdeal.Run
public import Idealize.ShloMosaic.Lib.Claim
public import Idealize.ShloMosaic.Lib.Pipeline.Value

@[expose] public section

set_option maxRecDepth 16384

noncomputable section

namespace Cert.QkvReferenceIdeal.Hand

open Cert.QkvReferenceIdeal Cert.QkvReferenceIdeal.Gen Cert.QkvReferenceIdeal.Value Cert.Proj Idealize.ShloMosaic
  Idealize.ShloMosaic.TcCoe Idealize.SL.Sem

/-- The mean of every row, as the reference takes it. -/
def means (X : FVec Ideal S3072x2048 .f32) : FVec Ideal S3072x1 .f32 :=
  Host.divf (broadcastInDim S3072x1 ![0] bcast_S3072_S3072x1_0
      (Host.reduceAdd X (constant S_ .f32 0x00000000#32) reducesTo_S3072x2048_S3072_d1 h_S_))
    (broadcastInDim S3072x1 ![] bcast_S_S3072x1 (constant S_ .f32 0x45000000#32))

/-- Each entry of the means is the mean of its row. -/
theorem means_eq (X : FVec Ideal S3072x2048 .f32) (r : Fin 3072) (z : Fin 1) :
    means X (ix2 r z) = Conv.mean fun k => X (ix2 r k) := by
  pointwise [means]
  rfl

/-- Every row less its mean, as the reference takes it. -/
def centred (X : FVec Ideal S3072x2048 .f32) : FVec Ideal S3072x2048 .f32 :=
  subf X (broadcastInDim S3072x2048 ![0, 1] bcast_S3072x1_S3072x2048_0_1 (means X))

/-- Each entry less the mean of its row. -/
theorem centred_eq (X : FVec Ideal S3072x2048 .f32) (r : Fin 3072) (k : Fin 2048) :
    centred X (ix2 r k) = X (ix2 r k) - Conv.mean fun k => X (ix2 r k) := by
  pointwise [centred]
  simp only [means_eq]

/-- The layer norm of every row, as the reference takes it. -/
def normed (X : FVec Ideal S3072x2048 .f32) (g b : Vec Ideal S2048 .f32) : FVec Ideal S3072x2048 .bf16 :=
  truncf .bf16 (addf (mulf (mulf (centred X) (broadcastInDim S3072x2048 ![0, 1] bcast_S3072x1_S3072x2048_0_1
      (Host.rsqrt (addf (means (mulf (centred X) (centred X)))
        (broadcastInDim S3072x1 ![] bcast_S_S3072x1 (constant S_ .f32 0x3727C5AC#32))))))
      (broadcastInDim S3072x2048 ![0, 1] bcast_S1x2048_S3072x2048_0_1 (broadcastInDim S1x2048 ![1] bcast_S2048_S1x2048_1 g)))
    (broadcastInDim S3072x2048 ![0, 1] bcast_S1x2048_S3072x2048_0_1 (broadcastInDim S1x2048 ![1] bcast_S2048_S1x2048_1 b)))
    bitsLt_bf16_f32

/-- Each row of the reference's layer norm is the layer norm of that row. -/
theorem normed_eq (X : FVec Ideal S3072x2048 .f32) (g b : Vec Ideal S2048 .f32) (r : Fin 3072) (k : Fin 2048) :
    normed X g b (ix2 r k) = norm (fun k => g (ix1 k)) (fun k => b (ix1 k)) (fun k => X (ix2 r k)) k := by
  pointwise [normed]
  simp only [means_eq]
  pointwise
  simp only [centred_eq]
  rfl

/-- The frames of all streams one below the other. -/
def rows (a0 : Vec Ideal S192x16x2048 .bf16) : FVec Ideal S3072x2048 .f32 :=
  extf .f32 (shapeCast S3072x2048 a0 shapeCasts_S192x16x2048_S3072x2048) bitsLt_bf16_f32

/-- The frames as rows of one matrix, entry by entry. -/
theorem rows_eq (a0 : Vec Ideal S192x16x2048 .bf16) (r : Fin 3072) (k : Fin 2048) :
    rows a0 (ix2 r k) = a0 (ix3 ⟨r / 16, by omega⟩ ⟨r % 16, Nat.mod_lt _ (by decide)⟩ k) := by
  pointwise [rows]

/-- The weights as one matrix. -/
theorem weight_eq (a3 : Vec Ideal S2048x3x32x64 .bf16) (k : Fin 2048) (n : Fin 6144) :
    shapeCast S2048x6144 a3 shapeCasts_S2048x3x32x64_S2048x6144 (ix2 k n)
      = a3 (ix4 k ⟨n / 2048, by omega⟩ ⟨n / 64 % 32, Nat.mod_lt _ (by decide)⟩ ⟨n % 64, Nat.mod_lt _ (by decide)⟩) := by
  pointwise

/-- The biases as one row. -/
theorem bias_eq (a4 : Vec Ideal S3x32x64 .f32) (n : Fin 6144) :
    shapeCast S6144 a4 shapeCasts_S3x32x64_S6144 (ix1 n)
      = a4 (ix3 ⟨n / 2048, by omega⟩ ⟨n / 64 % 32, Nat.mod_lt _ (by decide)⟩ ⟨n % 64, Nat.mod_lt _ (by decide)⟩) := by
  pointwise

/-- The projection, from normalised rows, one matrix of weights and one row of biases. -/
def projected (N : FVec Ideal S3072x2048 .bf16) (W : FVec Ideal S2048x6144 .bf16) (b : FVec Ideal S6144 .f32) :
    FVec Ideal S3072x6144 .bf16 :=
  truncf .bf16 (addf (Host.dotGeneral dot_S3072x2048_S2048x6144_S3072x6144_1_0_0_1_n_n none N W)
    (broadcastInDim S3072x6144 ![0, 1] bcast_S1x6144_S3072x6144_0_1 (broadcastInDim S1x6144 ![1] bcast_S6144_S1x6144_1 b)))
    bitsLt_bf16_f32

/-- An entry of the projected rows: the row times the column, plus the column's bias. -/
theorem projected_eq (N : FVec Ideal S3072x2048 .bf16) (W : FVec Ideal S2048x6144 .bf16) (b : FVec Ideal S6144 .f32)
    (r : Fin 3072) (n : Fin 6144) :
    projected N W b (ix2 r n) = (∑ k : Fin 2048, N (ix2 r k) * W (ix2 k n) + b (ix1 n) : EReal) := by
  pointwise [projected]

/-- The reference's whole result is the projection's array. -/
theorem result_eq (a0 : Vec Ideal S192x16x2048 .bf16) (a1 a2 : Vec Ideal S2048 .f32) (a3 : Vec Ideal S2048x3x32x64 .bf16)
    (a4 : Vec Ideal S3x32x64 .f32) :
    projected (normed (rows a0) a1 a2) (shapeCast S2048x6144 a3 shapeCasts_S2048x3x32x64_S2048x6144)
      (shapeCast S6144 a4 shapeCasts_S3x32x64_S6144) = qkvArr a0 a1 a2 a3 a4 := by
  funext i
  obtain ⟨r, n, rfl⟩ : ∃ (r : Fin 3072) (n : Fin 6144), i = ix2 r n := ⟨i 0, i 1, eq_ix2 i⟩
  rw [projected_eq]
  unfold qkvArr proj
  simp only [ix2_0, ix2_1, normed_eq, rows_eq]
  exact congrArg₂ (· + ·) (Finset.sum_congr rfl fun k _ => congrArg _ (weight_eq a3 k n)) (bias_eq a4 n)

/-- The reference's run: its result is the projection of its arguments, which are left as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = qkvArr (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun r h c => ⟨(h c).1.trans (result_eq _ _ _ _ _), (h c).2⟩) (Value.run m ρ)

end Cert.QkvReferenceIdeal.Hand
-- ==== Proof.RollSpec.lean ====
/-
  The mathematics of a cache roll over the extended reals: the int8 quantiser of a head's 64 numbers, and the cache whose
  last 16 frames are the quantised new ones.
-/
module

public import Idealize.ShloMosaic.Lib.Pointwise
public import Idealize.ShloMosaic.PureOps.Ideal

@[expose] public section

noncomputable section

namespace Cert.Roll

open Idealize.ShloMosaic

/-- The greatest absolute value of 64 numbers. -/
def amax (w : Fin 64 → EReal) : EReal :=
  Finset.univ.fold max (Ideal.ofBits .f32 0xFF800000#32) fun k => FloatOps.absf (F := Ideal) (φ := .f32) (w k)

/-- The quantiser's scale: the greatest absolute value over 127, or 1 where that is 0. -/
def scale (w : Fin 64 → EReal) : EReal :=
  if amax w = 0 then 1 else Ideal.div (amax w) (Ideal.ofBits .f32 0x42FE0000#32)

/-- The quantiser's code of number `k`: that number over the scale, rounded half to even, held within ±127. -/
def code (w : Fin 64 → EReal) (k : Fin 64) : BitVec 8 :=
  FloatOps.fptosi (F := Ideal) (φ := .f32) 8 (min (Ideal.ofBits .f32 0x42FE0000#32) (max (Ideal.ofBits .f32 0xC2FE0000#32)
    (Ideal.liftRound Ideal.roundHalfEven (Ideal.div (w k) (scale w)))))

/-- The 64 numbers of head `h` of frame `s` of stream `b` in the projection: the head's query (part 0), key (1) or value
    (2). -/
def head (part : Fin 3) (a0 : Vec Ideal ⟨2, ![3072, 6144]⟩ .bf16) (b : Fin 192) (s : Fin 16) (h : Fin 32) (k : Fin 64) :
    EReal :=
  a0 (ix2 ⟨b * 16 + s, by omega⟩ ⟨part * 2048 + h * 64 + k, by omega⟩)

/-- A code of the rolled cache: of the cache 16 frames later below frame 54, of the new frames from there on. -/
def newCode (part : Fin 3) (a0 : Vec Ideal ⟨2, ![3072, 6144]⟩ .bf16) (a1 : Vec Ideal ⟨4, ![192, 70, 32, 64]⟩ .i8)
    (b : Fin 192) (p : Fin 70) (h : Fin 32) (k : Fin 64) : BitVec 8 :=
  if hp : (p : ℕ) < 54 then a1 (ix4 b ⟨p + 16, by omega⟩ h k) else code (head part a0 b ⟨p - 54, by omega⟩ h) k

/-- A scale of the rolled cache: of the cache 16 frames later below frame 54, of the new frames from there on. -/
def newScale (part : Fin 3) (a0 : Vec Ideal ⟨2, ![3072, 6144]⟩ .bf16) (a2 : Vec Ideal ⟨3, ![192, 70, 32]⟩ .f32)
    (b : Fin 192) (p : Fin 70) (h : Fin 32) : EReal :=
  if hp : (p : ℕ) < 54 then a2 (ix3 b ⟨p + 16, by omega⟩ h) else scale (head part a0 b ⟨p - 54, by omega⟩ h)

/-- The codes of the rolled cache. -/
def newCodes (part : Fin 3) (a0 : Vec Ideal ⟨2, ![3072, 6144]⟩ .bf16) (a1 : Vec Ideal ⟨4, ![192, 70, 32, 64]⟩ .i8) :
    Vec Ideal ⟨4, ![192, 70, 32, 64]⟩ .i8 := fun i => newCode part a0 a1 (i 0) (i 1) (i 2) (i 3)

/-- The scales of the rolled cache. -/
def newScales (part : Fin 3) (a0 : Vec Ideal ⟨2, ![3072, 6144]⟩ .bf16) (a2 : Vec Ideal ⟨3, ![192, 70, 32]⟩ .f32) :
    Vec Ideal ⟨3, ![192, 70, 32]⟩ .f32 := fun i => newScale part a0 a2 (i 0) (i 1) (i 2)

end Cert.Roll
-- ==== Proof.RollKBlock.lean ====
/-
  The blocks that the kernel of a cache roll leaves: a copy of the cache's later frames and 256 quantised tiles.
-/
module

public import proofs.«01_k».proof.Proof.RollSpec
public import proofs.«01_k».proof.Proof.Gen.RollKIdeal.Frame
public import Idealize.ShloMosaic.Lib.Claim
public import Idealize.ShloMosaic.Lib.Pipeline.ValueKit
public import Idealize.ShloMosaic.Lib.Pipeline.ReadBack

@[expose] public section

set_option maxRecDepth 16384

noncomputable section

namespace Cert.RollKIdeal.Hand

open Cert.RollKIdeal Cert.RollKIdeal.Gen Cert.Roll Idealize.ShloMosaic Idealize.ShloMosaic.TcCoe
  Idealize.SL.Sem

/-- The block of codes, from the blocks of the new frames and of the cache. -/
def codesBlock (x0 : Vec Ideal S192x16x512 .bf16) (x1 : Vec Ideal S70x512x192 .i8) (y : S70x512x192.Idx) : BitVec 8 :=
  if h : (y 0 : ℕ) < 54 then x1 (ix3 ⟨y 0 + 16, by omega⟩ (y 1) (y 2))
  else code (fun k => x0 (ix3 (y 2) ⟨y 0 - 54, by have := (y 0).isLt; change (y 0 : ℕ) < 70 at this; omega⟩
    ⟨(y 1 : ℕ) / 64 * 64 + k, by have := (y 1).isLt; change (y 1 : ℕ) < 512 at this; omega⟩))
    ⟨(y 1 : ℕ) % 64, Nat.mod_lt _ (by decide)⟩

/-- The block of scales, from the blocks of the new frames and of the cache. -/
def scalesBlock (x0 : Vec Ideal S192x16x512 .bf16) (x2 : Vec Ideal S70x8x192 .f32) (y : S70x8x192.Idx) : EReal :=
  if h : (y 0 : ℕ) < 54 then x2 (ix3 ⟨y 0 + 16, by omega⟩ (y 1) (y 2))
  else scale (fun k => x0 (ix3 (y 2) ⟨y 0 - 54, by have := (y 0).isLt; change (y 0 : ℕ) < 70 at this; omega⟩
    ⟨(y 1 : ℕ) * 64 + k, by have := (y 1).isLt; change (y 1 : ℕ) < 8 at this; omega⟩))

/-- The tile of 128 streams, channels down the rows. -/
def turned128 (v : Vec Ideal S128x1x128 .bf16) : FVec Ideal S128x128 .f32 :=
  transpose S128x128 [1, 0] (extf .f32 (shapeCast S128x128 v shapeCasts_S128x1x128_S128x128) bitsLt_bf16_f32)
    transposes_S128x128_p1_0_S128x128

/-- The scales of a head of 128 streams, as the kernel takes them. -/
def scaleRow128 (u : FVec Ideal S64x128 .f32) : FVec Ideal S1x128 .f32 :=
  have a : FVec Ideal S1x128 .f32 := shapeCast S1x128 (multiReduction .maximumf [0] S128 (absf u) 0xFF800000#32
    reduces_S64x128_S128 (.inl rfl) rfl) shapeCasts_S128_S1x128
  select (cmpf .oeq a (broadcast S1x128 (Scalar.ofBits .f32 0x00000000#32)))
    (broadcast S1x128 (Scalar.ofBits .f32 0x3F800000#32)) (divf a (broadcast S1x128 (Scalar.ofBits .f32 0x42FE0000#32)))

/-- The codes of a head of 128 streams, as the kernel stores them. -/
def codes128 (u : FVec Ideal S64x128 .f32) : IVec S1x64x128 8 :=
  shapeCast S1x64x128 (fptosi 8 (minimumf (broadcast S64x128 (Scalar.ofBits .f32 0x42FE0000#32))
    (maximumf (broadcast S64x128 (Scalar.ofBits .f32 0xC2FE0000#32))
      (roundeven (divf u (broadcastTo S64x128 (scaleRow128 u) broadcasts_S1x128_S64x128))))))
    shapeCasts_S64x128_S1x64x128

/-- The scales of a head of 128 streams, as the kernel stores them. -/
def scales128 (u : FVec Ideal S64x128 .f32) : FVec Ideal S1x1x128 .f32 :=
  shapeCast S1x1x128 (scaleRow128 u) shapeCasts_S1x128_S1x1x128

/-- An entry of a tile's head. -/
theorem head128_eq (v : Vec Ideal S128x1x128 .bf16) (o : ℕ) (ho : o + 64 ≤ 128) (hs) (k : Fin 64) (n : Fin 128) :
    extractStridedSlice S64x128 ![o, 0] (turned128 v) hs (ix2 k n) = v (ix3 n 0 ⟨o + k, by omega⟩) := by
  pointwise [turned128]

/-- A head's scales. -/
theorem scaleRow128_eq (u : FVec Ideal S64x128 .f32) (n : Fin 128) :
    scaleRow128 u (ix2 0 n) = scale fun k => u (ix2 k n) := by
  pointwise [scaleRow128]
  rfl

/-- A head's codes. -/
theorem codes128_eq (u : FVec Ideal S64x128 .f32) (k : Fin 64) (n : Fin 128) :
    codes128 u (ix3 0 k n) = code (fun k => u (ix2 k n)) k := by
  pointwise [codes128]
  rw [scaleRow128_eq]
  rfl

/-- A head's scales, as stored. -/
theorem scales128_eq (u : FVec Ideal S64x128 .f32) (n : Fin 128) :
    scales128 u (ix3 0 0 n) = scale fun k => u (ix2 k n) := by
  pointwise [scales128]
  rw [scaleRow128_eq]

/-- The tile of 64 streams, channels down the rows. -/
def turned64 (v : Vec Ideal S64x1x128 .bf16) : FVec Ideal S128x64 .f32 :=
  transpose S128x64 [1, 0] (extf .f32 (shapeCast S64x128 v shapeCasts_S64x1x128_S64x128) bitsLt_bf16_f32)
    transposes_S64x128_p1_0_S128x64

/-- The scales of a head of 64 streams, as the kernel takes them. -/
def scaleRow64 (u : FVec Ideal S64x64 .f32) : FVec Ideal S1x64 .f32 :=
  have a : FVec Ideal S1x64 .f32 := shapeCast S1x64 (multiReduction .maximumf [0] S64 (absf u) 0xFF800000#32
    reduces_S64x64_S64 (.inl rfl) rfl) shapeCasts_S64_S1x64
  select (cmpf .oeq a (broadcast S1x64 (Scalar.ofBits .f32 0x00000000#32)))
    (broadcast S1x64 (Scalar.ofBits .f32 0x3F800000#32)) (divf a (broadcast S1x64 (Scalar.ofBits .f32 0x42FE0000#32)))

/-- The codes of a head of 64 streams, as the kernel stores them. -/
def codes64 (u : FVec Ideal S64x64 .f32) : IVec S1x64x64 8 :=
  shapeCast S1x64x64 (fptosi 8 (minimumf (broadcast S64x64 (Scalar.ofBits .f32 0x42FE0000#32))
    (maximumf (broadcast S64x64 (Scalar.ofBits .f32 0xC2FE0000#32))
      (roundeven (divf u (broadcastTo S64x64 (scaleRow64 u) broadcasts_S1x64_S64x64))))))
    shapeCasts_S64x64_S1x64x64

/-- The scales of a head of 64 streams, as the kernel stores them. -/
def scales64 (u : FVec Ideal S64x64 .f32) : FVec Ideal S1x1x64 .f32 :=
  shapeCast S1x1x64 (scaleRow64 u) shapeCasts_S1x64_S1x1x64

/-- An entry of a tile's head. -/
theorem head64_eq (v : Vec Ideal S64x1x128 .bf16) (o : ℕ) (ho : o + 64 ≤ 128) (hs) (k : Fin 64) (n : Fin 64) :
    extractStridedSlice S64x64 ![o, 0] (turned64 v) hs (ix2 k n) = v (ix3 n 0 ⟨o + k, by omega⟩) := by
  pointwise [turned64]

/-- A head's scales. -/
theorem scaleRow64_eq (u : FVec Ideal S64x64 .f32) (n : Fin 64) :
    scaleRow64 u (ix2 0 n) = scale fun k => u (ix2 k n) := by
  pointwise [scaleRow64]
  rfl

/-- A head's codes. -/
theorem codes64_eq (u : FVec Ideal S64x64 .f32) (k : Fin 64) (n : Fin 64) :
    codes64 u (ix3 0 k n) = code (fun k => u (ix2 k n)) k := by
  pointwise [codes64]
  rw [scaleRow64_eq]
  rfl

/-- A head's scales, as stored. -/
theorem scales64_eq (u : FVec Ideal S64x64 .f32) (n : Fin 64) :
    scales64 u (ix3 0 0 n) = scale fun k => u (ix2 k n) := by
  pointwise [scales64]
  rw [scaleRow64_eq]

end Cert.RollKIdeal.Hand
-- ==== Proof.RollKPieces.lean ====
/-
  Every store of the kernel of a cache roll is a block of what its output holds in the end.
-/
module

public import proofs.«01_k».proof.Proof.RollKBlock
public import Idealize.ShloMosaic.Lib.WholeRead

@[expose] public section

set_option maxRecDepth 16384

noncomputable section

namespace Cert.RollKIdeal.Hand

open Cert.RollKIdeal Cert.RollKIdeal.Gen Cert.Roll Idealize.ShloMosaic Idealize.ShloMosaic.TcCoe
  Idealize.SL.Sem

variable (c : Dev nD) (i : grid0.Coords) (arg1 : Memref sig .tc .vmem S192x16x512 .bf16) (harg1 : arg1.IsWhole)
  (arg2 : Memref sig .tc .vmem S70x512x192 .i8) (harg2 : arg2.IsWhole)
  (arg3 : Memref sig .tc .vmem S70x8x192 .f32) (harg3 : arg3.IsWhole)
  (arg4 : Memref sig .tc .vmem S70x512x192 .i8) (harg4 : arg4.IsWhole)
  (arg5 : Memref sig .tc .vmem S70x8x192 .f32) (harg5 : arg5.IsWhole)
  (x0 : Vec Ideal S192x16x512 .bf16) (x1 : Vec Ideal S70x512x192 .i8) (x2 : Vec Ideal S70x8x192 .f32)

/-- A head of a tile, read from the staged frames: 128 streams from `b` on, frame `s`, 64 channels from `c + o` on. -/
theorem tile128_eq (b s c o : ℕ) (inb) (hs) (hb : b + 128 ≤ 192) (hc : c + o + 64 ≤ 512) (ho : o + 64 ≤ 128) (hs' : s < 16)
    (k : Fin 64) (n : Fin 128) :
    extractStridedSlice S64x128 ![o, 0] (turned128 (View.readAt (Elt Ideal) arg1.view
      (Rect.unit (s := S192x16x512) ![b, s, c] S128x1x128.size inb).toLoadRect (harg1.unread x0))) hs (ix2 k n)
      = x0 (ix3 ⟨b + n, by omega⟩ ⟨s, hs'⟩ ⟨c + o + k, by omega⟩) := by
  rw [head128_eq _ o ho, View.readAt_eq_ld, harg1.read_unread]
  pointwise
  simp only [Nat.add_assoc]

/-- The store of a tile's head's codes is a block of `codesBlock`. -/
theorem codes_piece128 (r q b s c o : ℕ) (inb inb') (hs)
    (L : List (View.Piece (Elt Ideal) S70x512x192 .i8))
    (h : r = 54 + s ∧ q = c + o ∧ q % 64 = 0 ∧ q + 64 ≤ 512 ∧ b + 128 ≤ 192 ∧ o + 64 ≤ 128 ∧ s < 16)
    (hL : View.PiecesOf (codesBlock x0 x1) L) :
    View.PiecesOf (codesBlock x0 x1) (⟨Rect.unit (s := S70x512x192) ![r, q, b] S1x64x128.size inb,
      codes128 (extractStridedSlice S64x128 ![o, 0] (turned128 (View.readAt (Elt Ideal) arg1.view
        (Rect.unit (s := S192x16x512) ![b, s, c] S128x1x128.size inb').toLoadRect (harg1.unread x0))) hs)⟩ :: L) := by
  obtain ⟨rfl, rfl, hq, hq', hb, ho, hs'⟩ := h
  refine ⟨fun x => ?_, hL⟩
  change S1x64x128.Idx at x
  obtain ⟨z, k, n, rfl⟩ : ∃ (z : Fin 1) (k : Fin 64) (n : Fin 128), x = ix3 z k n := ⟨x 0, x 1, x 2, eq_ix3 x⟩
  obtain rfl : z = 0 := Subsingleton.elim _ _
  show codes128 _ (ix3 0 k n) = codesBlock x0 x1 ((Rect.unit (s := S70x512x192) ![54 + s, c + o, b] S1x64x128.size inb).emb
    (ix3 0 k n))
  have e0 : ((Rect.unit (s := S70x512x192) ![54 + s, c + o, b] S1x64x128.size inb).emb (ix3 0 k n)) 0
      = (⟨54 + s, by omega⟩ : Fin 70) := Fin.ext (by simp [Rect.emb, LoadRect.idx, Rect.unit])
  have e1 : ((Rect.unit (s := S70x512x192) ![54 + s, c + o, b] S1x64x128.size inb).emb (ix3 0 k n)) 1
      = (⟨c + o + k, by omega⟩ : Fin 512) := Fin.ext (by simp [Rect.emb, LoadRect.idx, Rect.unit])
  have e2 : ((Rect.unit (s := S70x512x192) ![54 + s, c + o, b] S1x64x128.size inb).emb (ix3 0 k n)) 2
      = (⟨b + n, by omega⟩ : Fin 192) := Fin.ext (by simp [Rect.emb, LoadRect.idx, Rect.unit])
  rw [codes128_eq]
  unfold codesBlock
  rw [dif_neg (by rw [e0]; simp)]
  simp only [tile128_eq arg1 harg1 x0 b s c o inb' hs hb hq' ho hs', e0, e1, e2]
  congr 1
  · funext k'
    congr 2 <;> exact Fin.ext (by simp; try omega)
  · exact Fin.ext (by simp; omega)

/-- The store of a tile's head's scales is a block of `scalesBlock`. -/
theorem scales_piece128 (r q b s c o : ℕ) (inb inb') (hs)
    (L : List (View.Piece (Elt Ideal) S70x8x192 .f32))
    (h : r = 54 + s ∧ q * 64 = c + o ∧ q < 8 ∧ b + 128 ≤ 192 ∧ o + 64 ≤ 128 ∧ s < 16)
    (hL : View.PiecesOf (scalesBlock x0 x2) L) :
    View.PiecesOf (scalesBlock x0 x2) (⟨Rect.unit (s := S70x8x192) ![r, q, b] S1x1x128.size inb,
      scales128 (extractStridedSlice S64x128 ![o, 0] (turned128 (View.readAt (Elt Ideal) arg1.view
        (Rect.unit (s := S192x16x512) ![b, s, c] S128x1x128.size inb').toLoadRect (harg1.unread x0))) hs)⟩ :: L) := by
  obtain ⟨rfl, hq, hq', hb, ho, hs'⟩ := h
  refine ⟨fun x => ?_, hL⟩
  change S1x1x128.Idx at x
  obtain ⟨z, z', n, rfl⟩ : ∃ (z z' : Fin 1) (n : Fin 128), x = ix3 z z' n := ⟨x 0, x 1, x 2, eq_ix3 x⟩
  obtain rfl : z = 0 := Subsingleton.elim _ _
  obtain rfl : z' = 0 := Subsingleton.elim _ _
  show scales128 _ (ix3 0 0 n) = scalesBlock x0 x2 ((Rect.unit (s := S70x8x192) ![54 + s, q, b] S1x1x128.size inb).emb
    (ix3 0 0 n))
  have e0 : ((Rect.unit (s := S70x8x192) ![54 + s, q, b] S1x1x128.size inb).emb (ix3 0 0 n)) 0
      = (⟨54 + s, by omega⟩ : Fin 70) := Fin.ext (by simp [Rect.emb, LoadRect.idx, Rect.unit])
  have e1 : ((Rect.unit (s := S70x8x192) ![54 + s, q, b] S1x1x128.size inb).emb (ix3 0 0 n)) 1
      = (⟨q, by omega⟩ : Fin 8) := Fin.ext (by simp [Rect.emb, LoadRect.idx, Rect.unit])
  have e2 : ((Rect.unit (s := S70x8x192) ![54 + s, q, b] S1x1x128.size inb).emb (ix3 0 0 n)) 2
      = (⟨b + n, by omega⟩ : Fin 192) := Fin.ext (by simp [Rect.emb, LoadRect.idx, Rect.unit])
  rw [scales128_eq]
  unfold scalesBlock
  rw [dif_neg (by rw [e0]; simp)]
  simp only [tile128_eq arg1 harg1 x0 b s c o inb' hs hb (by omega) ho hs', e0, e1, e2]
  congr 1
  funext k'
  congr 2 <;> exact Fin.ext (by simp; try omega)

/-- A head of a tile, read from the staged frames: 64 streams from `b` on, frame `s`, 64 channels from `c + o` on. -/
theorem tile64_eq (b s c o : ℕ) (inb) (hs) (hb : b + 64 ≤ 192) (hc : c + o + 64 ≤ 512) (ho : o + 64 ≤ 128) (hs' : s < 16)
    (k : Fin 64) (n : Fin 64) :
    extractStridedSlice S64x64 ![o, 0] (turned64 (View.readAt (Elt Ideal) arg1.view
      (Rect.unit (s := S192x16x512) ![b, s, c] S64x1x128.size inb).toLoadRect (harg1.unread x0))) hs (ix2 k n)
      = x0 (ix3 ⟨b + n, by omega⟩ ⟨s, hs'⟩ ⟨c + o + k, by omega⟩) := by
  rw [head64_eq _ o ho, View.readAt_eq_ld, harg1.read_unread]
  pointwise
  simp only [Nat.add_assoc]

/-- The store of a tile's head's codes is a block of `codesBlock`. -/
theorem codes_piece64 (r q b s c o : ℕ) (inb inb') (hs)
    (L : List (View.Piece (Elt Ideal) S70x512x192 .i8))
    (h : r = 54 + s ∧ q = c + o ∧ q % 64 = 0 ∧ q + 64 ≤ 512 ∧ b + 64 ≤ 192 ∧ o + 64 ≤ 128 ∧ s < 16)
    (hL : View.PiecesOf (codesBlock x0 x1) L) :
    View.PiecesOf (codesBlock x0 x1) (⟨Rect.unit (s := S70x512x192) ![r, q, b] S1x64x64.size inb,
      codes64 (extractStridedSlice S64x64 ![o, 0] (turned64 (View.readAt (Elt Ideal) arg1.view
        (Rect.unit (s := S192x16x512) ![b, s, c] S64x1x128.size inb').toLoadRect (harg1.unread x0))) hs)⟩ :: L) := by
  obtain ⟨rfl, rfl, hq, hq', hb, ho, hs'⟩ := h
  refine ⟨fun x => ?_, hL⟩
  change S1x64x64.Idx at x
  obtain ⟨z, k, n, rfl⟩ : ∃ (z : Fin 1) (k : Fin 64) (n : Fin 64), x = ix3 z k n := ⟨x 0, x 1, x 2, eq_ix3 x⟩
  obtain rfl : z = 0 := Subsingleton.elim _ _
  show codes64 _ (ix3 0 k n) = codesBlock x0 x1 ((Rect.unit (s := S70x512x192) ![54 + s, c + o, b] S1x64x64.size inb).emb
    (ix3 0 k n))
  have e0 : ((Rect.unit (s := S70x512x192) ![54 + s, c + o, b] S1x64x64.size inb).emb (ix3 0 k n)) 0
      = (⟨54 + s, by omega⟩ : Fin 70) := Fin.ext (by simp [Rect.emb, LoadRect.idx, Rect.unit])
  have e1 : ((Rect.unit (s := S70x512x192) ![54 + s, c + o, b] S1x64x64.size inb).emb (ix3 0 k n)) 1
      = (⟨c + o + k, by omega⟩ : Fin 512) := Fin.ext (by simp [Rect.emb, LoadRect.idx, Rect.unit])
  have e2 : ((Rect.unit (s := S70x512x192) ![54 + s, c + o, b] S1x64x64.size inb).emb (ix3 0 k n)) 2
      = (⟨b + n, by omega⟩ : Fin 192) := Fin.ext (by simp [Rect.emb, LoadRect.idx, Rect.unit])
  rw [codes64_eq]
  unfold codesBlock
  rw [dif_neg (by rw [e0]; simp)]
  simp only [tile64_eq arg1 harg1 x0 b s c o inb' hs hb hq' ho hs', e0, e1, e2]
  congr 1
  · funext k'
    congr 2 <;> exact Fin.ext (by simp; try omega)
  · exact Fin.ext (by simp; omega)

/-- The store of a tile's head's scales is a block of `scalesBlock`. -/
theorem scales_piece64 (r q b s c o : ℕ) (inb inb') (hs)
    (L : List (View.Piece (Elt Ideal) S70x8x192 .f32))
    (h : r = 54 + s ∧ q * 64 = c + o ∧ q < 8 ∧ b + 64 ≤ 192 ∧ o + 64 ≤ 128 ∧ s < 16)
    (hL : View.PiecesOf (scalesBlock x0 x2) L) :
    View.PiecesOf (scalesBlock x0 x2) (⟨Rect.unit (s := S70x8x192) ![r, q, b] S1x1x64.size inb,
      scales64 (extractStridedSlice S64x64 ![o, 0] (turned64 (View.readAt (Elt Ideal) arg1.view
        (Rect.unit (s := S192x16x512) ![b, s, c] S64x1x128.size inb').toLoadRect (harg1.unread x0))) hs)⟩ :: L) := by
  obtain ⟨rfl, hq, hq', hb, ho, hs'⟩ := h
  refine ⟨fun x => ?_, hL⟩
  change S1x1x64.Idx at x
  obtain ⟨z, z', n, rfl⟩ : ∃ (z z' : Fin 1) (n : Fin 64), x = ix3 z z' n := ⟨x 0, x 1, x 2, eq_ix3 x⟩
  obtain rfl : z = 0 := Subsingleton.elim _ _
  obtain rfl : z' = 0 := Subsingleton.elim _ _
  show scales64 _ (ix3 0 0 n) = scalesBlock x0 x2 ((Rect.unit (s := S70x8x192) ![54 + s, q, b] S1x1x64.size inb).emb
    (ix3 0 0 n))
  have e0 : ((Rect.unit (s := S70x8x192) ![54 + s, q, b] S1x1x64.size inb).emb (ix3 0 0 n)) 0
      = (⟨54 + s, by omega⟩ : Fin 70) := Fin.ext (by simp [Rect.emb, LoadRect.idx, Rect.unit])
  have e1 : ((Rect.unit (s := S70x8x192) ![54 + s, q, b] S1x1x64.size inb).emb (ix3 0 0 n)) 1
      = (⟨q, by omega⟩ : Fin 8) := Fin.ext (by simp [Rect.emb, LoadRect.idx, Rect.unit])
  have e2 : ((Rect.unit (s := S70x8x192) ![54 + s, q, b] S1x1x64.size inb).emb (ix3 0 0 n)) 2
      = (⟨b + n, by omega⟩ : Fin 192) := Fin.ext (by simp [Rect.emb, LoadRect.idx, Rect.unit])
  rw [scales64_eq]
  unfold scalesBlock
  rw [dif_neg (by rw [e0]; simp)]
  simp only [tile64_eq arg1 harg1 x0 b s c o inb' hs hb (by omega) ho hs', e0, e1, e2]
  congr 1
  funext k'
  congr 2 <;> exact Fin.ext (by simp; try omega)

/-- The copy of the cache's later codes is a block of `codesBlock`. -/
theorem codes_copy (inb inb') :
    View.PiecesOf (codesBlock x0 x1) ([⟨Rect.unit (s := S70x512x192) ![0, 0, 0] S54x512x192.size inb,
      k0_pay3 (F := Ideal) (View.readAt (Elt Ideal) arg2.view
        (Rect.unit (s := S70x512x192) ![16, 0, 0] S54x512x192.size inb').toLoadRect (harg2.unread x1))⟩] :
      List (View.Piece (Elt Ideal) S70x512x192 .i8)) := by
  refine ⟨fun x => ?_, trivial⟩
  change S54x512x192.Idx at x
  obtain ⟨p, d, b, rfl⟩ : ∃ (p : Fin 54) (d : Fin 512) (b : Fin 192), x = ix3 p d b := ⟨x 0, x 1, x 2, eq_ix3 x⟩
  show k0_pay3 (F := Ideal) (View.readAt (Elt Ideal) arg2.view
        (Rect.unit (s := S70x512x192) ![16, 0, 0] S54x512x192.size inb').toLoadRect (harg2.unread x1)) (ix3 p d b)
    = codesBlock x0 x1 ((Rect.unit (s := S70x512x192) ![0, 0, 0] S54x512x192.size inb).emb (ix3 p d b))
  have e : (Rect.unit (s := S70x512x192) ![0, 0, 0] S54x512x192.size inb).emb (ix3 p d b)
      = ix3 ⟨p, by omega⟩ d b := by
    blk_ext
  rw [e, View.readAt_eq_ld, harg2.read_unread]
  unfold codesBlock
  rw [dif_pos (by show (p : ℕ) < 54; exact p.isLt)]
  pointwise [k0_pay3]
  simp only [Nat.add_comm]

/-- The copy of the cache's later scales is a block of `scalesBlock`. -/
theorem scales_copy (inb inb') :
    View.PiecesOf (scalesBlock x0 x2) ([⟨Rect.unit (s := S70x8x192) ![0, 0, 0] S54x8x192.size inb,
      k0_pay4 (F := Ideal) (View.readAt (Elt Ideal) arg3.view
        (Rect.unit (s := S70x8x192) ![16, 0, 0] S54x8x192.size inb').toLoadRect (harg3.unread x2))⟩] :
      List (View.Piece (Elt Ideal) S70x8x192 .f32)) := by
  refine ⟨fun x => ?_, trivial⟩
  change S54x8x192.Idx at x
  obtain ⟨p, d, b, rfl⟩ : ∃ (p : Fin 54) (d : Fin 8) (b : Fin 192), x = ix3 p d b := ⟨x 0, x 1, x 2, eq_ix3 x⟩
  show k0_pay4 (F := Ideal) (View.readAt (Elt Ideal) arg3.view
        (Rect.unit (s := S70x8x192) ![16, 0, 0] S54x8x192.size inb').toLoadRect (harg3.unread x2)) (ix3 p d b)
    = scalesBlock x0 x2 ((Rect.unit (s := S70x8x192) ![0, 0, 0] S54x8x192.size inb).emb (ix3 p d b))
  have e : (Rect.unit (s := S70x8x192) ![0, 0, 0] S54x8x192.size inb).emb (ix3 p d b)
      = ix3 ⟨p, by omega⟩ d b := by
    blk_ext
  rw [e, View.readAt_eq_ld, harg3.read_unread]
  unfold scalesBlock
  rw [dif_pos (by show (p : ℕ) < 54; exact p.isLt)]
  pointwise [k0_pay4]
  simp only [Nat.add_comm]

end Cert.RollKIdeal.Hand
-- ==== Proof.RollKOut.lean ====
/-
  What the kernel of a cache roll leaves in its two output blocks.
-/
module

public import proofs.«01_k».proof.Proof.RollKPieces

@[expose] public section

set_option maxRecDepth 16384
set_option pp.maxSteps 300

noncomputable section

namespace Cert.RollKIdeal.Hand

open Cert.RollKIdeal Cert.RollKIdeal.Gen Cert.Roll Idealize.ShloMosaic Idealize.ShloMosaic.TcCoe
  Idealize.SL.Sem

variable (c : Dev nD) (i : grid0.Coords) (arg1 : Memref sig .tc .vmem S192x16x512 .bf16) (harg1 : arg1.IsWhole)
  (arg2 : Memref sig .tc .vmem S70x512x192 .i8) (harg2 : arg2.IsWhole)
  (arg3 : Memref sig .tc .vmem S70x8x192 .f32) (harg3 : arg3.IsWhole)
  (arg4 : Memref sig .tc .vmem S70x512x192 .i8) (harg4 : arg4.IsWhole)
  (arg5 : Memref sig .tc .vmem S70x8x192 .f32) (harg5 : arg5.IsWhole)
  (x0 : Vec Ideal S192x16x512 .bf16) (x1 : Vec Ideal S70x512x192 .i8) (x2 : Vec Ideal S70x8x192 .f32)

/-- The 257 stores of codes are blocks of `codesBlock`. -/
theorem pieces_codes : View.PiecesOf (codesBlock x0 x1) (kernelRun0_A (F := Ideal) c i arg1 harg1 arg2 harg2 arg3 harg3
    arg4 harg4 arg5 harg5 x0 x1 x2).1 := by
  unfold kernelRun0_A
  dsimp only
  refine codes_piece64 arg1 harg1 x0 x1 69 448 128 15 384 64 _ inb_S192x16x512_S64x1x128_128_15_384 slices_S128x64_o64_0_S64x64 _ (by decide) ?_
  refine codes_piece64 arg1 harg1 x0 x1 69 384 128 15 384 0 _ inb_S192x16x512_S64x1x128_128_15_384 slices_S128x64_o0_0_S64x64 _ (by decide) ?_
  refine codes_piece64 arg1 harg1 x0 x1 69 320 128 15 256 64 _ inb_S192x16x512_S64x1x128_128_15_256 slices_S128x64_o64_0_S64x64 _ (by decide) ?_
  refine codes_piece64 arg1 harg1 x0 x1 69 256 128 15 256 0 _ inb_S192x16x512_S64x1x128_128_15_256 slices_S128x64_o0_0_S64x64 _ (by decide) ?_
  refine codes_piece64 arg1 harg1 x0 x1 69 192 128 15 128 64 _ inb_S192x16x512_S64x1x128_128_15_128 slices_S128x64_o64_0_S64x64 _ (by decide) ?_
  refine codes_piece64 arg1 harg1 x0 x1 69 128 128 15 128 0 _ inb_S192x16x512_S64x1x128_128_15_128 slices_S128x64_o0_0_S64x64 _ (by decide) ?_
  refine codes_piece64 arg1 harg1 x0 x1 69 64 128 15 0 64 _ inb_S192x16x512_S64x1x128_128_15_0 slices_S128x64_o64_0_S64x64 _ (by decide) ?_
  refine codes_piece64 arg1 harg1 x0 x1 69 0 128 15 0 0 _ inb_S192x16x512_S64x1x128_128_15_0 slices_S128x64_o0_0_S64x64 _ (by decide) ?_
  refine codes_piece128 arg1 harg1 x0 x1 69 448 0 15 384 64 _ inb_S192x16x512_S128x1x128_0_15_384 slices_S128x128_o64_0_S64x128 _ (by decide) ?_
  refine codes_piece128 arg1 harg1 x0 x1 69 384 0 15 384 0 _ inb_S192x16x512_S128x1x128_0_15_384 slices_S128x128_o0_0_S64x128 _ (by decide) ?_
  refine codes_piece128 arg1 harg1 x0 x1 69 320 0 15 256 64 _ inb_S192x16x512_S128x1x128_0_15_256 slices_S128x128_o64_0_S64x128 _ (by decide) ?_
  refine codes_piece128 arg1 harg1 x0 x1 69 256 0 15 256 0 _ inb_S192x16x512_S128x1x128_0_15_256 slices_S128x128_o0_0_S64x128 _ (by decide) ?_
  refine codes_piece128 arg1 harg1 x0 x1 69 192 0 15 128 64 _ inb_S192x16x512_S128x1x128_0_15_128 slices_S128x128_o64_0_S64x128 _ (by decide) ?_
  refine codes_piece128 arg1 harg1 x0 x1 69 128 0 15 128 0 _ inb_S192x16x512_S128x1x128_0_15_128 slices_S128x128_o0_0_S64x128 _ (by decide) ?_
  refine codes_piece128 arg1 harg1 x0 x1 69 64 0 15 0 64 _ inb_S192x16x512_S128x1x128_0_15_0 slices_S128x128_o64_0_S64x128 _ (by decide) ?_
  refine codes_piece128 arg1 harg1 x0 x1 69 0 0 15 0 0 _ inb_S192x16x512_S128x1x128_0_15_0 slices_S128x128_o0_0_S64x128 _ (by decide) ?_
  refine codes_piece64 arg1 harg1 x0 x1 68 448 128 14 384 64 _ inb_S192x16x512_S64x1x128_128_14_384 slices_S128x64_o64_0_S64x64 _ (by decide) ?_
  refine codes_piece64 arg1 harg1 x0 x1 68 384 128 14 384 0 _ inb_S192x16x512_S64x1x128_128_14_384 slices_S128x64_o0_0_S64x64 _ (by decide) ?_
  refine codes_piece64 arg1 harg1 x0 x1 68 320 128 14 256 64 _ inb_S192x16x512_S64x1x128_128_14_256 slices_S128x64_o64_0_S64x64 _ (by decide) ?_
  refine codes_piece64 arg1 harg1 x0 x1 68 256 128 14 256 0 _ inb_S192x16x512_S64x1x128_128_14_256 slices_S128x64_o0_0_S64x64 _ (by decide) ?_
  refine codes_piece64 arg1 harg1 x0 x1 68 192 128 14 128 64 _ inb_S192x16x512_S64x1x128_128_14_128 slices_S128x64_o64_0_S64x64 _ (by decide) ?_
  refine codes_piece64 arg1 harg1 x0 x1 68 128 128 14 128 0 _ inb_S192x16x512_S64x1x128_128_14_128 slices_S128x64_o0_0_S64x64 _ (by decide) ?_
  refine codes_piece64 arg1 harg1 x0 x1 68 64 128 14 0 64 _ inb_S192x16x512_S64x1x128_128_14_0 slices_S128x64_o64_0_S64x64 _ (by decide) ?_
  refine codes_piece64 arg1 harg1 x0 x1 68 0 128 14 0 0 _ inb_S192x16x512_S64x1x128_128_14_0 slices_S128x64_o0_0_S64x64 _ (by decide) ?_
  refine codes_piece128 arg1 harg1 x0 x1 68 448 0 14 384 64 _ inb_S192x16x512_S128x1x128_0_14_384 slices_S128x128_o64_0_S64x128 _ (by decide) ?_
  refine codes_piece128 arg1 harg1 x0 x1 68 384 0 14 384 0 _ inb_S192x16x512_S128x1x128_0_14_384 slices_S128x128_o0_0_S64x128 _ (by decide) ?_
  refine codes_piece128 arg1 harg1 x0 x1 68 320 0 14 256 64 _ inb_S192x16x512_S128x1x128_0_14_256 slices_S128x128_o64_0_S64x128 _ (by decide) ?_
  refine codes_piece128 arg1 harg1 x0 x1 68 256 0 14 256 0 _ inb_S192x16x512_S128x1x128_0_14_256 slices_S128x128_o0_0_S64x128 _ (by decide) ?_
  refine codes_piece128 arg1 harg1 x0 x1 68 192 0 14 128 64 _ inb_S192x16x512_S128x1x128_0_14_128 slices_S128x128_o64_0_S64x128 _ (by decide) ?_
  refine codes_piece128 arg1 harg1 x0 x1 68 128 0 14 128 0 _ inb_S192x16x512_S128x1x128_0_14_128 slices_S128x128_o0_0_S64x128 _ (by decide) ?_
  refine codes_piece128 arg1 harg1 x0 x1 68 64 0 14 0 64 _ inb_S192x16x512_S128x1x128_0_14_0 slices_S128x128_o64_0_S64x128 _ (by decide) ?_
  refine codes_piece128 arg1 harg1 x0 x1 68 0 0 14 0 0 _ inb_S192x16x512_S128x1x128_0_14_0 slices_S128x128_o0_0_S64x128 _ (by decide) ?_
  refine codes_piece64 arg1 harg1 x0 x1 67 448 128 13 384 64 _ inb_S192x16x512_S64x1x128_128_13_384 slices_S128x64_o64_0_S64x64 _ (by decide) ?_
  refine codes_piece64 arg1 harg1 x0 x1 67 384 128 13 384 0 _ inb_S192x16x512_S64x1x128_128_13_384 slices_S128x64_o0_0_S64x64 _ (by decide) ?_
  refine codes_piece64 arg1 harg1 x0 x1 67 320 128 13 256 64 _ inb_S192x16x512_S64x1x128_128_13_256 slices_S128x64_o64_0_S64x64 _ (by decide) ?_
  refine codes_piece64 arg1 harg1 x0 x1 67 256 128 13 256 0 _ inb_S192x16x512_S64x1x128_128_13_256 slices_S128x64_o0_0_S64x64 _ (by decide) ?_
  refine codes_piece64 arg1 harg1 x0 x1 67 192 128 13 128 64 _ inb_S192x16x512_S64x1x128_128_13_128 slices_S128x64_o64_0_S64x64 _ (by decide) ?_
  refine codes_piece64 arg1 harg1 x0 x1 67 128 128 13 128 0 _ inb_S192x16x512_S64x1x128_128_13_128 slices_S128x64_o0_0_S64x64 _ (by decide) ?_
  refine codes_piece64 arg1 harg1 x0 x1 67 64 128 13 0 64 _ inb_S192x16x512_S64x1x128_128_13_0 slices_S128x64_o64_0_S64x64 _ (by decide) ?_
  refine codes_piece64 arg1 harg1 x0 x1 67 0 128 13 0 0 _ inb_S192x16x512_S64x1x128_128_13_0 slices_S128x64_o0_0_S64x64 _ (by decide) ?_
  refine codes_piece128 arg1 harg1 x0 x1 67 448 0 13 384 64 _ inb_S192x16x512_S128x1x128_0_13_384 slices_S128x128_o64_0_S64x128 _ (by decide) ?_
  refine codes_piece128 arg1 harg1 x0 x1 67 384 0 13 384 0 _ inb_S192x16x512_S128x1x128_0_13_384 slices_S128x128_o0_0_S64x128 _ (by decide) ?_
  refine codes_piece128 arg1 harg1 x0 x1 67 320 0 13 256 64 _ inb_S192x16x512_S128x1x128_0_13_256 slices_S128x128_o64_0_S64x128 _ (by decide) ?_
  refine codes_piece128 arg1 harg1 x0 x1 67 256 0 13 256 0 _ inb_S192x16x512_S128x1x128_0_13_256 slices_S128x128_o0_0_S64x128 _ (by decide) ?_
  refine codes_piece128 arg1 harg1 x0 x1 67 192 0 13 128 64 _ inb_S192x16x512_S128x1x128_0_13_128 slices_S128x128_o64_0_S64x128 _ (by decide) ?_
  refine codes_piece128 arg1 harg1 x0 x1 67 128 0 13 128 0 _ inb_S192x16x512_S128x1x128_0_13_128 slices_S128x128_o0_0_S64x128 _ (by decide) ?_
  refine codes_piece128 arg1 harg1 x0 x1 67 64 0 13 0 64 _ inb_S192x16x512_S128x1x128_0_13_0 slices_S128x128_o64_0_S64x128 _ (by decide) ?_
  refine codes_piece128 arg1 harg1 x0 x1 67 0 0 13 0 0 _ inb_S192x16x512_S128x1x128_0_13_0 slices_S128x128_o0_0_S64x128 _ (by decide) ?_
  refine codes_piece64 arg1 harg1 x0 x1 66 448 128 12 384 64 _ inb_S192x16x512_S64x1x128_128_12_384 slices_S128x64_o64_0_S64x64 _ (by decide) ?_
  refine codes_piece64 arg1 harg1 x0 x1 66 384 128 12 384 0 _ inb_S192x16x512_S64x1x128_128_12_384 slices_S128x64_o0_0_S64x64 _ (by decide) ?_
  refine codes_piece64 arg1 harg1 x0 x1 66 320 128 12 256 64 _ inb_S192x16x512_S64x1x128_128_12_256 slices_S128x64_o64_0_S64x64 _ (by decide) ?_
  refine codes_piece64 arg1 harg1 x0 x1 66 256 128 12 256 0 _ inb_S192x16x512_S64x1x128_128_12_256 slices_S128x64_o0_0_S64x64 _ (by decide) ?_
  refine codes_piece64 arg1 harg1 x0 x1 66 192 128 12 128 64 _ inb_S192x16x512_S64x1x128_128_12_128 slices_S128x64_o64_0_S64x64 _ (by decide) ?_
  refine codes_piece64 arg1 harg1 x0 x1 66 128 128 12 128 0 _ inb_S192x16x512_S64x1x128_128_12_128 slices_S128x64_o0_0_S64x64 _ (by decide) ?_
  refine codes_piece64 arg1 harg1 x0 x1 66 64 128 12 0 64 _ inb_S192x16x512_S64x1x128_128_12_0 slices_S128x64_o64_0_S64x64 _ (by decide) ?_
  refine codes_piece64 arg1 harg1 x0 x1 66 0 128 12 0 0 _ inb_S192x16x512_S64x1x128_128_12_0 slices_S128x64_o0_0_S64x64 _ (by decide) ?_
  refine codes_piece128 arg1 harg1 x0 x1 66 448 0 12 384 64 _ inb_S192x16x512_S128x1x128_0_12_384 slices_S128x128_o64_0_S64x128 _ (by decide) ?_
  refine codes_piece128 arg1 harg1 x0 x1 66 384 0 12 384 0 _ inb_S192x16x512_S128x1x128_0_12_384 slices_S128x128_o0_0_S64x128 _ (by decide) ?_
  refine codes_piece128 arg1 harg1 x0 x1 66 320 0 12 256 64 _ inb_S192x16x512_S128x1x128_0_12_256 slices_S128x128_o64_0_S64x128 _ (by decide) ?_
  refine codes_piece128 arg1 harg1 x0 x1 66 256 0 12 256 0 _ inb_S192x16x512_S128x1x128_0_12_256 slices_S128x128_o0_0_S64x128 _ (by decide) ?_
  refine codes_piece128 arg1 harg1 x0 x1 66 192 0 12 128 64 _ inb_S192x16x512_S128x1x128_0_12_128 slices_S128x128_o64_0_S64x128 _ (by decide) ?_
  refine codes_piece128 arg1 harg1 x0 x1 66 128 0 12 128 0 _ inb_S192x16x512_S128x1x128_0_12_128 slices_S128x128_o0_0_S64x128 _ (by decide) ?_
  refine codes_piece128 arg1 harg1 x0 x1 66 64 0 12 0 64 _ inb_S192x16x512_S128x1x128_0_12_0 slices_S128x128_o64_0_S64x128 _ (by decide) ?_
  refine codes_piece128 arg1 harg1 x0 x1 66 0 0 12 0 0 _ inb_S192x16x512_S128x1x128_0_12_0 slices_S128x128_o0_0_S64x128 _ (by decide) ?_
  refine codes_piece64 arg1 harg1 x0 x1 65 448 128 11 384 64 _ inb_S192x16x512_S64x1x128_128_11_384 slices_S128x64_o64_0_S64x64 _ (by decide) ?_
  refine codes_piece64 arg1 harg1 x0 x1 65 384 128 11 384 0 _ inb_S192x16x512_S64x1x128_128_11_384 slices_S128x64_o0_0_S64x64 _ (by decide) ?_
  refine codes_piece64 arg1 harg1 x0 x1 65 320 128 11 256 64 _ inb_S192x16x512_S64x1x128_128_11_256 slices_S128x64_o64_0_S64x64 _ (by decide) ?_
  refine codes_piece64 arg1 harg1 x0 x1 65 256 128 11 256 0 _ inb_S192x16x512_S64x1x128_128_11_256 slices_S128x64_o0_0_S64x64 _ (by decide) ?_
  refine codes_piece64 arg1 harg1 x0 x1 65 192 128 11 128 64 _ inb_S192x16x512_S64x1x128_128_11_128 slices_S128x64_o64_0_S64x64 _ (by decide) ?_
  refine codes_piece64 arg1 harg1 x0 x1 65 128 128 11 128 0 _ inb_S192x16x512_S64x1x128_128_11_128 slices_S128x64_o0_0_S64x64 _ (by decide) ?_
  refine codes_piece64 arg1 harg1 x0 x1 65 64 128 11 0 64 _ inb_S192x16x512_S64x1x128_128_11_0 slices_S128x64_o64_0_S64x64 _ (by decide) ?_
  refine codes_piece64 arg1 harg1 x0 x1 65 0 128 11 0 0 _ inb_S192x16x512_S64x1x128_128_11_0 slices_S128x64_o0_0_S64x64 _ (by decide) ?_
  refine codes_piece128 arg1 harg1 x0 x1 65 448 0 11 384 64 _ inb_S192x16x512_S128x1x128_0_11_384 slices_S128x128_o64_0_S64x128 _ (by decide) ?_
  refine codes_piece128 arg1 harg1 x0 x1 65 384 0 11 384 0 _ inb_S192x16x512_S128x1x128_0_11_384 slices_S128x128_o0_0_S64x128 _ (by decide) ?_
  refine codes_piece128 arg1 harg1 x0 x1 65 320 0 11 256 64 _ inb_S192x16x512_S128x1x128_0_11_256 slices_S128x128_o64_0_S64x128 _ (by decide) ?_
  refine codes_piece128 arg1 harg1 x0 x1 65 256 0 11 256 0 _ inb_S192x16x512_S128x1x128_0_11_256 slices_S128x128_o0_0_S64x128 _ (by decide) ?_
  refine codes_piece128 arg1 harg1 x0 x1 65 192 0 11 128 64 _ inb_S192x16x512_S128x1x128_0_11_128 slices_S128x128_o64_0_S64x128 _ (by decide) ?_
  refine codes_piece128 arg1 harg1 x0 x1 65 128 0 11 128 0 _ inb_S192x16x512_S128x1x128_0_11_128 slices_S128x128_o0_0_S64x128 _ (by decide) ?_
  refine codes_piece128 arg1 harg1 x0 x1 65 64 0 11 0 64 _ inb_S192x16x512_S128x1x128_0_11_0 slices_S128x128_o64_0_S64x128 _ (by decide) ?_
  refine codes_piece128 arg1 harg1 x0 x1 65 0 0 11 0 0 _ inb_S192x16x512_S128x1x128_0_11_0 slices_S128x128_o0_0_S64x128 _ (by decide) ?_
  refine codes_piece64 arg1 harg1 x0 x1 64 448 128 10 384 64 _ inb_S192x16x512_S64x1x128_128_10_384 slices_S128x64_o64_0_S64x64 _ (by decide) ?_
  refine codes_piece64 arg1 harg1 x0 x1 64 384 128 10 384 0 _ inb_S192x16x512_S64x1x128_128_10_384 slices_S128x64_o0_0_S64x64 _ (by decide) ?_
  refine codes_piece64 arg1 harg1 x0 x1 64 320 128 10 256 64 _ inb_S192x16x512_S64x1x128_128_10_256 slices_S128x64_o64_0_S64x64 _ (by decide) ?_
  refine codes_piece64 arg1 harg1 x0 x1 64 256 128 10 256 0 _ inb_S192x16x512_S64x1x128_128_10_256 slices_S128x64_o0_0_S64x64 _ (by decide) ?_
  refine codes_piece64 arg1 harg1 x0 x1 64 192 128 10 128 64 _ inb_S192x16x512_S64x1x128_128_10_128 slices_S128x64_o64_0_S64x64 _ (by decide) ?_
  refine codes_piece64 arg1 harg1 x0 x1 64 128 128 10 128 0 _ inb_S192x16x512_S64x1x128_128_10_128 slices_S128x64_o0_0_S64x64 _ (by decide) ?_
  refine codes_piece64 arg1 harg1 x0 x1 64 64 128 10 0 64 _ inb_S192x16x512_S64x1x128_128_10_0 slices_S128x64_o64_0_S64x64 _ (by decide) ?_
  refine codes_piece64 arg1 harg1 x0 x1 64 0 128 10 0 0 _ inb_S192x16x512_S64x1x128_128_10_0 slices_S128x64_o0_0_S64x64 _ (by decide) ?_
  refine codes_piece128 arg1 harg1 x0 x1 64 448 0 10 384 64 _ inb_S192x16x512_S128x1x128_0_10_384 slices_S128x128_o64_0_S64x128 _ (by decide) ?_
  refine codes_piece128 arg1 harg1 x0 x1 64 384 0 10 384 0 _ inb_S192x16x512_S128x1x128_0_10_384 slices_S128x128_o0_0_S64x128 _ (by decide) ?_
  refine codes_piece128 arg1 harg1 x0 x1 64 320 0 10 256 64 _ inb_S192x16x512_S128x1x128_0_10_256 slices_S128x128_o64_0_S64x128 _ (by decide) ?_
  refine codes_piece128 arg1 harg1 x0 x1 64 256 0 10 256 0 _ inb_S192x16x512_S128x1x128_0_10_256 slices_S128x128_o0_0_S64x128 _ (by decide) ?_
  refine codes_piece128 arg1 harg1 x0 x1 64 192 0 10 128 64 _ inb_S192x16x512_S128x1x128_0_10_128 slices_S128x128_o64_0_S64x128 _ (by decide) ?_
  refine codes_piece128 arg1 harg1 x0 x1 64 128 0 10 128 0 _ inb_S192x16x512_S128x1x128_0_10_128 slices_S128x128_o0_0_S64x128 _ (by decide) ?_
  refine codes_piece128 arg1 harg1 x0 x1 64 64 0 10 0 64 _ inb_S192x16x512_S128x1x128_0_10_0 slices_S128x128_o64_0_S64x128 _ (by decide) ?_
  refine codes_piece128 arg1 harg1 x0 x1 64 0 0 10 0 0 _ inb_S192x16x512_S128x1x128_0_10_0 slices_S128x128_o0_0_S64x128 _ (by decide) ?_
  refine codes_piece64 arg1 harg1 x0 x1 63 448 128 9 384 64 _ inb_S192x16x512_S64x1x128_128_9_384 slices_S128x64_o64_0_S64x64 _ (by decide) ?_
  refine codes_piece64 arg1 harg1 x0 x1 63 384 128 9 384 0 _ inb_S192x16x512_S64x1x128_128_9_384 slices_S128x64_o0_0_S64x64 _ (by decide) ?_
  refine codes_piece64 arg1 harg1 x0 x1 63 320 128 9 256 64 _ inb_S192x16x512_S64x1x128_128_9_256 slices_S128x64_o64_0_S64x64 _ (by decide) ?_
  refine codes_piece64 arg1 harg1 x0 x1 63 256 128 9 256 0 _ inb_S192x16x512_S64x1x128_128_9_256 slices_S128x64_o0_0_S64x64 _ (by decide) ?_
  refine codes_piece64 arg1 harg1 x0 x1 63 192 128 9 128 64 _ inb_S192x16x512_S64x1x128_128_9_128 slices_S128x64_o64_0_S64x64 _ (by decide) ?_
  refine codes_piece64 arg1 harg1 x0 x1 63 128 128 9 128 0 _ inb_S192x16x512_S64x1x128_128_9_128 slices_S128x64_o0_0_S64x64 _ (by decide) ?_
  refine codes_piece64 arg1 harg1 x0 x1 63 64 128 9 0 64 _ inb_S192x16x512_S64x1x128_128_9_0 slices_S128x64_o64_0_S64x64 _ (by decide) ?_
  refine codes_piece64 arg1 harg1 x0 x1 63 0 128 9 0 0 _ inb_S192x16x512_S64x1x128_128_9_0 slices_S128x64_o0_0_S64x64 _ (by decide) ?_
  refine codes_piece128 arg1 harg1 x0 x1 63 448 0 9 384 64 _ inb_S192x16x512_S128x1x128_0_9_384 slices_S128x128_o64_0_S64x128 _ (by decide) ?_
  refine codes_piece128 arg1 harg1 x0 x1 63 384 0 9 384 0 _ inb_S192x16x512_S128x1x128_0_9_384 slices_S128x128_o0_0_S64x128 _ (by decide) ?_
  refine codes_piece128 arg1 harg1 x0 x1 63 320 0 9 256 64 _ inb_S192x16x512_S128x1x128_0_9_256 slices_S128x128_o64_0_S64x128 _ (by decide) ?_
  refine codes_piece128 arg1 harg1 x0 x1 63 256 0 9 256 0 _ inb_S192x16x512_S128x1x128_0_9_256 slices_S128x128_o0_0_S64x128 _ (by decide) ?_
  refine codes_piece128 arg1 harg1 x0 x1 63 192 0 9 128 64 _ inb_S192x16x512_S128x1x128_0_9_128 slices_S128x128_o64_0_S64x128 _ (by decide) ?_
  refine codes_piece128 arg1 harg1 x0 x1 63 128 0 9 128 0 _ inb_S192x16x512_S128x1x128_0_9_128 slices_S128x128_o0_0_S64x128 _ (by decide) ?_
  refine codes_piece128 arg1 harg1 x0 x1 63 64 0 9 0 64 _ inb_S192x16x512_S128x1x128_0_9_0 slices_S128x128_o64_0_S64x128 _ (by decide) ?_
  refine codes_piece128 arg1 harg1 x0 x1 63 0 0 9 0 0 _ inb_S192x16x512_S128x1x128_0_9_0 slices_S128x128_o0_0_S64x128 _ (by decide) ?_
  refine codes_piece64 arg1 harg1 x0 x1 62 448 128 8 384 64 _ inb_S192x16x512_S64x1x128_128_8_384 slices_S128x64_o64_0_S64x64 _ (by decide) ?_
  refine codes_piece64 arg1 harg1 x0 x1 62 384 128 8 384 0 _ inb_S192x16x512_S64x1x128_128_8_384 slices_S128x64_o0_0_S64x64 _ (by decide) ?_
  refine codes_piece64 arg1 harg1 x0 x1 62 320 128 8 256 64 _ inb_S192x16x512_S64x1x128_128_8_256 slices_S128x64_o64_0_S64x64 _ (by decide) ?_
  refine codes_piece64 arg1 harg1 x0 x1 62 256 128 8 256 0 _ inb_S192x16x512_S64x1x128_128_8_256 slices_S128x64_o0_0_S64x64 _ (by decide) ?_
  refine codes_piece64 arg1 harg1 x0 x1 62 192 128 8 128 64 _ inb_S192x16x512_S64x1x128_128_8_128 slices_S128x64_o64_0_S64x64 _ (by decide) ?_
  refine codes_piece64 arg1 harg1 x0 x1 62 128 128 8 128 0 _ inb_S192x16x512_S64x1x128_128_8_128 slices_S128x64_o0_0_S64x64 _ (by decide) ?_
  refine codes_piece64 arg1 harg1 x0 x1 62 64 128 8 0 64 _ inb_S192x16x512_S64x1x128_128_8_0 slices_S128x64_o64_0_S64x64 _ (by decide) ?_
  refine codes_piece64 arg1 harg1 x0 x1 62 0 128 8 0 0 _ inb_S192x16x512_S64x1x128_128_8_0 slices_S128x64_o0_0_S64x64 _ (by decide) ?_
  refine codes_piece128 arg1 harg1 x0 x1 62 448 0 8 384 64 _ inb_S192x16x512_S128x1x128_0_8_384 slices_S128x128_o64_0_S64x128 _ (by decide) ?_
  refine codes_piece128 arg1 harg1 x0 x1 62 384 0 8 384 0 _ inb_S192x16x512_S128x1x128_0_8_384 slices_S128x128_o0_0_S64x128 _ (by decide) ?_
  refine codes_piece128 arg1 harg1 x0 x1 62 320 0 8 256 64 _ inb_S192x16x512_S128x1x128_0_8_256 slices_S128x128_o64_0_S64x128 _ (by decide) ?_
  refine codes_piece128 arg1 harg1 x0 x1 62 256 0 8 256 0 _ inb_S192x16x512_S128x1x128_0_8_256 slices_S128x128_o0_0_S64x128 _ (by decide) ?_
  refine codes_piece128 arg1 harg1 x0 x1 62 192 0 8 128 64 _ inb_S192x16x512_S128x1x128_0_8_128 slices_S128x128_o64_0_S64x128 _ (by decide) ?_
  refine codes_piece128 arg1 harg1 x0 x1 62 128 0 8 128 0 _ inb_S192x16x512_S128x1x128_0_8_128 slices_S128x128_o0_0_S64x128 _ (by decide) ?_
  refine codes_piece128 arg1 harg1 x0 x1 62 64 0 8 0 64 _ inb_S192x16x512_S128x1x128_0_8_0 slices_S128x128_o64_0_S64x128 _ (by decide) ?_
  refine codes_piece128 arg1 harg1 x0 x1 62 0 0 8 0 0 _ inb_S192x16x512_S128x1x128_0_8_0 slices_S128x128_o0_0_S64x128 _ (by decide) ?_
  refine codes_piece64 arg1 harg1 x0 x1 61 448 128 7 384 64 _ inb_S192x16x512_S64x1x128_128_7_384 slices_S128x64_o64_0_S64x64 _ (by decide) ?_
  refine codes_piece64 arg1 harg1 x0 x1 61 384 128 7 384 0 _ inb_S192x16x512_S64x1x128_128_7_384 slices_S128x64_o0_0_S64x64 _ (by decide) ?_
  refine codes_piece64 arg1 harg1 x0 x1 61 320 128 7 256 64 _ inb_S192x16x512_S64x1x128_128_7_256 slices_S128x64_o64_0_S64x64 _ (by decide) ?_
  refine codes_piece64 arg1 harg1 x0 x1 61 256 128 7 256 0 _ inb_S192x16x512_S64x1x128_128_7_256 slices_S128x64_o0_0_S64x64 _ (by decide) ?_
  refine codes_piece64 arg1 harg1 x0 x1 61 192 128 7 128 64 _ inb_S192x16x512_S64x1x128_128_7_128 slices_S128x64_o64_0_S64x64 _ (by decide) ?_
  refine codes_piece64 arg1 harg1 x0 x1 61 128 128 7 128 0 _ inb_S192x16x512_S64x1x128_128_7_128 slices_S128x64_o0_0_S64x64 _ (by decide) ?_
  refine codes_piece64 arg1 harg1 x0 x1 61 64 128 7 0 64 _ inb_S192x16x512_S64x1x128_128_7_0 slices_S128x64_o64_0_S64x64 _ (by decide) ?_
  refine codes_piece64 arg1 harg1 x0 x1 61 0 128 7 0 0 _ inb_S192x16x512_S64x1x128_128_7_0 slices_S128x64_o0_0_S64x64 _ (by decide) ?_
  refine codes_piece128 arg1 harg1 x0 x1 61 448 0 7 384 64 _ inb_S192x16x512_S128x1x128_0_7_384 slices_S128x128_o64_0_S64x128 _ (by decide) ?_
  refine codes_piece128 arg1 harg1 x0 x1 61 384 0 7 384 0 _ inb_S192x16x512_S128x1x128_0_7_384 slices_S128x128_o0_0_S64x128 _ (by decide) ?_
  refine codes_piece128 arg1 harg1 x0 x1 61 320 0 7 256 64 _ inb_S192x16x512_S128x1x128_0_7_256 slices_S128x128_o64_0_S64x128 _ (by decide) ?_
  refine codes_piece128 arg1 harg1 x0 x1 61 256 0 7 256 0 _ inb_S192x16x512_S128x1x128_0_7_256 slices_S128x128_o0_0_S64x128 _ (by decide) ?_
  refine codes_piece128 arg1 harg1 x0 x1 61 192 0 7 128 64 _ inb_S192x16x512_S128x1x128_0_7_128 slices_S128x128_o64_0_S64x128 _ (by decide) ?_
  refine codes_piece128 arg1 harg1 x0 x1 61 128 0 7 128 0 _ inb_S192x16x512_S128x1x128_0_7_128 slices_S128x128_o0_0_S64x128 _ (by decide) ?_
  refine codes_piece128 arg1 harg1 x0 x1 61 64 0 7 0 64 _ inb_S192x16x512_S128x1x128_0_7_0 slices_S128x128_o64_0_S64x128 _ (by decide) ?_
  refine codes_piece128 arg1 harg1 x0 x1 61 0 0 7 0 0 _ inb_S192x16x512_S128x1x128_0_7_0 slices_S128x128_o0_0_S64x128 _ (by decide) ?_
  refine codes_piece64 arg1 harg1 x0 x1 60 448 128 6 384 64 _ inb_S192x16x512_S64x1x128_128_6_384 slices_S128x64_o64_0_S64x64 _ (by decide) ?_
  refine codes_piece64 arg1 harg1 x0 x1 60 384 128 6 384 0 _ inb_S192x16x512_S64x1x128_128_6_384 slices_S128x64_o0_0_S64x64 _ (by decide) ?_
  refine codes_piece64 arg1 harg1 x0 x1 60 320 128 6 256 64 _ inb_S192x16x512_S64x1x128_128_6_256 slices_S128x64_o64_0_S64x64 _ (by decide) ?_
  refine codes_piece64 arg1 harg1 x0 x1 60 256 128 6 256 0 _ inb_S192x16x512_S64x1x128_128_6_256 slices_S128x64_o0_0_S64x64 _ (by decide) ?_
  refine codes_piece64 arg1 harg1 x0 x1 60 192 128 6 128 64 _ inb_S192x16x512_S64x1x128_128_6_128 slices_S128x64_o64_0_S64x64 _ (by decide) ?_
  refine codes_piece64 arg1 harg1 x0 x1 60 128 128 6 128 0 _ inb_S192x16x512_S64x1x128_128_6_128 slices_S128x64_o0_0_S64x64 _ (by decide) ?_
  refine codes_piece64 arg1 harg1 x0 x1 60 64 128 6 0 64 _ inb_S192x16x512_S64x1x128_128_6_0 slices_S128x64_o64_0_S64x64 _ (by decide) ?_
  refine codes_piece64 arg1 harg1 x0 x1 60 0 128 6 0 0 _ inb_S192x16x512_S64x1x128_128_6_0 slices_S128x64_o0_0_S64x64 _ (by decide) ?_
  refine codes_piece128 arg1 harg1 x0 x1 60 448 0 6 384 64 _ inb_S192x16x512_S128x1x128_0_6_384 slices_S128x128_o64_0_S64x128 _ (by decide) ?_
  refine codes_piece128 arg1 harg1 x0 x1 60 384 0 6 384 0 _ inb_S192x16x512_S128x1x128_0_6_384 slices_S128x128_o0_0_S64x128 _ (by decide) ?_
  refine codes_piece128 arg1 harg1 x0 x1 60 320 0 6 256 64 _ inb_S192x16x512_S128x1x128_0_6_256 slices_S128x128_o64_0_S64x128 _ (by decide) ?_
  refine codes_piece128 arg1 harg1 x0 x1 60 256 0 6 256 0 _ inb_S192x16x512_S128x1x128_0_6_256 slices_S128x128_o0_0_S64x128 _ (by decide) ?_
  refine codes_piece128 arg1 harg1 x0 x1 60 192 0 6 128 64 _ inb_S192x16x512_S128x1x128_0_6_128 slices_S128x128_o64_0_S64x128 _ (by decide) ?_
  refine codes_piece128 arg1 harg1 x0 x1 60 128 0 6 128 0 _ inb_S192x16x512_S128x1x128_0_6_128 slices_S128x128_o0_0_S64x128 _ (by decide) ?_
  refine codes_piece128 arg1 harg1 x0 x1 60 64 0 6 0 64 _ inb_S192x16x512_S128x1x128_0_6_0 slices_S128x128_o64_0_S64x128 _ (by decide) ?_
  refine codes_piece128 arg1 harg1 x0 x1 60 0 0 6 0 0 _ inb_S192x16x512_S128x1x128_0_6_0 slices_S128x128_o0_0_S64x128 _ (by decide) ?_
  refine codes_piece64 arg1 harg1 x0 x1 59 448 128 5 384 64 _ inb_S192x16x512_S64x1x128_128_5_384 slices_S128x64_o64_0_S64x64 _ (by decide) ?_
  refine codes_piece64 arg1 harg1 x0 x1 59 384 128 5 384 0 _ inb_S192x16x512_S64x1x128_128_5_384 slices_S128x64_o0_0_S64x64 _ (by decide) ?_
  refine codes_piece64 arg1 harg1 x0 x1 59 320 128 5 256 64 _ inb_S192x16x512_S64x1x128_128_5_256 slices_S128x64_o64_0_S64x64 _ (by decide) ?_
  refine codes_piece64 arg1 harg1 x0 x1 59 256 128 5 256 0 _ inb_S192x16x512_S64x1x128_128_5_256 slices_S128x64_o0_0_S64x64 _ (by decide) ?_
  refine codes_piece64 arg1 harg1 x0 x1 59 192 128 5 128 64 _ inb_S192x16x512_S64x1x128_128_5_128 slices_S128x64_o64_0_S64x64 _ (by decide) ?_
  refine codes_piece64 arg1 harg1 x0 x1 59 128 128 5 128 0 _ inb_S192x16x512_S64x1x128_128_5_128 slices_S128x64_o0_0_S64x64 _ (by decide) ?_
  refine codes_piece64 arg1 harg1 x0 x1 59 64 128 5 0 64 _ inb_S192x16x512_S64x1x128_128_5_0 slices_S128x64_o64_0_S64x64 _ (by decide) ?_
  refine codes_piece64 arg1 harg1 x0 x1 59 0 128 5 0 0 _ inb_S192x16x512_S64x1x128_128_5_0 slices_S128x64_o0_0_S64x64 _ (by decide) ?_
  refine codes_piece128 arg1 harg1 x0 x1 59 448 0 5 384 64 _ inb_S192x16x512_S128x1x128_0_5_384 slices_S128x128_o64_0_S64x128 _ (by decide) ?_
  refine codes_piece128 arg1 harg1 x0 x1 59 384 0 5 384 0 _ inb_S192x16x512_S128x1x128_0_5_384 slices_S128x128_o0_0_S64x128 _ (by decide) ?_
  refine codes_piece128 arg1 harg1 x0 x1 59 320 0 5 256 64 _ inb_S192x16x512_S128x1x128_0_5_256 slices_S128x128_o64_0_S64x128 _ (by decide) ?_
  refine codes_piece128 arg1 harg1 x0 x1 59 256 0 5 256 0 _ inb_S192x16x512_S128x1x128_0_5_256 slices_S128x128_o0_0_S64x128 _ (by decide) ?_
  refine codes_piece128 arg1 harg1 x0 x1 59 192 0 5 128 64 _ inb_S192x16x512_S128x1x128_0_5_128 slices_S128x128_o64_0_S64x128 _ (by decide) ?_
  refine codes_piece128 arg1 harg1 x0 x1 59 128 0 5 128 0 _ inb_S192x16x512_S128x1x128_0_5_128 slices_S128x128_o0_0_S64x128 _ (by decide) ?_
  refine codes_piece128 arg1 harg1 x0 x1 59 64 0 5 0 64 _ inb_S192x16x512_S128x1x128_0_5_0 slices_S128x128_o64_0_S64x128 _ (by decide) ?_
  refine codes_piece128 arg1 harg1 x0 x1 59 0 0 5 0 0 _ inb_S192x16x512_S128x1x128_0_5_0 slices_S128x128_o0_0_S64x128 _ (by decide) ?_
  refine codes_piece64 arg1 harg1 x0 x1 58 448 128 4 384 64 _ inb_S192x16x512_S64x1x128_128_4_384 slices_S128x64_o64_0_S64x64 _ (by decide) ?_
  refine codes_piece64 arg1 harg1 x0 x1 58 384 128 4 384 0 _ inb_S192x16x512_S64x1x128_128_4_384 slices_S128x64_o0_0_S64x64 _ (by decide) ?_
  refine codes_piece64 arg1 harg1 x0 x1 58 320 128 4 256 64 _ inb_S192x16x512_S64x1x128_128_4_256 slices_S128x64_o64_0_S64x64 _ (by decide) ?_
  refine codes_piece64 arg1 harg1 x0 x1 58 256 128 4 256 0 _ inb_S192x16x512_S64x1x128_128_4_256 slices_S128x64_o0_0_S64x64 _ (by decide) ?_
  refine codes_piece64 arg1 harg1 x0 x1 58 192 128 4 128 64 _ inb_S192x16x512_S64x1x128_128_4_128 slices_S128x64_o64_0_S64x64 _ (by decide) ?_
  refine codes_piece64 arg1 harg1 x0 x1 58 128 128 4 128 0 _ inb_S192x16x512_S64x1x128_128_4_128 slices_S128x64_o0_0_S64x64 _ (by decide) ?_
  refine codes_piece64 arg1 harg1 x0 x1 58 64 128 4 0 64 _ inb_S192x16x512_S64x1x128_128_4_0 slices_S128x64_o64_0_S64x64 _ (by decide) ?_
  refine codes_piece64 arg1 harg1 x0 x1 58 0 128 4 0 0 _ inb_S192x16x512_S64x1x128_128_4_0 slices_S128x64_o0_0_S64x64 _ (by decide) ?_
  refine codes_piece128 arg1 harg1 x0 x1 58 448 0 4 384 64 _ inb_S192x16x512_S128x1x128_0_4_384 slices_S128x128_o64_0_S64x128 _ (by decide) ?_
  refine codes_piece128 arg1 harg1 x0 x1 58 384 0 4 384 0 _ inb_S192x16x512_S128x1x128_0_4_384 slices_S128x128_o0_0_S64x128 _ (by decide) ?_
  refine codes_piece128 arg1 harg1 x0 x1 58 320 0 4 256 64 _ inb_S192x16x512_S128x1x128_0_4_256 slices_S128x128_o64_0_S64x128 _ (by decide) ?_
  refine codes_piece128 arg1 harg1 x0 x1 58 256 0 4 256 0 _ inb_S192x16x512_S128x1x128_0_4_256 slices_S128x128_o0_0_S64x128 _ (by decide) ?_
  refine codes_piece128 arg1 harg1 x0 x1 58 192 0 4 128 64 _ inb_S192x16x512_S128x1x128_0_4_128 slices_S128x128_o64_0_S64x128 _ (by decide) ?_
  refine codes_piece128 arg1 harg1 x0 x1 58 128 0 4 128 0 _ inb_S192x16x512_S128x1x128_0_4_128 slices_S128x128_o0_0_S64x128 _ (by decide) ?_
  refine codes_piece128 arg1 harg1 x0 x1 58 64 0 4 0 64 _ inb_S192x16x512_S128x1x128_0_4_0 slices_S128x128_o64_0_S64x128 _ (by decide) ?_
  refine codes_piece128 arg1 harg1 x0 x1 58 0 0 4 0 0 _ inb_S192x16x512_S128x1x128_0_4_0 slices_S128x128_o0_0_S64x128 _ (by decide) ?_
  refine codes_piece64 arg1 harg1 x0 x1 57 448 128 3 384 64 _ inb_S192x16x512_S64x1x128_128_3_384 slices_S128x64_o64_0_S64x64 _ (by decide) ?_
  refine codes_piece64 arg1 harg1 x0 x1 57 384 128 3 384 0 _ inb_S192x16x512_S64x1x128_128_3_384 slices_S128x64_o0_0_S64x64 _ (by decide) ?_
  refine codes_piece64 arg1 harg1 x0 x1 57 320 128 3 256 64 _ inb_S192x16x512_S64x1x128_128_3_256 slices_S128x64_o64_0_S64x64 _ (by decide) ?_
  refine codes_piece64 arg1 harg1 x0 x1 57 256 128 3 256 0 _ inb_S192x16x512_S64x1x128_128_3_256 slices_S128x64_o0_0_S64x64 _ (by decide) ?_
  refine codes_piece64 arg1 harg1 x0 x1 57 192 128 3 128 64 _ inb_S192x16x512_S64x1x128_128_3_128 slices_S128x64_o64_0_S64x64 _ (by decide) ?_
  refine codes_piece64 arg1 harg1 x0 x1 57 128 128 3 128 0 _ inb_S192x16x512_S64x1x128_128_3_128 slices_S128x64_o0_0_S64x64 _ (by decide) ?_
  refine codes_piece64 arg1 harg1 x0 x1 57 64 128 3 0 64 _ inb_S192x16x512_S64x1x128_128_3_0 slices_S128x64_o64_0_S64x64 _ (by decide) ?_
  refine codes_piece64 arg1 harg1 x0 x1 57 0 128 3 0 0 _ inb_S192x16x512_S64x1x128_128_3_0 slices_S128x64_o0_0_S64x64 _ (by decide) ?_
  refine codes_piece128 arg1 harg1 x0 x1 57 448 0 3 384 64 _ inb_S192x16x512_S128x1x128_0_3_384 slices_S128x128_o64_0_S64x128 _ (by decide) ?_
  refine codes_piece128 arg1 harg1 x0 x1 57 384 0 3 384 0 _ inb_S192x16x512_S128x1x128_0_3_384 slices_S128x128_o0_0_S64x128 _ (by decide) ?_
  refine codes_piece128 arg1 harg1 x0 x1 57 320 0 3 256 64 _ inb_S192x16x512_S128x1x128_0_3_256 slices_S128x128_o64_0_S64x128 _ (by decide) ?_
  refine codes_piece128 arg1 harg1 x0 x1 57 256 0 3 256 0 _ inb_S192x16x512_S128x1x128_0_3_256 slices_S128x128_o0_0_S64x128 _ (by decide) ?_
  refine codes_piece128 arg1 harg1 x0 x1 57 192 0 3 128 64 _ inb_S192x16x512_S128x1x128_0_3_128 slices_S128x128_o64_0_S64x128 _ (by decide) ?_
  refine codes_piece128 arg1 harg1 x0 x1 57 128 0 3 128 0 _ inb_S192x16x512_S128x1x128_0_3_128 slices_S128x128_o0_0_S64x128 _ (by decide) ?_
  refine codes_piece128 arg1 harg1 x0 x1 57 64 0 3 0 64 _ inb_S192x16x512_S128x1x128_0_3_0 slices_S128x128_o64_0_S64x128 _ (by decide) ?_
  refine codes_piece128 arg1 harg1 x0 x1 57 0 0 3 0 0 _ inb_S192x16x512_S128x1x128_0_3_0 slices_S128x128_o0_0_S64x128 _ (by decide) ?_
  refine codes_piece64 arg1 harg1 x0 x1 56 448 128 2 384 64 _ inb_S192x16x512_S64x1x128_128_2_384 slices_S128x64_o64_0_S64x64 _ (by decide) ?_
  refine codes_piece64 arg1 harg1 x0 x1 56 384 128 2 384 0 _ inb_S192x16x512_S64x1x128_128_2_384 slices_S128x64_o0_0_S64x64 _ (by decide) ?_
  refine codes_piece64 arg1 harg1 x0 x1 56 320 128 2 256 64 _ inb_S192x16x512_S64x1x128_128_2_256 slices_S128x64_o64_0_S64x64 _ (by decide) ?_
  refine codes_piece64 arg1 harg1 x0 x1 56 256 128 2 256 0 _ inb_S192x16x512_S64x1x128_128_2_256 slices_S128x64_o0_0_S64x64 _ (by decide) ?_
  refine codes_piece64 arg1 harg1 x0 x1 56 192 128 2 128 64 _ inb_S192x16x512_S64x1x128_128_2_128 slices_S128x64_o64_0_S64x64 _ (by decide) ?_
  refine codes_piece64 arg1 harg1 x0 x1 56 128 128 2 128 0 _ inb_S192x16x512_S64x1x128_128_2_128 slices_S128x64_o0_0_S64x64 _ (by decide) ?_
  refine codes_piece64 arg1 harg1 x0 x1 56 64 128 2 0 64 _ inb_S192x16x512_S64x1x128_128_2_0 slices_S128x64_o64_0_S64x64 _ (by decide) ?_
  refine codes_piece64 arg1 harg1 x0 x1 56 0 128 2 0 0 _ inb_S192x16x512_S64x1x128_128_2_0 slices_S128x64_o0_0_S64x64 _ (by decide) ?_
  refine codes_piece128 arg1 harg1 x0 x1 56 448 0 2 384 64 _ inb_S192x16x512_S128x1x128_0_2_384 slices_S128x128_o64_0_S64x128 _ (by decide) ?_
  refine codes_piece128 arg1 harg1 x0 x1 56 384 0 2 384 0 _ inb_S192x16x512_S128x1x128_0_2_384 slices_S128x128_o0_0_S64x128 _ (by decide) ?_
  refine codes_piece128 arg1 harg1 x0 x1 56 320 0 2 256 64 _ inb_S192x16x512_S128x1x128_0_2_256 slices_S128x128_o64_0_S64x128 _ (by decide) ?_
  refine codes_piece128 arg1 harg1 x0 x1 56 256 0 2 256 0 _ inb_S192x16x512_S128x1x128_0_2_256 slices_S128x128_o0_0_S64x128 _ (by decide) ?_
  refine codes_piece128 arg1 harg1 x0 x1 56 192 0 2 128 64 _ inb_S192x16x512_S128x1x128_0_2_128 slices_S128x128_o64_0_S64x128 _ (by decide) ?_
  refine codes_piece128 arg1 harg1 x0 x1 56 128 0 2 128 0 _ inb_S192x16x512_S128x1x128_0_2_128 slices_S128x128_o0_0_S64x128 _ (by decide) ?_
  refine codes_piece128 arg1 harg1 x0 x1 56 64 0 2 0 64 _ inb_S192x16x512_S128x1x128_0_2_0 slices_S128x128_o64_0_S64x128 _ (by decide) ?_
  refine codes_piece128 arg1 harg1 x0 x1 56 0 0 2 0 0 _ inb_S192x16x512_S128x1x128_0_2_0 slices_S128x128_o0_0_S64x128 _ (by decide) ?_
  refine codes_piece64 arg1 harg1 x0 x1 55 448 128 1 384 64 _ inb_S192x16x512_S64x1x128_128_1_384 slices_S128x64_o64_0_S64x64 _ (by decide) ?_
  refine codes_piece64 arg1 harg1 x0 x1 55 384 128 1 384 0 _ inb_S192x16x512_S64x1x128_128_1_384 slices_S128x64_o0_0_S64x64 _ (by decide) ?_
  refine codes_piece64 arg1 harg1 x0 x1 55 320 128 1 256 64 _ inb_S192x16x512_S64x1x128_128_1_256 slices_S128x64_o64_0_S64x64 _ (by decide) ?_
  refine codes_piece64 arg1 harg1 x0 x1 55 256 128 1 256 0 _ inb_S192x16x512_S64x1x128_128_1_256 slices_S128x64_o0_0_S64x64 _ (by decide) ?_
  refine codes_piece64 arg1 harg1 x0 x1 55 192 128 1 128 64 _ inb_S192x16x512_S64x1x128_128_1_128 slices_S128x64_o64_0_S64x64 _ (by decide) ?_
  refine codes_piece64 arg1 harg1 x0 x1 55 128 128 1 128 0 _ inb_S192x16x512_S64x1x128_128_1_128 slices_S128x64_o0_0_S64x64 _ (by decide) ?_
  refine codes_piece64 arg1 harg1 x0 x1 55 64 128 1 0 64 _ inb_S192x16x512_S64x1x128_128_1_0 slices_S128x64_o64_0_S64x64 _ (by decide) ?_
  refine codes_piece64 arg1 harg1 x0 x1 55 0 128 1 0 0 _ inb_S192x16x512_S64x1x128_128_1_0 slices_S128x64_o0_0_S64x64 _ (by decide) ?_
  refine codes_piece128 arg1 harg1 x0 x1 55 448 0 1 384 64 _ inb_S192x16x512_S128x1x128_0_1_384 slices_S128x128_o64_0_S64x128 _ (by decide) ?_
  refine codes_piece128 arg1 harg1 x0 x1 55 384 0 1 384 0 _ inb_S192x16x512_S128x1x128_0_1_384 slices_S128x128_o0_0_S64x128 _ (by decide) ?_
  refine codes_piece128 arg1 harg1 x0 x1 55 320 0 1 256 64 _ inb_S192x16x512_S128x1x128_0_1_256 slices_S128x128_o64_0_S64x128 _ (by decide) ?_
  refine codes_piece128 arg1 harg1 x0 x1 55 256 0 1 256 0 _ inb_S192x16x512_S128x1x128_0_1_256 slices_S128x128_o0_0_S64x128 _ (by decide) ?_
  refine codes_piece128 arg1 harg1 x0 x1 55 192 0 1 128 64 _ inb_S192x16x512_S128x1x128_0_1_128 slices_S128x128_o64_0_S64x128 _ (by decide) ?_
  refine codes_piece128 arg1 harg1 x0 x1 55 128 0 1 128 0 _ inb_S192x16x512_S128x1x128_0_1_128 slices_S128x128_o0_0_S64x128 _ (by decide) ?_
  refine codes_piece128 arg1 harg1 x0 x1 55 64 0 1 0 64 _ inb_S192x16x512_S128x1x128_0_1_0 slices_S128x128_o64_0_S64x128 _ (by decide) ?_
  refine codes_piece128 arg1 harg1 x0 x1 55 0 0 1 0 0 _ inb_S192x16x512_S128x1x128_0_1_0 slices_S128x128_o0_0_S64x128 _ (by decide) ?_
  refine codes_piece64 arg1 harg1 x0 x1 54 448 128 0 384 64 _ inb_S192x16x512_S64x1x128_128_0_384 slices_S128x64_o64_0_S64x64 _ (by decide) ?_
  refine codes_piece64 arg1 harg1 x0 x1 54 384 128 0 384 0 _ inb_S192x16x512_S64x1x128_128_0_384 slices_S128x64_o0_0_S64x64 _ (by decide) ?_
  refine codes_piece64 arg1 harg1 x0 x1 54 320 128 0 256 64 _ inb_S192x16x512_S64x1x128_128_0_256 slices_S128x64_o64_0_S64x64 _ (by decide) ?_
  refine codes_piece64 arg1 harg1 x0 x1 54 256 128 0 256 0 _ inb_S192x16x512_S64x1x128_128_0_256 slices_S128x64_o0_0_S64x64 _ (by decide) ?_
  refine codes_piece64 arg1 harg1 x0 x1 54 192 128 0 128 64 _ inb_S192x16x512_S64x1x128_128_0_128 slices_S128x64_o64_0_S64x64 _ (by decide) ?_
  refine codes_piece64 arg1 harg1 x0 x1 54 128 128 0 128 0 _ inb_S192x16x512_S64x1x128_128_0_128 slices_S128x64_o0_0_S64x64 _ (by decide) ?_
  refine codes_piece64 arg1 harg1 x0 x1 54 64 128 0 0 64 _ inb_S192x16x512_S64x1x128_128_0_0 slices_S128x64_o64_0_S64x64 _ (by decide) ?_
  refine codes_piece64 arg1 harg1 x0 x1 54 0 128 0 0 0 _ inb_S192x16x512_S64x1x128_128_0_0 slices_S128x64_o0_0_S64x64 _ (by decide) ?_
  refine codes_piece128 arg1 harg1 x0 x1 54 448 0 0 384 64 _ inb_S192x16x512_S128x1x128_0_0_384 slices_S128x128_o64_0_S64x128 _ (by decide) ?_
  refine codes_piece128 arg1 harg1 x0 x1 54 384 0 0 384 0 _ inb_S192x16x512_S128x1x128_0_0_384 slices_S128x128_o0_0_S64x128 _ (by decide) ?_
  refine codes_piece128 arg1 harg1 x0 x1 54 320 0 0 256 64 _ inb_S192x16x512_S128x1x128_0_0_256 slices_S128x128_o64_0_S64x128 _ (by decide) ?_
  refine codes_piece128 arg1 harg1 x0 x1 54 256 0 0 256 0 _ inb_S192x16x512_S128x1x128_0_0_256 slices_S128x128_o0_0_S64x128 _ (by decide) ?_
  refine codes_piece128 arg1 harg1 x0 x1 54 192 0 0 128 64 _ inb_S192x16x512_S128x1x128_0_0_128 slices_S128x128_o64_0_S64x128 _ (by decide) ?_
  refine codes_piece128 arg1 harg1 x0 x1 54 128 0 0 128 0 _ inb_S192x16x512_S128x1x128_0_0_128 slices_S128x128_o0_0_S64x128 _ (by decide) ?_
  refine codes_piece128 arg1 harg1 x0 x1 54 64 0 0 0 64 _ inb_S192x16x512_S128x1x128_0_0_0 slices_S128x128_o64_0_S64x128 _ (by decide) ?_
  refine codes_piece128 arg1 harg1 x0 x1 54 0 0 0 0 0 _ inb_S192x16x512_S128x1x128_0_0_0 slices_S128x128_o0_0_S64x128 _ (by decide) ?_
  exact codes_copy arg2 harg2 x0 x1 _ _

/-- The 257 stores of scales are blocks of `scalesBlock`. -/
theorem pieces_scales : View.PiecesOf (scalesBlock x0 x2) (kernelRun0_A (F := Ideal) c i arg1 harg1 arg2 harg2 arg3 harg3
    arg4 harg4 arg5 harg5 x0 x1 x2).2.1 := by
  unfold kernelRun0_A
  dsimp only
  refine scales_piece64 arg1 harg1 x0 x2 69 7 128 15 384 64 _ inb_S192x16x512_S64x1x128_128_15_384 slices_S128x64_o64_0_S64x64 _ (by decide) ?_
  refine scales_piece64 arg1 harg1 x0 x2 69 6 128 15 384 0 _ inb_S192x16x512_S64x1x128_128_15_384 slices_S128x64_o0_0_S64x64 _ (by decide) ?_
  refine scales_piece64 arg1 harg1 x0 x2 69 5 128 15 256 64 _ inb_S192x16x512_S64x1x128_128_15_256 slices_S128x64_o64_0_S64x64 _ (by decide) ?_
  refine scales_piece64 arg1 harg1 x0 x2 69 4 128 15 256 0 _ inb_S192x16x512_S64x1x128_128_15_256 slices_S128x64_o0_0_S64x64 _ (by decide) ?_
  refine scales_piece64 arg1 harg1 x0 x2 69 3 128 15 128 64 _ inb_S192x16x512_S64x1x128_128_15_128 slices_S128x64_o64_0_S64x64 _ (by decide) ?_
  refine scales_piece64 arg1 harg1 x0 x2 69 2 128 15 128 0 _ inb_S192x16x512_S64x1x128_128_15_128 slices_S128x64_o0_0_S64x64 _ (by decide) ?_
  refine scales_piece64 arg1 harg1 x0 x2 69 1 128 15 0 64 _ inb_S192x16x512_S64x1x128_128_15_0 slices_S128x64_o64_0_S64x64 _ (by decide) ?_
  refine scales_piece64 arg1 harg1 x0 x2 69 0 128 15 0 0 _ inb_S192x16x512_S64x1x128_128_15_0 slices_S128x64_o0_0_S64x64 _ (by decide) ?_
  refine scales_piece128 arg1 harg1 x0 x2 69 7 0 15 384 64 _ inb_S192x16x512_S128x1x128_0_15_384 slices_S128x128_o64_0_S64x128 _ (by decide) ?_
  refine scales_piece128 arg1 harg1 x0 x2 69 6 0 15 384 0 _ inb_S192x16x512_S128x1x128_0_15_384 slices_S128x128_o0_0_S64x128 _ (by decide) ?_
  refine scales_piece128 arg1 harg1 x0 x2 69 5 0 15 256 64 _ inb_S192x16x512_S128x1x128_0_15_256 slices_S128x128_o64_0_S64x128 _ (by decide) ?_
  refine scales_piece128 arg1 harg1 x0 x2 69 4 0 15 256 0 _ inb_S192x16x512_S128x1x128_0_15_256 slices_S128x128_o0_0_S64x128 _ (by decide) ?_
  refine scales_piece128 arg1 harg1 x0 x2 69 3 0 15 128 64 _ inb_S192x16x512_S128x1x128_0_15_128 slices_S128x128_o64_0_S64x128 _ (by decide) ?_
  refine scales_piece128 arg1 harg1 x0 x2 69 2 0 15 128 0 _ inb_S192x16x512_S128x1x128_0_15_128 slices_S128x128_o0_0_S64x128 _ (by decide) ?_
  refine scales_piece128 arg1 harg1 x0 x2 69 1 0 15 0 64 _ inb_S192x16x512_S128x1x128_0_15_0 slices_S128x128_o64_0_S64x128 _ (by decide) ?_
  refine scales_piece128 arg1 harg1 x0 x2 69 0 0 15 0 0 _ inb_S192x16x512_S128x1x128_0_15_0 slices_S128x128_o0_0_S64x128 _ (by decide) ?_
  refine scales_piece64 arg1 harg1 x0 x2 68 7 128 14 384 64 _ inb_S192x16x512_S64x1x128_128_14_384 slices_S128x64_o64_0_S64x64 _ (by decide) ?_
  refine scales_piece64 arg1 harg1 x0 x2 68 6 128 14 384 0 _ inb_S192x16x512_S64x1x128_128_14_384 slices_S128x64_o0_0_S64x64 _ (by decide) ?_
  refine scales_piece64 arg1 harg1 x0 x2 68 5 128 14 256 64 _ inb_S192x16x512_S64x1x128_128_14_256 slices_S128x64_o64_0_S64x64 _ (by decide) ?_
  refine scales_piece64 arg1 harg1 x0 x2 68 4 128 14 256 0 _ inb_S192x16x512_S64x1x128_128_14_256 slices_S128x64_o0_0_S64x64 _ (by decide) ?_
  refine scales_piece64 arg1 harg1 x0 x2 68 3 128 14 128 64 _ inb_S192x16x512_S64x1x128_128_14_128 slices_S128x64_o64_0_S64x64 _ (by decide) ?_
  refine scales_piece64 arg1 harg1 x0 x2 68 2 128 14 128 0 _ inb_S192x16x512_S64x1x128_128_14_128 slices_S128x64_o0_0_S64x64 _ (by decide) ?_
  refine scales_piece64 arg1 harg1 x0 x2 68 1 128 14 0 64 _ inb_S192x16x512_S64x1x128_128_14_0 slices_S128x64_o64_0_S64x64 _ (by decide) ?_
  refine scales_piece64 arg1 harg1 x0 x2 68 0 128 14 0 0 _ inb_S192x16x512_S64x1x128_128_14_0 slices_S128x64_o0_0_S64x64 _ (by decide) ?_
  refine scales_piece128 arg1 harg1 x0 x2 68 7 0 14 384 64 _ inb_S192x16x512_S128x1x128_0_14_384 slices_S128x128_o64_0_S64x128 _ (by decide) ?_
  refine scales_piece128 arg1 harg1 x0 x2 68 6 0 14 384 0 _ inb_S192x16x512_S128x1x128_0_14_384 slices_S128x128_o0_0_S64x128 _ (by decide) ?_
  refine scales_piece128 arg1 harg1 x0 x2 68 5 0 14 256 64 _ inb_S192x16x512_S128x1x128_0_14_256 slices_S128x128_o64_0_S64x128 _ (by decide) ?_
  refine scales_piece128 arg1 harg1 x0 x2 68 4 0 14 256 0 _ inb_S192x16x512_S128x1x128_0_14_256 slices_S128x128_o0_0_S64x128 _ (by decide) ?_
  refine scales_piece128 arg1 harg1 x0 x2 68 3 0 14 128 64 _ inb_S192x16x512_S128x1x128_0_14_128 slices_S128x128_o64_0_S64x128 _ (by decide) ?_
  refine scales_piece128 arg1 harg1 x0 x2 68 2 0 14 128 0 _ inb_S192x16x512_S128x1x128_0_14_128 slices_S128x128_o0_0_S64x128 _ (by decide) ?_
  refine scales_piece128 arg1 harg1 x0 x2 68 1 0 14 0 64 _ inb_S192x16x512_S128x1x128_0_14_0 slices_S128x128_o64_0_S64x128 _ (by decide) ?_
  refine scales_piece128 arg1 harg1 x0 x2 68 0 0 14 0 0 _ inb_S192x16x512_S128x1x128_0_14_0 slices_S128x128_o0_0_S64x128 _ (by decide) ?_
  refine scales_piece64 arg1 harg1 x0 x2 67 7 128 13 384 64 _ inb_S192x16x512_S64x1x128_128_13_384 slices_S128x64_o64_0_S64x64 _ (by decide) ?_
  refine scales_piece64 arg1 harg1 x0 x2 67 6 128 13 384 0 _ inb_S192x16x512_S64x1x128_128_13_384 slices_S128x64_o0_0_S64x64 _ (by decide) ?_
  refine scales_piece64 arg1 harg1 x0 x2 67 5 128 13 256 64 _ inb_S192x16x512_S64x1x128_128_13_256 slices_S128x64_o64_0_S64x64 _ (by decide) ?_
  refine scales_piece64 arg1 harg1 x0 x2 67 4 128 13 256 0 _ inb_S192x16x512_S64x1x128_128_13_256 slices_S128x64_o0_0_S64x64 _ (by decide) ?_
  refine scales_piece64 arg1 harg1 x0 x2 67 3 128 13 128 64 _ inb_S192x16x512_S64x1x128_128_13_128 slices_S128x64_o64_0_S64x64 _ (by decide) ?_
  refine scales_piece64 arg1 harg1 x0 x2 67 2 128 13 128 0 _ inb_S192x16x512_S64x1x128_128_13_128 slices_S128x64_o0_0_S64x64 _ (by decide) ?_
  refine scales_piece64 arg1 harg1 x0 x2 67 1 128 13 0 64 _ inb_S192x16x512_S64x1x128_128_13_0 slices_S128x64_o64_0_S64x64 _ (by decide) ?_
  refine scales_piece64 arg1 harg1 x0 x2 67 0 128 13 0 0 _ inb_S192x16x512_S64x1x128_128_13_0 slices_S128x64_o0_0_S64x64 _ (by decide) ?_
  refine scales_piece128 arg1 harg1 x0 x2 67 7 0 13 384 64 _ inb_S192x16x512_S128x1x128_0_13_384 slices_S128x128_o64_0_S64x128 _ (by decide) ?_
  refine scales_piece128 arg1 harg1 x0 x2 67 6 0 13 384 0 _ inb_S192x16x512_S128x1x128_0_13_384 slices_S128x128_o0_0_S64x128 _ (by decide) ?_
  refine scales_piece128 arg1 harg1 x0 x2 67 5 0 13 256 64 _ inb_S192x16x512_S128x1x128_0_13_256 slices_S128x128_o64_0_S64x128 _ (by decide) ?_
  refine scales_piece128 arg1 harg1 x0 x2 67 4 0 13 256 0 _ inb_S192x16x512_S128x1x128_0_13_256 slices_S128x128_o0_0_S64x128 _ (by decide) ?_
  refine scales_piece128 arg1 harg1 x0 x2 67 3 0 13 128 64 _ inb_S192x16x512_S128x1x128_0_13_128 slices_S128x128_o64_0_S64x128 _ (by decide) ?_
  refine scales_piece128 arg1 harg1 x0 x2 67 2 0 13 128 0 _ inb_S192x16x512_S128x1x128_0_13_128 slices_S128x128_o0_0_S64x128 _ (by decide) ?_
  refine scales_piece128 arg1 harg1 x0 x2 67 1 0 13 0 64 _ inb_S192x16x512_S128x1x128_0_13_0 slices_S128x128_o64_0_S64x128 _ (by decide) ?_
  refine scales_piece128 arg1 harg1 x0 x2 67 0 0 13 0 0 _ inb_S192x16x512_S128x1x128_0_13_0 slices_S128x128_o0_0_S64x128 _ (by decide) ?_
  refine scales_piece64 arg1 harg1 x0 x2 66 7 128 12 384 64 _ inb_S192x16x512_S64x1x128_128_12_384 slices_S128x64_o64_0_S64x64 _ (by decide) ?_
  refine scales_piece64 arg1 harg1 x0 x2 66 6 128 12 384 0 _ inb_S192x16x512_S64x1x128_128_12_384 slices_S128x64_o0_0_S64x64 _ (by decide) ?_
  refine scales_piece64 arg1 harg1 x0 x2 66 5 128 12 256 64 _ inb_S192x16x512_S64x1x128_128_12_256 slices_S128x64_o64_0_S64x64 _ (by decide) ?_
  refine scales_piece64 arg1 harg1 x0 x2 66 4 128 12 256 0 _ inb_S192x16x512_S64x1x128_128_12_256 slices_S128x64_o0_0_S64x64 _ (by decide) ?_
  refine scales_piece64 arg1 harg1 x0 x2 66 3 128 12 128 64 _ inb_S192x16x512_S64x1x128_128_12_128 slices_S128x64_o64_0_S64x64 _ (by decide) ?_
  refine scales_piece64 arg1 harg1 x0 x2 66 2 128 12 128 0 _ inb_S192x16x512_S64x1x128_128_12_128 slices_S128x64_o0_0_S64x64 _ (by decide) ?_
  refine scales_piece64 arg1 harg1 x0 x2 66 1 128 12 0 64 _ inb_S192x16x512_S64x1x128_128_12_0 slices_S128x64_o64_0_S64x64 _ (by decide) ?_
  refine scales_piece64 arg1 harg1 x0 x2 66 0 128 12 0 0 _ inb_S192x16x512_S64x1x128_128_12_0 slices_S128x64_o0_0_S64x64 _ (by decide) ?_
  refine scales_piece128 arg1 harg1 x0 x2 66 7 0 12 384 64 _ inb_S192x16x512_S128x1x128_0_12_384 slices_S128x128_o64_0_S64x128 _ (by decide) ?_
  refine scales_piece128 arg1 harg1 x0 x2 66 6 0 12 384 0 _ inb_S192x16x512_S128x1x128_0_12_384 slices_S128x128_o0_0_S64x128 _ (by decide) ?_
  refine scales_piece128 arg1 harg1 x0 x2 66 5 0 12 256 64 _ inb_S192x16x512_S128x1x128_0_12_256 slices_S128x128_o64_0_S64x128 _ (by decide) ?_
  refine scales_piece128 arg1 harg1 x0 x2 66 4 0 12 256 0 _ inb_S192x16x512_S128x1x128_0_12_256 slices_S128x128_o0_0_S64x128 _ (by decide) ?_
  refine scales_piece128 arg1 harg1 x0 x2 66 3 0 12 128 64 _ inb_S192x16x512_S128x1x128_0_12_128 slices_S128x128_o64_0_S64x128 _ (by decide) ?_
  refine scales_piece128 arg1 harg1 x0 x2 66 2 0 12 128 0 _ inb_S192x16x512_S128x1x128_0_12_128 slices_S128x128_o0_0_S64x128 _ (by decide) ?_
  refine scales_piece128 arg1 harg1 x0 x2 66 1 0 12 0 64 _ inb_S192x16x512_S128x1x128_0_12_0 slices_S128x128_o64_0_S64x128 _ (by decide) ?_
  refine scales_piece128 arg1 harg1 x0 x2 66 0 0 12 0 0 _ inb_S192x16x512_S128x1x128_0_12_0 slices_S128x128_o0_0_S64x128 _ (by decide) ?_
  refine scales_piece64 arg1 harg1 x0 x2 65 7 128 11 384 64 _ inb_S192x16x512_S64x1x128_128_11_384 slices_S128x64_o64_0_S64x64 _ (by decide) ?_
  refine scales_piece64 arg1 harg1 x0 x2 65 6 128 11 384 0 _ inb_S192x16x512_S64x1x128_128_11_384 slices_S128x64_o0_0_S64x64 _ (by decide) ?_
  refine scales_piece64 arg1 harg1 x0 x2 65 5 128 11 256 64 _ inb_S192x16x512_S64x1x128_128_11_256 slices_S128x64_o64_0_S64x64 _ (by decide) ?_
  refine scales_piece64 arg1 harg1 x0 x2 65 4 128 11 256 0 _ inb_S192x16x512_S64x1x128_128_11_256 slices_S128x64_o0_0_S64x64 _ (by decide) ?_
  refine scales_piece64 arg1 harg1 x0 x2 65 3 128 11 128 64 _ inb_S192x16x512_S64x1x128_128_11_128 slices_S128x64_o64_0_S64x64 _ (by decide) ?_
  refine scales_piece64 arg1 harg1 x0 x2 65 2 128 11 128 0 _ inb_S192x16x512_S64x1x128_128_11_128 slices_S128x64_o0_0_S64x64 _ (by decide) ?_
  refine scales_piece64 arg1 harg1 x0 x2 65 1 128 11 0 64 _ inb_S192x16x512_S64x1x128_128_11_0 slices_S128x64_o64_0_S64x64 _ (by decide) ?_
  refine scales_piece64 arg1 harg1 x0 x2 65 0 128 11 0 0 _ inb_S192x16x512_S64x1x128_128_11_0 slices_S128x64_o0_0_S64x64 _ (by decide) ?_
  refine scales_piece128 arg1 harg1 x0 x2 65 7 0 11 384 64 _ inb_S192x16x512_S128x1x128_0_11_384 slices_S128x128_o64_0_S64x128 _ (by decide) ?_
  refine scales_piece128 arg1 harg1 x0 x2 65 6 0 11 384 0 _ inb_S192x16x512_S128x1x128_0_11_384 slices_S128x128_o0_0_S64x128 _ (by decide) ?_
  refine scales_piece128 arg1 harg1 x0 x2 65 5 0 11 256 64 _ inb_S192x16x512_S128x1x128_0_11_256 slices_S128x128_o64_0_S64x128 _ (by decide) ?_
  refine scales_piece128 arg1 harg1 x0 x2 65 4 0 11 256 0 _ inb_S192x16x512_S128x1x128_0_11_256 slices_S128x128_o0_0_S64x128 _ (by decide) ?_
  refine scales_piece128 arg1 harg1 x0 x2 65 3 0 11 128 64 _ inb_S192x16x512_S128x1x128_0_11_128 slices_S128x128_o64_0_S64x128 _ (by decide) ?_
  refine scales_piece128 arg1 harg1 x0 x2 65 2 0 11 128 0 _ inb_S192x16x512_S128x1x128_0_11_128 slices_S128x128_o0_0_S64x128 _ (by decide) ?_
  refine scales_piece128 arg1 harg1 x0 x2 65 1 0 11 0 64 _ inb_S192x16x512_S128x1x128_0_11_0 slices_S128x128_o64_0_S64x128 _ (by decide) ?_
  refine scales_piece128 arg1 harg1 x0 x2 65 0 0 11 0 0 _ inb_S192x16x512_S128x1x128_0_11_0 slices_S128x128_o0_0_S64x128 _ (by decide) ?_
  refine scales_piece64 arg1 harg1 x0 x2 64 7 128 10 384 64 _ inb_S192x16x512_S64x1x128_128_10_384 slices_S128x64_o64_0_S64x64 _ (by decide) ?_
  refine scales_piece64 arg1 harg1 x0 x2 64 6 128 10 384 0 _ inb_S192x16x512_S64x1x128_128_10_384 slices_S128x64_o0_0_S64x64 _ (by decide) ?_
  refine scales_piece64 arg1 harg1 x0 x2 64 5 128 10 256 64 _ inb_S192x16x512_S64x1x128_128_10_256 slices_S128x64_o64_0_S64x64 _ (by decide) ?_
  refine scales_piece64 arg1 harg1 x0 x2 64 4 128 10 256 0 _ inb_S192x16x512_S64x1x128_128_10_256 slices_S128x64_o0_0_S64x64 _ (by decide) ?_
  refine scales_piece64 arg1 harg1 x0 x2 64 3 128 10 128 64 _ inb_S192x16x512_S64x1x128_128_10_128 slices_S128x64_o64_0_S64x64 _ (by decide) ?_
  refine scales_piece64 arg1 harg1 x0 x2 64 2 128 10 128 0 _ inb_S192x16x512_S64x1x128_128_10_128 slices_S128x64_o0_0_S64x64 _ (by decide) ?_
  refine scales_piece64 arg1 harg1 x0 x2 64 1 128 10 0 64 _ inb_S192x16x512_S64x1x128_128_10_0 slices_S128x64_o64_0_S64x64 _ (by decide) ?_
  refine scales_piece64 arg1 harg1 x0 x2 64 0 128 10 0 0 _ inb_S192x16x512_S64x1x128_128_10_0 slices_S128x64_o0_0_S64x64 _ (by decide) ?_
  refine scales_piece128 arg1 harg1 x0 x2 64 7 0 10 384 64 _ inb_S192x16x512_S128x1x128_0_10_384 slices_S128x128_o64_0_S64x128 _ (by decide) ?_
  refine scales_piece128 arg1 harg1 x0 x2 64 6 0 10 384 0 _ inb_S192x16x512_S128x1x128_0_10_384 slices_S128x128_o0_0_S64x128 _ (by decide) ?_
  refine scales_piece128 arg1 harg1 x0 x2 64 5 0 10 256 64 _ inb_S192x16x512_S128x1x128_0_10_256 slices_S128x128_o64_0_S64x128 _ (by decide) ?_
  refine scales_piece128 arg1 harg1 x0 x2 64 4 0 10 256 0 _ inb_S192x16x512_S128x1x128_0_10_256 slices_S128x128_o0_0_S64x128 _ (by decide) ?_
  refine scales_piece128 arg1 harg1 x0 x2 64 3 0 10 128 64 _ inb_S192x16x512_S128x1x128_0_10_128 slices_S128x128_o64_0_S64x128 _ (by decide) ?_
  refine scales_piece128 arg1 harg1 x0 x2 64 2 0 10 128 0 _ inb_S192x16x512_S128x1x128_0_10_128 slices_S128x128_o0_0_S64x128 _ (by decide) ?_
  refine scales_piece128 arg1 harg1 x0 x2 64 1 0 10 0 64 _ inb_S192x16x512_S128x1x128_0_10_0 slices_S128x128_o64_0_S64x128 _ (by decide) ?_
  refine scales_piece128 arg1 harg1 x0 x2 64 0 0 10 0 0 _ inb_S192x16x512_S128x1x128_0_10_0 slices_S128x128_o0_0_S64x128 _ (by decide) ?_
  refine scales_piece64 arg1 harg1 x0 x2 63 7 128 9 384 64 _ inb_S192x16x512_S64x1x128_128_9_384 slices_S128x64_o64_0_S64x64 _ (by decide) ?_
  refine scales_piece64 arg1 harg1 x0 x2 63 6 128 9 384 0 _ inb_S192x16x512_S64x1x128_128_9_384 slices_S128x64_o0_0_S64x64 _ (by decide) ?_
  refine scales_piece64 arg1 harg1 x0 x2 63 5 128 9 256 64 _ inb_S192x16x512_S64x1x128_128_9_256 slices_S128x64_o64_0_S64x64 _ (by decide) ?_
  refine scales_piece64 arg1 harg1 x0 x2 63 4 128 9 256 0 _ inb_S192x16x512_S64x1x128_128_9_256 slices_S128x64_o0_0_S64x64 _ (by decide) ?_
  refine scales_piece64 arg1 harg1 x0 x2 63 3 128 9 128 64 _ inb_S192x16x512_S64x1x128_128_9_128 slices_S128x64_o64_0_S64x64 _ (by decide) ?_
  refine scales_piece64 arg1 harg1 x0 x2 63 2 128 9 128 0 _ inb_S192x16x512_S64x1x128_128_9_128 slices_S128x64_o0_0_S64x64 _ (by decide) ?_
  refine scales_piece64 arg1 harg1 x0 x2 63 1 128 9 0 64 _ inb_S192x16x512_S64x1x128_128_9_0 slices_S128x64_o64_0_S64x64 _ (by decide) ?_
  refine scales_piece64 arg1 harg1 x0 x2 63 0 128 9 0 0 _ inb_S192x16x512_S64x1x128_128_9_0 slices_S128x64_o0_0_S64x64 _ (by decide) ?_
  refine scales_piece128 arg1 harg1 x0 x2 63 7 0 9 384 64 _ inb_S192x16x512_S128x1x128_0_9_384 slices_S128x128_o64_0_S64x128 _ (by decide) ?_
  refine scales_piece128 arg1 harg1 x0 x2 63 6 0 9 384 0 _ inb_S192x16x512_S128x1x128_0_9_384 slices_S128x128_o0_0_S64x128 _ (by decide) ?_
  refine scales_piece128 arg1 harg1 x0 x2 63 5 0 9 256 64 _ inb_S192x16x512_S128x1x128_0_9_256 slices_S128x128_o64_0_S64x128 _ (by decide) ?_
  refine scales_piece128 arg1 harg1 x0 x2 63 4 0 9 256 0 _ inb_S192x16x512_S128x1x128_0_9_256 slices_S128x128_o0_0_S64x128 _ (by decide) ?_
  refine scales_piece128 arg1 harg1 x0 x2 63 3 0 9 128 64 _ inb_S192x16x512_S128x1x128_0_9_128 slices_S128x128_o64_0_S64x128 _ (by decide) ?_
  refine scales_piece128 arg1 harg1 x0 x2 63 2 0 9 128 0 _ inb_S192x16x512_S128x1x128_0_9_128 slices_S128x128_o0_0_S64x128 _ (by decide) ?_
  refine scales_piece128 arg1 harg1 x0 x2 63 1 0 9 0 64 _ inb_S192x16x512_S128x1x128_0_9_0 slices_S128x128_o64_0_S64x128 _ (by decide) ?_
  refine scales_piece128 arg1 harg1 x0 x2 63 0 0 9 0 0 _ inb_S192x16x512_S128x1x128_0_9_0 slices_S128x128_o0_0_S64x128 _ (by decide) ?_
  refine scales_piece64 arg1 harg1 x0 x2 62 7 128 8 384 64 _ inb_S192x16x512_S64x1x128_128_8_384 slices_S128x64_o64_0_S64x64 _ (by decide) ?_
  refine scales_piece64 arg1 harg1 x0 x2 62 6 128 8 384 0 _ inb_S192x16x512_S64x1x128_128_8_384 slices_S128x64_o0_0_S64x64 _ (by decide) ?_
  refine scales_piece64 arg1 harg1 x0 x2 62 5 128 8 256 64 _ inb_S192x16x512_S64x1x128_128_8_256 slices_S128x64_o64_0_S64x64 _ (by decide) ?_
  refine scales_piece64 arg1 harg1 x0 x2 62 4 128 8 256 0 _ inb_S192x16x512_S64x1x128_128_8_256 slices_S128x64_o0_0_S64x64 _ (by decide) ?_
  refine scales_piece64 arg1 harg1 x0 x2 62 3 128 8 128 64 _ inb_S192x16x512_S64x1x128_128_8_128 slices_S128x64_o64_0_S64x64 _ (by decide) ?_
  refine scales_piece64 arg1 harg1 x0 x2 62 2 128 8 128 0 _ inb_S192x16x512_S64x1x128_128_8_128 slices_S128x64_o0_0_S64x64 _ (by decide) ?_
  refine scales_piece64 arg1 harg1 x0 x2 62 1 128 8 0 64 _ inb_S192x16x512_S64x1x128_128_8_0 slices_S128x64_o64_0_S64x64 _ (by decide) ?_
  refine scales_piece64 arg1 harg1 x0 x2 62 0 128 8 0 0 _ inb_S192x16x512_S64x1x128_128_8_0 slices_S128x64_o0_0_S64x64 _ (by decide) ?_
  refine scales_piece128 arg1 harg1 x0 x2 62 7 0 8 384 64 _ inb_S192x16x512_S128x1x128_0_8_384 slices_S128x128_o64_0_S64x128 _ (by decide) ?_
  refine scales_piece128 arg1 harg1 x0 x2 62 6 0 8 384 0 _ inb_S192x16x512_S128x1x128_0_8_384 slices_S128x128_o0_0_S64x128 _ (by decide) ?_
  refine scales_piece128 arg1 harg1 x0 x2 62 5 0 8 256 64 _ inb_S192x16x512_S128x1x128_0_8_256 slices_S128x128_o64_0_S64x128 _ (by decide) ?_
  refine scales_piece128 arg1 harg1 x0 x2 62 4 0 8 256 0 _ inb_S192x16x512_S128x1x128_0_8_256 slices_S128x128_o0_0_S64x128 _ (by decide) ?_
  refine scales_piece128 arg1 harg1 x0 x2 62 3 0 8 128 64 _ inb_S192x16x512_S128x1x128_0_8_128 slices_S128x128_o64_0_S64x128 _ (by decide) ?_
  refine scales_piece128 arg1 harg1 x0 x2 62 2 0 8 128 0 _ inb_S192x16x512_S128x1x128_0_8_128 slices_S128x128_o0_0_S64x128 _ (by decide) ?_
  refine scales_piece128 arg1 harg1 x0 x2 62 1 0 8 0 64 _ inb_S192x16x512_S128x1x128_0_8_0 slices_S128x128_o64_0_S64x128 _ (by decide) ?_
  refine scales_piece128 arg1 harg1 x0 x2 62 0 0 8 0 0 _ inb_S192x16x512_S128x1x128_0_8_0 slices_S128x128_o0_0_S64x128 _ (by decide) ?_
  refine scales_piece64 arg1 harg1 x0 x2 61 7 128 7 384 64 _ inb_S192x16x512_S64x1x128_128_7_384 slices_S128x64_o64_0_S64x64 _ (by decide) ?_
  refine scales_piece64 arg1 harg1 x0 x2 61 6 128 7 384 0 _ inb_S192x16x512_S64x1x128_128_7_384 slices_S128x64_o0_0_S64x64 _ (by decide) ?_
  refine scales_piece64 arg1 harg1 x0 x2 61 5 128 7 256 64 _ inb_S192x16x512_S64x1x128_128_7_256 slices_S128x64_o64_0_S64x64 _ (by decide) ?_
  refine scales_piece64 arg1 harg1 x0 x2 61 4 128 7 256 0 _ inb_S192x16x512_S64x1x128_128_7_256 slices_S128x64_o0_0_S64x64 _ (by decide) ?_
  refine scales_piece64 arg1 harg1 x0 x2 61 3 128 7 128 64 _ inb_S192x16x512_S64x1x128_128_7_128 slices_S128x64_o64_0_S64x64 _ (by decide) ?_
  refine scales_piece64 arg1 harg1 x0 x2 61 2 128 7 128 0 _ inb_S192x16x512_S64x1x128_128_7_128 slices_S128x64_o0_0_S64x64 _ (by decide) ?_
  refine scales_piece64 arg1 harg1 x0 x2 61 1 128 7 0 64 _ inb_S192x16x512_S64x1x128_128_7_0 slices_S128x64_o64_0_S64x64 _ (by decide) ?_
  refine scales_piece64 arg1 harg1 x0 x2 61 0 128 7 0 0 _ inb_S192x16x512_S64x1x128_128_7_0 slices_S128x64_o0_0_S64x64 _ (by decide) ?_
  refine scales_piece128 arg1 harg1 x0 x2 61 7 0 7 384 64 _ inb_S192x16x512_S128x1x128_0_7_384 slices_S128x128_o64_0_S64x128 _ (by decide) ?_
  refine scales_piece128 arg1 harg1 x0 x2 61 6 0 7 384 0 _ inb_S192x16x512_S128x1x128_0_7_384 slices_S128x128_o0_0_S64x128 _ (by decide) ?_
  refine scales_piece128 arg1 harg1 x0 x2 61 5 0 7 256 64 _ inb_S192x16x512_S128x1x128_0_7_256 slices_S128x128_o64_0_S64x128 _ (by decide) ?_
  refine scales_piece128 arg1 harg1 x0 x2 61 4 0 7 256 0 _ inb_S192x16x512_S128x1x128_0_7_256 slices_S128x128_o0_0_S64x128 _ (by decide) ?_
  refine scales_piece128 arg1 harg1 x0 x2 61 3 0 7 128 64 _ inb_S192x16x512_S128x1x128_0_7_128 slices_S128x128_o64_0_S64x128 _ (by decide) ?_
  refine scales_piece128 arg1 harg1 x0 x2 61 2 0 7 128 0 _ inb_S192x16x512_S128x1x128_0_7_128 slices_S128x128_o0_0_S64x128 _ (by decide) ?_
  refine scales_piece128 arg1 harg1 x0 x2 61 1 0 7 0 64 _ inb_S192x16x512_S128x1x128_0_7_0 slices_S128x128_o64_0_S64x128 _ (by decide) ?_
  refine scales_piece128 arg1 harg1 x0 x2 61 0 0 7 0 0 _ inb_S192x16x512_S128x1x128_0_7_0 slices_S128x128_o0_0_S64x128 _ (by decide) ?_
  refine scales_piece64 arg1 harg1 x0 x2 60 7 128 6 384 64 _ inb_S192x16x512_S64x1x128_128_6_384 slices_S128x64_o64_0_S64x64 _ (by decide) ?_
  refine scales_piece64 arg1 harg1 x0 x2 60 6 128 6 384 0 _ inb_S192x16x512_S64x1x128_128_6_384 slices_S128x64_o0_0_S64x64 _ (by decide) ?_
  refine scales_piece64 arg1 harg1 x0 x2 60 5 128 6 256 64 _ inb_S192x16x512_S64x1x128_128_6_256 slices_S128x64_o64_0_S64x64 _ (by decide) ?_
  refine scales_piece64 arg1 harg1 x0 x2 60 4 128 6 256 0 _ inb_S192x16x512_S64x1x128_128_6_256 slices_S128x64_o0_0_S64x64 _ (by decide) ?_
  refine scales_piece64 arg1 harg1 x0 x2 60 3 128 6 128 64 _ inb_S192x16x512_S64x1x128_128_6_128 slices_S128x64_o64_0_S64x64 _ (by decide) ?_
  refine scales_piece64 arg1 harg1 x0 x2 60 2 128 6 128 0 _ inb_S192x16x512_S64x1x128_128_6_128 slices_S128x64_o0_0_S64x64 _ (by decide) ?_
  refine scales_piece64 arg1 harg1 x0 x2 60 1 128 6 0 64 _ inb_S192x16x512_S64x1x128_128_6_0 slices_S128x64_o64_0_S64x64 _ (by decide) ?_
  refine scales_piece64 arg1 harg1 x0 x2 60 0 128 6 0 0 _ inb_S192x16x512_S64x1x128_128_6_0 slices_S128x64_o0_0_S64x64 _ (by decide) ?_
  refine scales_piece128 arg1 harg1 x0 x2 60 7 0 6 384 64 _ inb_S192x16x512_S128x1x128_0_6_384 slices_S128x128_o64_0_S64x128 _ (by decide) ?_
  refine scales_piece128 arg1 harg1 x0 x2 60 6 0 6 384 0 _ inb_S192x16x512_S128x1x128_0_6_384 slices_S128x128_o0_0_S64x128 _ (by decide) ?_
  refine scales_piece128 arg1 harg1 x0 x2 60 5 0 6 256 64 _ inb_S192x16x512_S128x1x128_0_6_256 slices_S128x128_o64_0_S64x128 _ (by decide) ?_
  refine scales_piece128 arg1 harg1 x0 x2 60 4 0 6 256 0 _ inb_S192x16x512_S128x1x128_0_6_256 slices_S128x128_o0_0_S64x128 _ (by decide) ?_
  refine scales_piece128 arg1 harg1 x0 x2 60 3 0 6 128 64 _ inb_S192x16x512_S128x1x128_0_6_128 slices_S128x128_o64_0_S64x128 _ (by decide) ?_
  refine scales_piece128 arg1 harg1 x0 x2 60 2 0 6 128 0 _ inb_S192x16x512_S128x1x128_0_6_128 slices_S128x128_o0_0_S64x128 _ (by decide) ?_
  refine scales_piece128 arg1 harg1 x0 x2 60 1 0 6 0 64 _ inb_S192x16x512_S128x1x128_0_6_0 slices_S128x128_o64_0_S64x128 _ (by decide) ?_
  refine scales_piece128 arg1 harg1 x0 x2 60 0 0 6 0 0 _ inb_S192x16x512_S128x1x128_0_6_0 slices_S128x128_o0_0_S64x128 _ (by decide) ?_
  refine scales_piece64 arg1 harg1 x0 x2 59 7 128 5 384 64 _ inb_S192x16x512_S64x1x128_128_5_384 slices_S128x64_o64_0_S64x64 _ (by decide) ?_
  refine scales_piece64 arg1 harg1 x0 x2 59 6 128 5 384 0 _ inb_S192x16x512_S64x1x128_128_5_384 slices_S128x64_o0_0_S64x64 _ (by decide) ?_
  refine scales_piece64 arg1 harg1 x0 x2 59 5 128 5 256 64 _ inb_S192x16x512_S64x1x128_128_5_256 slices_S128x64_o64_0_S64x64 _ (by decide) ?_
  refine scales_piece64 arg1 harg1 x0 x2 59 4 128 5 256 0 _ inb_S192x16x512_S64x1x128_128_5_256 slices_S128x64_o0_0_S64x64 _ (by decide) ?_
  refine scales_piece64 arg1 harg1 x0 x2 59 3 128 5 128 64 _ inb_S192x16x512_S64x1x128_128_5_128 slices_S128x64_o64_0_S64x64 _ (by decide) ?_
  refine scales_piece64 arg1 harg1 x0 x2 59 2 128 5 128 0 _ inb_S192x16x512_S64x1x128_128_5_128 slices_S128x64_o0_0_S64x64 _ (by decide) ?_
  refine scales_piece64 arg1 harg1 x0 x2 59 1 128 5 0 64 _ inb_S192x16x512_S64x1x128_128_5_0 slices_S128x64_o64_0_S64x64 _ (by decide) ?_
  refine scales_piece64 arg1 harg1 x0 x2 59 0 128 5 0 0 _ inb_S192x16x512_S64x1x128_128_5_0 slices_S128x64_o0_0_S64x64 _ (by decide) ?_
  refine scales_piece128 arg1 harg1 x0 x2 59 7 0 5 384 64 _ inb_S192x16x512_S128x1x128_0_5_384 slices_S128x128_o64_0_S64x128 _ (by decide) ?_
  refine scales_piece128 arg1 harg1 x0 x2 59 6 0 5 384 0 _ inb_S192x16x512_S128x1x128_0_5_384 slices_S128x128_o0_0_S64x128 _ (by decide) ?_
  refine scales_piece128 arg1 harg1 x0 x2 59 5 0 5 256 64 _ inb_S192x16x512_S128x1x128_0_5_256 slices_S128x128_o64_0_S64x128 _ (by decide) ?_
  refine scales_piece128 arg1 harg1 x0 x2 59 4 0 5 256 0 _ inb_S192x16x512_S128x1x128_0_5_256 slices_S128x128_o0_0_S64x128 _ (by decide) ?_
  refine scales_piece128 arg1 harg1 x0 x2 59 3 0 5 128 64 _ inb_S192x16x512_S128x1x128_0_5_128 slices_S128x128_o64_0_S64x128 _ (by decide) ?_
  refine scales_piece128 arg1 harg1 x0 x2 59 2 0 5 128 0 _ inb_S192x16x512_S128x1x128_0_5_128 slices_S128x128_o0_0_S64x128 _ (by decide) ?_
  refine scales_piece128 arg1 harg1 x0 x2 59 1 0 5 0 64 _ inb_S192x16x512_S128x1x128_0_5_0 slices_S128x128_o64_0_S64x128 _ (by decide) ?_
  refine scales_piece128 arg1 harg1 x0 x2 59 0 0 5 0 0 _ inb_S192x16x512_S128x1x128_0_5_0 slices_S128x128_o0_0_S64x128 _ (by decide) ?_
  refine scales_piece64 arg1 harg1 x0 x2 58 7 128 4 384 64 _ inb_S192x16x512_S64x1x128_128_4_384 slices_S128x64_o64_0_S64x64 _ (by decide) ?_
  refine scales_piece64 arg1 harg1 x0 x2 58 6 128 4 384 0 _ inb_S192x16x512_S64x1x128_128_4_384 slices_S128x64_o0_0_S64x64 _ (by decide) ?_
  refine scales_piece64 arg1 harg1 x0 x2 58 5 128 4 256 64 _ inb_S192x16x512_S64x1x128_128_4_256 slices_S128x64_o64_0_S64x64 _ (by decide) ?_
  refine scales_piece64 arg1 harg1 x0 x2 58 4 128 4 256 0 _ inb_S192x16x512_S64x1x128_128_4_256 slices_S128x64_o0_0_S64x64 _ (by decide) ?_
  refine scales_piece64 arg1 harg1 x0 x2 58 3 128 4 128 64 _ inb_S192x16x512_S64x1x128_128_4_128 slices_S128x64_o64_0_S64x64 _ (by decide) ?_
  refine scales_piece64 arg1 harg1 x0 x2 58 2 128 4 128 0 _ inb_S192x16x512_S64x1x128_128_4_128 slices_S128x64_o0_0_S64x64 _ (by decide) ?_
  refine scales_piece64 arg1 harg1 x0 x2 58 1 128 4 0 64 _ inb_S192x16x512_S64x1x128_128_4_0 slices_S128x64_o64_0_S64x64 _ (by decide) ?_
  refine scales_piece64 arg1 harg1 x0 x2 58 0 128 4 0 0 _ inb_S192x16x512_S64x1x128_128_4_0 slices_S128x64_o0_0_S64x64 _ (by decide) ?_
  refine scales_piece128 arg1 harg1 x0 x2 58 7 0 4 384 64 _ inb_S192x16x512_S128x1x128_0_4_384 slices_S128x128_o64_0_S64x128 _ (by decide) ?_
  refine scales_piece128 arg1 harg1 x0 x2 58 6 0 4 384 0 _ inb_S192x16x512_S128x1x128_0_4_384 slices_S128x128_o0_0_S64x128 _ (by decide) ?_
  refine scales_piece128 arg1 harg1 x0 x2 58 5 0 4 256 64 _ inb_S192x16x512_S128x1x128_0_4_256 slices_S128x128_o64_0_S64x128 _ (by decide) ?_
  refine scales_piece128 arg1 harg1 x0 x2 58 4 0 4 256 0 _ inb_S192x16x512_S128x1x128_0_4_256 slices_S128x128_o0_0_S64x128 _ (by decide) ?_
  refine scales_piece128 arg1 harg1 x0 x2 58 3 0 4 128 64 _ inb_S192x16x512_S128x1x128_0_4_128 slices_S128x128_o64_0_S64x128 _ (by decide) ?_
  refine scales_piece128 arg1 harg1 x0 x2 58 2 0 4 128 0 _ inb_S192x16x512_S128x1x128_0_4_128 slices_S128x128_o0_0_S64x128 _ (by decide) ?_
  refine scales_piece128 arg1 harg1 x0 x2 58 1 0 4 0 64 _ inb_S192x16x512_S128x1x128_0_4_0 slices_S128x128_o64_0_S64x128 _ (by decide) ?_
  refine scales_piece128 arg1 harg1 x0 x2 58 0 0 4 0 0 _ inb_S192x16x512_S128x1x128_0_4_0 slices_S128x128_o0_0_S64x128 _ (by decide) ?_
  refine scales_piece64 arg1 harg1 x0 x2 57 7 128 3 384 64 _ inb_S192x16x512_S64x1x128_128_3_384 slices_S128x64_o64_0_S64x64 _ (by decide) ?_
  refine scales_piece64 arg1 harg1 x0 x2 57 6 128 3 384 0 _ inb_S192x16x512_S64x1x128_128_3_384 slices_S128x64_o0_0_S64x64 _ (by decide) ?_
  refine scales_piece64 arg1 harg1 x0 x2 57 5 128 3 256 64 _ inb_S192x16x512_S64x1x128_128_3_256 slices_S128x64_o64_0_S64x64 _ (by decide) ?_
  refine scales_piece64 arg1 harg1 x0 x2 57 4 128 3 256 0 _ inb_S192x16x512_S64x1x128_128_3_256 slices_S128x64_o0_0_S64x64 _ (by decide) ?_
  refine scales_piece64 arg1 harg1 x0 x2 57 3 128 3 128 64 _ inb_S192x16x512_S64x1x128_128_3_128 slices_S128x64_o64_0_S64x64 _ (by decide) ?_
  refine scales_piece64 arg1 harg1 x0 x2 57 2 128 3 128 0 _ inb_S192x16x512_S64x1x128_128_3_128 slices_S128x64_o0_0_S64x64 _ (by decide) ?_
  refine scales_piece64 arg1 harg1 x0 x2 57 1 128 3 0 64 _ inb_S192x16x512_S64x1x128_128_3_0 slices_S128x64_o64_0_S64x64 _ (by decide) ?_
  refine scales_piece64 arg1 harg1 x0 x2 57 0 128 3 0 0 _ inb_S192x16x512_S64x1x128_128_3_0 slices_S128x64_o0_0_S64x64 _ (by decide) ?_
  refine scales_piece128 arg1 harg1 x0 x2 57 7 0 3 384 64 _ inb_S192x16x512_S128x1x128_0_3_384 slices_S128x128_o64_0_S64x128 _ (by decide) ?_
  refine scales_piece128 arg1 harg1 x0 x2 57 6 0 3 384 0 _ inb_S192x16x512_S128x1x128_0_3_384 slices_S128x128_o0_0_S64x128 _ (by decide) ?_
  refine scales_piece128 arg1 harg1 x0 x2 57 5 0 3 256 64 _ inb_S192x16x512_S128x1x128_0_3_256 slices_S128x128_o64_0_S64x128 _ (by decide) ?_
  refine scales_piece128 arg1 harg1 x0 x2 57 4 0 3 256 0 _ inb_S192x16x512_S128x1x128_0_3_256 slices_S128x128_o0_0_S64x128 _ (by decide) ?_
  refine scales_piece128 arg1 harg1 x0 x2 57 3 0 3 128 64 _ inb_S192x16x512_S128x1x128_0_3_128 slices_S128x128_o64_0_S64x128 _ (by decide) ?_
  refine scales_piece128 arg1 harg1 x0 x2 57 2 0 3 128 0 _ inb_S192x16x512_S128x1x128_0_3_128 slices_S128x128_o0_0_S64x128 _ (by decide) ?_
  refine scales_piece128 arg1 harg1 x0 x2 57 1 0 3 0 64 _ inb_S192x16x512_S128x1x128_0_3_0 slices_S128x128_o64_0_S64x128 _ (by decide) ?_
  refine scales_piece128 arg1 harg1 x0 x2 57 0 0 3 0 0 _ inb_S192x16x512_S128x1x128_0_3_0 slices_S128x128_o0_0_S64x128 _ (by decide) ?_
  refine scales_piece64 arg1 harg1 x0 x2 56 7 128 2 384 64 _ inb_S192x16x512_S64x1x128_128_2_384 slices_S128x64_o64_0_S64x64 _ (by decide) ?_
  refine scales_piece64 arg1 harg1 x0 x2 56 6 128 2 384 0 _ inb_S192x16x512_S64x1x128_128_2_384 slices_S128x64_o0_0_S64x64 _ (by decide) ?_
  refine scales_piece64 arg1 harg1 x0 x2 56 5 128 2 256 64 _ inb_S192x16x512_S64x1x128_128_2_256 slices_S128x64_o64_0_S64x64 _ (by decide) ?_
  refine scales_piece64 arg1 harg1 x0 x2 56 4 128 2 256 0 _ inb_S192x16x512_S64x1x128_128_2_256 slices_S128x64_o0_0_S64x64 _ (by decide) ?_
  refine scales_piece64 arg1 harg1 x0 x2 56 3 128 2 128 64 _ inb_S192x16x512_S64x1x128_128_2_128 slices_S128x64_o64_0_S64x64 _ (by decide) ?_
  refine scales_piece64 arg1 harg1 x0 x2 56 2 128 2 128 0 _ inb_S192x16x512_S64x1x128_128_2_128 slices_S128x64_o0_0_S64x64 _ (by decide) ?_
  refine scales_piece64 arg1 harg1 x0 x2 56 1 128 2 0 64 _ inb_S192x16x512_S64x1x128_128_2_0 slices_S128x64_o64_0_S64x64 _ (by decide) ?_
  refine scales_piece64 arg1 harg1 x0 x2 56 0 128 2 0 0 _ inb_S192x16x512_S64x1x128_128_2_0 slices_S128x64_o0_0_S64x64 _ (by decide) ?_
  refine scales_piece128 arg1 harg1 x0 x2 56 7 0 2 384 64 _ inb_S192x16x512_S128x1x128_0_2_384 slices_S128x128_o64_0_S64x128 _ (by decide) ?_
  refine scales_piece128 arg1 harg1 x0 x2 56 6 0 2 384 0 _ inb_S192x16x512_S128x1x128_0_2_384 slices_S128x128_o0_0_S64x128 _ (by decide) ?_
  refine scales_piece128 arg1 harg1 x0 x2 56 5 0 2 256 64 _ inb_S192x16x512_S128x1x128_0_2_256 slices_S128x128_o64_0_S64x128 _ (by decide) ?_
  refine scales_piece128 arg1 harg1 x0 x2 56 4 0 2 256 0 _ inb_S192x16x512_S128x1x128_0_2_256 slices_S128x128_o0_0_S64x128 _ (by decide) ?_
  refine scales_piece128 arg1 harg1 x0 x2 56 3 0 2 128 64 _ inb_S192x16x512_S128x1x128_0_2_128 slices_S128x128_o64_0_S64x128 _ (by decide) ?_
  refine scales_piece128 arg1 harg1 x0 x2 56 2 0 2 128 0 _ inb_S192x16x512_S128x1x128_0_2_128 slices_S128x128_o0_0_S64x128 _ (by decide) ?_
  refine scales_piece128 arg1 harg1 x0 x2 56 1 0 2 0 64 _ inb_S192x16x512_S128x1x128_0_2_0 slices_S128x128_o64_0_S64x128 _ (by decide) ?_
  refine scales_piece128 arg1 harg1 x0 x2 56 0 0 2 0 0 _ inb_S192x16x512_S128x1x128_0_2_0 slices_S128x128_o0_0_S64x128 _ (by decide) ?_
  refine scales_piece64 arg1 harg1 x0 x2 55 7 128 1 384 64 _ inb_S192x16x512_S64x1x128_128_1_384 slices_S128x64_o64_0_S64x64 _ (by decide) ?_
  refine scales_piece64 arg1 harg1 x0 x2 55 6 128 1 384 0 _ inb_S192x16x512_S64x1x128_128_1_384 slices_S128x64_o0_0_S64x64 _ (by decide) ?_
  refine scales_piece64 arg1 harg1 x0 x2 55 5 128 1 256 64 _ inb_S192x16x512_S64x1x128_128_1_256 slices_S128x64_o64_0_S64x64 _ (by decide) ?_
  refine scales_piece64 arg1 harg1 x0 x2 55 4 128 1 256 0 _ inb_S192x16x512_S64x1x128_128_1_256 slices_S128x64_o0_0_S64x64 _ (by decide) ?_
  refine scales_piece64 arg1 harg1 x0 x2 55 3 128 1 128 64 _ inb_S192x16x512_S64x1x128_128_1_128 slices_S128x64_o64_0_S64x64 _ (by decide) ?_
  refine scales_piece64 arg1 harg1 x0 x2 55 2 128 1 128 0 _ inb_S192x16x512_S64x1x128_128_1_128 slices_S128x64_o0_0_S64x64 _ (by decide) ?_
  refine scales_piece64 arg1 harg1 x0 x2 55 1 128 1 0 64 _ inb_S192x16x512_S64x1x128_128_1_0 slices_S128x64_o64_0_S64x64 _ (by decide) ?_
  refine scales_piece64 arg1 harg1 x0 x2 55 0 128 1 0 0 _ inb_S192x16x512_S64x1x128_128_1_0 slices_S128x64_o0_0_S64x64 _ (by decide) ?_
  refine scales_piece128 arg1 harg1 x0 x2 55 7 0 1 384 64 _ inb_S192x16x512_S128x1x128_0_1_384 slices_S128x128_o64_0_S64x128 _ (by decide) ?_
  refine scales_piece128 arg1 harg1 x0 x2 55 6 0 1 384 0 _ inb_S192x16x512_S128x1x128_0_1_384 slices_S128x128_o0_0_S64x128 _ (by decide) ?_
  refine scales_piece128 arg1 harg1 x0 x2 55 5 0 1 256 64 _ inb_S192x16x512_S128x1x128_0_1_256 slices_S128x128_o64_0_S64x128 _ (by decide) ?_
  refine scales_piece128 arg1 harg1 x0 x2 55 4 0 1 256 0 _ inb_S192x16x512_S128x1x128_0_1_256 slices_S128x128_o0_0_S64x128 _ (by decide) ?_
  refine scales_piece128 arg1 harg1 x0 x2 55 3 0 1 128 64 _ inb_S192x16x512_S128x1x128_0_1_128 slices_S128x128_o64_0_S64x128 _ (by decide) ?_
  refine scales_piece128 arg1 harg1 x0 x2 55 2 0 1 128 0 _ inb_S192x16x512_S128x1x128_0_1_128 slices_S128x128_o0_0_S64x128 _ (by decide) ?_
  refine scales_piece128 arg1 harg1 x0 x2 55 1 0 1 0 64 _ inb_S192x16x512_S128x1x128_0_1_0 slices_S128x128_o64_0_S64x128 _ (by decide) ?_
  refine scales_piece128 arg1 harg1 x0 x2 55 0 0 1 0 0 _ inb_S192x16x512_S128x1x128_0_1_0 slices_S128x128_o0_0_S64x128 _ (by decide) ?_
  refine scales_piece64 arg1 harg1 x0 x2 54 7 128 0 384 64 _ inb_S192x16x512_S64x1x128_128_0_384 slices_S128x64_o64_0_S64x64 _ (by decide) ?_
  refine scales_piece64 arg1 harg1 x0 x2 54 6 128 0 384 0 _ inb_S192x16x512_S64x1x128_128_0_384 slices_S128x64_o0_0_S64x64 _ (by decide) ?_
  refine scales_piece64 arg1 harg1 x0 x2 54 5 128 0 256 64 _ inb_S192x16x512_S64x1x128_128_0_256 slices_S128x64_o64_0_S64x64 _ (by decide) ?_
  refine scales_piece64 arg1 harg1 x0 x2 54 4 128 0 256 0 _ inb_S192x16x512_S64x1x128_128_0_256 slices_S128x64_o0_0_S64x64 _ (by decide) ?_
  refine scales_piece64 arg1 harg1 x0 x2 54 3 128 0 128 64 _ inb_S192x16x512_S64x1x128_128_0_128 slices_S128x64_o64_0_S64x64 _ (by decide) ?_
  refine scales_piece64 arg1 harg1 x0 x2 54 2 128 0 128 0 _ inb_S192x16x512_S64x1x128_128_0_128 slices_S128x64_o0_0_S64x64 _ (by decide) ?_
  refine scales_piece64 arg1 harg1 x0 x2 54 1 128 0 0 64 _ inb_S192x16x512_S64x1x128_128_0_0 slices_S128x64_o64_0_S64x64 _ (by decide) ?_
  refine scales_piece64 arg1 harg1 x0 x2 54 0 128 0 0 0 _ inb_S192x16x512_S64x1x128_128_0_0 slices_S128x64_o0_0_S64x64 _ (by decide) ?_
  refine scales_piece128 arg1 harg1 x0 x2 54 7 0 0 384 64 _ inb_S192x16x512_S128x1x128_0_0_384 slices_S128x128_o64_0_S64x128 _ (by decide) ?_
  refine scales_piece128 arg1 harg1 x0 x2 54 6 0 0 384 0 _ inb_S192x16x512_S128x1x128_0_0_384 slices_S128x128_o0_0_S64x128 _ (by decide) ?_
  refine scales_piece128 arg1 harg1 x0 x2 54 5 0 0 256 64 _ inb_S192x16x512_S128x1x128_0_0_256 slices_S128x128_o64_0_S64x128 _ (by decide) ?_
  refine scales_piece128 arg1 harg1 x0 x2 54 4 0 0 256 0 _ inb_S192x16x512_S128x1x128_0_0_256 slices_S128x128_o0_0_S64x128 _ (by decide) ?_
  refine scales_piece128 arg1 harg1 x0 x2 54 3 0 0 128 64 _ inb_S192x16x512_S128x1x128_0_0_128 slices_S128x128_o64_0_S64x128 _ (by decide) ?_
  refine scales_piece128 arg1 harg1 x0 x2 54 2 0 0 128 0 _ inb_S192x16x512_S128x1x128_0_0_128 slices_S128x128_o0_0_S64x128 _ (by decide) ?_
  refine scales_piece128 arg1 harg1 x0 x2 54 1 0 0 0 64 _ inb_S192x16x512_S128x1x128_0_0_0 slices_S128x128_o64_0_S64x128 _ (by decide) ?_
  refine scales_piece128 arg1 harg1 x0 x2 54 0 0 0 0 0 _ inb_S192x16x512_S128x1x128_0_0_0 slices_S128x128_o0_0_S64x128 _ (by decide) ?_
  exact scales_copy arg3 harg3 x0 x2 _ _

/-- The codes that the body leaves. -/
theorem out_codes (y : S70x512x192.Idx) : out0_A_3 (F := Ideal) c i arg1 harg1 arg2 harg2 arg3 harg3 arg4 harg4 arg5 harg5
    x0 x1 x2 y = codesBlock x0 x1 y := by
  unfold out0_A_3
  rw [View.read_writes_eq_canon _ _ _ (cover0_A_3 c i arg1 harg1 arg2 harg2 arg3 harg3 arg4 harg4 arg5 harg5 x0 x1 x2)]
  exact View.canon_apply_of_pieces _ _ (View.PiecesOf.mem (pieces_codes c i arg1 harg1 arg2 harg2 arg3 harg3 arg4 harg4
    arg5 harg5 x0 x1 x2)) y (cover0_A_3 c i arg1 harg1 arg2 harg2 arg3 harg3 arg4 harg4 arg5 harg5 x0 x1 x2 y)

/-- The scales that the body leaves. -/
theorem out_scales (y : S70x8x192.Idx) : out0_A_4 (F := Ideal) c i arg1 harg1 arg2 harg2 arg3 harg3 arg4 harg4 arg5 harg5
    x0 x1 x2 y = scalesBlock x0 x2 y := by
  unfold out0_A_4
  rw [View.read_writes_eq_canon _ _ _ (cover0_A_4 c i arg1 harg1 arg2 harg2 arg3 harg3 arg4 harg4 arg5 harg5 x0 x1 x2)]
  exact View.canon_apply_of_pieces _ _ (View.PiecesOf.mem (pieces_scales c i arg1 harg1 arg2 harg2 arg3 harg3 arg4 harg4
    arg5 harg5 x0 x1 x2)) y (cover0_A_4 c i arg1 harg1 arg2 harg2 arg3 harg3 arg4 harg4 arg5 harg5 x0 x1 x2 y)

end Cert.RollKIdeal.Hand
-- ==== Proof.RollKFinal.lean ====
/-
  The two result arrays of a cache roll after the kernel's run.
-/
module

public import proofs.«01_k».proof.Proof.RollKOut
public import Idealize.ShloMosaic.Lib.Pipeline.ValueKit
public import Idealize.ShloMosaic.Lib.Claim
public import Idealize.ShloMosaic.Lib.StableHlo.ReadAt

@[expose] public section

set_option maxRecDepth 16384

noncomputable section

namespace Cert.RollKIdeal.Hand

open Cert.RollKIdeal Cert.RollKIdeal.Gen Cert.Roll Idealize.ShloMosaic Idealize.ShloMosaic.TcCoe
  Idealize.SL.Sem

variable (m : (ℓ : Loc nD τ sig) → Buf (Elt Ideal) ℓ) (c : Dev nD)

/-- The block index of every window at every grid point. -/
theorem idx : ∀ t : Fin grid0.N,
    win0_0.index t = ![0, 0, 4 + t.val]
    ∧ win0_1.index t = ![0, t.val, 0]
    ∧ win0_2.index t = ![0, t.val, 0]
    ∧ win0_3.index t = ![0, t.val, 0]
    ∧ win0_4.index t = ![0, t.val, 0] :=
  by decide +kernel

/-- There are four grid points. -/
theorem lt4 (t : Fin cfg0.N) : (t : ℕ) < 4 := lt_of_lt_of_eq t.isLt N_0

/-- The new frames as the region finds them. -/
theorem v3_eq (b : Fin 192) (s : Fin 16) (l : Fin 6144) :
    (V m c main_v3 : Vec Ideal S192x16x6144 .bf16) (ix3 b s l)
      = m ((c : Thread nD τ).loc main_arg0) (ix2 ⟨b * 16 + s, by omega⟩ l) := by
  unfold V V0
  simp only [hostOps0, List.flatten_cons, List.flatten_nil, List.append_nil]
  after_reads_at

/-- The cache's codes as the region finds them: streams last. -/
theorem v1_eq (p : Fin 70) (d : Fin 2048) (b : Fin 192) :
    (V m c main_v1 : Vec Ideal S70x2048x192 .i8) (ix3 p d b)
      = m ((c : Thread nD τ).loc main_arg1) (ix4 b p ⟨d / 64, by omega⟩ ⟨d % 64, Nat.mod_lt _ (by decide)⟩) := by
  unfold V V0
  simp only [hostOps0, List.flatten_cons, List.flatten_nil, List.append_nil]
  after_reads_at

/-- The cache's scales as the region finds them: streams last. -/
theorem v2_eq (p : Fin 70) (h : Fin 32) (b : Fin 192) :
    (V m c main_v2 : Vec Ideal S70x32x192 .f32) (ix3 p h b) = m ((c : Thread nD τ).loc main_arg2) (ix3 b p h) := by
  unfold V V0
  simp only [hostOps0, List.flatten_cons, List.flatten_nil, List.append_nil]
  after_reads_at

/-- The new frames, as staged. -/
theorem frames_eq (t : Fin cfg0.N) (b : Fin 192) (s : Fin 16) (l : Fin 512) :
    (iblk m c 0 t : Vec Ideal S192x16x512 .bf16) (ix3 b s l) = m ((c : Thread nD τ).loc main_arg0)
      (ix2 ⟨b * 16 + s, by omega⟩ ⟨(4 + t) * 512 + l, by have := lt4 t; omega⟩) := by
  refine Eq.trans ?_ (v3_eq m c b s ⟨(4 + t) * 512 + l, by have := lt4 t; omega⟩)
  have e : (win0_0.blk t).view.emb (ix3 b s l) = ix3 b s ⟨(4 + t) * 512 + l, by have := lt4 t; omega⟩ := by
    blk_ext [idx t]
  exact congrArg (V m c main_v3) e

/-- The cache's codes, as staged. -/
theorem cacheCodes_eq (t : Fin cfg0.N) (p : Fin 70) (d : Fin 512) (b : Fin 192) :
    (iblk m c 1 t : Vec Ideal S70x512x192 .i8) (ix3 p d b) = m ((c : Thread nD τ).loc main_arg1)
      (ix4 b p ⟨(t * 512 + d) / 64, by have := lt4 t; omega⟩ ⟨(t * 512 + d) % 64, Nat.mod_lt _ (by decide)⟩) := by
  refine Eq.trans ?_ (v1_eq m c p ⟨t * 512 + d, by have := lt4 t; omega⟩ b)
  have e : (win0_1.blk t).view.emb (ix3 p d b) = ix3 p ⟨t * 512 + d, by have := lt4 t; omega⟩ b := by
    blk_ext [idx t]
  exact congrArg (V m c main_v1) e

/-- The cache's scales, as staged. -/
theorem cacheScales_eq (t : Fin cfg0.N) (p : Fin 70) (h : Fin 8) (b : Fin 192) :
    (iblk m c 2 t : Vec Ideal S70x8x192 .f32) (ix3 p h b) = m ((c : Thread nD τ).loc main_arg2)
      (ix3 b p ⟨t * 8 + h, by have := lt4 t; omega⟩) := by
  refine Eq.trans ?_ (v2_eq m c p ⟨t * 8 + h, by have := lt4 t; omega⟩ b)
  have e : (win0_2.blk t).view.emb (ix3 p h b) = ix3 p ⟨t * 8 + h, by have := lt4 t; omega⟩ b := by
    blk_ext [idx t]
  exact congrArg (V m c main_v2) e

/-- The codes of the rolled cache, streams last. -/
def codesArr (a0 : Vec Ideal S3072x6144 .bf16) (a1 : Vec Ideal S192x70x32x64 .i8) : Vec Ideal S70x2048x192 .i8 := fun i =>
  newCode 1 a0 a1 (i 2) (i 0) ⟨(i 1 : ℕ) / 64, by have := (i 1).isLt; change (i 1 : ℕ) < 2048 at this; omega⟩
    ⟨(i 1 : ℕ) % 64, Nat.mod_lt _ (by decide)⟩

/-- The scales of the rolled cache, streams last. -/
def scalesArr (a0 : Vec Ideal S3072x6144 .bf16) (a2 : Vec Ideal S192x70x32 .f32) : Vec Ideal S70x32x192 .f32 := fun i =>
  newScale 1 a0 a2 (i 2) (i 0) (i 1)

/-- A code of the block. -/
theorem codesBlock_at (x0 : Vec Ideal S192x16x512 .bf16) (x1 : Vec Ideal S70x512x192 .i8) (p : Fin 70) (d : Fin 512)
    (b : Fin 192) : codesBlock x0 x1 (ix3 p d b) = if hp : (p : ℕ) < 54 then x1 (ix3 ⟨p + 16, by omega⟩ d b)
      else code (fun k => x0 (ix3 b ⟨p - 54, by omega⟩ ⟨(d : ℕ) / 64 * 64 + k, by omega⟩))
        ⟨(d : ℕ) % 64, Nat.mod_lt _ (by decide)⟩ := rfl

/-- A scale of the block. -/
theorem scalesBlock_at (x0 : Vec Ideal S192x16x512 .bf16) (x2 : Vec Ideal S70x8x192 .f32) (p : Fin 70) (h : Fin 8)
    (b : Fin 192) : scalesBlock x0 x2 (ix3 p h b) = if hp : (p : ℕ) < 54 then x2 (ix3 ⟨p + 16, by omega⟩ h b)
      else scale fun k => x0 (ix3 b ⟨p - 54, by omega⟩ ⟨(h : ℕ) * 64 + k, by omega⟩) := rfl

/-- A code of the array. -/
theorem codesArr_at (a0 : Vec Ideal S3072x6144 .bf16) (a1 : Vec Ideal S192x70x32x64 .i8) (p : Fin 70) (d : Fin 2048)
    (b : Fin 192) : codesArr a0 a1 (ix3 p d b)
      = if hp : (p : ℕ) < 54 then a1 (ix4 b ⟨p + 16, by omega⟩ ⟨(d : ℕ) / 64, by omega⟩ ⟨(d : ℕ) % 64, Nat.mod_lt _ (by
          decide)⟩)
        else code (head 1 a0 b ⟨p - 54, by omega⟩ ⟨(d : ℕ) / 64, by omega⟩) ⟨(d : ℕ) % 64, Nat.mod_lt _ (by decide)⟩ := rfl

/-- A scale of the array. -/
theorem scalesArr_at (a0 : Vec Ideal S3072x6144 .bf16) (a2 : Vec Ideal S192x70x32 .f32) (p : Fin 70) (h : Fin 32)
    (b : Fin 192) : scalesArr a0 a2 (ix3 p h b) = if hp : (p : ℕ) < 54 then a2 (ix3 b ⟨p + 16, by omega⟩ h)
      else scale (head 1 a0 b ⟨p - 54, by omega⟩ h) := rfl

/-- The array of codes after the run, channels above streams. -/
theorem final_codes : (dats m 0 c).arrAt 3 cfg0.N = codesArr (m ((c : Thread nD τ).loc main_arg0))
    (m ((c : Thread nD τ).loc main_arg1)) := by
  refine (dats m 0 c).arrAt_eq_of_covers 3 _ (by decide +kernel) fun t hf y => ?_
  obtain ⟨p, d, b, rfl⟩ : ∃ (p : Fin 70) (d : Fin 512) (b : Fin 192), y = ix3 p d b := ⟨y 0, y 1, y 2, eq_ix3 y⟩
  have ht := lt4 t
  have he : (win0_3.blk t).view.emb (ix3 p d b) = ix3 p ⟨t * 512 + d, by omega⟩ b := by
    blk_ext [idx t]
  blk_simp
  rw [after0_3]
  refine Eq.trans ?_ (congrArg _ he.symm)
  unfold outsAt0
  dsimp only
  rw [out_codes]
  rw [codesBlock_at, codesArr_at]
  simp only [frames_eq, cacheCodes_eq]
  by_cases hp : (p : ℕ) < 54
  · rw [dif_pos hp, dif_pos hp]
  · rw [dif_neg hp, dif_neg hp]
    congr 1
    · funext k
      unfold head
      congr 2
      exact Fin.ext (by simp; omega)
    · exact Fin.ext (by simp; omega)

/-- The array of scales after the run, heads above streams. -/
theorem final_scales : (dats m 0 c).arrAt 4 cfg0.N = scalesArr (m ((c : Thread nD τ).loc main_arg0))
    (m ((c : Thread nD τ).loc main_arg2)) := by
  refine (dats m 0 c).arrAt_eq_of_covers 4 _ (by decide +kernel) fun t hf y => ?_
  obtain ⟨p, h, b, rfl⟩ : ∃ (p : Fin 70) (h : Fin 8) (b : Fin 192), y = ix3 p h b := ⟨y 0, y 1, y 2, eq_ix3 y⟩
  have ht := lt4 t
  have he : (win0_4.blk t).view.emb (ix3 p h b) = ix3 p ⟨t * 8 + h, by omega⟩ b := by
    blk_ext [idx t]
  blk_simp
  rw [after0_4]
  refine Eq.trans ?_ (congrArg _ he.symm)
  unfold outsAt0
  dsimp only
  rw [out_scales]
  rw [scalesBlock_at, scalesArr_at]
  simp only [frames_eq, cacheScales_eq]
  by_cases hp : (p : ℕ) < 54
  · rw [dif_pos hp, dif_pos hp]
  · rw [dif_neg hp, dif_neg hp]
    congr 1
    funext k
    unfold head
    congr 2
    exact Fin.ext (by simp; omega)

/-- The codes turned so that the streams come first. -/
theorem turned_codes (a0 : Vec Ideal S3072x6144 .bf16) (a1 : Vec Ideal S192x70x32x64 .i8) :
    transpose S192x70x32x64 [3, 0, 1, 2] (shapeCast S70x32x64x192 (codesArr a0 a1) shapeCasts_S70x2048x192_S70x32x64x192)
      transposes_S70x32x64x192_S192x70x32x64_3_0_1_2 = newCodes 1 a0 a1 := by
  funext i
  obtain ⟨b, p, h, k, rfl⟩ : ∃ (b : Fin 192) (p : Fin 70) (h : Fin 32) (k : Fin 64), i = ix4 b p h k :=
    ⟨i 0, i 1, i 2, i 3, eq_ix4 i⟩
  have e : transpose S192x70x32x64 [3, 0, 1, 2] (shapeCast S70x32x64x192 (codesArr a0 a1)
      shapeCasts_S70x2048x192_S70x32x64x192) transposes_S70x32x64x192_S192x70x32x64_3_0_1_2 (ix4 b p h k)
      = codesArr a0 a1 (ix3 p ⟨h * 64 + k, by omega⟩ b) := by
    pointwise
  rw [e]
  show newCode 1 a0 a1 b p ⟨(h * 64 + k) / 64, _⟩ ⟨(h * 64 + k) % 64, _⟩ = newCode 1 a0 a1 b p h k
  congr 1 <;> exact Fin.ext (by simp; try omega)

/-- The scales turned so that the streams come first. -/
theorem turned_scales (a0 : Vec Ideal S3072x6144 .bf16) (a2 : Vec Ideal S192x70x32 .f32) :
    transpose S192x70x32 [2, 0, 1] (scalesArr a0 a2) transposes_S70x32x192_S192x70x32_2_0_1 = newScales 1 a0 a2 := by
  funext i
  obtain ⟨b, p, h, rfl⟩ : ∃ (b : Fin 192) (p : Fin 70) (h : Fin 32), i = ix3 b p h := ⟨i 0, i 1, i 2, eq_ix3 i⟩
  have e : transpose S192x70x32 [2, 0, 1] (scalesArr a0 a2) transposes_S70x32x192_S192x70x32_2_0_1 (ix3 b p h)
      = scalesArr a0 a2 (ix3 p h b) := by
    pointwise
  rw [e]
  rfl

/-- The kernel's run: its results are the rolled cache, and its arguments are left as they were. -/
theorem run (ρ : Dev nD → PrngReg) :
    θ_run defs (onTc (τ := τ) (main (F := Ideal))) ⟨m, fun _ => 0, ρ⟩ fun r => ∀ c : Dev nD,
      r.2.mem ((c.tc : Thread nD τ).loc main_v6) = newCodes 1 (m ((c.tc : Thread nD τ).loc main_arg0))
        (m ((c.tc : Thread nD τ).loc main_arg1))
      ∧ r.2.mem ((c.tc : Thread nD τ).loc main_v7) = newScales 1 (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (run_main m ρ) (unchanged m ρ))
  obtain ⟨hc, hu⟩ := h
  have hc := hc c
  refine ⟨?_, ?_, hu c⟩
  · frame_read hc
    unfold Pipeline.afterTail₀
    simp only [hostOps1, List.flatten_cons, List.flatten_nil, List.append_nil]
    run_tidy
    refine Eq.trans ?_ (turned_codes _ _)
    exact congrArg (fun z => transpose S192x70x32x64 [3, 0, 1, 2] (shapeCast S70x32x64x192 z
      shapeCasts_S70x2048x192_S70x32x64x192) transposes_S70x32x64x192_S192x70x32x64_3_0_1_2)
      ((Pipeline.withArrays_arr spec0 (by decide) c (V0 m c) (fun w => (dats m 0 c).arrAt w cfg0.N) 3).trans (final_codes m c))
  · frame_read hc
    unfold Pipeline.afterTail₀
    simp only [hostOps1, List.flatten_cons, List.flatten_nil, List.append_nil]
    run_tidy
    refine Eq.trans ?_ (turned_scales _ _)
    exact congrArg (fun z => transpose S192x70x32 [2, 0, 1] z transposes_S70x32x192_S192x70x32_2_0_1)
      ((Pipeline.withArrays_arr spec0 (by decide) c (V0 m c) (fun w => (dats m 0 c).arrAt w cfg0.N) 4).trans (final_scales m c))

end Cert.RollKIdeal.Hand
-- ==== Proof.RollKRef.lean ====
/-
  The reference of a cache roll, read entry by entry.
-/
module

public import proofs.«01_k».proof.Proof.RollSpec
public import proofs.«01_k».proof.Proof.Gen.RollKReferenceIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.RollKReferenceIdeal.Hand

open Cert.RollKReferenceIdeal Cert.RollKReferenceIdeal.Gen Cert.Roll Idealize.ShloMosaic Idealize.ShloMosaic.TcCoe
  Idealize.SL.Sem

/-- A maximum over the last of four axes, at any shapes. -/
theorem max_last (n : Fin 4 → ℕ) (m : Fin 3 → ℕ) (u : FVec Ideal (⟨4, n⟩ : Shape) .f32)
    (h : (⟨4, n⟩ : Shape).Reduces [(3 : Fin 4)] (⟨3, m⟩ : Shape)) (acc : BitVec 32) (hf hacc) (j : (⟨3, m⟩ : Shape).Idx) :
    multiReduction .maximumf [(3 : Fin 4)] (⟨3, m⟩ : Shape) u acc h hf hacc j
      = (Finset.univ : Finset (Fin (n 3))).fold max (Ideal.ofBits .f32 acc) fun k => u (h.lift j k) :=
  Ideal.multiReduction_maximumf_single (s := (⟨4, n⟩ : Shape)) (a := (3 : Fin 4)) u _ h _ _ _

/-- The reference's maximum over a head's channels. -/
theorem amax_eq (u : FVec Ideal S192x16x32x64 .f32) (b : Fin 192) (s : Fin 16) (h : Fin 32) :
    multiReduction .maximumf [3] S192x16x32 u 0xFF800000#32 reduces_S192x16x32x64_S192x16x32 (.inl rfl) rfl (ix3 b s h)
      = Finset.univ.fold max (Ideal.ofBits .f32 0xFF800000#32) fun k => u (ix4 b s h k) := by
  have := max_last ![192, 16, 32, 64] ![192, 16, 32] u reduces_S192x16x32x64_S192x16x32 0xFF800000#32 (.inl rfl) rfl
    (ix3 b s h)
  refine this.trans ?_
  refine congrArg (fun f : Fin 64 → EReal => (Finset.univ : Finset (Fin 64)).fold max (Ideal.ofBits .f32 0xFF800000#32) f)
    (funext fun k => congrArg u (funext fun a => ?_))
  match a with
  | 0 => rfl
  | 1 => rfl
  | 2 => rfl
  | 3 => rfl

/-- The scales from the greatest absolute values. -/
def scaled (a : FVec Ideal S192x16x32 .f32) : FVec Ideal S192x16x32 .f32 :=
  select (cmpf .oeq a (broadcast S192x16x32 (Scalar.ofBits .f32 0x00000000#32)))
    (broadcast S192x16x32 (Scalar.ofBits .f32 0x3F800000#32))
    (divf a (broadcast S192x16x32 (Scalar.ofBits .f32 0x42FE0000#32)))

/-- A scale, from the greatest absolute value. -/
theorem scaled_eq (a : FVec Ideal S192x16x32 .f32) (b : Fin 192) (s : Fin 16) (h : Fin 32) :
    scaled a (ix3 b s h) = if a (ix3 b s h) = 0 then 1 else Ideal.div (a (ix3 b s h)) (Ideal.ofBits .f32 0x42FE0000#32) := by
  pointwise [scaled]

/-- The new frames as numbers. -/
theorem frames_eq (v : Vec Ideal S192x16x32x64 .bf16) (b : Fin 192) (s : Fin 16) (h : Fin 32) (k : Fin 64) :
    k0_pay1 v (ix4 b s h k) = v (ix4 b s h k) := by
  pointwise [k0_pay1]

/-- The new scales. -/
theorem scales_eq (v : Vec Ideal S192x16x32x64 .bf16) (b : Fin 192) (s : Fin 16) (h : Fin 32) :
    k0_pay2 v (ix3 b s h) = scale fun k => v (ix4 b s h k) := by
  show scaled (multiReduction .maximumf [3] S192x16x32 (absf (k0_pay1 v)) 0xFF800000#32 reduces_S192x16x32x64_S192x16x32
    (.inl rfl) rfl) (ix3 b s h) = _
  have e : multiReduction .maximumf [3] S192x16x32 (absf (k0_pay1 v)) 0xFF800000#32 reduces_S192x16x32x64_S192x16x32
      (.inl rfl) rfl (ix3 b s h) = amax fun k => v (ix4 b s h k) := by
    rw [amax_eq]
    unfold amax
    refine congrArg (fun f : Fin 64 → EReal => (Finset.univ : Finset (Fin 64)).fold max (Ideal.ofBits .f32 0xFF800000#32) f)
      (funext fun k => ?_)
    show FloatOps.absf (F := Ideal) (φ := .f32) (k0_pay1 v (ix4 b s h k)) = _
    rw [frames_eq]
  rw [scaled_eq, e]
  rfl

/-- The codes from the numbers and the scales. -/
def coded (u : FVec Ideal S192x16x32x64 .f32) (sc : FVec Ideal S192x16x32 .f32) : IVec S192x16x32x64 8 :=
  fptosi 8 (minimumf (broadcast S192x16x32x64 (Scalar.ofBits .f32 0x42FE0000#32))
    (maximumf (broadcast S192x16x32x64 (Scalar.ofBits .f32 0xC2FE0000#32))
      (roundeven (divf u (broadcastTo S192x16x32x64 (shapeCast S192x16x32x1 sc shapeCasts_S192x16x32_S192x16x32x1)
        broadcasts_S192x16x32x1_S192x16x32x64)))))

/-- A code, from the number and its head's scale. -/
theorem coded_eq (u : FVec Ideal S192x16x32x64 .f32) (sc : FVec Ideal S192x16x32 .f32) (b : Fin 192) (s : Fin 16)
    (h : Fin 32) (k : Fin 64) : coded u sc (ix4 b s h k)
      = FloatOps.fptosi (F := Ideal) (φ := .f32) 8 (min (Ideal.ofBits .f32 0x42FE0000#32) (max (Ideal.ofBits .f32
          0xC2FE0000#32) (Ideal.liftRound Ideal.roundHalfEven (Ideal.div (u (ix4 b s h k)) (sc (ix3 b s h)))))) := by
  pointwise [coded]

/-- Codes of the cache followed by new codes. -/
theorem joinedCodes_eq (x : IVec S192x54x32x64 8) (y : IVec S192x16x32x64 8) (b : Fin 192) (p : Fin 70) (h : Fin 32)
    (k : Fin 64) :
    concatenate S192x70x32x64 1 [⟨S192x54x32x64, x⟩, ⟨S192x16x32x64, y⟩]
      concatenates_S192x54x32x64_S192x16x32x64_S192x70x32x64_d1 (ix4 b p h k)
      = if hp : (p : ℕ) < 54 then x (ix4 b ⟨p, hp⟩ h k) else y (ix4 b ⟨p - 54, by omega⟩ h k) := by
  pointwise

/-- Scales of the cache followed by new scales. -/
theorem joinedScales_eq (x : FVec Ideal S192x54x32 .f32) (y : FVec Ideal S192x16x32 .f32) (b : Fin 192) (p : Fin 70)
    (h : Fin 32) :
    concatenate S192x70x32 1 [⟨S192x54x32, x⟩, ⟨S192x16x32, y⟩]
      concatenates_S192x54x32_S192x16x32_S192x70x32_d1 (ix3 b p h)
      = if hp : (p : ℕ) < 54 then x (ix3 b ⟨p, hp⟩ h) else y (ix3 b ⟨p - 54, by omega⟩ h) := by
  pointwise

/-- The stored codes. -/
theorem storedCodes_eq (v : Vec Ideal S192x16x32x64 .bf16) (x : Vec Ideal S192x54x32x64 .i8) (b : Fin 192) (p : Fin 70)
    (h : Fin 32) (k : Fin 64) :
    k0_pay3 v x (ix4 b p h k) = if hp : (p : ℕ) < 54 then x (ix4 b ⟨p, hp⟩ h k)
      else code (fun k' => v (ix4 b ⟨p - 54, by omega⟩ h k')) k := by
  refine (joinedCodes_eq x (coded (k0_pay1 v) (k0_pay2 v)) b p h k).trans ?_
  simp only [coded_eq, frames_eq, scales_eq]
  rfl

/-- The stored scales. -/
theorem storedScales_eq (v : Vec Ideal S192x16x32x64 .bf16) (x : Vec Ideal S192x54x32 .f32) (b : Fin 192) (p : Fin 70)
    (h : Fin 32) :
    k0_pay4 v x (ix3 b p h) = if hp : (p : ℕ) < 54 then x (ix3 b ⟨p, hp⟩ h)
      else scale fun k' => v (ix4 b ⟨p - 54, by omega⟩ h k') := by
  refine (joinedScales_eq x (k0_pay2 v) b p h).trans ?_
  simp only [scales_eq]

end Cert.RollKReferenceIdeal.Hand
-- ==== Proof.RollKRefFinal.lean ====
/-
  The two result arrays of a cache roll after the reference's run.
-/
module

public import proofs.«01_k».proof.Proof.RollKRef
public import Idealize.ShloMosaic.Lib.StableHlo.ReadAt

@[expose] public section

set_option maxRecDepth 16384

noncomputable section

namespace Cert.RollKReferenceIdeal.Hand

open Cert.RollKReferenceIdeal Cert.RollKReferenceIdeal.Gen Cert.RollKReferenceIdeal.Value Cert.Roll Idealize.ShloMosaic
  Idealize.ShloMosaic.TcCoe Idealize.SL.Sem

variable (m : (ℓ : Loc nD τ sig) → Buf (Elt Ideal) ℓ) (c : Dev nD)

/-- The block index of every window at the one grid point. -/
theorem idx : ∀ t : Fin grid0.N,
    win0_0.index t = ![0, 0, 0, 0]
    ∧ win0_1.index t = ![0, 0, 0, 0]
    ∧ win0_2.index t = ![0, 0, 0]
    ∧ win0_3.index t = ![0, 0, 0, 0]
    ∧ win0_4.index t = ![0, 0, 0] :=
  by decide +kernel

/-- The new frames' part as the region finds it. -/
theorem v2_eq (b : Fin 192) (s : Fin 16) (h : Fin 32) (k : Fin 64) :
    (V m c main_v2 : Vec Ideal S192x16x32x64 .bf16) (ix4 b s h k)
      = head 1 (m ((c : Thread nD τ).loc main_arg0)) b s h k := by
  unfold V head
  after_reads_at

/-- The new frames' part, as staged. -/
theorem head_eq (t : Fin cfg0.N) (b : Fin 192) (s : Fin 16) (h : Fin 32) (k : Fin 64) :
    (iblk m c 0 t : Vec Ideal S192x16x32x64 .bf16) (ix4 b s h k)
      = head 1 (m ((c : Thread nD τ).loc main_arg0)) b s h k := by
  refine Eq.trans ?_ (v2_eq m c b s h k)
  have e : (win0_0.blk t).view.emb (ix4 b s h k) = ix4 b s h k := by
    blk_ext [idx t]
  exact congrArg (V m c main_v2) e

/-- The cache's codes, as staged. -/
theorem cacheCodes_eq (t : Fin cfg0.N) (b : Fin 192) (p : Fin 70) (h : Fin 32) (k : Fin 64) :
    (iblk m c 1 t : Vec Ideal S192x70x32x64 .i8) (ix4 b p h k) = m ((c : Thread nD τ).loc main_arg1) (ix4 b p h k) := by
  blk_point [iblk, V, idx t]

/-- The cache's scales, as staged. -/
theorem cacheScales_eq (t : Fin cfg0.N) (b : Fin 192) (p : Fin 70) (h : Fin 32) :
    (iblk m c 2 t : Vec Ideal S192x70x32 .f32) (ix3 b p h) = m ((c : Thread nD τ).loc main_arg2) (ix3 b p h) := by
  blk_point [iblk, V, idx t]

/-- The load of the new frames. -/
theorem ld_frames (x0 : Vec Ideal S192x16x32x64 .bf16) (b : Fin 192) (s : Fin 16) (h : Fin 32) (k : Fin 64) :
    (View.ld x0 r0_0 : Vec Ideal S192x16x32x64 .bf16) (ix4 b s h k) = x0 (ix4 b s h k) := by
  pointwise

/-- The load of the cache's later codes. -/
theorem ld_codes (x1 : Vec Ideal S192x70x32x64 .i8) (b : Fin 192) (p : Fin 54) (h : Fin 32) (k : Fin 64) :
    (View.ld x1 r0_1 : Vec Ideal S192x54x32x64 .i8) (ix4 b p h k) = x1 (ix4 b ⟨p + 16, by omega⟩ h k) := by
  pointwise
  simp only [Nat.add_comm]

/-- The load of the cache's later scales. -/
theorem ld_scales (x2 : Vec Ideal S192x70x32 .f32) (b : Fin 192) (p : Fin 54) (h : Fin 32) :
    (View.ld x2 r0_3 : Vec Ideal S192x54x32 .f32) (ix3 b p h) = x2 (ix3 b ⟨p + 16, by omega⟩ h) := by
  pointwise
  simp only [Nat.add_comm]

/-- The codes that the body leaves. -/
theorem out_codes (x0 : Vec Ideal S192x16x32x64 .bf16) (x1 : Vec Ideal S192x70x32x64 .i8) (x2 : Vec Ideal S192x70x32 .f32)
    (b : Fin 192) (p : Fin 70) (h : Fin 32) (k : Fin 64) :
    out0_3 x0 x1 x2 (ix4 b p h k) = if hp : (p : ℕ) < 54 then x1 (ix4 b ⟨p + 16, by omega⟩ h k)
      else code (fun k' => x0 (ix4 b ⟨p - 54, by omega⟩ h k')) k := by
  unfold out0_3
  rw [View.canon_unit_zero (by decide), storedCodes_eq]
  exact dite_congr rfl (fun hp => ld_codes x1 b ⟨p, hp⟩ h k)
    fun hp => congrArg (fun w => code w k) (funext fun k' => ld_frames x0 b ⟨p - 54, by omega⟩ h k')

/-- The scales that the body leaves. -/
theorem out_scales (x0 : Vec Ideal S192x16x32x64 .bf16) (x1 : Vec Ideal S192x70x32x64 .i8) (x2 : Vec Ideal S192x70x32 .f32)
    (b : Fin 192) (p : Fin 70) (h : Fin 32) :
    out0_4 x0 x1 x2 (ix3 b p h) = if hp : (p : ℕ) < 54 then x2 (ix3 b ⟨p + 16, by omega⟩ h)
      else scale fun k' => x0 (ix4 b ⟨p - 54, by omega⟩ h k') := by
  unfold out0_4
  rw [View.canon_unit_zero (by decide), storedScales_eq]
  exact dite_congr rfl (fun hp => ld_scales x2 b ⟨p, hp⟩ h)
    fun hp => congrArg scale (funext fun k' => ld_frames x0 b ⟨p - 54, by omega⟩ h k')

/-- The array of codes after the run. -/
theorem final_codes : (dats m 0 c).arrAt 3 cfg0.N = newCodes 1 (m ((c : Thread nD τ).loc main_arg0))
    (m ((c : Thread nD τ).loc main_arg1)) := by
  refine (dats m 0 c).arrAt_eq_of_covers 3 _ (by decide +kernel) fun t hf y => ?_
  obtain ⟨b, p, h, k, rfl⟩ : ∃ (b : Fin 192) (p : Fin 70) (h : Fin 32) (k : Fin 64), y = ix4 b p h k :=
    ⟨y 0, y 1, y 2, y 3, eq_ix4 y⟩
  have he : (win0_3.blk t).view.emb (ix4 b p h k) = ix4 b p h k := by
    blk_ext [idx t]
  blk_simp
  rw [after0_3]
  refine Eq.trans ?_ (congrArg _ he.symm)
  rw [out_codes]
  simp only [head_eq, cacheCodes_eq]
  rfl

/-- The array of scales after the run. -/
theorem final_scales : (dats m 0 c).arrAt 4 cfg0.N = newScales 1 (m ((c : Thread nD τ).loc main_arg0))
    (m ((c : Thread nD τ).loc main_arg2)) := by
  refine (dats m 0 c).arrAt_eq_of_covers 4 _ (by decide +kernel) fun t hf y => ?_
  obtain ⟨b, p, h, rfl⟩ : ∃ (b : Fin 192) (p : Fin 70) (h : Fin 32), y = ix3 b p h := ⟨y 0, y 1, y 2, eq_ix3 y⟩
  have he : (win0_4.blk t).view.emb (ix3 b p h) = ix3 b p h := by
    blk_ext [idx t]
  blk_simp
  rw [after0_4]
  refine Eq.trans ?_ (congrArg _ he.symm)
  rw [out_scales]
  simp only [head_eq, cacheScales_eq]
  rfl

end Cert.RollKReferenceIdeal.Hand
-- ==== Proof.RollVBlock.lean ====
/-
  The blocks that the kernel of a cache roll leaves: a copy of the cache's later frames and 256 quantised tiles.
-/
module

public import proofs.«01_k».proof.Proof.RollSpec
public import proofs.«01_k».proof.Proof.Gen.RollVIdeal.Frame
public import Idealize.ShloMosaic.Lib.Claim
public import Idealize.ShloMosaic.Lib.Pipeline.ValueKit
public import Idealize.ShloMosaic.Lib.Pipeline.ReadBack

@[expose] public section

set_option maxRecDepth 16384

noncomputable section

namespace Cert.RollVIdeal.Hand

open Cert.RollVIdeal Cert.RollVIdeal.Gen Cert.Roll Idealize.ShloMosaic Idealize.ShloMosaic.TcCoe
  Idealize.SL.Sem

/-- The block of codes, from the blocks of the new frames and of the cache. -/
def codesBlock (x0 : Vec Ideal S192x16x512 .bf16) (x1 : Vec Ideal S70x512x192 .i8) (y : S70x512x192.Idx) : BitVec 8 :=
  if h : (y 0 : ℕ) < 54 then x1 (ix3 ⟨y 0 + 16, by omega⟩ (y 1) (y 2))
  else code (fun k => x0 (ix3 (y 2) ⟨y 0 - 54, by have := (y 0).isLt; change (y 0 : ℕ) < 70 at this; omega⟩
    ⟨(y 1 : ℕ) / 64 * 64 + k, by have := (y 1).isLt; change (y 1 : ℕ) < 512 at this; omega⟩))
    ⟨(y 1 : ℕ) % 64, Nat.mod_lt _ (by decide)⟩

/-- The block of scales, from the blocks of the new frames and of the cache. -/
def scalesBlock (x0 : Vec Ideal S192x16x512 .bf16) (x2 : Vec Ideal S70x8x192 .f32) (y : S70x8x192.Idx) : EReal :=
  if h : (y 0 : ℕ) < 54 then x2 (ix3 ⟨y 0 + 16, by omega⟩ (y 1) (y 2))
  else scale (fun k => x0 (ix3 (y 2) ⟨y 0 - 54, by have := (y 0).isLt; change (y 0 : ℕ) < 70 at this; omega⟩
    ⟨(y 1 : ℕ) * 64 + k, by have := (y 1).isLt; change (y 1 : ℕ) < 8 at this; omega⟩))

/-- The tile of 128 streams, channels down the rows. -/
def turned128 (v : Vec Ideal S128x1x128 .bf16) : FVec Ideal S128x128 .f32 :=
  transpose S128x128 [1, 0] (extf .f32 (shapeCast S128x128 v shapeCasts_S128x1x128_S128x128) bitsLt_bf16_f32)
    transposes_S128x128_p1_0_S128x128

/-- The scales of a head of 128 streams, as the kernel takes them. -/
def scaleRow128 (u : FVec Ideal S64x128 .f32) : FVec Ideal S1x128 .f32 :=
  have a : FVec Ideal S1x128 .f32 := shapeCast S1x128 (multiReduction .maximumf [0] S128 (absf u) 0xFF800000#32
    reduces_S64x128_S128 (.inl rfl) rfl) shapeCasts_S128_S1x128
  select (cmpf .oeq a (broadcast S1x128 (Scalar.ofBits .f32 0x00000000#32)))
    (broadcast S1x128 (Scalar.ofBits .f32 0x3F800000#32)) (divf a (broadcast S1x128 (Scalar.ofBits .f32 0x42FE0000#32)))

/-- The codes of a head of 128 streams, as the kernel stores them. -/
def codes128 (u : FVec Ideal S64x128 .f32) : IVec S1x64x128 8 :=
  shapeCast S1x64x128 (fptosi 8 (minimumf (broadcast S64x128 (Scalar.ofBits .f32 0x42FE0000#32))
    (maximumf (broadcast S64x128 (Scalar.ofBits .f32 0xC2FE0000#32))
      (roundeven (divf u (broadcastTo S64x128 (scaleRow128 u) broadcasts_S1x128_S64x128))))))
    shapeCasts_S64x128_S1x64x128

/-- The scales of a head of 128 streams, as the kernel stores them. -/
def scales128 (u : FVec Ideal S64x128 .f32) : FVec Ideal S1x1x128 .f32 :=
  shapeCast S1x1x128 (scaleRow128 u) shapeCasts_S1x128_S1x1x128

/-- An entry of a tile's head. -/
theorem head128_eq (v : Vec Ideal S128x1x128 .bf16) (o : ℕ) (ho : o + 64 ≤ 128) (hs) (k : Fin 64) (n : Fin 128) :
    extractStridedSlice S64x128 ![o, 0] (turned128 v) hs (ix2 k n) = v (ix3 n 0 ⟨o + k, by omega⟩) := by
  pointwise [turned128]

/-- A head's scales. -/
theorem scaleRow128_eq (u : FVec Ideal S64x128 .f32) (n : Fin 128) :
    scaleRow128 u (ix2 0 n) = scale fun k => u (ix2 k n) := by
  pointwise [scaleRow128]
  rfl

/-- A head's codes. -/
theorem codes128_eq (u : FVec Ideal S64x128 .f32) (k : Fin 64) (n : Fin 128) :
    codes128 u (ix3 0 k n) = code (fun k => u (ix2 k n)) k := by
  pointwise [codes128]
  rw [scaleRow128_eq]
  rfl

/-- A head's scales, as stored. -/
theorem scales128_eq (u : FVec Ideal S64x128 .f32) (n : Fin 128) :
    scales128 u (ix3 0 0 n) = scale fun k => u (ix2 k n) := by
  pointwise [scales128]
  rw [scaleRow128_eq]

/-- The tile of 64 streams, channels down the rows. -/
def turned64 (v : Vec Ideal S64x1x128 .bf16) : FVec Ideal S128x64 .f32 :=
  transpose S128x64 [1, 0] (extf .f32 (shapeCast S64x128 v shapeCasts_S64x1x128_S64x128) bitsLt_bf16_f32)
    transposes_S64x128_p1_0_S128x64

/-- The scales of a head of 64 streams, as the kernel takes them. -/
def scaleRow64 (u : FVec Ideal S64x64 .f32) : FVec Ideal S1x64 .f32 :=
  have a : FVec Ideal S1x64 .f32 := shapeCast S1x64 (multiReduction .maximumf [0] S64 (absf u) 0xFF800000#32
    reduces_S64x64_S64 (.inl rfl) rfl) shapeCasts_S64_S1x64
  select (cmpf .oeq a (broadcast S1x64 (Scalar.ofBits .f32 0x00000000#32)))
    (broadcast S1x64 (Scalar.ofBits .f32 0x3F800000#32)) (divf a (broadcast S1x64 (Scalar.ofBits .f32 0x42FE0000#32)))

/-- The codes of a head of 64 streams, as the kernel stores them. -/
def codes64 (u : FVec Ideal S64x64 .f32) : IVec S1x64x64 8 :=
  shapeCast S1x64x64 (fptosi 8 (minimumf (broadcast S64x64 (Scalar.ofBits .f32 0x42FE0000#32))
    (maximumf (broadcast S64x64 (Scalar.ofBits .f32 0xC2FE0000#32))
      (roundeven (divf u (broadcastTo S64x64 (scaleRow64 u) broadcasts_S1x64_S64x64))))))
    shapeCasts_S64x64_S1x64x64

/-- The scales of a head of 64 streams, as the kernel stores them. -/
def scales64 (u : FVec Ideal S64x64 .f32) : FVec Ideal S1x1x64 .f32 :=
  shapeCast S1x1x64 (scaleRow64 u) shapeCasts_S1x64_S1x1x64

/-- An entry of a tile's head. -/
theorem head64_eq (v : Vec Ideal S64x1x128 .bf16) (o : ℕ) (ho : o + 64 ≤ 128) (hs) (k : Fin 64) (n : Fin 64) :
    extractStridedSlice S64x64 ![o, 0] (turned64 v) hs (ix2 k n) = v (ix3 n 0 ⟨o + k, by omega⟩) := by
  pointwise [turned64]

/-- A head's scales. -/
theorem scaleRow64_eq (u : FVec Ideal S64x64 .f32) (n : Fin 64) :
    scaleRow64 u (ix2 0 n) = scale fun k => u (ix2 k n) := by
  pointwise [scaleRow64]
  rfl

/-- A head's codes. -/
theorem codes64_eq (u : FVec Ideal S64x64 .f32) (k : Fin 64) (n : Fin 64) :
    codes64 u (ix3 0 k n) = code (fun k => u (ix2 k n)) k := by
  pointwise [codes64]
  rw [scaleRow64_eq]
  rfl

/-- A head's scales, as stored. -/
theorem scales64_eq (u : FVec Ideal S64x64 .f32) (n : Fin 64) :
    scales64 u (ix3 0 0 n) = scale fun k => u (ix2 k n) := by
  pointwise [scales64]
  rw [scaleRow64_eq]

end Cert.RollVIdeal.Hand
-- ==== Proof.RollVPieces.lean ====
/-
  Every store of the kernel of a cache roll is a block of what its output holds in the end.
-/
module

public import proofs.«01_k».proof.Proof.RollVBlock
public import Idealize.ShloMosaic.Lib.WholeRead

@[expose] public section

set_option maxRecDepth 16384

noncomputable section

namespace Cert.RollVIdeal.Hand

open Cert.RollVIdeal Cert.RollVIdeal.Gen Cert.Roll Idealize.ShloMosaic Idealize.ShloMosaic.TcCoe
  Idealize.SL.Sem

variable (c : Dev nD) (i : grid0.Coords) (arg1 : Memref sig .tc .vmem S192x16x512 .bf16) (harg1 : arg1.IsWhole)
  (arg2 : Memref sig .tc .vmem S70x512x192 .i8) (harg2 : arg2.IsWhole)
  (arg3 : Memref sig .tc .vmem S70x8x192 .f32) (harg3 : arg3.IsWhole)
  (arg4 : Memref sig .tc .vmem S70x512x192 .i8) (harg4 : arg4.IsWhole)
  (arg5 : Memref sig .tc .vmem S70x8x192 .f32) (harg5 : arg5.IsWhole)
  (x0 : Vec Ideal S192x16x512 .bf16) (x1 : Vec Ideal S70x512x192 .i8) (x2 : Vec Ideal S70x8x192 .f32)

/-- A head of a tile, read from the staged frames: 128 streams from `b` on, frame `s`, 64 channels from `c + o` on. -/
theorem tile128_eq (b s c o : ℕ) (inb) (hs) (hb : b + 128 ≤ 192) (hc : c + o + 64 ≤ 512) (ho : o + 64 ≤ 128) (hs' : s < 16)
    (k : Fin 64) (n : Fin 128) :
    extractStridedSlice S64x128 ![o, 0] (turned128 (View.readAt (Elt Ideal) arg1.view
      (Rect.unit (s := S192x16x512) ![b, s, c] S128x1x128.size inb).toLoadRect (harg1.unread x0))) hs (ix2 k n)
      = x0 (ix3 ⟨b + n, by omega⟩ ⟨s, hs'⟩ ⟨c + o + k, by omega⟩) := by
  rw [head128_eq _ o ho, View.readAt_eq_ld, harg1.read_unread]
  pointwise
  simp only [Nat.add_assoc]

/-- The store of a tile's head's codes is a block of `codesBlock`. -/
theorem codes_piece128 (r q b s c o : ℕ) (inb inb') (hs)
    (L : List (View.Piece (Elt Ideal) S70x512x192 .i8))
    (h : r = 54 + s ∧ q = c + o ∧ q % 64 = 0 ∧ q + 64 ≤ 512 ∧ b + 128 ≤ 192 ∧ o + 64 ≤ 128 ∧ s < 16)
    (hL : View.PiecesOf (codesBlock x0 x1) L) :
    View.PiecesOf (codesBlock x0 x1) (⟨Rect.unit (s := S70x512x192) ![r, q, b] S1x64x128.size inb,
      codes128 (extractStridedSlice S64x128 ![o, 0] (turned128 (View.readAt (Elt Ideal) arg1.view
        (Rect.unit (s := S192x16x512) ![b, s, c] S128x1x128.size inb').toLoadRect (harg1.unread x0))) hs)⟩ :: L) := by
  obtain ⟨rfl, rfl, hq, hq', hb, ho, hs'⟩ := h
  refine ⟨fun x => ?_, hL⟩
  change S1x64x128.Idx at x
  obtain ⟨z, k, n, rfl⟩ : ∃ (z : Fin 1) (k : Fin 64) (n : Fin 128), x = ix3 z k n := ⟨x 0, x 1, x 2, eq_ix3 x⟩
  obtain rfl : z = 0 := Subsingleton.elim _ _
  show codes128 _ (ix3 0 k n) = codesBlock x0 x1 ((Rect.unit (s := S70x512x192) ![54 + s, c + o, b] S1x64x128.size inb).emb
    (ix3 0 k n))
  have e0 : ((Rect.unit (s := S70x512x192) ![54 + s, c + o, b] S1x64x128.size inb).emb (ix3 0 k n)) 0
      = (⟨54 + s, by omega⟩ : Fin 70) := Fin.ext (by simp [Rect.emb, LoadRect.idx, Rect.unit])
  have e1 : ((Rect.unit (s := S70x512x192) ![54 + s, c + o, b] S1x64x128.size inb).emb (ix3 0 k n)) 1
      = (⟨c + o + k, by omega⟩ : Fin 512) := Fin.ext (by simp [Rect.emb, LoadRect.idx, Rect.unit])
  have e2 : ((Rect.unit (s := S70x512x192) ![54 + s, c + o, b] S1x64x128.size inb).emb (ix3 0 k n)) 2
      = (⟨b + n, by omega⟩ : Fin 192) := Fin.ext (by simp [Rect.emb, LoadRect.idx, Rect.unit])
  rw [codes128_eq]
  unfold codesBlock
  rw [dif_neg (by rw [e0]; simp)]
  simp only [tile128_eq arg1 harg1 x0 b s c o inb' hs hb hq' ho hs', e0, e1, e2]
  congr 1
  · funext k'
    congr 2 <;> exact Fin.ext (by simp; try omega)
  · exact Fin.ext (by simp; omega)

/-- The store of a tile's head's scales is a block of `scalesBlock`. -/
theorem scales_piece128 (r q b s c o : ℕ) (inb inb') (hs)
    (L : List (View.Piece (Elt Ideal) S70x8x192 .f32))
    (h : r = 54 + s ∧ q * 64 = c + o ∧ q < 8 ∧ b + 128 ≤ 192 ∧ o + 64 ≤ 128 ∧ s < 16)
    (hL : View.PiecesOf (scalesBlock x0 x2) L) :
    View.PiecesOf (scalesBlock x0 x2) (⟨Rect.unit (s := S70x8x192) ![r, q, b] S1x1x128.size inb,
      scales128 (extractStridedSlice S64x128 ![o, 0] (turned128 (View.readAt (Elt Ideal) arg1.view
        (Rect.unit (s := S192x16x512) ![b, s, c] S128x1x128.size inb').toLoadRect (harg1.unread x0))) hs)⟩ :: L) := by
  obtain ⟨rfl, hq, hq', hb, ho, hs'⟩ := h
  refine ⟨fun x => ?_, hL⟩
  change S1x1x128.Idx at x
  obtain ⟨z, z', n, rfl⟩ : ∃ (z z' : Fin 1) (n : Fin 128), x = ix3 z z' n := ⟨x 0, x 1, x 2, eq_ix3 x⟩
  obtain rfl : z = 0 := Subsingleton.elim _ _
  obtain rfl : z' = 0 := Subsingleton.elim _ _
  show scales128 _ (ix3 0 0 n) = scalesBlock x0 x2 ((Rect.unit (s := S70x8x192) ![54 + s, q, b] S1x1x128.size inb).emb
    (ix3 0 0 n))
  have e0 : ((Rect.unit (s := S70x8x192) ![54 + s, q, b] S1x1x128.size inb).emb (ix3 0 0 n)) 0
      = (⟨54 + s, by omega⟩ : Fin 70) := Fin.ext (by simp [Rect.emb, LoadRect.idx, Rect.unit])
  have e1 : ((Rect.unit (s := S70x8x192) ![54 + s, q, b] S1x1x128.size inb).emb (ix3 0 0 n)) 1
      = (⟨q, by omega⟩ : Fin 8) := Fin.ext (by simp [Rect.emb, LoadRect.idx, Rect.unit])
  have e2 : ((Rect.unit (s := S70x8x192) ![54 + s, q, b] S1x1x128.size inb).emb (ix3 0 0 n)) 2
      = (⟨b + n, by omega⟩ : Fin 192) := Fin.ext (by simp [Rect.emb, LoadRect.idx, Rect.unit])
  rw [scales128_eq]
  unfold scalesBlock
  rw [dif_neg (by rw [e0]; simp)]
  simp only [tile128_eq arg1 harg1 x0 b s c o inb' hs hb (by omega) ho hs', e0, e1, e2]
  congr 1
  funext k'
  congr 2 <;> exact Fin.ext (by simp; try omega)

/-- A head of a tile, read from the staged frames: 64 streams from `b` on, frame `s`, 64 channels from `c + o` on. -/
theorem tile64_eq (b s c o : ℕ) (inb) (hs) (hb : b + 64 ≤ 192) (hc : c + o + 64 ≤ 512) (ho : o + 64 ≤ 128) (hs' : s < 16)
    (k : Fin 64) (n : Fin 64) :
    extractStridedSlice S64x64 ![o, 0] (turned64 (View.readAt (Elt Ideal) arg1.view
      (Rect.unit (s := S192x16x512) ![b, s, c] S64x1x128.size inb).toLoadRect (harg1.unread x0))) hs (ix2 k n)
      = x0 (ix3 ⟨b + n, by omega⟩ ⟨s, hs'⟩ ⟨c + o + k, by omega⟩) := by
  rw [head64_eq _ o ho, View.readAt_eq_ld, harg1.read_unread]
  pointwise
  simp only [Nat.add_assoc]

/-- The store of a tile's head's codes is a block of `codesBlock`. -/
theorem codes_piece64 (r q b s c o : ℕ) (inb inb') (hs)
    (L : List (View.Piece (Elt Ideal) S70x512x192 .i8))
    (h : r = 54 + s ∧ q = c + o ∧ q % 64 = 0 ∧ q + 64 ≤ 512 ∧ b + 64 ≤ 192 ∧ o + 64 ≤ 128 ∧ s < 16)
    (hL : View.PiecesOf (codesBlock x0 x1) L) :
    View.PiecesOf (codesBlock x0 x1) (⟨Rect.unit (s := S70x512x192) ![r, q, b] S1x64x64.size inb,
      codes64 (extractStridedSlice S64x64 ![o, 0] (turned64 (View.readAt (Elt Ideal) arg1.view
        (Rect.unit (s := S192x16x512) ![b, s, c] S64x1x128.size inb').toLoadRect (harg1.unread x0))) hs)⟩ :: L) := by
  obtain ⟨rfl, rfl, hq, hq', hb, ho, hs'⟩ := h
  refine ⟨fun x => ?_, hL⟩
  change S1x64x64.Idx at x
  obtain ⟨z, k, n, rfl⟩ : ∃ (z : Fin 1) (k : Fin 64) (n : Fin 64), x = ix3 z k n := ⟨x 0, x 1, x 2, eq_ix3 x⟩
  obtain rfl : z = 0 := Subsingleton.elim _ _
  show codes64 _ (ix3 0 k n) = codesBlock x0 x1 ((Rect.unit (s := S70x512x192) ![54 + s, c + o, b] S1x64x64.size inb).emb
    (ix3 0 k n))
  have e0 : ((Rect.unit (s := S70x512x192) ![54 + s, c + o, b] S1x64x64.size inb).emb (ix3 0 k n)) 0
      = (⟨54 + s, by omega⟩ : Fin 70) := Fin.ext (by simp [Rect.emb, LoadRect.idx, Rect.unit])
  have e1 : ((Rect.unit (s := S70x512x192) ![54 + s, c + o, b] S1x64x64.size inb).emb (ix3 0 k n)) 1
      = (⟨c + o + k, by omega⟩ : Fin 512) := Fin.ext (by simp [Rect.emb, LoadRect.idx, Rect.unit])
  have e2 : ((Rect.unit (s := S70x512x192) ![54 + s, c + o, b] S1x64x64.size inb).emb (ix3 0 k n)) 2
      = (⟨b + n, by omega⟩ : Fin 192) := Fin.ext (by simp [Rect.emb, LoadRect.idx, Rect.unit])
  rw [codes64_eq]
  unfold codesBlock
  rw [dif_neg (by rw [e0]; simp)]
  simp only [tile64_eq arg1 harg1 x0 b s c o inb' hs hb hq' ho hs', e0, e1, e2]
  congr 1
  · funext k'
    congr 2 <;> exact Fin.ext (by simp; try omega)
  · exact Fin.ext (by simp; omega)

/-- The store of a tile's head's scales is a block of `scalesBlock`. -/
theorem scales_piece64 (r q b s c o : ℕ) (inb inb') (hs)
    (L : List (View.Piece (Elt Ideal) S70x8x192 .f32))
    (h : r = 54 + s ∧ q * 64 = c + o ∧ q < 8 ∧ b + 64 ≤ 192 ∧ o + 64 ≤ 128 ∧ s < 16)
    (hL : View.PiecesOf (scalesBlock x0 x2) L) :
    View.PiecesOf (scalesBlock x0 x2) (⟨Rect.unit (s := S70x8x192) ![r, q, b] S1x1x64.size inb,
      scales64 (extractStridedSlice S64x64 ![o, 0] (turned64 (View.readAt (Elt Ideal) arg1.view
        (Rect.unit (s := S192x16x512) ![b, s, c] S64x1x128.size inb').toLoadRect (harg1.unread x0))) hs)⟩ :: L) := by
  obtain ⟨rfl, hq, hq', hb, ho, hs'⟩ := h
  refine ⟨fun x => ?_, hL⟩
  change S1x1x64.Idx at x
  obtain ⟨z, z', n, rfl⟩ : ∃ (z z' : Fin 1) (n : Fin 64), x = ix3 z z' n := ⟨x 0, x 1, x 2, eq_ix3 x⟩
  obtain rfl : z = 0 := Subsingleton.elim _ _
  obtain rfl : z' = 0 := Subsingleton.elim _ _
  show scales64 _ (ix3 0 0 n) = scalesBlock x0 x2 ((Rect.unit (s := S70x8x192) ![54 + s, q, b] S1x1x64.size inb).emb
    (ix3 0 0 n))
  have e0 : ((Rect.unit (s := S70x8x192) ![54 + s, q, b] S1x1x64.size inb).emb (ix3 0 0 n)) 0
      = (⟨54 + s, by omega⟩ : Fin 70) := Fin.ext (by simp [Rect.emb, LoadRect.idx, Rect.unit])
  have e1 : ((Rect.unit (s := S70x8x192) ![54 + s, q, b] S1x1x64.size inb).emb (ix3 0 0 n)) 1
      = (⟨q, by omega⟩ : Fin 8) := Fin.ext (by simp [Rect.emb, LoadRect.idx, Rect.unit])
  have e2 : ((Rect.unit (s := S70x8x192) ![54 + s, q, b] S1x1x64.size inb).emb (ix3 0 0 n)) 2
      = (⟨b + n, by omega⟩ : Fin 192) := Fin.ext (by simp [Rect.emb, LoadRect.idx, Rect.unit])
  rw [scales64_eq]
  unfold scalesBlock
  rw [dif_neg (by rw [e0]; simp)]
  simp only [tile64_eq arg1 harg1 x0 b s c o inb' hs hb (by omega) ho hs', e0, e1, e2]
  congr 1
  funext k'
  congr 2 <;> exact Fin.ext (by simp; try omega)

/-- The copy of the cache's later codes is a block of `codesBlock`. -/
theorem codes_copy (inb inb') :
    View.PiecesOf (codesBlock x0 x1) ([⟨Rect.unit (s := S70x512x192) ![0, 0, 0] S54x512x192.size inb,
      k0_pay3 (F := Ideal) (View.readAt (Elt Ideal) arg2.view
        (Rect.unit (s := S70x512x192) ![16, 0, 0] S54x512x192.size inb').toLoadRect (harg2.unread x1))⟩] :
      List (View.Piece (Elt Ideal) S70x512x192 .i8)) := by
  refine ⟨fun x => ?_, trivial⟩
  change S54x512x192.Idx at x
  obtain ⟨p, d, b, rfl⟩ : ∃ (p : Fin 54) (d : Fin 512) (b : Fin 192), x = ix3 p d b := ⟨x 0, x 1, x 2, eq_ix3 x⟩
  show k0_pay3 (F := Ideal) (View.readAt (Elt Ideal) arg2.view
        (Rect.unit (s := S70x512x192) ![16, 0, 0] S54x512x192.size inb').toLoadRect (harg2.unread x1)) (ix3 p d b)
    = codesBlock x0 x1 ((Rect.unit (s := S70x512x192) ![0, 0, 0] S54x512x192.size inb).emb (ix3 p d b))
  have e : (Rect.unit (s := S70x512x192) ![0, 0, 0] S54x512x192.size inb).emb (ix3 p d b)
      = ix3 ⟨p, by omega⟩ d b := by
    blk_ext
  rw [e, View.readAt_eq_ld, harg2.read_unread]
  unfold codesBlock
  rw [dif_pos (by show (p : ℕ) < 54; exact p.isLt)]
  pointwise [k0_pay3]
  simp only [Nat.add_comm]

/-- The copy of the cache's later scales is a block of `scalesBlock`. -/
theorem scales_copy (inb inb') :
    View.PiecesOf (scalesBlock x0 x2) ([⟨Rect.unit (s := S70x8x192) ![0, 0, 0] S54x8x192.size inb,
      k0_pay4 (F := Ideal) (View.readAt (Elt Ideal) arg3.view
        (Rect.unit (s := S70x8x192) ![16, 0, 0] S54x8x192.size inb').toLoadRect (harg3.unread x2))⟩] :
      List (View.Piece (Elt Ideal) S70x8x192 .f32)) := by
  refine ⟨fun x => ?_, trivial⟩
  change S54x8x192.Idx at x
  obtain ⟨p, d, b, rfl⟩ : ∃ (p : Fin 54) (d : Fin 8) (b : Fin 192), x = ix3 p d b := ⟨x 0, x 1, x 2, eq_ix3 x⟩
  show k0_pay4 (F := Ideal) (View.readAt (Elt Ideal) arg3.view
        (Rect.unit (s := S70x8x192) ![16, 0, 0] S54x8x192.size inb').toLoadRect (harg3.unread x2)) (ix3 p d b)
    = scalesBlock x0 x2 ((Rect.unit (s := S70x8x192) ![0, 0, 0] S54x8x192.size inb).emb (ix3 p d b))
  have e : (Rect.unit (s := S70x8x192) ![0, 0, 0] S54x8x192.size inb).emb (ix3 p d b)
      = ix3 ⟨p, by omega⟩ d b := by
    blk_ext
  rw [e, View.readAt_eq_ld, harg3.read_unread]
  unfold scalesBlock
  rw [dif_pos (by show (p : ℕ) < 54; exact p.isLt)]
  pointwise [k0_pay4]
  simp only [Nat.add_comm]

end Cert.RollVIdeal.Hand
-- ==== Proof.RollVOut.lean ====
/-
  What the kernel of a cache roll leaves in its two output blocks.
-/
module

public import proofs.«01_k».proof.Proof.RollVPieces

@[expose] public section

set_option maxRecDepth 16384
set_option pp.maxSteps 300

noncomputable section

namespace Cert.RollVIdeal.Hand

open Cert.RollVIdeal Cert.RollVIdeal.Gen Cert.Roll Idealize.ShloMosaic Idealize.ShloMosaic.TcCoe
  Idealize.SL.Sem

variable (c : Dev nD) (i : grid0.Coords) (arg1 : Memref sig .tc .vmem S192x16x512 .bf16) (harg1 : arg1.IsWhole)
  (arg2 : Memref sig .tc .vmem S70x512x192 .i8) (harg2 : arg2.IsWhole)
  (arg3 : Memref sig .tc .vmem S70x8x192 .f32) (harg3 : arg3.IsWhole)
  (arg4 : Memref sig .tc .vmem S70x512x192 .i8) (harg4 : arg4.IsWhole)
  (arg5 : Memref sig .tc .vmem S70x8x192 .f32) (harg5 : arg5.IsWhole)
  (x0 : Vec Ideal S192x16x512 .bf16) (x1 : Vec Ideal S70x512x192 .i8) (x2 : Vec Ideal S70x8x192 .f32)

/-- The 257 stores of codes are blocks of `codesBlock`. -/
theorem pieces_codes : View.PiecesOf (codesBlock x0 x1) (kernelRun0_A (F := Ideal) c i arg1 harg1 arg2 harg2 arg3 harg3
    arg4 harg4 arg5 harg5 x0 x1 x2).1 := by
  unfold kernelRun0_A
  dsimp only
  refine codes_piece64 arg1 harg1 x0 x1 69 448 128 15 384 64 _ inb_S192x16x512_S64x1x128_128_15_384 slices_S128x64_o64_0_S64x64 _ (by decide) ?_
  refine codes_piece64 arg1 harg1 x0 x1 69 384 128 15 384 0 _ inb_S192x16x512_S64x1x128_128_15_384 slices_S128x64_o0_0_S64x64 _ (by decide) ?_
  refine codes_piece64 arg1 harg1 x0 x1 69 320 128 15 256 64 _ inb_S192x16x512_S64x1x128_128_15_256 slices_S128x64_o64_0_S64x64 _ (by decide) ?_
  refine codes_piece64 arg1 harg1 x0 x1 69 256 128 15 256 0 _ inb_S192x16x512_S64x1x128_128_15_256 slices_S128x64_o0_0_S64x64 _ (by decide) ?_
  refine codes_piece64 arg1 harg1 x0 x1 69 192 128 15 128 64 _ inb_S192x16x512_S64x1x128_128_15_128 slices_S128x64_o64_0_S64x64 _ (by decide) ?_
  refine codes_piece64 arg1 harg1 x0 x1 69 128 128 15 128 0 _ inb_S192x16x512_S64x1x128_128_15_128 slices_S128x64_o0_0_S64x64 _ (by decide) ?_
  refine codes_piece64 arg1 harg1 x0 x1 69 64 128 15 0 64 _ inb_S192x16x512_S64x1x128_128_15_0 slices_S128x64_o64_0_S64x64 _ (by decide) ?_
  refine codes_piece64 arg1 harg1 x0 x1 69 0 128 15 0 0 _ inb_S192x16x512_S64x1x128_128_15_0 slices_S128x64_o0_0_S64x64 _ (by decide) ?_
  refine codes_piece128 arg1 harg1 x0 x1 69 448 0 15 384 64 _ inb_S192x16x512_S128x1x128_0_15_384 slices_S128x128_o64_0_S64x128 _ (by decide) ?_
  refine codes_piece128 arg1 harg1 x0 x1 69 384 0 15 384 0 _ inb_S192x16x512_S128x1x128_0_15_384 slices_S128x128_o0_0_S64x128 _ (by decide) ?_
  refine codes_piece128 arg1 harg1 x0 x1 69 320 0 15 256 64 _ inb_S192x16x512_S128x1x128_0_15_256 slices_S128x128_o64_0_S64x128 _ (by decide) ?_
  refine codes_piece128 arg1 harg1 x0 x1 69 256 0 15 256 0 _ inb_S192x16x512_S128x1x128_0_15_256 slices_S128x128_o0_0_S64x128 _ (by decide) ?_
  refine codes_piece128 arg1 harg1 x0 x1 69 192 0 15 128 64 _ inb_S192x16x512_S128x1x128_0_15_128 slices_S128x128_o64_0_S64x128 _ (by decide) ?_
  refine codes_piece128 arg1 harg1 x0 x1 69 128 0 15 128 0 _ inb_S192x16x512_S128x1x128_0_15_128 slices_S128x128_o0_0_S64x128 _ (by decide) ?_
  refine codes_piece128 arg1 harg1 x0 x1 69 64 0 15 0 64 _ inb_S192x16x512_S128x1x128_0_15_0 slices_S128x128_o64_0_S64x128 _ (by decide) ?_
  refine codes_piece128 arg1 harg1 x0 x1 69 0 0 15 0 0 _ inb_S192x16x512_S128x1x128_0_15_0 slices_S128x128_o0_0_S64x128 _ (by decide) ?_
  refine codes_piece64 arg1 harg1 x0 x1 68 448 128 14 384 64 _ inb_S192x16x512_S64x1x128_128_14_384 slices_S128x64_o64_0_S64x64 _ (by decide) ?_
  refine codes_piece64 arg1 harg1 x0 x1 68 384 128 14 384 0 _ inb_S192x16x512_S64x1x128_128_14_384 slices_S128x64_o0_0_S64x64 _ (by decide) ?_
  refine codes_piece64 arg1 harg1 x0 x1 68 320 128 14 256 64 _ inb_S192x16x512_S64x1x128_128_14_256 slices_S128x64_o64_0_S64x64 _ (by decide) ?_
  refine codes_piece64 arg1 harg1 x0 x1 68 256 128 14 256 0 _ inb_S192x16x512_S64x1x128_128_14_256 slices_S128x64_o0_0_S64x64 _ (by decide) ?_
  refine codes_piece64 arg1 harg1 x0 x1 68 192 128 14 128 64 _ inb_S192x16x512_S64x1x128_128_14_128 slices_S128x64_o64_0_S64x64 _ (by decide) ?_
  refine codes_piece64 arg1 harg1 x0 x1 68 128 128 14 128 0 _ inb_S192x16x512_S64x1x128_128_14_128 slices_S128x64_o0_0_S64x64 _ (by decide) ?_
  refine codes_piece64 arg1 harg1 x0 x1 68 64 128 14 0 64 _ inb_S192x16x512_S64x1x128_128_14_0 slices_S128x64_o64_0_S64x64 _ (by decide) ?_
  refine codes_piece64 arg1 harg1 x0 x1 68 0 128 14 0 0 _ inb_S192x16x512_S64x1x128_128_14_0 slices_S128x64_o0_0_S64x64 _ (by decide) ?_
  refine codes_piece128 arg1 harg1 x0 x1 68 448 0 14 384 64 _ inb_S192x16x512_S128x1x128_0_14_384 slices_S128x128_o64_0_S64x128 _ (by decide) ?_
  refine codes_piece128 arg1 harg1 x0 x1 68 384 0 14 384 0 _ inb_S192x16x512_S128x1x128_0_14_384 slices_S128x128_o0_0_S64x128 _ (by decide) ?_
  refine codes_piece128 arg1 harg1 x0 x1 68 320 0 14 256 64 _ inb_S192x16x512_S128x1x128_0_14_256 slices_S128x128_o64_0_S64x128 _ (by decide) ?_
  refine codes_piece128 arg1 harg1 x0 x1 68 256 0 14 256 0 _ inb_S192x16x512_S128x1x128_0_14_256 slices_S128x128_o0_0_S64x128 _ (by decide) ?_
  refine codes_piece128 arg1 harg1 x0 x1 68 192 0 14 128 64 _ inb_S192x16x512_S128x1x128_0_14_128 slices_S128x128_o64_0_S64x128 _ (by decide) ?_
  refine codes_piece128 arg1 harg1 x0 x1 68 128 0 14 128 0 _ inb_S192x16x512_S128x1x128_0_14_128 slices_S128x128_o0_0_S64x128 _ (by decide) ?_
  refine codes_piece128 arg1 harg1 x0 x1 68 64 0 14 0 64 _ inb_S192x16x512_S128x1x128_0_14_0 slices_S128x128_o64_0_S64x128 _ (by decide) ?_
  refine codes_piece128 arg1 harg1 x0 x1 68 0 0 14 0 0 _ inb_S192x16x512_S128x1x128_0_14_0 slices_S128x128_o0_0_S64x128 _ (by decide) ?_
  refine codes_piece64 arg1 harg1 x0 x1 67 448 128 13 384 64 _ inb_S192x16x512_S64x1x128_128_13_384 slices_S128x64_o64_0_S64x64 _ (by decide) ?_
  refine codes_piece64 arg1 harg1 x0 x1 67 384 128 13 384 0 _ inb_S192x16x512_S64x1x128_128_13_384 slices_S128x64_o0_0_S64x64 _ (by decide) ?_
  refine codes_piece64 arg1 harg1 x0 x1 67 320 128 13 256 64 _ inb_S192x16x512_S64x1x128_128_13_256 slices_S128x64_o64_0_S64x64 _ (by decide) ?_
  refine codes_piece64 arg1 harg1 x0 x1 67 256 128 13 256 0 _ inb_S192x16x512_S64x1x128_128_13_256 slices_S128x64_o0_0_S64x64 _ (by decide) ?_
  refine codes_piece64 arg1 harg1 x0 x1 67 192 128 13 128 64 _ inb_S192x16x512_S64x1x128_128_13_128 slices_S128x64_o64_0_S64x64 _ (by decide) ?_
  refine codes_piece64 arg1 harg1 x0 x1 67 128 128 13 128 0 _ inb_S192x16x512_S64x1x128_128_13_128 slices_S128x64_o0_0_S64x64 _ (by decide) ?_
  refine codes_piece64 arg1 harg1 x0 x1 67 64 128 13 0 64 _ inb_S192x16x512_S64x1x128_128_13_0 slices_S128x64_o64_0_S64x64 _ (by decide) ?_
  refine codes_piece64 arg1 harg1 x0 x1 67 0 128 13 0 0 _ inb_S192x16x512_S64x1x128_128_13_0 slices_S128x64_o0_0_S64x64 _ (by decide) ?_
  refine codes_piece128 arg1 harg1 x0 x1 67 448 0 13 384 64 _ inb_S192x16x512_S128x1x128_0_13_384 slices_S128x128_o64_0_S64x128 _ (by decide) ?_
  refine codes_piece128 arg1 harg1 x0 x1 67 384 0 13 384 0 _ inb_S192x16x512_S128x1x128_0_13_384 slices_S128x128_o0_0_S64x128 _ (by decide) ?_
  refine codes_piece128 arg1 harg1 x0 x1 67 320 0 13 256 64 _ inb_S192x16x512_S128x1x128_0_13_256 slices_S128x128_o64_0_S64x128 _ (by decide) ?_
  refine codes_piece128 arg1 harg1 x0 x1 67 256 0 13 256 0 _ inb_S192x16x512_S128x1x128_0_13_256 slices_S128x128_o0_0_S64x128 _ (by decide) ?_
  refine codes_piece128 arg1 harg1 x0 x1 67 192 0 13 128 64 _ inb_S192x16x512_S128x1x128_0_13_128 slices_S128x128_o64_0_S64x128 _ (by decide) ?_
  refine codes_piece128 arg1 harg1 x0 x1 67 128 0 13 128 0 _ inb_S192x16x512_S128x1x128_0_13_128 slices_S128x128_o0_0_S64x128 _ (by decide) ?_
  refine codes_piece128 arg1 harg1 x0 x1 67 64 0 13 0 64 _ inb_S192x16x512_S128x1x128_0_13_0 slices_S128x128_o64_0_S64x128 _ (by decide) ?_
  refine codes_piece128 arg1 harg1 x0 x1 67 0 0 13 0 0 _ inb_S192x16x512_S128x1x128_0_13_0 slices_S128x128_o0_0_S64x128 _ (by decide) ?_
  refine codes_piece64 arg1 harg1 x0 x1 66 448 128 12 384 64 _ inb_S192x16x512_S64x1x128_128_12_384 slices_S128x64_o64_0_S64x64 _ (by decide) ?_
  refine codes_piece64 arg1 harg1 x0 x1 66 384 128 12 384 0 _ inb_S192x16x512_S64x1x128_128_12_384 slices_S128x64_o0_0_S64x64 _ (by decide) ?_
  refine codes_piece64 arg1 harg1 x0 x1 66 320 128 12 256 64 _ inb_S192x16x512_S64x1x128_128_12_256 slices_S128x64_o64_0_S64x64 _ (by decide) ?_
  refine codes_piece64 arg1 harg1 x0 x1 66 256 128 12 256 0 _ inb_S192x16x512_S64x1x128_128_12_256 slices_S128x64_o0_0_S64x64 _ (by decide) ?_
  refine codes_piece64 arg1 harg1 x0 x1 66 192 128 12 128 64 _ inb_S192x16x512_S64x1x128_128_12_128 slices_S128x64_o64_0_S64x64 _ (by decide) ?_
  refine codes_piece64 arg1 harg1 x0 x1 66 128 128 12 128 0 _ inb_S192x16x512_S64x1x128_128_12_128 slices_S128x64_o0_0_S64x64 _ (by decide) ?_
  refine codes_piece64 arg1 harg1 x0 x1 66 64 128 12 0 64 _ inb_S192x16x512_S64x1x128_128_12_0 slices_S128x64_o64_0_S64x64 _ (by decide) ?_
  refine codes_piece64 arg1 harg1 x0 x1 66 0 128 12 0 0 _ inb_S192x16x512_S64x1x128_128_12_0 slices_S128x64_o0_0_S64x64 _ (by decide) ?_
  refine codes_piece128 arg1 harg1 x0 x1 66 448 0 12 384 64 _ inb_S192x16x512_S128x1x128_0_12_384 slices_S128x128_o64_0_S64x128 _ (by decide) ?_
  refine codes_piece128 arg1 harg1 x0 x1 66 384 0 12 384 0 _ inb_S192x16x512_S128x1x128_0_12_384 slices_S128x128_o0_0_S64x128 _ (by decide) ?_
  refine codes_piece128 arg1 harg1 x0 x1 66 320 0 12 256 64 _ inb_S192x16x512_S128x1x128_0_12_256 slices_S128x128_o64_0_S64x128 _ (by decide) ?_
  refine codes_piece128 arg1 harg1 x0 x1 66 256 0 12 256 0 _ inb_S192x16x512_S128x1x128_0_12_256 slices_S128x128_o0_0_S64x128 _ (by decide) ?_
  refine codes_piece128 arg1 harg1 x0 x1 66 192 0 12 128 64 _ inb_S192x16x512_S128x1x128_0_12_128 slices_S128x128_o64_0_S64x128 _ (by decide) ?_
  refine codes_piece128 arg1 harg1 x0 x1 66 128 0 12 128 0 _ inb_S192x16x512_S128x1x128_0_12_128 slices_S128x128_o0_0_S64x128 _ (by decide) ?_
  refine codes_piece128 arg1 harg1 x0 x1 66 64 0 12 0 64 _ inb_S192x16x512_S128x1x128_0_12_0 slices_S128x128_o64_0_S64x128 _ (by decide) ?_
  refine codes_piece128 arg1 harg1 x0 x1 66 0 0 12 0 0 _ inb_S192x16x512_S128x1x128_0_12_0 slices_S128x128_o0_0_S64x128 _ (by decide) ?_
  refine codes_piece64 arg1 harg1 x0 x1 65 448 128 11 384 64 _ inb_S192x16x512_S64x1x128_128_11_384 slices_S128x64_o64_0_S64x64 _ (by decide) ?_
  refine codes_piece64 arg1 harg1 x0 x1 65 384 128 11 384 0 _ inb_S192x16x512_S64x1x128_128_11_384 slices_S128x64_o0_0_S64x64 _ (by decide) ?_
  refine codes_piece64 arg1 harg1 x0 x1 65 320 128 11 256 64 _ inb_S192x16x512_S64x1x128_128_11_256 slices_S128x64_o64_0_S64x64 _ (by decide) ?_
  refine codes_piece64 arg1 harg1 x0 x1 65 256 128 11 256 0 _ inb_S192x16x512_S64x1x128_128_11_256 slices_S128x64_o0_0_S64x64 _ (by decide) ?_
  refine codes_piece64 arg1 harg1 x0 x1 65 192 128 11 128 64 _ inb_S192x16x512_S64x1x128_128_11_128 slices_S128x64_o64_0_S64x64 _ (by decide) ?_
  refine codes_piece64 arg1 harg1 x0 x1 65 128 128 11 128 0 _ inb_S192x16x512_S64x1x128_128_11_128 slices_S128x64_o0_0_S64x64 _ (by decide) ?_
  refine codes_piece64 arg1 harg1 x0 x1 65 64 128 11 0 64 _ inb_S192x16x512_S64x1x128_128_11_0 slices_S128x64_o64_0_S64x64 _ (by decide) ?_
  refine codes_piece64 arg1 harg1 x0 x1 65 0 128 11 0 0 _ inb_S192x16x512_S64x1x128_128_11_0 slices_S128x64_o0_0_S64x64 _ (by decide) ?_
  refine codes_piece128 arg1 harg1 x0 x1 65 448 0 11 384 64 _ inb_S192x16x512_S128x1x128_0_11_384 slices_S128x128_o64_0_S64x128 _ (by decide) ?_
  refine codes_piece128 arg1 harg1 x0 x1 65 384 0 11 384 0 _ inb_S192x16x512_S128x1x128_0_11_384 slices_S128x128_o0_0_S64x128 _ (by decide) ?_
  refine codes_piece128 arg1 harg1 x0 x1 65 320 0 11 256 64 _ inb_S192x16x512_S128x1x128_0_11_256 slices_S128x128_o64_0_S64x128 _ (by decide) ?_
  refine codes_piece128 arg1 harg1 x0 x1 65 256 0 11 256 0 _ inb_S192x16x512_S128x1x128_0_11_256 slices_S128x128_o0_0_S64x128 _ (by decide) ?_
  refine codes_piece128 arg1 harg1 x0 x1 65 192 0 11 128 64 _ inb_S192x16x512_S128x1x128_0_11_128 slices_S128x128_o64_0_S64x128 _ (by decide) ?_
  refine codes_piece128 arg1 harg1 x0 x1 65 128 0 11 128 0 _ inb_S192x16x512_S128x1x128_0_11_128 slices_S128x128_o0_0_S64x128 _ (by decide) ?_
  refine codes_piece128 arg1 harg1 x0 x1 65 64 0 11 0 64 _ inb_S192x16x512_S128x1x128_0_11_0 slices_S128x128_o64_0_S64x128 _ (by decide) ?_
  refine codes_piece128 arg1 harg1 x0 x1 65 0 0 11 0 0 _ inb_S192x16x512_S128x1x128_0_11_0 slices_S128x128_o0_0_S64x128 _ (by decide) ?_
  refine codes_piece64 arg1 harg1 x0 x1 64 448 128 10 384 64 _ inb_S192x16x512_S64x1x128_128_10_384 slices_S128x64_o64_0_S64x64 _ (by decide) ?_
  refine codes_piece64 arg1 harg1 x0 x1 64 384 128 10 384 0 _ inb_S192x16x512_S64x1x128_128_10_384 slices_S128x64_o0_0_S64x64 _ (by decide) ?_
  refine codes_piece64 arg1 harg1 x0 x1 64 320 128 10 256 64 _ inb_S192x16x512_S64x1x128_128_10_256 slices_S128x64_o64_0_S64x64 _ (by decide) ?_
  refine codes_piece64 arg1 harg1 x0 x1 64 256 128 10 256 0 _ inb_S192x16x512_S64x1x128_128_10_256 slices_S128x64_o0_0_S64x64 _ (by decide) ?_
  refine codes_piece64 arg1 harg1 x0 x1 64 192 128 10 128 64 _ inb_S192x16x512_S64x1x128_128_10_128 slices_S128x64_o64_0_S64x64 _ (by decide) ?_
  refine codes_piece64 arg1 harg1 x0 x1 64 128 128 10 128 0 _ inb_S192x16x512_S64x1x128_128_10_128 slices_S128x64_o0_0_S64x64 _ (by decide) ?_
  refine codes_piece64 arg1 harg1 x0 x1 64 64 128 10 0 64 _ inb_S192x16x512_S64x1x128_128_10_0 slices_S128x64_o64_0_S64x64 _ (by decide) ?_
  refine codes_piece64 arg1 harg1 x0 x1 64 0 128 10 0 0 _ inb_S192x16x512_S64x1x128_128_10_0 slices_S128x64_o0_0_S64x64 _ (by decide) ?_
  refine codes_piece128 arg1 harg1 x0 x1 64 448 0 10 384 64 _ inb_S192x16x512_S128x1x128_0_10_384 slices_S128x128_o64_0_S64x128 _ (by decide) ?_
  refine codes_piece128 arg1 harg1 x0 x1 64 384 0 10 384 0 _ inb_S192x16x512_S128x1x128_0_10_384 slices_S128x128_o0_0_S64x128 _ (by decide) ?_
  refine codes_piece128 arg1 harg1 x0 x1 64 320 0 10 256 64 _ inb_S192x16x512_S128x1x128_0_10_256 slices_S128x128_o64_0_S64x128 _ (by decide) ?_
  refine codes_piece128 arg1 harg1 x0 x1 64 256 0 10 256 0 _ inb_S192x16x512_S128x1x128_0_10_256 slices_S128x128_o0_0_S64x128 _ (by decide) ?_
  refine codes_piece128 arg1 harg1 x0 x1 64 192 0 10 128 64 _ inb_S192x16x512_S128x1x128_0_10_128 slices_S128x128_o64_0_S64x128 _ (by decide) ?_
  refine codes_piece128 arg1 harg1 x0 x1 64 128 0 10 128 0 _ inb_S192x16x512_S128x1x128_0_10_128 slices_S128x128_o0_0_S64x128 _ (by decide) ?_
  refine codes_piece128 arg1 harg1 x0 x1 64 64 0 10 0 64 _ inb_S192x16x512_S128x1x128_0_10_0 slices_S128x128_o64_0_S64x128 _ (by decide) ?_
  refine codes_piece128 arg1 harg1 x0 x1 64 0 0 10 0 0 _ inb_S192x16x512_S128x1x128_0_10_0 slices_S128x128_o0_0_S64x128 _ (by decide) ?_
  refine codes_piece64 arg1 harg1 x0 x1 63 448 128 9 384 64 _ inb_S192x16x512_S64x1x128_128_9_384 slices_S128x64_o64_0_S64x64 _ (by decide) ?_
  refine codes_piece64 arg1 harg1 x0 x1 63 384 128 9 384 0 _ inb_S192x16x512_S64x1x128_128_9_384 slices_S128x64_o0_0_S64x64 _ (by decide) ?_
  refine codes_piece64 arg1 harg1 x0 x1 63 320 128 9 256 64 _ inb_S192x16x512_S64x1x128_128_9_256 slices_S128x64_o64_0_S64x64 _ (by decide) ?_
  refine codes_piece64 arg1 harg1 x0 x1 63 256 128 9 256 0 _ inb_S192x16x512_S64x1x128_128_9_256 slices_S128x64_o0_0_S64x64 _ (by decide) ?_
  refine codes_piece64 arg1 harg1 x0 x1 63 192 128 9 128 64 _ inb_S192x16x512_S64x1x128_128_9_128 slices_S128x64_o64_0_S64x64 _ (by decide) ?_
  refine codes_piece64 arg1 harg1 x0 x1 63 128 128 9 128 0 _ inb_S192x16x512_S64x1x128_128_9_128 slices_S128x64_o0_0_S64x64 _ (by decide) ?_
  refine codes_piece64 arg1 harg1 x0 x1 63 64 128 9 0 64 _ inb_S192x16x512_S64x1x128_128_9_0 slices_S128x64_o64_0_S64x64 _ (by decide) ?_
  refine codes_piece64 arg1 harg1 x0 x1 63 0 128 9 0 0 _ inb_S192x16x512_S64x1x128_128_9_0 slices_S128x64_o0_0_S64x64 _ (by decide) ?_
  refine codes_piece128 arg1 harg1 x0 x1 63 448 0 9 384 64 _ inb_S192x16x512_S128x1x128_0_9_384 slices_S128x128_o64_0_S64x128 _ (by decide) ?_
  refine codes_piece128 arg1 harg1 x0 x1 63 384 0 9 384 0 _ inb_S192x16x512_S128x1x128_0_9_384 slices_S128x128_o0_0_S64x128 _ (by decide) ?_
  refine codes_piece128 arg1 harg1 x0 x1 63 320 0 9 256 64 _ inb_S192x16x512_S128x1x128_0_9_256 slices_S128x128_o64_0_S64x128 _ (by decide) ?_
  refine codes_piece128 arg1 harg1 x0 x1 63 256 0 9 256 0 _ inb_S192x16x512_S128x1x128_0_9_256 slices_S128x128_o0_0_S64x128 _ (by decide) ?_
  refine codes_piece128 arg1 harg1 x0 x1 63 192 0 9 128 64 _ inb_S192x16x512_S128x1x128_0_9_128 slices_S128x128_o64_0_S64x128 _ (by decide) ?_
  refine codes_piece128 arg1 harg1 x0 x1 63 128 0 9 128 0 _ inb_S192x16x512_S128x1x128_0_9_128 slices_S128x128_o0_0_S64x128 _ (by decide) ?_
  refine codes_piece128 arg1 harg1 x0 x1 63 64 0 9 0 64 _ inb_S192x16x512_S128x1x128_0_9_0 slices_S128x128_o64_0_S64x128 _ (by decide) ?_
  refine codes_piece128 arg1 harg1 x0 x1 63 0 0 9 0 0 _ inb_S192x16x512_S128x1x128_0_9_0 slices_S128x128_o0_0_S64x128 _ (by decide) ?_
  refine codes_piece64 arg1 harg1 x0 x1 62 448 128 8 384 64 _ inb_S192x16x512_S64x1x128_128_8_384 slices_S128x64_o64_0_S64x64 _ (by decide) ?_
  refine codes_piece64 arg1 harg1 x0 x1 62 384 128 8 384 0 _ inb_S192x16x512_S64x1x128_128_8_384 slices_S128x64_o0_0_S64x64 _ (by decide) ?_
  refine codes_piece64 arg1 harg1 x0 x1 62 320 128 8 256 64 _ inb_S192x16x512_S64x1x128_128_8_256 slices_S128x64_o64_0_S64x64 _ (by decide) ?_
  refine codes_piece64 arg1 harg1 x0 x1 62 256 128 8 256 0 _ inb_S192x16x512_S64x1x128_128_8_256 slices_S128x64_o0_0_S64x64 _ (by decide) ?_
  refine codes_piece64 arg1 harg1 x0 x1 62 192 128 8 128 64 _ inb_S192x16x512_S64x1x128_128_8_128 slices_S128x64_o64_0_S64x64 _ (by decide) ?_
  refine codes_piece64 arg1 harg1 x0 x1 62 128 128 8 128 0 _ inb_S192x16x512_S64x1x128_128_8_128 slices_S128x64_o0_0_S64x64 _ (by decide) ?_
  refine codes_piece64 arg1 harg1 x0 x1 62 64 128 8 0 64 _ inb_S192x16x512_S64x1x128_128_8_0 slices_S128x64_o64_0_S64x64 _ (by decide) ?_
  refine codes_piece64 arg1 harg1 x0 x1 62 0 128 8 0 0 _ inb_S192x16x512_S64x1x128_128_8_0 slices_S128x64_o0_0_S64x64 _ (by decide) ?_
  refine codes_piece128 arg1 harg1 x0 x1 62 448 0 8 384 64 _ inb_S192x16x512_S128x1x128_0_8_384 slices_S128x128_o64_0_S64x128 _ (by decide) ?_
  refine codes_piece128 arg1 harg1 x0 x1 62 384 0 8 384 0 _ inb_S192x16x512_S128x1x128_0_8_384 slices_S128x128_o0_0_S64x128 _ (by decide) ?_
  refine codes_piece128 arg1 harg1 x0 x1 62 320 0 8 256 64 _ inb_S192x16x512_S128x1x128_0_8_256 slices_S128x128_o64_0_S64x128 _ (by decide) ?_
  refine codes_piece128 arg1 harg1 x0 x1 62 256 0 8 256 0 _ inb_S192x16x512_S128x1x128_0_8_256 slices_S128x128_o0_0_S64x128 _ (by decide) ?_
  refine codes_piece128 arg1 harg1 x0 x1 62 192 0 8 128 64 _ inb_S192x16x512_S128x1x128_0_8_128 slices_S128x128_o64_0_S64x128 _ (by decide) ?_
  refine codes_piece128 arg1 harg1 x0 x1 62 128 0 8 128 0 _ inb_S192x16x512_S128x1x128_0_8_128 slices_S128x128_o0_0_S64x128 _ (by decide) ?_
  refine codes_piece128 arg1 harg1 x0 x1 62 64 0 8 0 64 _ inb_S192x16x512_S128x1x128_0_8_0 slices_S128x128_o64_0_S64x128 _ (by decide) ?_
  refine codes_piece128 arg1 harg1 x0 x1 62 0 0 8 0 0 _ inb_S192x16x512_S128x1x128_0_8_0 slices_S128x128_o0_0_S64x128 _ (by decide) ?_
  refine codes_piece64 arg1 harg1 x0 x1 61 448 128 7 384 64 _ inb_S192x16x512_S64x1x128_128_7_384 slices_S128x64_o64_0_S64x64 _ (by decide) ?_
  refine codes_piece64 arg1 harg1 x0 x1 61 384 128 7 384 0 _ inb_S192x16x512_S64x1x128_128_7_384 slices_S128x64_o0_0_S64x64 _ (by decide) ?_
  refine codes_piece64 arg1 harg1 x0 x1 61 320 128 7 256 64 _ inb_S192x16x512_S64x1x128_128_7_256 slices_S128x64_o64_0_S64x64 _ (by decide) ?_
  refine codes_piece64 arg1 harg1 x0 x1 61 256 128 7 256 0 _ inb_S192x16x512_S64x1x128_128_7_256 slices_S128x64_o0_0_S64x64 _ (by decide) ?_
  refine codes_piece64 arg1 harg1 x0 x1 61 192 128 7 128 64 _ inb_S192x16x512_S64x1x128_128_7_128 slices_S128x64_o64_0_S64x64 _ (by decide) ?_
  refine codes_piece64 arg1 harg1 x0 x1 61 128 128 7 128 0 _ inb_S192x16x512_S64x1x128_128_7_128 slices_S128x64_o0_0_S64x64 _ (by decide) ?_
  refine codes_piece64 arg1 harg1 x0 x1 61 64 128 7 0 64 _ inb_S192x16x512_S64x1x128_128_7_0 slices_S128x64_o64_0_S64x64 _ (by decide) ?_
  refine codes_piece64 arg1 harg1 x0 x1 61 0 128 7 0 0 _ inb_S192x16x512_S64x1x128_128_7_0 slices_S128x64_o0_0_S64x64 _ (by decide) ?_
  refine codes_piece128 arg1 harg1 x0 x1 61 448 0 7 384 64 _ inb_S192x16x512_S128x1x128_0_7_384 slices_S128x128_o64_0_S64x128 _ (by decide) ?_
  refine codes_piece128 arg1 harg1 x0 x1 61 384 0 7 384 0 _ inb_S192x16x512_S128x1x128_0_7_384 slices_S128x128_o0_0_S64x128 _ (by decide) ?_
  refine codes_piece128 arg1 harg1 x0 x1 61 320 0 7 256 64 _ inb_S192x16x512_S128x1x128_0_7_256 slices_S128x128_o64_0_S64x128 _ (by decide) ?_
  refine codes_piece128 arg1 harg1 x0 x1 61 256 0 7 256 0 _ inb_S192x16x512_S128x1x128_0_7_256 slices_S128x128_o0_0_S64x128 _ (by decide) ?_
  refine codes_piece128 arg1 harg1 x0 x1 61 192 0 7 128 64 _ inb_S192x16x512_S128x1x128_0_7_128 slices_S128x128_o64_0_S64x128 _ (by decide) ?_
  refine codes_piece128 arg1 harg1 x0 x1 61 128 0 7 128 0 _ inb_S192x16x512_S128x1x128_0_7_128 slices_S128x128_o0_0_S64x128 _ (by decide) ?_
  refine codes_piece128 arg1 harg1 x0 x1 61 64 0 7 0 64 _ inb_S192x16x512_S128x1x128_0_7_0 slices_S128x128_o64_0_S64x128 _ (by decide) ?_
  refine codes_piece128 arg1 harg1 x0 x1 61 0 0 7 0 0 _ inb_S192x16x512_S128x1x128_0_7_0 slices_S128x128_o0_0_S64x128 _ (by decide) ?_
  refine codes_piece64 arg1 harg1 x0 x1 60 448 128 6 384 64 _ inb_S192x16x512_S64x1x128_128_6_384 slices_S128x64_o64_0_S64x64 _ (by decide) ?_
  refine codes_piece64 arg1 harg1 x0 x1 60 384 128 6 384 0 _ inb_S192x16x512_S64x1x128_128_6_384 slices_S128x64_o0_0_S64x64 _ (by decide) ?_
  refine codes_piece64 arg1 harg1 x0 x1 60 320 128 6 256 64 _ inb_S192x16x512_S64x1x128_128_6_256 slices_S128x64_o64_0_S64x64 _ (by decide) ?_
  refine codes_piece64 arg1 harg1 x0 x1 60 256 128 6 256 0 _ inb_S192x16x512_S64x1x128_128_6_256 slices_S128x64_o0_0_S64x64 _ (by decide) ?_
  refine codes_piece64 arg1 harg1 x0 x1 60 192 128 6 128 64 _ inb_S192x16x512_S64x1x128_128_6_128 slices_S128x64_o64_0_S64x64 _ (by decide) ?_
  refine codes_piece64 arg1 harg1 x0 x1 60 128 128 6 128 0 _ inb_S192x16x512_S64x1x128_128_6_128 slices_S128x64_o0_0_S64x64 _ (by decide) ?_
  refine codes_piece64 arg1 harg1 x0 x1 60 64 128 6 0 64 _ inb_S192x16x512_S64x1x128_128_6_0 slices_S128x64_o64_0_S64x64 _ (by decide) ?_
  refine codes_piece64 arg1 harg1 x0 x1 60 0 128 6 0 0 _ inb_S192x16x512_S64x1x128_128_6_0 slices_S128x64_o0_0_S64x64 _ (by decide) ?_
  refine codes_piece128 arg1 harg1 x0 x1 60 448 0 6 384 64 _ inb_S192x16x512_S128x1x128_0_6_384 slices_S128x128_o64_0_S64x128 _ (by decide) ?_
  refine codes_piece128 arg1 harg1 x0 x1 60 384 0 6 384 0 _ inb_S192x16x512_S128x1x128_0_6_384 slices_S128x128_o0_0_S64x128 _ (by decide) ?_
  refine codes_piece128 arg1 harg1 x0 x1 60 320 0 6 256 64 _ inb_S192x16x512_S128x1x128_0_6_256 slices_S128x128_o64_0_S64x128 _ (by decide) ?_
  refine codes_piece128 arg1 harg1 x0 x1 60 256 0 6 256 0 _ inb_S192x16x512_S128x1x128_0_6_256 slices_S128x128_o0_0_S64x128 _ (by decide) ?_
  refine codes_piece128 arg1 harg1 x0 x1 60 192 0 6 128 64 _ inb_S192x16x512_S128x1x128_0_6_128 slices_S128x128_o64_0_S64x128 _ (by decide) ?_
  refine codes_piece128 arg1 harg1 x0 x1 60 128 0 6 128 0 _ inb_S192x16x512_S128x1x128_0_6_128 slices_S128x128_o0_0_S64x128 _ (by decide) ?_
  refine codes_piece128 arg1 harg1 x0 x1 60 64 0 6 0 64 _ inb_S192x16x512_S128x1x128_0_6_0 slices_S128x128_o64_0_S64x128 _ (by decide) ?_
  refine codes_piece128 arg1 harg1 x0 x1 60 0 0 6 0 0 _ inb_S192x16x512_S128x1x128_0_6_0 slices_S128x128_o0_0_S64x128 _ (by decide) ?_
  refine codes_piece64 arg1 harg1 x0 x1 59 448 128 5 384 64 _ inb_S192x16x512_S64x1x128_128_5_384 slices_S128x64_o64_0_S64x64 _ (by decide) ?_
  refine codes_piece64 arg1 harg1 x0 x1 59 384 128 5 384 0 _ inb_S192x16x512_S64x1x128_128_5_384 slices_S128x64_o0_0_S64x64 _ (by decide) ?_
  refine codes_piece64 arg1 harg1 x0 x1 59 320 128 5 256 64 _ inb_S192x16x512_S64x1x128_128_5_256 slices_S128x64_o64_0_S64x64 _ (by decide) ?_
  refine codes_piece64 arg1 harg1 x0 x1 59 256 128 5 256 0 _ inb_S192x16x512_S64x1x128_128_5_256 slices_S128x64_o0_0_S64x64 _ (by decide) ?_
  refine codes_piece64 arg1 harg1 x0 x1 59 192 128 5 128 64 _ inb_S192x16x512_S64x1x128_128_5_128 slices_S128x64_o64_0_S64x64 _ (by decide) ?_
  refine codes_piece64 arg1 harg1 x0 x1 59 128 128 5 128 0 _ inb_S192x16x512_S64x1x128_128_5_128 slices_S128x64_o0_0_S64x64 _ (by decide) ?_
  refine codes_piece64 arg1 harg1 x0 x1 59 64 128 5 0 64 _ inb_S192x16x512_S64x1x128_128_5_0 slices_S128x64_o64_0_S64x64 _ (by decide) ?_
  refine codes_piece64 arg1 harg1 x0 x1 59 0 128 5 0 0 _ inb_S192x16x512_S64x1x128_128_5_0 slices_S128x64_o0_0_S64x64 _ (by decide) ?_
  refine codes_piece128 arg1 harg1 x0 x1 59 448 0 5 384 64 _ inb_S192x16x512_S128x1x128_0_5_384 slices_S128x128_o64_0_S64x128 _ (by decide) ?_
  refine codes_piece128 arg1 harg1 x0 x1 59 384 0 5 384 0 _ inb_S192x16x512_S128x1x128_0_5_384 slices_S128x128_o0_0_S64x128 _ (by decide) ?_
  refine codes_piece128 arg1 harg1 x0 x1 59 320 0 5 256 64 _ inb_S192x16x512_S128x1x128_0_5_256 slices_S128x128_o64_0_S64x128 _ (by decide) ?_
  refine codes_piece128 arg1 harg1 x0 x1 59 256 0 5 256 0 _ inb_S192x16x512_S128x1x128_0_5_256 slices_S128x128_o0_0_S64x128 _ (by decide) ?_
  refine codes_piece128 arg1 harg1 x0 x1 59 192 0 5 128 64 _ inb_S192x16x512_S128x1x128_0_5_128 slices_S128x128_o64_0_S64x128 _ (by decide) ?_
  refine codes_piece128 arg1 harg1 x0 x1 59 128 0 5 128 0 _ inb_S192x16x512_S128x1x128_0_5_128 slices_S128x128_o0_0_S64x128 _ (by decide) ?_
  refine codes_piece128 arg1 harg1 x0 x1 59 64 0 5 0 64 _ inb_S192x16x512_S128x1x128_0_5_0 slices_S128x128_o64_0_S64x128 _ (by decide) ?_
  refine codes_piece128 arg1 harg1 x0 x1 59 0 0 5 0 0 _ inb_S192x16x512_S128x1x128_0_5_0 slices_S128x128_o0_0_S64x128 _ (by decide) ?_
  refine codes_piece64 arg1 harg1 x0 x1 58 448 128 4 384 64 _ inb_S192x16x512_S64x1x128_128_4_384 slices_S128x64_o64_0_S64x64 _ (by decide) ?_
  refine codes_piece64 arg1 harg1 x0 x1 58 384 128 4 384 0 _ inb_S192x16x512_S64x1x128_128_4_384 slices_S128x64_o0_0_S64x64 _ (by decide) ?_
  refine codes_piece64 arg1 harg1 x0 x1 58 320 128 4 256 64 _ inb_S192x16x512_S64x1x128_128_4_256 slices_S128x64_o64_0_S64x64 _ (by decide) ?_
  refine codes_piece64 arg1 harg1 x0 x1 58 256 128 4 256 0 _ inb_S192x16x512_S64x1x128_128_4_256 slices_S128x64_o0_0_S64x64 _ (by decide) ?_
  refine codes_piece64 arg1 harg1 x0 x1 58 192 128 4 128 64 _ inb_S192x16x512_S64x1x128_128_4_128 slices_S128x64_o64_0_S64x64 _ (by decide) ?_
  refine codes_piece64 arg1 harg1 x0 x1 58 128 128 4 128 0 _ inb_S192x16x512_S64x1x128_128_4_128 slices_S128x64_o0_0_S64x64 _ (by decide) ?_
  refine codes_piece64 arg1 harg1 x0 x1 58 64 128 4 0 64 _ inb_S192x16x512_S64x1x128_128_4_0 slices_S128x64_o64_0_S64x64 _ (by decide) ?_
  refine codes_piece64 arg1 harg1 x0 x1 58 0 128 4 0 0 _ inb_S192x16x512_S64x1x128_128_4_0 slices_S128x64_o0_0_S64x64 _ (by decide) ?_
  refine codes_piece128 arg1 harg1 x0 x1 58 448 0 4 384 64 _ inb_S192x16x512_S128x1x128_0_4_384 slices_S128x128_o64_0_S64x128 _ (by decide) ?_
  refine codes_piece128 arg1 harg1 x0 x1 58 384 0 4 384 0 _ inb_S192x16x512_S128x1x128_0_4_384 slices_S128x128_o0_0_S64x128 _ (by decide) ?_
  refine codes_piece128 arg1 harg1 x0 x1 58 320 0 4 256 64 _ inb_S192x16x512_S128x1x128_0_4_256 slices_S128x128_o64_0_S64x128 _ (by decide) ?_
  refine codes_piece128 arg1 harg1 x0 x1 58 256 0 4 256 0 _ inb_S192x16x512_S128x1x128_0_4_256 slices_S128x128_o0_0_S64x128 _ (by decide) ?_
  refine codes_piece128 arg1 harg1 x0 x1 58 192 0 4 128 64 _ inb_S192x16x512_S128x1x128_0_4_128 slices_S128x128_o64_0_S64x128 _ (by decide) ?_
  refine codes_piece128 arg1 harg1 x0 x1 58 128 0 4 128 0 _ inb_S192x16x512_S128x1x128_0_4_128 slices_S128x128_o0_0_S64x128 _ (by decide) ?_
  refine codes_piece128 arg1 harg1 x0 x1 58 64 0 4 0 64 _ inb_S192x16x512_S128x1x128_0_4_0 slices_S128x128_o64_0_S64x128 _ (by decide) ?_
  refine codes_piece128 arg1 harg1 x0 x1 58 0 0 4 0 0 _ inb_S192x16x512_S128x1x128_0_4_0 slices_S128x128_o0_0_S64x128 _ (by decide) ?_
  refine codes_piece64 arg1 harg1 x0 x1 57 448 128 3 384 64 _ inb_S192x16x512_S64x1x128_128_3_384 slices_S128x64_o64_0_S64x64 _ (by decide) ?_
  refine codes_piece64 arg1 harg1 x0 x1 57 384 128 3 384 0 _ inb_S192x16x512_S64x1x128_128_3_384 slices_S128x64_o0_0_S64x64 _ (by decide) ?_
  refine codes_piece64 arg1 harg1 x0 x1 57 320 128 3 256 64 _ inb_S192x16x512_S64x1x128_128_3_256 slices_S128x64_o64_0_S64x64 _ (by decide) ?_
  refine codes_piece64 arg1 harg1 x0 x1 57 256 128 3 256 0 _ inb_S192x16x512_S64x1x128_128_3_256 slices_S128x64_o0_0_S64x64 _ (by decide) ?_
  refine codes_piece64 arg1 harg1 x0 x1 57 192 128 3 128 64 _ inb_S192x16x512_S64x1x128_128_3_128 slices_S128x64_o64_0_S64x64 _ (by decide) ?_
  refine codes_piece64 arg1 harg1 x0 x1 57 128 128 3 128 0 _ inb_S192x16x512_S64x1x128_128_3_128 slices_S128x64_o0_0_S64x64 _ (by decide) ?_
  refine codes_piece64 arg1 harg1 x0 x1 57 64 128 3 0 64 _ inb_S192x16x512_S64x1x128_128_3_0 slices_S128x64_o64_0_S64x64 _ (by decide) ?_
  refine codes_piece64 arg1 harg1 x0 x1 57 0 128 3 0 0 _ inb_S192x16x512_S64x1x128_128_3_0 slices_S128x64_o0_0_S64x64 _ (by decide) ?_
  refine codes_piece128 arg1 harg1 x0 x1 57 448 0 3 384 64 _ inb_S192x16x512_S128x1x128_0_3_384 slices_S128x128_o64_0_S64x128 _ (by decide) ?_
  refine codes_piece128 arg1 harg1 x0 x1 57 384 0 3 384 0 _ inb_S192x16x512_S128x1x128_0_3_384 slices_S128x128_o0_0_S64x128 _ (by decide) ?_
  refine codes_piece128 arg1 harg1 x0 x1 57 320 0 3 256 64 _ inb_S192x16x512_S128x1x128_0_3_256 slices_S128x128_o64_0_S64x128 _ (by decide) ?_
  refine codes_piece128 arg1 harg1 x0 x1 57 256 0 3 256 0 _ inb_S192x16x512_S128x1x128_0_3_256 slices_S128x128_o0_0_S64x128 _ (by decide) ?_
  refine codes_piece128 arg1 harg1 x0 x1 57 192 0 3 128 64 _ inb_S192x16x512_S128x1x128_0_3_128 slices_S128x128_o64_0_S64x128 _ (by decide) ?_
  refine codes_piece128 arg1 harg1 x0 x1 57 128 0 3 128 0 _ inb_S192x16x512_S128x1x128_0_3_128 slices_S128x128_o0_0_S64x128 _ (by decide) ?_
  refine codes_piece128 arg1 harg1 x0 x1 57 64 0 3 0 64 _ inb_S192x16x512_S128x1x128_0_3_0 slices_S128x128_o64_0_S64x128 _ (by decide) ?_
  refine codes_piece128 arg1 harg1 x0 x1 57 0 0 3 0 0 _ inb_S192x16x512_S128x1x128_0_3_0 slices_S128x128_o0_0_S64x128 _ (by decide) ?_
  refine codes_piece64 arg1 harg1 x0 x1 56 448 128 2 384 64 _ inb_S192x16x512_S64x1x128_128_2_384 slices_S128x64_o64_0_S64x64 _ (by decide) ?_
  refine codes_piece64 arg1 harg1 x0 x1 56 384 128 2 384 0 _ inb_S192x16x512_S64x1x128_128_2_384 slices_S128x64_o0_0_S64x64 _ (by decide) ?_
  refine codes_piece64 arg1 harg1 x0 x1 56 320 128 2 256 64 _ inb_S192x16x512_S64x1x128_128_2_256 slices_S128x64_o64_0_S64x64 _ (by decide) ?_
  refine codes_piece64 arg1 harg1 x0 x1 56 256 128 2 256 0 _ inb_S192x16x512_S64x1x128_128_2_256 slices_S128x64_o0_0_S64x64 _ (by decide) ?_
  refine codes_piece64 arg1 harg1 x0 x1 56 192 128 2 128 64 _ inb_S192x16x512_S64x1x128_128_2_128 slices_S128x64_o64_0_S64x64 _ (by decide) ?_
  refine codes_piece64 arg1 harg1 x0 x1 56 128 128 2 128 0 _ inb_S192x16x512_S64x1x128_128_2_128 slices_S128x64_o0_0_S64x64 _ (by decide) ?_
  refine codes_piece64 arg1 harg1 x0 x1 56 64 128 2 0 64 _ inb_S192x16x512_S64x1x128_128_2_0 slices_S128x64_o64_0_S64x64 _ (by decide) ?_
  refine codes_piece64 arg1 harg1 x0 x1 56 0 128 2 0 0 _ inb_S192x16x512_S64x1x128_128_2_0 slices_S128x64_o0_0_S64x64 _ (by decide) ?_
  refine codes_piece128 arg1 harg1 x0 x1 56 448 0 2 384 64 _ inb_S192x16x512_S128x1x128_0_2_384 slices_S128x128_o64_0_S64x128 _ (by decide) ?_
  refine codes_piece128 arg1 harg1 x0 x1 56 384 0 2 384 0 _ inb_S192x16x512_S128x1x128_0_2_384 slices_S128x128_o0_0_S64x128 _ (by decide) ?_
  refine codes_piece128 arg1 harg1 x0 x1 56 320 0 2 256 64 _ inb_S192x16x512_S128x1x128_0_2_256 slices_S128x128_o64_0_S64x128 _ (by decide) ?_
  refine codes_piece128 arg1 harg1 x0 x1 56 256 0 2 256 0 _ inb_S192x16x512_S128x1x128_0_2_256 slices_S128x128_o0_0_S64x128 _ (by decide) ?_
  refine codes_piece128 arg1 harg1 x0 x1 56 192 0 2 128 64 _ inb_S192x16x512_S128x1x128_0_2_128 slices_S128x128_o64_0_S64x128 _ (by decide) ?_
  refine codes_piece128 arg1 harg1 x0 x1 56 128 0 2 128 0 _ inb_S192x16x512_S128x1x128_0_2_128 slices_S128x128_o0_0_S64x128 _ (by decide) ?_
  refine codes_piece128 arg1 harg1 x0 x1 56 64 0 2 0 64 _ inb_S192x16x512_S128x1x128_0_2_0 slices_S128x128_o64_0_S64x128 _ (by decide) ?_
  refine codes_piece128 arg1 harg1 x0 x1 56 0 0 2 0 0 _ inb_S192x16x512_S128x1x128_0_2_0 slices_S128x128_o0_0_S64x128 _ (by decide) ?_
  refine codes_piece64 arg1 harg1 x0 x1 55 448 128 1 384 64 _ inb_S192x16x512_S64x1x128_128_1_384 slices_S128x64_o64_0_S64x64 _ (by decide) ?_
  refine codes_piece64 arg1 harg1 x0 x1 55 384 128 1 384 0 _ inb_S192x16x512_S64x1x128_128_1_384 slices_S128x64_o0_0_S64x64 _ (by decide) ?_
  refine codes_piece64 arg1 harg1 x0 x1 55 320 128 1 256 64 _ inb_S192x16x512_S64x1x128_128_1_256 slices_S128x64_o64_0_S64x64 _ (by decide) ?_
  refine codes_piece64 arg1 harg1 x0 x1 55 256 128 1 256 0 _ inb_S192x16x512_S64x1x128_128_1_256 slices_S128x64_o0_0_S64x64 _ (by decide) ?_
  refine codes_piece64 arg1 harg1 x0 x1 55 192 128 1 128 64 _ inb_S192x16x512_S64x1x128_128_1_128 slices_S128x64_o64_0_S64x64 _ (by decide) ?_
  refine codes_piece64 arg1 harg1 x0 x1 55 128 128 1 128 0 _ inb_S192x16x512_S64x1x128_128_1_128 slices_S128x64_o0_0_S64x64 _ (by decide) ?_
  refine codes_piece64 arg1 harg1 x0 x1 55 64 128 1 0 64 _ inb_S192x16x512_S64x1x128_128_1_0 slices_S128x64_o64_0_S64x64 _ (by decide) ?_
  refine codes_piece64 arg1 harg1 x0 x1 55 0 128 1 0 0 _ inb_S192x16x512_S64x1x128_128_1_0 slices_S128x64_o0_0_S64x64 _ (by decide) ?_
  refine codes_piece128 arg1 harg1 x0 x1 55 448 0 1 384 64 _ inb_S192x16x512_S128x1x128_0_1_384 slices_S128x128_o64_0_S64x128 _ (by decide) ?_
  refine codes_piece128 arg1 harg1 x0 x1 55 384 0 1 384 0 _ inb_S192x16x512_S128x1x128_0_1_384 slices_S128x128_o0_0_S64x128 _ (by decide) ?_
  refine codes_piece128 arg1 harg1 x0 x1 55 320 0 1 256 64 _ inb_S192x16x512_S128x1x128_0_1_256 slices_S128x128_o64_0_S64x128 _ (by decide) ?_
  refine codes_piece128 arg1 harg1 x0 x1 55 256 0 1 256 0 _ inb_S192x16x512_S128x1x128_0_1_256 slices_S128x128_o0_0_S64x128 _ (by decide) ?_
  refine codes_piece128 arg1 harg1 x0 x1 55 192 0 1 128 64 _ inb_S192x16x512_S128x1x128_0_1_128 slices_S128x128_o64_0_S64x128 _ (by decide) ?_
  refine codes_piece128 arg1 harg1 x0 x1 55 128 0 1 128 0 _ inb_S192x16x512_S128x1x128_0_1_128 slices_S128x128_o0_0_S64x128 _ (by decide) ?_
  refine codes_piece128 arg1 harg1 x0 x1 55 64 0 1 0 64 _ inb_S192x16x512_S128x1x128_0_1_0 slices_S128x128_o64_0_S64x128 _ (by decide) ?_
  refine codes_piece128 arg1 harg1 x0 x1 55 0 0 1 0 0 _ inb_S192x16x512_S128x1x128_0_1_0 slices_S128x128_o0_0_S64x128 _ (by decide) ?_
  refine codes_piece64 arg1 harg1 x0 x1 54 448 128 0 384 64 _ inb_S192x16x512_S64x1x128_128_0_384 slices_S128x64_o64_0_S64x64 _ (by decide) ?_
  refine codes_piece64 arg1 harg1 x0 x1 54 384 128 0 384 0 _ inb_S192x16x512_S64x1x128_128_0_384 slices_S128x64_o0_0_S64x64 _ (by decide) ?_
  refine codes_piece64 arg1 harg1 x0 x1 54 320 128 0 256 64 _ inb_S192x16x512_S64x1x128_128_0_256 slices_S128x64_o64_0_S64x64 _ (by decide) ?_
  refine codes_piece64 arg1 harg1 x0 x1 54 256 128 0 256 0 _ inb_S192x16x512_S64x1x128_128_0_256 slices_S128x64_o0_0_S64x64 _ (by decide) ?_
  refine codes_piece64 arg1 harg1 x0 x1 54 192 128 0 128 64 _ inb_S192x16x512_S64x1x128_128_0_128 slices_S128x64_o64_0_S64x64 _ (by decide) ?_
  refine codes_piece64 arg1 harg1 x0 x1 54 128 128 0 128 0 _ inb_S192x16x512_S64x1x128_128_0_128 slices_S128x64_o0_0_S64x64 _ (by decide) ?_
  refine codes_piece64 arg1 harg1 x0 x1 54 64 128 0 0 64 _ inb_S192x16x512_S64x1x128_128_0_0 slices_S128x64_o64_0_S64x64 _ (by decide) ?_
  refine codes_piece64 arg1 harg1 x0 x1 54 0 128 0 0 0 _ inb_S192x16x512_S64x1x128_128_0_0 slices_S128x64_o0_0_S64x64 _ (by decide) ?_
  refine codes_piece128 arg1 harg1 x0 x1 54 448 0 0 384 64 _ inb_S192x16x512_S128x1x128_0_0_384 slices_S128x128_o64_0_S64x128 _ (by decide) ?_
  refine codes_piece128 arg1 harg1 x0 x1 54 384 0 0 384 0 _ inb_S192x16x512_S128x1x128_0_0_384 slices_S128x128_o0_0_S64x128 _ (by decide) ?_
  refine codes_piece128 arg1 harg1 x0 x1 54 320 0 0 256 64 _ inb_S192x16x512_S128x1x128_0_0_256 slices_S128x128_o64_0_S64x128 _ (by decide) ?_
  refine codes_piece128 arg1 harg1 x0 x1 54 256 0 0 256 0 _ inb_S192x16x512_S128x1x128_0_0_256 slices_S128x128_o0_0_S64x128 _ (by decide) ?_
  refine codes_piece128 arg1 harg1 x0 x1 54 192 0 0 128 64 _ inb_S192x16x512_S128x1x128_0_0_128 slices_S128x128_o64_0_S64x128 _ (by decide) ?_
  refine codes_piece128 arg1 harg1 x0 x1 54 128 0 0 128 0 _ inb_S192x16x512_S128x1x128_0_0_128 slices_S128x128_o0_0_S64x128 _ (by decide) ?_
  refine codes_piece128 arg1 harg1 x0 x1 54 64 0 0 0 64 _ inb_S192x16x512_S128x1x128_0_0_0 slices_S128x128_o64_0_S64x128 _ (by decide) ?_
  refine codes_piece128 arg1 harg1 x0 x1 54 0 0 0 0 0 _ inb_S192x16x512_S128x1x128_0_0_0 slices_S128x128_o0_0_S64x128 _ (by decide) ?_
  exact codes_copy arg2 harg2 x0 x1 _ _

/-- The 257 stores of scales are blocks of `scalesBlock`. -/
theorem pieces_scales : View.PiecesOf (scalesBlock x0 x2) (kernelRun0_A (F := Ideal) c i arg1 harg1 arg2 harg2 arg3 harg3
    arg4 harg4 arg5 harg5 x0 x1 x2).2.1 := by
  unfold kernelRun0_A
  dsimp only
  refine scales_piece64 arg1 harg1 x0 x2 69 7 128 15 384 64 _ inb_S192x16x512_S64x1x128_128_15_384 slices_S128x64_o64_0_S64x64 _ (by decide) ?_
  refine scales_piece64 arg1 harg1 x0 x2 69 6 128 15 384 0 _ inb_S192x16x512_S64x1x128_128_15_384 slices_S128x64_o0_0_S64x64 _ (by decide) ?_
  refine scales_piece64 arg1 harg1 x0 x2 69 5 128 15 256 64 _ inb_S192x16x512_S64x1x128_128_15_256 slices_S128x64_o64_0_S64x64 _ (by decide) ?_
  refine scales_piece64 arg1 harg1 x0 x2 69 4 128 15 256 0 _ inb_S192x16x512_S64x1x128_128_15_256 slices_S128x64_o0_0_S64x64 _ (by decide) ?_
  refine scales_piece64 arg1 harg1 x0 x2 69 3 128 15 128 64 _ inb_S192x16x512_S64x1x128_128_15_128 slices_S128x64_o64_0_S64x64 _ (by decide) ?_
  refine scales_piece64 arg1 harg1 x0 x2 69 2 128 15 128 0 _ inb_S192x16x512_S64x1x128_128_15_128 slices_S128x64_o0_0_S64x64 _ (by decide) ?_
  refine scales_piece64 arg1 harg1 x0 x2 69 1 128 15 0 64 _ inb_S192x16x512_S64x1x128_128_15_0 slices_S128x64_o64_0_S64x64 _ (by decide) ?_
  refine scales_piece64 arg1 harg1 x0 x2 69 0 128 15 0 0 _ inb_S192x16x512_S64x1x128_128_15_0 slices_S128x64_o0_0_S64x64 _ (by decide) ?_
  refine scales_piece128 arg1 harg1 x0 x2 69 7 0 15 384 64 _ inb_S192x16x512_S128x1x128_0_15_384 slices_S128x128_o64_0_S64x128 _ (by decide) ?_
  refine scales_piece128 arg1 harg1 x0 x2 69 6 0 15 384 0 _ inb_S192x16x512_S128x1x128_0_15_384 slices_S128x128_o0_0_S64x128 _ (by decide) ?_
  refine scales_piece128 arg1 harg1 x0 x2 69 5 0 15 256 64 _ inb_S192x16x512_S128x1x128_0_15_256 slices_S128x128_o64_0_S64x128 _ (by decide) ?_
  refine scales_piece128 arg1 harg1 x0 x2 69 4 0 15 256 0 _ inb_S192x16x512_S128x1x128_0_15_256 slices_S128x128_o0_0_S64x128 _ (by decide) ?_
  refine scales_piece128 arg1 harg1 x0 x2 69 3 0 15 128 64 _ inb_S192x16x512_S128x1x128_0_15_128 slices_S128x128_o64_0_S64x128 _ (by decide) ?_
  refine scales_piece128 arg1 harg1 x0 x2 69 2 0 15 128 0 _ inb_S192x16x512_S128x1x128_0_15_128 slices_S128x128_o0_0_S64x128 _ (by decide) ?_
  refine scales_piece128 arg1 harg1 x0 x2 69 1 0 15 0 64 _ inb_S192x16x512_S128x1x128_0_15_0 slices_S128x128_o64_0_S64x128 _ (by decide) ?_
  refine scales_piece128 arg1 harg1 x0 x2 69 0 0 15 0 0 _ inb_S192x16x512_S128x1x128_0_15_0 slices_S128x128_o0_0_S64x128 _ (by decide) ?_
  refine scales_piece64 arg1 harg1 x0 x2 68 7 128 14 384 64 _ inb_S192x16x512_S64x1x128_128_14_384 slices_S128x64_o64_0_S64x64 _ (by decide) ?_
  refine scales_piece64 arg1 harg1 x0 x2 68 6 128 14 384 0 _ inb_S192x16x512_S64x1x128_128_14_384 slices_S128x64_o0_0_S64x64 _ (by decide) ?_
  refine scales_piece64 arg1 harg1 x0 x2 68 5 128 14 256 64 _ inb_S192x16x512_S64x1x128_128_14_256 slices_S128x64_o64_0_S64x64 _ (by decide) ?_
  refine scales_piece64 arg1 harg1 x0 x2 68 4 128 14 256 0 _ inb_S192x16x512_S64x1x128_128_14_256 slices_S128x64_o0_0_S64x64 _ (by decide) ?_
  refine scales_piece64 arg1 harg1 x0 x2 68 3 128 14 128 64 _ inb_S192x16x512_S64x1x128_128_14_128 slices_S128x64_o64_0_S64x64 _ (by decide) ?_
  refine scales_piece64 arg1 harg1 x0 x2 68 2 128 14 128 0 _ inb_S192x16x512_S64x1x128_128_14_128 slices_S128x64_o0_0_S64x64 _ (by decide) ?_
  refine scales_piece64 arg1 harg1 x0 x2 68 1 128 14 0 64 _ inb_S192x16x512_S64x1x128_128_14_0 slices_S128x64_o64_0_S64x64 _ (by decide) ?_
  refine scales_piece64 arg1 harg1 x0 x2 68 0 128 14 0 0 _ inb_S192x16x512_S64x1x128_128_14_0 slices_S128x64_o0_0_S64x64 _ (by decide) ?_
  refine scales_piece128 arg1 harg1 x0 x2 68 7 0 14 384 64 _ inb_S192x16x512_S128x1x128_0_14_384 slices_S128x128_o64_0_S64x128 _ (by decide) ?_
  refine scales_piece128 arg1 harg1 x0 x2 68 6 0 14 384 0 _ inb_S192x16x512_S128x1x128_0_14_384 slices_S128x128_o0_0_S64x128 _ (by decide) ?_
  refine scales_piece128 arg1 harg1 x0 x2 68 5 0 14 256 64 _ inb_S192x16x512_S128x1x128_0_14_256 slices_S128x128_o64_0_S64x128 _ (by decide) ?_
  refine scales_piece128 arg1 harg1 x0 x2 68 4 0 14 256 0 _ inb_S192x16x512_S128x1x128_0_14_256 slices_S128x128_o0_0_S64x128 _ (by decide) ?_
  refine scales_piece128 arg1 harg1 x0 x2 68 3 0 14 128 64 _ inb_S192x16x512_S128x1x128_0_14_128 slices_S128x128_o64_0_S64x128 _ (by decide) ?_
  refine scales_piece128 arg1 harg1 x0 x2 68 2 0 14 128 0 _ inb_S192x16x512_S128x1x128_0_14_128 slices_S128x128_o0_0_S64x128 _ (by decide) ?_
  refine scales_piece128 arg1 harg1 x0 x2 68 1 0 14 0 64 _ inb_S192x16x512_S128x1x128_0_14_0 slices_S128x128_o64_0_S64x128 _ (by decide) ?_
  refine scales_piece128 arg1 harg1 x0 x2 68 0 0 14 0 0 _ inb_S192x16x512_S128x1x128_0_14_0 slices_S128x128_o0_0_S64x128 _ (by decide) ?_
  refine scales_piece64 arg1 harg1 x0 x2 67 7 128 13 384 64 _ inb_S192x16x512_S64x1x128_128_13_384 slices_S128x64_o64_0_S64x64 _ (by decide) ?_
  refine scales_piece64 arg1 harg1 x0 x2 67 6 128 13 384 0 _ inb_S192x16x512_S64x1x128_128_13_384 slices_S128x64_o0_0_S64x64 _ (by decide) ?_
  refine scales_piece64 arg1 harg1 x0 x2 67 5 128 13 256 64 _ inb_S192x16x512_S64x1x128_128_13_256 slices_S128x64_o64_0_S64x64 _ (by decide) ?_
  refine scales_piece64 arg1 harg1 x0 x2 67 4 128 13 256 0 _ inb_S192x16x512_S64x1x128_128_13_256 slices_S128x64_o0_0_S64x64 _ (by decide) ?_
  refine scales_piece64 arg1 harg1 x0 x2 67 3 128 13 128 64 _ inb_S192x16x512_S64x1x128_128_13_128 slices_S128x64_o64_0_S64x64 _ (by decide) ?_
  refine scales_piece64 arg1 harg1 x0 x2 67 2 128 13 128 0 _ inb_S192x16x512_S64x1x128_128_13_128 slices_S128x64_o0_0_S64x64 _ (by decide) ?_
  refine scales_piece64 arg1 harg1 x0 x2 67 1 128 13 0 64 _ inb_S192x16x512_S64x1x128_128_13_0 slices_S128x64_o64_0_S64x64 _ (by decide) ?_
  refine scales_piece64 arg1 harg1 x0 x2 67 0 128 13 0 0 _ inb_S192x16x512_S64x1x128_128_13_0 slices_S128x64_o0_0_S64x64 _ (by decide) ?_
  refine scales_piece128 arg1 harg1 x0 x2 67 7 0 13 384 64 _ inb_S192x16x512_S128x1x128_0_13_384 slices_S128x128_o64_0_S64x128 _ (by decide) ?_
  refine scales_piece128 arg1 harg1 x0 x2 67 6 0 13 384 0 _ inb_S192x16x512_S128x1x128_0_13_384 slices_S128x128_o0_0_S64x128 _ (by decide) ?_
  refine scales_piece128 arg1 harg1 x0 x2 67 5 0 13 256 64 _ inb_S192x16x512_S128x1x128_0_13_256 slices_S128x128_o64_0_S64x128 _ (by decide) ?_
  refine scales_piece128 arg1 harg1 x0 x2 67 4 0 13 256 0 _ inb_S192x16x512_S128x1x128_0_13_256 slices_S128x128_o0_0_S64x128 _ (by decide) ?_
  refine scales_piece128 arg1 harg1 x0 x2 67 3 0 13 128 64 _ inb_S192x16x512_S128x1x128_0_13_128 slices_S128x128_o64_0_S64x128 _ (by decide) ?_
  refine scales_piece128 arg1 harg1 x0 x2 67 2 0 13 128 0 _ inb_S192x16x512_S128x1x128_0_13_128 slices_S128x128_o0_0_S64x128 _ (by decide) ?_
  refine scales_piece128 arg1 harg1 x0 x2 67 1 0 13 0 64 _ inb_S192x16x512_S128x1x128_0_13_0 slices_S128x128_o64_0_S64x128 _ (by decide) ?_
  refine scales_piece128 arg1 harg1 x0 x2 67 0 0 13 0 0 _ inb_S192x16x512_S128x1x128_0_13_0 slices_S128x128_o0_0_S64x128 _ (by decide) ?_
  refine scales_piece64 arg1 harg1 x0 x2 66 7 128 12 384 64 _ inb_S192x16x512_S64x1x128_128_12_384 slices_S128x64_o64_0_S64x64 _ (by decide) ?_
  refine scales_piece64 arg1 harg1 x0 x2 66 6 128 12 384 0 _ inb_S192x16x512_S64x1x128_128_12_384 slices_S128x64_o0_0_S64x64 _ (by decide) ?_
  refine scales_piece64 arg1 harg1 x0 x2 66 5 128 12 256 64 _ inb_S192x16x512_S64x1x128_128_12_256 slices_S128x64_o64_0_S64x64 _ (by decide) ?_
  refine scales_piece64 arg1 harg1 x0 x2 66 4 128 12 256 0 _ inb_S192x16x512_S64x1x128_128_12_256 slices_S128x64_o0_0_S64x64 _ (by decide) ?_
  refine scales_piece64 arg1 harg1 x0 x2 66 3 128 12 128 64 _ inb_S192x16x512_S64x1x128_128_12_128 slices_S128x64_o64_0_S64x64 _ (by decide) ?_
  refine scales_piece64 arg1 harg1 x0 x2 66 2 128 12 128 0 _ inb_S192x16x512_S64x1x128_128_12_128 slices_S128x64_o0_0_S64x64 _ (by decide) ?_
  refine scales_piece64 arg1 harg1 x0 x2 66 1 128 12 0 64 _ inb_S192x16x512_S64x1x128_128_12_0 slices_S128x64_o64_0_S64x64 _ (by decide) ?_
  refine scales_piece64 arg1 harg1 x0 x2 66 0 128 12 0 0 _ inb_S192x16x512_S64x1x128_128_12_0 slices_S128x64_o0_0_S64x64 _ (by decide) ?_
  refine scales_piece128 arg1 harg1 x0 x2 66 7 0 12 384 64 _ inb_S192x16x512_S128x1x128_0_12_384 slices_S128x128_o64_0_S64x128 _ (by decide) ?_
  refine scales_piece128 arg1 harg1 x0 x2 66 6 0 12 384 0 _ inb_S192x16x512_S128x1x128_0_12_384 slices_S128x128_o0_0_S64x128 _ (by decide) ?_
  refine scales_piece128 arg1 harg1 x0 x2 66 5 0 12 256 64 _ inb_S192x16x512_S128x1x128_0_12_256 slices_S128x128_o64_0_S64x128 _ (by decide) ?_
  refine scales_piece128 arg1 harg1 x0 x2 66 4 0 12 256 0 _ inb_S192x16x512_S128x1x128_0_12_256 slices_S128x128_o0_0_S64x128 _ (by decide) ?_
  refine scales_piece128 arg1 harg1 x0 x2 66 3 0 12 128 64 _ inb_S192x16x512_S128x1x128_0_12_128 slices_S128x128_o64_0_S64x128 _ (by decide) ?_
  refine scales_piece128 arg1 harg1 x0 x2 66 2 0 12 128 0 _ inb_S192x16x512_S128x1x128_0_12_128 slices_S128x128_o0_0_S64x128 _ (by decide) ?_
  refine scales_piece128 arg1 harg1 x0 x2 66 1 0 12 0 64 _ inb_S192x16x512_S128x1x128_0_12_0 slices_S128x128_o64_0_S64x128 _ (by decide) ?_
  refine scales_piece128 arg1 harg1 x0 x2 66 0 0 12 0 0 _ inb_S192x16x512_S128x1x128_0_12_0 slices_S128x128_o0_0_S64x128 _ (by decide) ?_
  refine scales_piece64 arg1 harg1 x0 x2 65 7 128 11 384 64 _ inb_S192x16x512_S64x1x128_128_11_384 slices_S128x64_o64_0_S64x64 _ (by decide) ?_
  refine scales_piece64 arg1 harg1 x0 x2 65 6 128 11 384 0 _ inb_S192x16x512_S64x1x128_128_11_384 slices_S128x64_o0_0_S64x64 _ (by decide) ?_
  refine scales_piece64 arg1 harg1 x0 x2 65 5 128 11 256 64 _ inb_S192x16x512_S64x1x128_128_11_256 slices_S128x64_o64_0_S64x64 _ (by decide) ?_
  refine scales_piece64 arg1 harg1 x0 x2 65 4 128 11 256 0 _ inb_S192x16x512_S64x1x128_128_11_256 slices_S128x64_o0_0_S64x64 _ (by decide) ?_
  refine scales_piece64 arg1 harg1 x0 x2 65 3 128 11 128 64 _ inb_S192x16x512_S64x1x128_128_11_128 slices_S128x64_o64_0_S64x64 _ (by decide) ?_
  refine scales_piece64 arg1 harg1 x0 x2 65 2 128 11 128 0 _ inb_S192x16x512_S64x1x128_128_11_128 slices_S128x64_o0_0_S64x64 _ (by decide) ?_
  refine scales_piece64 arg1 harg1 x0 x2 65 1 128 11 0 64 _ inb_S192x16x512_S64x1x128_128_11_0 slices_S128x64_o64_0_S64x64 _ (by decide) ?_
  refine scales_piece64 arg1 harg1 x0 x2 65 0 128 11 0 0 _ inb_S192x16x512_S64x1x128_128_11_0 slices_S128x64_o0_0_S64x64 _ (by decide) ?_
  refine scales_piece128 arg1 harg1 x0 x2 65 7 0 11 384 64 _ inb_S192x16x512_S128x1x128_0_11_384 slices_S128x128_o64_0_S64x128 _ (by decide) ?_
  refine scales_piece128 arg1 harg1 x0 x2 65 6 0 11 384 0 _ inb_S192x16x512_S128x1x128_0_11_384 slices_S128x128_o0_0_S64x128 _ (by decide) ?_
  refine scales_piece128 arg1 harg1 x0 x2 65 5 0 11 256 64 _ inb_S192x16x512_S128x1x128_0_11_256 slices_S128x128_o64_0_S64x128 _ (by decide) ?_
  refine scales_piece128 arg1 harg1 x0 x2 65 4 0 11 256 0 _ inb_S192x16x512_S128x1x128_0_11_256 slices_S128x128_o0_0_S64x128 _ (by decide) ?_
  refine scales_piece128 arg1 harg1 x0 x2 65 3 0 11 128 64 _ inb_S192x16x512_S128x1x128_0_11_128 slices_S128x128_o64_0_S64x128 _ (by decide) ?_
  refine scales_piece128 arg1 harg1 x0 x2 65 2 0 11 128 0 _ inb_S192x16x512_S128x1x128_0_11_128 slices_S128x128_o0_0_S64x128 _ (by decide) ?_
  refine scales_piece128 arg1 harg1 x0 x2 65 1 0 11 0 64 _ inb_S192x16x512_S128x1x128_0_11_0 slices_S128x128_o64_0_S64x128 _ (by decide) ?_
  refine scales_piece128 arg1 harg1 x0 x2 65 0 0 11 0 0 _ inb_S192x16x512_S128x1x128_0_11_0 slices_S128x128_o0_0_S64x128 _ (by decide) ?_
  refine scales_piece64 arg1 harg1 x0 x2 64 7 128 10 384 64 _ inb_S192x16x512_S64x1x128_128_10_384 slices_S128x64_o64_0_S64x64 _ (by decide) ?_
  refine scales_piece64 arg1 harg1 x0 x2 64 6 128 10 384 0 _ inb_S192x16x512_S64x1x128_128_10_384 slices_S128x64_o0_0_S64x64 _ (by decide) ?_
  refine scales_piece64 arg1 harg1 x0 x2 64 5 128 10 256 64 _ inb_S192x16x512_S64x1x128_128_10_256 slices_S128x64_o64_0_S64x64 _ (by decide) ?_
  refine scales_piece64 arg1 harg1 x0 x2 64 4 128 10 256 0 _ inb_S192x16x512_S64x1x128_128_10_256 slices_S128x64_o0_0_S64x64 _ (by decide) ?_
  refine scales_piece64 arg1 harg1 x0 x2 64 3 128 10 128 64 _ inb_S192x16x512_S64x1x128_128_10_128 slices_S128x64_o64_0_S64x64 _ (by decide) ?_
  refine scales_piece64 arg1 harg1 x0 x2 64 2 128 10 128 0 _ inb_S192x16x512_S64x1x128_128_10_128 slices_S128x64_o0_0_S64x64 _ (by decide) ?_
  refine scales_piece64 arg1 harg1 x0 x2 64 1 128 10 0 64 _ inb_S192x16x512_S64x1x128_128_10_0 slices_S128x64_o64_0_S64x64 _ (by decide) ?_
  refine scales_piece64 arg1 harg1 x0 x2 64 0 128 10 0 0 _ inb_S192x16x512_S64x1x128_128_10_0 slices_S128x64_o0_0_S64x64 _ (by decide) ?_
  refine scales_piece128 arg1 harg1 x0 x2 64 7 0 10 384 64 _ inb_S192x16x512_S128x1x128_0_10_384 slices_S128x128_o64_0_S64x128 _ (by decide) ?_
  refine scales_piece128 arg1 harg1 x0 x2 64 6 0 10 384 0 _ inb_S192x16x512_S128x1x128_0_10_384 slices_S128x128_o0_0_S64x128 _ (by decide) ?_
  refine scales_piece128 arg1 harg1 x0 x2 64 5 0 10 256 64 _ inb_S192x16x512_S128x1x128_0_10_256 slices_S128x128_o64_0_S64x128 _ (by decide) ?_
  refine scales_piece128 arg1 harg1 x0 x2 64 4 0 10 256 0 _ inb_S192x16x512_S128x1x128_0_10_256 slices_S128x128_o0_0_S64x128 _ (by decide) ?_
  refine scales_piece128 arg1 harg1 x0 x2 64 3 0 10 128 64 _ inb_S192x16x512_S128x1x128_0_10_128 slices_S128x128_o64_0_S64x128 _ (by decide) ?_
  refine scales_piece128 arg1 harg1 x0 x2 64 2 0 10 128 0 _ inb_S192x16x512_S128x1x128_0_10_128 slices_S128x128_o0_0_S64x128 _ (by decide) ?_
  refine scales_piece128 arg1 harg1 x0 x2 64 1 0 10 0 64 _ inb_S192x16x512_S128x1x128_0_10_0 slices_S128x128_o64_0_S64x128 _ (by decide) ?_
  refine scales_piece128 arg1 harg1 x0 x2 64 0 0 10 0 0 _ inb_S192x16x512_S128x1x128_0_10_0 slices_S128x128_o0_0_S64x128 _ (by decide) ?_
  refine scales_piece64 arg1 harg1 x0 x2 63 7 128 9 384 64 _ inb_S192x16x512_S64x1x128_128_9_384 slices_S128x64_o64_0_S64x64 _ (by decide) ?_
  refine scales_piece64 arg1 harg1 x0 x2 63 6 128 9 384 0 _ inb_S192x16x512_S64x1x128_128_9_384 slices_S128x64_o0_0_S64x64 _ (by decide) ?_
  refine scales_piece64 arg1 harg1 x0 x2 63 5 128 9 256 64 _ inb_S192x16x512_S64x1x128_128_9_256 slices_S128x64_o64_0_S64x64 _ (by decide) ?_
  refine scales_piece64 arg1 harg1 x0 x2 63 4 128 9 256 0 _ inb_S192x16x512_S64x1x128_128_9_256 slices_S128x64_o0_0_S64x64 _ (by decide) ?_
  refine scales_piece64 arg1 harg1 x0 x2 63 3 128 9 128 64 _ inb_S192x16x512_S64x1x128_128_9_128 slices_S128x64_o64_0_S64x64 _ (by decide) ?_
  refine scales_piece64 arg1 harg1 x0 x2 63 2 128 9 128 0 _ inb_S192x16x512_S64x1x128_128_9_128 slices_S128x64_o0_0_S64x64 _ (by decide) ?_
  refine scales_piece64 arg1 harg1 x0 x2 63 1 128 9 0 64 _ inb_S192x16x512_S64x1x128_128_9_0 slices_S128x64_o64_0_S64x64 _ (by decide) ?_
  refine scales_piece64 arg1 harg1 x0 x2 63 0 128 9 0 0 _ inb_S192x16x512_S64x1x128_128_9_0 slices_S128x64_o0_0_S64x64 _ (by decide) ?_
  refine scales_piece128 arg1 harg1 x0 x2 63 7 0 9 384 64 _ inb_S192x16x512_S128x1x128_0_9_384 slices_S128x128_o64_0_S64x128 _ (by decide) ?_
  refine scales_piece128 arg1 harg1 x0 x2 63 6 0 9 384 0 _ inb_S192x16x512_S128x1x128_0_9_384 slices_S128x128_o0_0_S64x128 _ (by decide) ?_
  refine scales_piece128 arg1 harg1 x0 x2 63 5 0 9 256 64 _ inb_S192x16x512_S128x1x128_0_9_256 slices_S128x128_o64_0_S64x128 _ (by decide) ?_
  refine scales_piece128 arg1 harg1 x0 x2 63 4 0 9 256 0 _ inb_S192x16x512_S128x1x128_0_9_256 slices_S128x128_o0_0_S64x128 _ (by decide) ?_
  refine scales_piece128 arg1 harg1 x0 x2 63 3 0 9 128 64 _ inb_S192x16x512_S128x1x128_0_9_128 slices_S128x128_o64_0_S64x128 _ (by decide) ?_
  refine scales_piece128 arg1 harg1 x0 x2 63 2 0 9 128 0 _ inb_S192x16x512_S128x1x128_0_9_128 slices_S128x128_o0_0_S64x128 _ (by decide) ?_
  refine scales_piece128 arg1 harg1 x0 x2 63 1 0 9 0 64 _ inb_S192x16x512_S128x1x128_0_9_0 slices_S128x128_o64_0_S64x128 _ (by decide) ?_
  refine scales_piece128 arg1 harg1 x0 x2 63 0 0 9 0 0 _ inb_S192x16x512_S128x1x128_0_9_0 slices_S128x128_o0_0_S64x128 _ (by decide) ?_
  refine scales_piece64 arg1 harg1 x0 x2 62 7 128 8 384 64 _ inb_S192x16x512_S64x1x128_128_8_384 slices_S128x64_o64_0_S64x64 _ (by decide) ?_
  refine scales_piece64 arg1 harg1 x0 x2 62 6 128 8 384 0 _ inb_S192x16x512_S64x1x128_128_8_384 slices_S128x64_o0_0_S64x64 _ (by decide) ?_
  refine scales_piece64 arg1 harg1 x0 x2 62 5 128 8 256 64 _ inb_S192x16x512_S64x1x128_128_8_256 slices_S128x64_o64_0_S64x64 _ (by decide) ?_
  refine scales_piece64 arg1 harg1 x0 x2 62 4 128 8 256 0 _ inb_S192x16x512_S64x1x128_128_8_256 slices_S128x64_o0_0_S64x64 _ (by decide) ?_
  refine scales_piece64 arg1 harg1 x0 x2 62 3 128 8 128 64 _ inb_S192x16x512_S64x1x128_128_8_128 slices_S128x64_o64_0_S64x64 _ (by decide) ?_
  refine scales_piece64 arg1 harg1 x0 x2 62 2 128 8 128 0 _ inb_S192x16x512_S64x1x128_128_8_128 slices_S128x64_o0_0_S64x64 _ (by decide) ?_
  refine scales_piece64 arg1 harg1 x0 x2 62 1 128 8 0 64 _ inb_S192x16x512_S64x1x128_128_8_0 slices_S128x64_o64_0_S64x64 _ (by decide) ?_
  refine scales_piece64 arg1 harg1 x0 x2 62 0 128 8 0 0 _ inb_S192x16x512_S64x1x128_128_8_0 slices_S128x64_o0_0_S64x64 _ (by decide) ?_
  refine scales_piece128 arg1 harg1 x0 x2 62 7 0 8 384 64 _ inb_S192x16x512_S128x1x128_0_8_384 slices_S128x128_o64_0_S64x128 _ (by decide) ?_
  refine scales_piece128 arg1 harg1 x0 x2 62 6 0 8 384 0 _ inb_S192x16x512_S128x1x128_0_8_384 slices_S128x128_o0_0_S64x128 _ (by decide) ?_
  refine scales_piece128 arg1 harg1 x0 x2 62 5 0 8 256 64 _ inb_S192x16x512_S128x1x128_0_8_256 slices_S128x128_o64_0_S64x128 _ (by decide) ?_
  refine scales_piece128 arg1 harg1 x0 x2 62 4 0 8 256 0 _ inb_S192x16x512_S128x1x128_0_8_256 slices_S128x128_o0_0_S64x128 _ (by decide) ?_
  refine scales_piece128 arg1 harg1 x0 x2 62 3 0 8 128 64 _ inb_S192x16x512_S128x1x128_0_8_128 slices_S128x128_o64_0_S64x128 _ (by decide) ?_
  refine scales_piece128 arg1 harg1 x0 x2 62 2 0 8 128 0 _ inb_S192x16x512_S128x1x128_0_8_128 slices_S128x128_o0_0_S64x128 _ (by decide) ?_
  refine scales_piece128 arg1 harg1 x0 x2 62 1 0 8 0 64 _ inb_S192x16x512_S128x1x128_0_8_0 slices_S128x128_o64_0_S64x128 _ (by decide) ?_
  refine scales_piece128 arg1 harg1 x0 x2 62 0 0 8 0 0 _ inb_S192x16x512_S128x1x128_0_8_0 slices_S128x128_o0_0_S64x128 _ (by decide) ?_
  refine scales_piece64 arg1 harg1 x0 x2 61 7 128 7 384 64 _ inb_S192x16x512_S64x1x128_128_7_384 slices_S128x64_o64_0_S64x64 _ (by decide) ?_
  refine scales_piece64 arg1 harg1 x0 x2 61 6 128 7 384 0 _ inb_S192x16x512_S64x1x128_128_7_384 slices_S128x64_o0_0_S64x64 _ (by decide) ?_
  refine scales_piece64 arg1 harg1 x0 x2 61 5 128 7 256 64 _ inb_S192x16x512_S64x1x128_128_7_256 slices_S128x64_o64_0_S64x64 _ (by decide) ?_
  refine scales_piece64 arg1 harg1 x0 x2 61 4 128 7 256 0 _ inb_S192x16x512_S64x1x128_128_7_256 slices_S128x64_o0_0_S64x64 _ (by decide) ?_
  refine scales_piece64 arg1 harg1 x0 x2 61 3 128 7 128 64 _ inb_S192x16x512_S64x1x128_128_7_128 slices_S128x64_o64_0_S64x64 _ (by decide) ?_
  refine scales_piece64 arg1 harg1 x0 x2 61 2 128 7 128 0 _ inb_S192x16x512_S64x1x128_128_7_128 slices_S128x64_o0_0_S64x64 _ (by decide) ?_
  refine scales_piece64 arg1 harg1 x0 x2 61 1 128 7 0 64 _ inb_S192x16x512_S64x1x128_128_7_0 slices_S128x64_o64_0_S64x64 _ (by decide) ?_
  refine scales_piece64 arg1 harg1 x0 x2 61 0 128 7 0 0 _ inb_S192x16x512_S64x1x128_128_7_0 slices_S128x64_o0_0_S64x64 _ (by decide) ?_
  refine scales_piece128 arg1 harg1 x0 x2 61 7 0 7 384 64 _ inb_S192x16x512_S128x1x128_0_7_384 slices_S128x128_o64_0_S64x128 _ (by decide) ?_
  refine scales_piece128 arg1 harg1 x0 x2 61 6 0 7 384 0 _ inb_S192x16x512_S128x1x128_0_7_384 slices_S128x128_o0_0_S64x128 _ (by decide) ?_
  refine scales_piece128 arg1 harg1 x0 x2 61 5 0 7 256 64 _ inb_S192x16x512_S128x1x128_0_7_256 slices_S128x128_o64_0_S64x128 _ (by decide) ?_
  refine scales_piece128 arg1 harg1 x0 x2 61 4 0 7 256 0 _ inb_S192x16x512_S128x1x128_0_7_256 slices_S128x128_o0_0_S64x128 _ (by decide) ?_
  refine scales_piece128 arg1 harg1 x0 x2 61 3 0 7 128 64 _ inb_S192x16x512_S128x1x128_0_7_128 slices_S128x128_o64_0_S64x128 _ (by decide) ?_
  refine scales_piece128 arg1 harg1 x0 x2 61 2 0 7 128 0 _ inb_S192x16x512_S128x1x128_0_7_128 slices_S128x128_o0_0_S64x128 _ (by decide) ?_
  refine scales_piece128 arg1 harg1 x0 x2 61 1 0 7 0 64 _ inb_S192x16x512_S128x1x128_0_7_0 slices_S128x128_o64_0_S64x128 _ (by decide) ?_
  refine scales_piece128 arg1 harg1 x0 x2 61 0 0 7 0 0 _ inb_S192x16x512_S128x1x128_0_7_0 slices_S128x128_o0_0_S64x128 _ (by decide) ?_
  refine scales_piece64 arg1 harg1 x0 x2 60 7 128 6 384 64 _ inb_S192x16x512_S64x1x128_128_6_384 slices_S128x64_o64_0_S64x64 _ (by decide) ?_
  refine scales_piece64 arg1 harg1 x0 x2 60 6 128 6 384 0 _ inb_S192x16x512_S64x1x128_128_6_384 slices_S128x64_o0_0_S64x64 _ (by decide) ?_
  refine scales_piece64 arg1 harg1 x0 x2 60 5 128 6 256 64 _ inb_S192x16x512_S64x1x128_128_6_256 slices_S128x64_o64_0_S64x64 _ (by decide) ?_
  refine scales_piece64 arg1 harg1 x0 x2 60 4 128 6 256 0 _ inb_S192x16x512_S64x1x128_128_6_256 slices_S128x64_o0_0_S64x64 _ (by decide) ?_
  refine scales_piece64 arg1 harg1 x0 x2 60 3 128 6 128 64 _ inb_S192x16x512_S64x1x128_128_6_128 slices_S128x64_o64_0_S64x64 _ (by decide) ?_
  refine scales_piece64 arg1 harg1 x0 x2 60 2 128 6 128 0 _ inb_S192x16x512_S64x1x128_128_6_128 slices_S128x64_o0_0_S64x64 _ (by decide) ?_
  refine scales_piece64 arg1 harg1 x0 x2 60 1 128 6 0 64 _ inb_S192x16x512_S64x1x128_128_6_0 slices_S128x64_o64_0_S64x64 _ (by decide) ?_
  refine scales_piece64 arg1 harg1 x0 x2 60 0 128 6 0 0 _ inb_S192x16x512_S64x1x128_128_6_0 slices_S128x64_o0_0_S64x64 _ (by decide) ?_
  refine scales_piece128 arg1 harg1 x0 x2 60 7 0 6 384 64 _ inb_S192x16x512_S128x1x128_0_6_384 slices_S128x128_o64_0_S64x128 _ (by decide) ?_
  refine scales_piece128 arg1 harg1 x0 x2 60 6 0 6 384 0 _ inb_S192x16x512_S128x1x128_0_6_384 slices_S128x128_o0_0_S64x128 _ (by decide) ?_
  refine scales_piece128 arg1 harg1 x0 x2 60 5 0 6 256 64 _ inb_S192x16x512_S128x1x128_0_6_256 slices_S128x128_o64_0_S64x128 _ (by decide) ?_
  refine scales_piece128 arg1 harg1 x0 x2 60 4 0 6 256 0 _ inb_S192x16x512_S128x1x128_0_6_256 slices_S128x128_o0_0_S64x128 _ (by decide) ?_
  refine scales_piece128 arg1 harg1 x0 x2 60 3 0 6 128 64 _ inb_S192x16x512_S128x1x128_0_6_128 slices_S128x128_o64_0_S64x128 _ (by decide) ?_
  refine scales_piece128 arg1 harg1 x0 x2 60 2 0 6 128 0 _ inb_S192x16x512_S128x1x128_0_6_128 slices_S128x128_o0_0_S64x128 _ (by decide) ?_
  refine scales_piece128 arg1 harg1 x0 x2 60 1 0 6 0 64 _ inb_S192x16x512_S128x1x128_0_6_0 slices_S128x128_o64_0_S64x128 _ (by decide) ?_
  refine scales_piece128 arg1 harg1 x0 x2 60 0 0 6 0 0 _ inb_S192x16x512_S128x1x128_0_6_0 slices_S128x128_o0_0_S64x128 _ (by decide) ?_
  refine scales_piece64 arg1 harg1 x0 x2 59 7 128 5 384 64 _ inb_S192x16x512_S64x1x128_128_5_384 slices_S128x64_o64_0_S64x64 _ (by decide) ?_
  refine scales_piece64 arg1 harg1 x0 x2 59 6 128 5 384 0 _ inb_S192x16x512_S64x1x128_128_5_384 slices_S128x64_o0_0_S64x64 _ (by decide) ?_
  refine scales_piece64 arg1 harg1 x0 x2 59 5 128 5 256 64 _ inb_S192x16x512_S64x1x128_128_5_256 slices_S128x64_o64_0_S64x64 _ (by decide) ?_
  refine scales_piece64 arg1 harg1 x0 x2 59 4 128 5 256 0 _ inb_S192x16x512_S64x1x128_128_5_256 slices_S128x64_o0_0_S64x64 _ (by decide) ?_
  refine scales_piece64 arg1 harg1 x0 x2 59 3 128 5 128 64 _ inb_S192x16x512_S64x1x128_128_5_128 slices_S128x64_o64_0_S64x64 _ (by decide) ?_
  refine scales_piece64 arg1 harg1 x0 x2 59 2 128 5 128 0 _ inb_S192x16x512_S64x1x128_128_5_128 slices_S128x64_o0_0_S64x64 _ (by decide) ?_
  refine scales_piece64 arg1 harg1 x0 x2 59 1 128 5 0 64 _ inb_S192x16x512_S64x1x128_128_5_0 slices_S128x64_o64_0_S64x64 _ (by decide) ?_
  refine scales_piece64 arg1 harg1 x0 x2 59 0 128 5 0 0 _ inb_S192x16x512_S64x1x128_128_5_0 slices_S128x64_o0_0_S64x64 _ (by decide) ?_
  refine scales_piece128 arg1 harg1 x0 x2 59 7 0 5 384 64 _ inb_S192x16x512_S128x1x128_0_5_384 slices_S128x128_o64_0_S64x128 _ (by decide) ?_
  refine scales_piece128 arg1 harg1 x0 x2 59 6 0 5 384 0 _ inb_S192x16x512_S128x1x128_0_5_384 slices_S128x128_o0_0_S64x128 _ (by decide) ?_
  refine scales_piece128 arg1 harg1 x0 x2 59 5 0 5 256 64 _ inb_S192x16x512_S128x1x128_0_5_256 slices_S128x128_o64_0_S64x128 _ (by decide) ?_
  refine scales_piece128 arg1 harg1 x0 x2 59 4 0 5 256 0 _ inb_S192x16x512_S128x1x128_0_5_256 slices_S128x128_o0_0_S64x128 _ (by decide) ?_
  refine scales_piece128 arg1 harg1 x0 x2 59 3 0 5 128 64 _ inb_S192x16x512_S128x1x128_0_5_128 slices_S128x128_o64_0_S64x128 _ (by decide) ?_
  refine scales_piece128 arg1 harg1 x0 x2 59 2 0 5 128 0 _ inb_S192x16x512_S128x1x128_0_5_128 slices_S128x128_o0_0_S64x128 _ (by decide) ?_
  refine scales_piece128 arg1 harg1 x0 x2 59 1 0 5 0 64 _ inb_S192x16x512_S128x1x128_0_5_0 slices_S128x128_o64_0_S64x128 _ (by decide) ?_
  refine scales_piece128 arg1 harg1 x0 x2 59 0 0 5 0 0 _ inb_S192x16x512_S128x1x128_0_5_0 slices_S128x128_o0_0_S64x128 _ (by decide) ?_
  refine scales_piece64 arg1 harg1 x0 x2 58 7 128 4 384 64 _ inb_S192x16x512_S64x1x128_128_4_384 slices_S128x64_o64_0_S64x64 _ (by decide) ?_
  refine scales_piece64 arg1 harg1 x0 x2 58 6 128 4 384 0 _ inb_S192x16x512_S64x1x128_128_4_384 slices_S128x64_o0_0_S64x64 _ (by decide) ?_
  refine scales_piece64 arg1 harg1 x0 x2 58 5 128 4 256 64 _ inb_S192x16x512_S64x1x128_128_4_256 slices_S128x64_o64_0_S64x64 _ (by decide) ?_
  refine scales_piece64 arg1 harg1 x0 x2 58 4 128 4 256 0 _ inb_S192x16x512_S64x1x128_128_4_256 slices_S128x64_o0_0_S64x64 _ (by decide) ?_
  refine scales_piece64 arg1 harg1 x0 x2 58 3 128 4 128 64 _ inb_S192x16x512_S64x1x128_128_4_128 slices_S128x64_o64_0_S64x64 _ (by decide) ?_
  refine scales_piece64 arg1 harg1 x0 x2 58 2 128 4 128 0 _ inb_S192x16x512_S64x1x128_128_4_128 slices_S128x64_o0_0_S64x64 _ (by decide) ?_
  refine scales_piece64 arg1 harg1 x0 x2 58 1 128 4 0 64 _ inb_S192x16x512_S64x1x128_128_4_0 slices_S128x64_o64_0_S64x64 _ (by decide) ?_
  refine scales_piece64 arg1 harg1 x0 x2 58 0 128 4 0 0 _ inb_S192x16x512_S64x1x128_128_4_0 slices_S128x64_o0_0_S64x64 _ (by decide) ?_
  refine scales_piece128 arg1 harg1 x0 x2 58 7 0 4 384 64 _ inb_S192x16x512_S128x1x128_0_4_384 slices_S128x128_o64_0_S64x128 _ (by decide) ?_
  refine scales_piece128 arg1 harg1 x0 x2 58 6 0 4 384 0 _ inb_S192x16x512_S128x1x128_0_4_384 slices_S128x128_o0_0_S64x128 _ (by decide) ?_
  refine scales_piece128 arg1 harg1 x0 x2 58 5 0 4 256 64 _ inb_S192x16x512_S128x1x128_0_4_256 slices_S128x128_o64_0_S64x128 _ (by decide) ?_
  refine scales_piece128 arg1 harg1 x0 x2 58 4 0 4 256 0 _ inb_S192x16x512_S128x1x128_0_4_256 slices_S128x128_o0_0_S64x128 _ (by decide) ?_
  refine scales_piece128 arg1 harg1 x0 x2 58 3 0 4 128 64 _ inb_S192x16x512_S128x1x128_0_4_128 slices_S128x128_o64_0_S64x128 _ (by decide) ?_
  refine scales_piece128 arg1 harg1 x0 x2 58 2 0 4 128 0 _ inb_S192x16x512_S128x1x128_0_4_128 slices_S128x128_o0_0_S64x128 _ (by decide) ?_
  refine scales_piece128 arg1 harg1 x0 x2 58 1 0 4 0 64 _ inb_S192x16x512_S128x1x128_0_4_0 slices_S128x128_o64_0_S64x128 _ (by decide) ?_
  refine scales_piece128 arg1 harg1 x0 x2 58 0 0 4 0 0 _ inb_S192x16x512_S128x1x128_0_4_0 slices_S128x128_o0_0_S64x128 _ (by decide) ?_
  refine scales_piece64 arg1 harg1 x0 x2 57 7 128 3 384 64 _ inb_S192x16x512_S64x1x128_128_3_384 slices_S128x64_o64_0_S64x64 _ (by decide) ?_
  refine scales_piece64 arg1 harg1 x0 x2 57 6 128 3 384 0 _ inb_S192x16x512_S64x1x128_128_3_384 slices_S128x64_o0_0_S64x64 _ (by decide) ?_
  refine scales_piece64 arg1 harg1 x0 x2 57 5 128 3 256 64 _ inb_S192x16x512_S64x1x128_128_3_256 slices_S128x64_o64_0_S64x64 _ (by decide) ?_
  refine scales_piece64 arg1 harg1 x0 x2 57 4 128 3 256 0 _ inb_S192x16x512_S64x1x128_128_3_256 slices_S128x64_o0_0_S64x64 _ (by decide) ?_
  refine scales_piece64 arg1 harg1 x0 x2 57 3 128 3 128 64 _ inb_S192x16x512_S64x1x128_128_3_128 slices_S128x64_o64_0_S64x64 _ (by decide) ?_
  refine scales_piece64 arg1 harg1 x0 x2 57 2 128 3 128 0 _ inb_S192x16x512_S64x1x128_128_3_128 slices_S128x64_o0_0_S64x64 _ (by decide) ?_
  refine scales_piece64 arg1 harg1 x0 x2 57 1 128 3 0 64 _ inb_S192x16x512_S64x1x128_128_3_0 slices_S128x64_o64_0_S64x64 _ (by decide) ?_
  refine scales_piece64 arg1 harg1 x0 x2 57 0 128 3 0 0 _ inb_S192x16x512_S64x1x128_128_3_0 slices_S128x64_o0_0_S64x64 _ (by decide) ?_
  refine scales_piece128 arg1 harg1 x0 x2 57 7 0 3 384 64 _ inb_S192x16x512_S128x1x128_0_3_384 slices_S128x128_o64_0_S64x128 _ (by decide) ?_
  refine scales_piece128 arg1 harg1 x0 x2 57 6 0 3 384 0 _ inb_S192x16x512_S128x1x128_0_3_384 slices_S128x128_o0_0_S64x128 _ (by decide) ?_
  refine scales_piece128 arg1 harg1 x0 x2 57 5 0 3 256 64 _ inb_S192x16x512_S128x1x128_0_3_256 slices_S128x128_o64_0_S64x128 _ (by decide) ?_
  refine scales_piece128 arg1 harg1 x0 x2 57 4 0 3 256 0 _ inb_S192x16x512_S128x1x128_0_3_256 slices_S128x128_o0_0_S64x128 _ (by decide) ?_
  refine scales_piece128 arg1 harg1 x0 x2 57 3 0 3 128 64 _ inb_S192x16x512_S128x1x128_0_3_128 slices_S128x128_o64_0_S64x128 _ (by decide) ?_
  refine scales_piece128 arg1 harg1 x0 x2 57 2 0 3 128 0 _ inb_S192x16x512_S128x1x128_0_3_128 slices_S128x128_o0_0_S64x128 _ (by decide) ?_
  refine scales_piece128 arg1 harg1 x0 x2 57 1 0 3 0 64 _ inb_S192x16x512_S128x1x128_0_3_0 slices_S128x128_o64_0_S64x128 _ (by decide) ?_
  refine scales_piece128 arg1 harg1 x0 x2 57 0 0 3 0 0 _ inb_S192x16x512_S128x1x128_0_3_0 slices_S128x128_o0_0_S64x128 _ (by decide) ?_
  refine scales_piece64 arg1 harg1 x0 x2 56 7 128 2 384 64 _ inb_S192x16x512_S64x1x128_128_2_384 slices_S128x64_o64_0_S64x64 _ (by decide) ?_
  refine scales_piece64 arg1 harg1 x0 x2 56 6 128 2 384 0 _ inb_S192x16x512_S64x1x128_128_2_384 slices_S128x64_o0_0_S64x64 _ (by decide) ?_
  refine scales_piece64 arg1 harg1 x0 x2 56 5 128 2 256 64 _ inb_S192x16x512_S64x1x128_128_2_256 slices_S128x64_o64_0_S64x64 _ (by decide) ?_
  refine scales_piece64 arg1 harg1 x0 x2 56 4 128 2 256 0 _ inb_S192x16x512_S64x1x128_128_2_256 slices_S128x64_o0_0_S64x64 _ (by decide) ?_
  refine scales_piece64 arg1 harg1 x0 x2 56 3 128 2 128 64 _ inb_S192x16x512_S64x1x128_128_2_128 slices_S128x64_o64_0_S64x64 _ (by decide) ?_
  refine scales_piece64 arg1 harg1 x0 x2 56 2 128 2 128 0 _ inb_S192x16x512_S64x1x128_128_2_128 slices_S128x64_o0_0_S64x64 _ (by decide) ?_
  refine scales_piece64 arg1 harg1 x0 x2 56 1 128 2 0 64 _ inb_S192x16x512_S64x1x128_128_2_0 slices_S128x64_o64_0_S64x64 _ (by decide) ?_
  refine scales_piece64 arg1 harg1 x0 x2 56 0 128 2 0 0 _ inb_S192x16x512_S64x1x128_128_2_0 slices_S128x64_o0_0_S64x64 _ (by decide) ?_
  refine scales_piece128 arg1 harg1 x0 x2 56 7 0 2 384 64 _ inb_S192x16x512_S128x1x128_0_2_384 slices_S128x128_o64_0_S64x128 _ (by decide) ?_
  refine scales_piece128 arg1 harg1 x0 x2 56 6 0 2 384 0 _ inb_S192x16x512_S128x1x128_0_2_384 slices_S128x128_o0_0_S64x128 _ (by decide) ?_
  refine scales_piece128 arg1 harg1 x0 x2 56 5 0 2 256 64 _ inb_S192x16x512_S128x1x128_0_2_256 slices_S128x128_o64_0_S64x128 _ (by decide) ?_
  refine scales_piece128 arg1 harg1 x0 x2 56 4 0 2 256 0 _ inb_S192x16x512_S128x1x128_0_2_256 slices_S128x128_o0_0_S64x128 _ (by decide) ?_
  refine scales_piece128 arg1 harg1 x0 x2 56 3 0 2 128 64 _ inb_S192x16x512_S128x1x128_0_2_128 slices_S128x128_o64_0_S64x128 _ (by decide) ?_
  refine scales_piece128 arg1 harg1 x0 x2 56 2 0 2 128 0 _ inb_S192x16x512_S128x1x128_0_2_128 slices_S128x128_o0_0_S64x128 _ (by decide) ?_
  refine scales_piece128 arg1 harg1 x0 x2 56 1 0 2 0 64 _ inb_S192x16x512_S128x1x128_0_2_0 slices_S128x128_o64_0_S64x128 _ (by decide) ?_
  refine scales_piece128 arg1 harg1 x0 x2 56 0 0 2 0 0 _ inb_S192x16x512_S128x1x128_0_2_0 slices_S128x128_o0_0_S64x128 _ (by decide) ?_
  refine scales_piece64 arg1 harg1 x0 x2 55 7 128 1 384 64 _ inb_S192x16x512_S64x1x128_128_1_384 slices_S128x64_o64_0_S64x64 _ (by decide) ?_
  refine scales_piece64 arg1 harg1 x0 x2 55 6 128 1 384 0 _ inb_S192x16x512_S64x1x128_128_1_384 slices_S128x64_o0_0_S64x64 _ (by decide) ?_
  refine scales_piece64 arg1 harg1 x0 x2 55 5 128 1 256 64 _ inb_S192x16x512_S64x1x128_128_1_256 slices_S128x64_o64_0_S64x64 _ (by decide) ?_
  refine scales_piece64 arg1 harg1 x0 x2 55 4 128 1 256 0 _ inb_S192x16x512_S64x1x128_128_1_256 slices_S128x64_o0_0_S64x64 _ (by decide) ?_
  refine scales_piece64 arg1 harg1 x0 x2 55 3 128 1 128 64 _ inb_S192x16x512_S64x1x128_128_1_128 slices_S128x64_o64_0_S64x64 _ (by decide) ?_
  refine scales_piece64 arg1 harg1 x0 x2 55 2 128 1 128 0 _ inb_S192x16x512_S64x1x128_128_1_128 slices_S128x64_o0_0_S64x64 _ (by decide) ?_
  refine scales_piece64 arg1 harg1 x0 x2 55 1 128 1 0 64 _ inb_S192x16x512_S64x1x128_128_1_0 slices_S128x64_o64_0_S64x64 _ (by decide) ?_
  refine scales_piece64 arg1 harg1 x0 x2 55 0 128 1 0 0 _ inb_S192x16x512_S64x1x128_128_1_0 slices_S128x64_o0_0_S64x64 _ (by decide) ?_
  refine scales_piece128 arg1 harg1 x0 x2 55 7 0 1 384 64 _ inb_S192x16x512_S128x1x128_0_1_384 slices_S128x128_o64_0_S64x128 _ (by decide) ?_
  refine scales_piece128 arg1 harg1 x0 x2 55 6 0 1 384 0 _ inb_S192x16x512_S128x1x128_0_1_384 slices_S128x128_o0_0_S64x128 _ (by decide) ?_
  refine scales_piece128 arg1 harg1 x0 x2 55 5 0 1 256 64 _ inb_S192x16x512_S128x1x128_0_1_256 slices_S128x128_o64_0_S64x128 _ (by decide) ?_
  refine scales_piece128 arg1 harg1 x0 x2 55 4 0 1 256 0 _ inb_S192x16x512_S128x1x128_0_1_256 slices_S128x128_o0_0_S64x128 _ (by decide) ?_
  refine scales_piece128 arg1 harg1 x0 x2 55 3 0 1 128 64 _ inb_S192x16x512_S128x1x128_0_1_128 slices_S128x128_o64_0_S64x128 _ (by decide) ?_
  refine scales_piece128 arg1 harg1 x0 x2 55 2 0 1 128 0 _ inb_S192x16x512_S128x1x128_0_1_128 slices_S128x128_o0_0_S64x128 _ (by decide) ?_
  refine scales_piece128 arg1 harg1 x0 x2 55 1 0 1 0 64 _ inb_S192x16x512_S128x1x128_0_1_0 slices_S128x128_o64_0_S64x128 _ (by decide) ?_
  refine scales_piece128 arg1 harg1 x0 x2 55 0 0 1 0 0 _ inb_S192x16x512_S128x1x128_0_1_0 slices_S128x128_o0_0_S64x128 _ (by decide) ?_
  refine scales_piece64 arg1 harg1 x0 x2 54 7 128 0 384 64 _ inb_S192x16x512_S64x1x128_128_0_384 slices_S128x64_o64_0_S64x64 _ (by decide) ?_
  refine scales_piece64 arg1 harg1 x0 x2 54 6 128 0 384 0 _ inb_S192x16x512_S64x1x128_128_0_384 slices_S128x64_o0_0_S64x64 _ (by decide) ?_
  refine scales_piece64 arg1 harg1 x0 x2 54 5 128 0 256 64 _ inb_S192x16x512_S64x1x128_128_0_256 slices_S128x64_o64_0_S64x64 _ (by decide) ?_
  refine scales_piece64 arg1 harg1 x0 x2 54 4 128 0 256 0 _ inb_S192x16x512_S64x1x128_128_0_256 slices_S128x64_o0_0_S64x64 _ (by decide) ?_
  refine scales_piece64 arg1 harg1 x0 x2 54 3 128 0 128 64 _ inb_S192x16x512_S64x1x128_128_0_128 slices_S128x64_o64_0_S64x64 _ (by decide) ?_
  refine scales_piece64 arg1 harg1 x0 x2 54 2 128 0 128 0 _ inb_S192x16x512_S64x1x128_128_0_128 slices_S128x64_o0_0_S64x64 _ (by decide) ?_
  refine scales_piece64 arg1 harg1 x0 x2 54 1 128 0 0 64 _ inb_S192x16x512_S64x1x128_128_0_0 slices_S128x64_o64_0_S64x64 _ (by decide) ?_
  refine scales_piece64 arg1 harg1 x0 x2 54 0 128 0 0 0 _ inb_S192x16x512_S64x1x128_128_0_0 slices_S128x64_o0_0_S64x64 _ (by decide) ?_
  refine scales_piece128 arg1 harg1 x0 x2 54 7 0 0 384 64 _ inb_S192x16x512_S128x1x128_0_0_384 slices_S128x128_o64_0_S64x128 _ (by decide) ?_
  refine scales_piece128 arg1 harg1 x0 x2 54 6 0 0 384 0 _ inb_S192x16x512_S128x1x128_0_0_384 slices_S128x128_o0_0_S64x128 _ (by decide) ?_
  refine scales_piece128 arg1 harg1 x0 x2 54 5 0 0 256 64 _ inb_S192x16x512_S128x1x128_0_0_256 slices_S128x128_o64_0_S64x128 _ (by decide) ?_
  refine scales_piece128 arg1 harg1 x0 x2 54 4 0 0 256 0 _ inb_S192x16x512_S128x1x128_0_0_256 slices_S128x128_o0_0_S64x128 _ (by decide) ?_
  refine scales_piece128 arg1 harg1 x0 x2 54 3 0 0 128 64 _ inb_S192x16x512_S128x1x128_0_0_128 slices_S128x128_o64_0_S64x128 _ (by decide) ?_
  refine scales_piece128 arg1 harg1 x0 x2 54 2 0 0 128 0 _ inb_S192x16x512_S128x1x128_0_0_128 slices_S128x128_o0_0_S64x128 _ (by decide) ?_
  refine scales_piece128 arg1 harg1 x0 x2 54 1 0 0 0 64 _ inb_S192x16x512_S128x1x128_0_0_0 slices_S128x128_o64_0_S64x128 _ (by decide) ?_
  refine scales_piece128 arg1 harg1 x0 x2 54 0 0 0 0 0 _ inb_S192x16x512_S128x1x128_0_0_0 slices_S128x128_o0_0_S64x128 _ (by decide) ?_
  exact scales_copy arg3 harg3 x0 x2 _ _

/-- The codes that the body leaves. -/
theorem out_codes (y : S70x512x192.Idx) : out0_A_3 (F := Ideal) c i arg1 harg1 arg2 harg2 arg3 harg3 arg4 harg4 arg5 harg5
    x0 x1 x2 y = codesBlock x0 x1 y := by
  unfold out0_A_3
  rw [View.read_writes_eq_canon _ _ _ (cover0_A_3 c i arg1 harg1 arg2 harg2 arg3 harg3 arg4 harg4 arg5 harg5 x0 x1 x2)]
  exact View.canon_apply_of_pieces _ _ (View.PiecesOf.mem (pieces_codes c i arg1 harg1 arg2 harg2 arg3 harg3 arg4 harg4
    arg5 harg5 x0 x1 x2)) y (cover0_A_3 c i arg1 harg1 arg2 harg2 arg3 harg3 arg4 harg4 arg5 harg5 x0 x1 x2 y)

/-- The scales that the body leaves. -/
theorem out_scales (y : S70x8x192.Idx) : out0_A_4 (F := Ideal) c i arg1 harg1 arg2 harg2 arg3 harg3 arg4 harg4 arg5 harg5
    x0 x1 x2 y = scalesBlock x0 x2 y := by
  unfold out0_A_4
  rw [View.read_writes_eq_canon _ _ _ (cover0_A_4 c i arg1 harg1 arg2 harg2 arg3 harg3 arg4 harg4 arg5 harg5 x0 x1 x2)]
  exact View.canon_apply_of_pieces _ _ (View.PiecesOf.mem (pieces_scales c i arg1 harg1 arg2 harg2 arg3 harg3 arg4 harg4
    arg5 harg5 x0 x1 x2)) y (cover0_A_4 c i arg1 harg1 arg2 harg2 arg3 harg3 arg4 harg4 arg5 harg5 x0 x1 x2 y)

end Cert.RollVIdeal.Hand
-- ==== Proof.RollVFinal.lean ====
/-
  The two result arrays of a cache roll after the kernel's run.
-/
module

public import proofs.«01_k».proof.Proof.RollVOut
public import Idealize.ShloMosaic.Lib.Pipeline.ValueKit
public import Idealize.ShloMosaic.Lib.Claim
public import Idealize.ShloMosaic.Lib.StableHlo.ReadAt

@[expose] public section

set_option maxRecDepth 16384

noncomputable section

namespace Cert.RollVIdeal.Hand

open Cert.RollVIdeal Cert.RollVIdeal.Gen Cert.Roll Idealize.ShloMosaic Idealize.ShloMosaic.TcCoe
  Idealize.SL.Sem

variable (m : (ℓ : Loc nD τ sig) → Buf (Elt Ideal) ℓ) (c : Dev nD)

/-- The block index of every window at every grid point. -/
theorem idx : ∀ t : Fin grid0.N,
    win0_0.index t = ![0, 0, 8 + t.val]
    ∧ win0_1.index t = ![0, t.val, 0]
    ∧ win0_2.index t = ![0, t.val, 0]
    ∧ win0_3.index t = ![0, t.val, 0]
    ∧ win0_4.index t = ![0, t.val, 0] :=
  by decide +kernel

/-- There are four grid points. -/
theorem lt4 (t : Fin cfg0.N) : (t : ℕ) < 4 := lt_of_lt_of_eq t.isLt N_0

/-- The new frames as the region finds them. -/
theorem v3_eq (b : Fin 192) (s : Fin 16) (l : Fin 6144) :
    (V m c main_v3 : Vec Ideal S192x16x6144 .bf16) (ix3 b s l)
      = m ((c : Thread nD τ).loc main_arg0) (ix2 ⟨b * 16 + s, by omega⟩ l) := by
  unfold V V0
  simp only [hostOps0, List.flatten_cons, List.flatten_nil, List.append_nil]
  after_reads_at

/-- The cache's codes as the region finds them: streams last. -/
theorem v1_eq (p : Fin 70) (d : Fin 2048) (b : Fin 192) :
    (V m c main_v1 : Vec Ideal S70x2048x192 .i8) (ix3 p d b)
      = m ((c : Thread nD τ).loc main_arg1) (ix4 b p ⟨d / 64, by omega⟩ ⟨d % 64, Nat.mod_lt _ (by decide)⟩) := by
  unfold V V0
  simp only [hostOps0, List.flatten_cons, List.flatten_nil, List.append_nil]
  after_reads_at

/-- The cache's scales as the region finds them: streams last. -/
theorem v2_eq (p : Fin 70) (h : Fin 32) (b : Fin 192) :
    (V m c main_v2 : Vec Ideal S70x32x192 .f32) (ix3 p h b) = m ((c : Thread nD τ).loc main_arg2) (ix3 b p h) := by
  unfold V V0
  simp only [hostOps0, List.flatten_cons, List.flatten_nil, List.append_nil]
  after_reads_at

/-- The new frames, as staged. -/
theorem frames_eq (t : Fin cfg0.N) (b : Fin 192) (s : Fin 16) (l : Fin 512) :
    (iblk m c 0 t : Vec Ideal S192x16x512 .bf16) (ix3 b s l) = m ((c : Thread nD τ).loc main_arg0)
      (ix2 ⟨b * 16 + s, by omega⟩ ⟨(8 + t) * 512 + l, by have := lt4 t; omega⟩) := by
  refine Eq.trans ?_ (v3_eq m c b s ⟨(8 + t) * 512 + l, by have := lt4 t; omega⟩)
  have e : (win0_0.blk t).view.emb (ix3 b s l) = ix3 b s ⟨(8 + t) * 512 + l, by have := lt4 t; omega⟩ := by
    blk_ext [idx t]
  exact congrArg (V m c main_v3) e

/-- The cache's codes, as staged. -/
theorem cacheCodes_eq (t : Fin cfg0.N) (p : Fin 70) (d : Fin 512) (b : Fin 192) :
    (iblk m c 1 t : Vec Ideal S70x512x192 .i8) (ix3 p d b) = m ((c : Thread nD τ).loc main_arg1)
      (ix4 b p ⟨(t * 512 + d) / 64, by have := lt4 t; omega⟩ ⟨(t * 512 + d) % 64, Nat.mod_lt _ (by decide)⟩) := by
  refine Eq.trans ?_ (v1_eq m c p ⟨t * 512 + d, by have := lt4 t; omega⟩ b)
  have e : (win0_1.blk t).view.emb (ix3 p d b) = ix3 p ⟨t * 512 + d, by have := lt4 t; omega⟩ b := by
    blk_ext [idx t]
  exact congrArg (V m c main_v1) e

/-- The cache's scales, as staged. -/
theorem cacheScales_eq (t : Fin cfg0.N) (p : Fin 70) (h : Fin 8) (b : Fin 192) :
    (iblk m c 2 t : Vec Ideal S70x8x192 .f32) (ix3 p h b) = m ((c : Thread nD τ).loc main_arg2)
      (ix3 b p ⟨t * 8 + h, by have := lt4 t; omega⟩) := by
  refine Eq.trans ?_ (v2_eq m c p ⟨t * 8 + h, by have := lt4 t; omega⟩ b)
  have e : (win0_2.blk t).view.emb (ix3 p h b) = ix3 p ⟨t * 8 + h, by have := lt4 t; omega⟩ b := by
    blk_ext [idx t]
  exact congrArg (V m c main_v2) e

/-- The codes of the rolled cache, streams last. -/
def codesArr (a0 : Vec Ideal S3072x6144 .bf16) (a1 : Vec Ideal S192x70x32x64 .i8) : Vec Ideal S70x2048x192 .i8 := fun i =>
  newCode 2 a0 a1 (i 2) (i 0) ⟨(i 1 : ℕ) / 64, by have := (i 1).isLt; change (i 1 : ℕ) < 2048 at this; omega⟩
    ⟨(i 1 : ℕ) % 64, Nat.mod_lt _ (by decide)⟩

/-- The scales of the rolled cache, streams last. -/
def scalesArr (a0 : Vec Ideal S3072x6144 .bf16) (a2 : Vec Ideal S192x70x32 .f32) : Vec Ideal S70x32x192 .f32 := fun i =>
  newScale 2 a0 a2 (i 2) (i 0) (i 1)

/-- A code of the block. -/
theorem codesBlock_at (x0 : Vec Ideal S192x16x512 .bf16) (x1 : Vec Ideal S70x512x192 .i8) (p : Fin 70) (d : Fin 512)
    (b : Fin 192) : codesBlock x0 x1 (ix3 p d b) = if hp : (p : ℕ) < 54 then x1 (ix3 ⟨p + 16, by omega⟩ d b)
      else code (fun k => x0 (ix3 b ⟨p - 54, by omega⟩ ⟨(d : ℕ) / 64 * 64 + k, by omega⟩))
        ⟨(d : ℕ) % 64, Nat.mod_lt _ (by decide)⟩ := rfl

/-- A scale of the block. -/
theorem scalesBlock_at (x0 : Vec Ideal S192x16x512 .bf16) (x2 : Vec Ideal S70x8x192 .f32) (p : Fin 70) (h : Fin 8)
    (b : Fin 192) : scalesBlock x0 x2 (ix3 p h b) = if hp : (p : ℕ) < 54 then x2 (ix3 ⟨p + 16, by omega⟩ h b)
      else scale fun k => x0 (ix3 b ⟨p - 54, by omega⟩ ⟨(h : ℕ) * 64 + k, by omega⟩) := rfl

/-- A code of the array. -/
theorem codesArr_at (a0 : Vec Ideal S3072x6144 .bf16) (a1 : Vec Ideal S192x70x32x64 .i8) (p : Fin 70) (d : Fin 2048)
    (b : Fin 192) : codesArr a0 a1 (ix3 p d b)
      = if hp : (p : ℕ) < 54 then a1 (ix4 b ⟨p + 16, by omega⟩ ⟨(d : ℕ) / 64, by omega⟩ ⟨(d : ℕ) % 64, Nat.mod_lt _ (by
          decide)⟩)
        else code (head 2 a0 b ⟨p - 54, by omega⟩ ⟨(d : ℕ) / 64, by omega⟩) ⟨(d : ℕ) % 64, Nat.mod_lt _ (by decide)⟩ := rfl

/-- A scale of the array. -/
theorem scalesArr_at (a0 : Vec Ideal S3072x6144 .bf16) (a2 : Vec Ideal S192x70x32 .f32) (p : Fin 70) (h : Fin 32)
    (b : Fin 192) : scalesArr a0 a2 (ix3 p h b) = if hp : (p : ℕ) < 54 then a2 (ix3 b ⟨p + 16, by omega⟩ h)
      else scale (head 2 a0 b ⟨p - 54, by omega⟩ h) := rfl

/-- The array of codes after the run, channels above streams. -/
theorem final_codes : (dats m 0 c).arrAt 3 cfg0.N = codesArr (m ((c : Thread nD τ).loc main_arg0))
    (m ((c : Thread nD τ).loc main_arg1)) := by
  refine (dats m 0 c).arrAt_eq_of_covers 3 _ (by decide +kernel) fun t hf y => ?_
  obtain ⟨p, d, b, rfl⟩ : ∃ (p : Fin 70) (d : Fin 512) (b : Fin 192), y = ix3 p d b := ⟨y 0, y 1, y 2, eq_ix3 y⟩
  have ht := lt4 t
  have he : (win0_3.blk t).view.emb (ix3 p d b) = ix3 p ⟨t * 512 + d, by omega⟩ b := by
    blk_ext [idx t]
  blk_simp
  rw [after0_3]
  refine Eq.trans ?_ (congrArg _ he.symm)
  unfold outsAt0
  dsimp only
  rw [out_codes]
  rw [codesBlock_at, codesArr_at]
  simp only [frames_eq, cacheCodes_eq]
  by_cases hp : (p : ℕ) < 54
  · rw [dif_pos hp, dif_pos hp]
  · rw [dif_neg hp, dif_neg hp]
    congr 1
    · funext k
      unfold head
      congr 2
      exact Fin.ext (by simp; omega)
    · exact Fin.ext (by simp; omega)

/-- The array of scales after the run, heads above streams. -/
theorem final_scales : (dats m 0 c).arrAt 4 cfg0.N = scalesArr (m ((c : Thread nD τ).loc main_arg0))
    (m ((c : Thread nD τ).loc main_arg2)) := by
  refine (dats m 0 c).arrAt_eq_of_covers 4 _ (by decide +kernel) fun t hf y => ?_
  obtain ⟨p, h, b, rfl⟩ : ∃ (p : Fin 70) (h : Fin 8) (b : Fin 192), y = ix3 p h b := ⟨y 0, y 1, y 2, eq_ix3 y⟩
  have ht := lt4 t
  have he : (win0_4.blk t).view.emb (ix3 p h b) = ix3 p ⟨t * 8 + h, by omega⟩ b := by
    blk_ext [idx t]
  blk_simp
  rw [after0_4]
  refine Eq.trans ?_ (congrArg _ he.symm)
  unfold outsAt0
  dsimp only
  rw [out_scales]
  rw [scalesBlock_at, scalesArr_at]
  simp only [frames_eq, cacheScales_eq]
  by_cases hp : (p : ℕ) < 54
  · rw [dif_pos hp, dif_pos hp]
  · rw [dif_neg hp, dif_neg hp]
    congr 1
    funext k
    unfold head
    congr 2
    exact Fin.ext (by simp; omega)

/-- The codes turned so that the streams come first. -/
theorem turned_codes (a0 : Vec Ideal S3072x6144 .bf16) (a1 : Vec Ideal S192x70x32x64 .i8) :
    transpose S192x70x32x64 [3, 0, 1, 2] (shapeCast S70x32x64x192 (codesArr a0 a1) shapeCasts_S70x2048x192_S70x32x64x192)
      transposes_S70x32x64x192_S192x70x32x64_3_0_1_2 = newCodes 2 a0 a1 := by
  funext i
  obtain ⟨b, p, h, k, rfl⟩ : ∃ (b : Fin 192) (p : Fin 70) (h : Fin 32) (k : Fin 64), i = ix4 b p h k :=
    ⟨i 0, i 1, i 2, i 3, eq_ix4 i⟩
  have e : transpose S192x70x32x64 [3, 0, 1, 2] (shapeCast S70x32x64x192 (codesArr a0 a1)
      shapeCasts_S70x2048x192_S70x32x64x192) transposes_S70x32x64x192_S192x70x32x64_3_0_1_2 (ix4 b p h k)
      = codesArr a0 a1 (ix3 p ⟨h * 64 + k, by omega⟩ b) := by
    pointwise
  rw [e]
  show newCode 2 a0 a1 b p ⟨(h * 64 + k) / 64, _⟩ ⟨(h * 64 + k) % 64, _⟩ = newCode 2 a0 a1 b p h k
  congr 1 <;> exact Fin.ext (by simp; try omega)

/-- The scales turned so that the streams come first. -/
theorem turned_scales (a0 : Vec Ideal S3072x6144 .bf16) (a2 : Vec Ideal S192x70x32 .f32) :
    transpose S192x70x32 [2, 0, 1] (scalesArr a0 a2) transposes_S70x32x192_S192x70x32_2_0_1 = newScales 2 a0 a2 := by
  funext i
  obtain ⟨b, p, h, rfl⟩ : ∃ (b : Fin 192) (p : Fin 70) (h : Fin 32), i = ix3 b p h := ⟨i 0, i 1, i 2, eq_ix3 i⟩
  have e : transpose S192x70x32 [2, 0, 1] (scalesArr a0 a2) transposes_S70x32x192_S192x70x32_2_0_1 (ix3 b p h)
      = scalesArr a0 a2 (ix3 p h b) := by
    pointwise
  rw [e]
  rfl

/-- The kernel's run: its results are the rolled cache, and its arguments are left as they were. -/
theorem run (ρ : Dev nD → PrngReg) :
    θ_run defs (onTc (τ := τ) (main (F := Ideal))) ⟨m, fun _ => 0, ρ⟩ fun r => ∀ c : Dev nD,
      r.2.mem ((c.tc : Thread nD τ).loc main_v6) = newCodes 2 (m ((c.tc : Thread nD τ).loc main_arg0))
        (m ((c.tc : Thread nD τ).loc main_arg1))
      ∧ r.2.mem ((c.tc : Thread nD τ).loc main_v7) = newScales 2 (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (run_main m ρ) (unchanged m ρ))
  obtain ⟨hc, hu⟩ := h
  have hc := hc c
  refine ⟨?_, ?_, hu c⟩
  · frame_read hc
    unfold Pipeline.afterTail₀
    simp only [hostOps1, List.flatten_cons, List.flatten_nil, List.append_nil]
    run_tidy
    refine Eq.trans ?_ (turned_codes _ _)
    exact congrArg (fun z => transpose S192x70x32x64 [3, 0, 1, 2] (shapeCast S70x32x64x192 z
      shapeCasts_S70x2048x192_S70x32x64x192) transposes_S70x32x64x192_S192x70x32x64_3_0_1_2)
      ((Pipeline.withArrays_arr spec0 (by decide) c (V0 m c) (fun w => (dats m 0 c).arrAt w cfg0.N) 3).trans (final_codes m c))
  · frame_read hc
    unfold Pipeline.afterTail₀
    simp only [hostOps1, List.flatten_cons, List.flatten_nil, List.append_nil]
    run_tidy
    refine Eq.trans ?_ (turned_scales _ _)
    exact congrArg (fun z => transpose S192x70x32 [2, 0, 1] z transposes_S70x32x192_S192x70x32_2_0_1)
      ((Pipeline.withArrays_arr spec0 (by decide) c (V0 m c) (fun w => (dats m 0 c).arrAt w cfg0.N) 4).trans (final_scales m c))

end Cert.RollVIdeal.Hand
-- ==== Proof.RollVRef.lean ====
/-
  The reference of a cache roll, read entry by entry.
-/
module

public import proofs.«01_k».proof.Proof.RollSpec
public import proofs.«01_k».proof.Proof.Gen.RollVReferenceIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.RollVReferenceIdeal.Hand

open Cert.RollVReferenceIdeal Cert.RollVReferenceIdeal.Gen Cert.Roll Idealize.ShloMosaic Idealize.ShloMosaic.TcCoe
  Idealize.SL.Sem

/-- A maximum over the last of four axes, at any shapes. -/
theorem max_last (n : Fin 4 → ℕ) (m : Fin 3 → ℕ) (u : FVec Ideal (⟨4, n⟩ : Shape) .f32)
    (h : (⟨4, n⟩ : Shape).Reduces [(3 : Fin 4)] (⟨3, m⟩ : Shape)) (acc : BitVec 32) (hf hacc) (j : (⟨3, m⟩ : Shape).Idx) :
    multiReduction .maximumf [(3 : Fin 4)] (⟨3, m⟩ : Shape) u acc h hf hacc j
      = (Finset.univ : Finset (Fin (n 3))).fold max (Ideal.ofBits .f32 acc) fun k => u (h.lift j k) :=
  Ideal.multiReduction_maximumf_single (s := (⟨4, n⟩ : Shape)) (a := (3 : Fin 4)) u _ h _ _ _

/-- The reference's maximum over a head's channels. -/
theorem amax_eq (u : FVec Ideal S192x16x32x64 .f32) (b : Fin 192) (s : Fin 16) (h : Fin 32) :
    multiReduction .maximumf [3] S192x16x32 u 0xFF800000#32 reduces_S192x16x32x64_S192x16x32 (.inl rfl) rfl (ix3 b s h)
      = Finset.univ.fold max (Ideal.ofBits .f32 0xFF800000#32) fun k => u (ix4 b s h k) := by
  have := max_last ![192, 16, 32, 64] ![192, 16, 32] u reduces_S192x16x32x64_S192x16x32 0xFF800000#32 (.inl rfl) rfl
    (ix3 b s h)
  refine this.trans ?_
  refine congrArg (fun f : Fin 64 → EReal => (Finset.univ : Finset (Fin 64)).fold max (Ideal.ofBits .f32 0xFF800000#32) f)
    (funext fun k => congrArg u (funext fun a => ?_))
  match a with
  | 0 => rfl
  | 1 => rfl
  | 2 => rfl
  | 3 => rfl

/-- The scales from the greatest absolute values. -/
def scaled (a : FVec Ideal S192x16x32 .f32) : FVec Ideal S192x16x32 .f32 :=
  select (cmpf .oeq a (broadcast S192x16x32 (Scalar.ofBits .f32 0x00000000#32)))
    (broadcast S192x16x32 (Scalar.ofBits .f32 0x3F800000#32))
    (divf a (broadcast S192x16x32 (Scalar.ofBits .f32 0x42FE0000#32)))

/-- A scale, from the greatest absolute value. -/
theorem scaled_eq (a : FVec Ideal S192x16x32 .f32) (b : Fin 192) (s : Fin 16) (h : Fin 32) :
    scaled a (ix3 b s h) = if a (ix3 b s h) = 0 then 1 else Ideal.div (a (ix3 b s h)) (Ideal.ofBits .f32 0x42FE0000#32) := by
  pointwise [scaled]

/-- The new frames as numbers. -/
theorem frames_eq (v : Vec Ideal S192x16x32x64 .bf16) (b : Fin 192) (s : Fin 16) (h : Fin 32) (k : Fin 64) :
    k0_pay1 v (ix4 b s h k) = v (ix4 b s h k) := by
  pointwise [k0_pay1]

/-- The new scales. -/
theorem scales_eq (v : Vec Ideal S192x16x32x64 .bf16) (b : Fin 192) (s : Fin 16) (h : Fin 32) :
    k0_pay2 v (ix3 b s h) = scale fun k => v (ix4 b s h k) := by
  show scaled (multiReduction .maximumf [3] S192x16x32 (absf (k0_pay1 v)) 0xFF800000#32 reduces_S192x16x32x64_S192x16x32
    (.inl rfl) rfl) (ix3 b s h) = _
  have e : multiReduction .maximumf [3] S192x16x32 (absf (k0_pay1 v)) 0xFF800000#32 reduces_S192x16x32x64_S192x16x32
      (.inl rfl) rfl (ix3 b s h) = amax fun k => v (ix4 b s h k) := by
    rw [amax_eq]
    unfold amax
    refine congrArg (fun f : Fin 64 → EReal => (Finset.univ : Finset (Fin 64)).fold max (Ideal.ofBits .f32 0xFF800000#32) f)
      (funext fun k => ?_)
    show FloatOps.absf (F := Ideal) (φ := .f32) (k0_pay1 v (ix4 b s h k)) = _
    rw [frames_eq]
  rw [scaled_eq, e]
  rfl

/-- The codes from the numbers and the scales. -/
def coded (u : FVec Ideal S192x16x32x64 .f32) (sc : FVec Ideal S192x16x32 .f32) : IVec S192x16x32x64 8 :=
  fptosi 8 (minimumf (broadcast S192x16x32x64 (Scalar.ofBits .f32 0x42FE0000#32))
    (maximumf (broadcast S192x16x32x64 (Scalar.ofBits .f32 0xC2FE0000#32))
      (roundeven (divf u (broadcastTo S192x16x32x64 (shapeCast S192x16x32x1 sc shapeCasts_S192x16x32_S192x16x32x1)
        broadcasts_S192x16x32x1_S192x16x32x64)))))

/-- A code, from the number and its head's scale. -/
theorem coded_eq (u : FVec Ideal S192x16x32x64 .f32) (sc : FVec Ideal S192x16x32 .f32) (b : Fin 192) (s : Fin 16)
    (h : Fin 32) (k : Fin 64) : coded u sc (ix4 b s h k)
      = FloatOps.fptosi (F := Ideal) (φ := .f32) 8 (min (Ideal.ofBits .f32 0x42FE0000#32) (max (Ideal.ofBits .f32
          0xC2FE0000#32) (Ideal.liftRound Ideal.roundHalfEven (Ideal.div (u (ix4 b s h k)) (sc (ix3 b s h)))))) := by
  pointwise [coded]

/-- Codes of the cache followed by new codes. -/
theorem joinedCodes_eq (x : IVec S192x54x32x64 8) (y : IVec S192x16x32x64 8) (b : Fin 192) (p : Fin 70) (h : Fin 32)
    (k : Fin 64) :
    concatenate S192x70x32x64 1 [⟨S192x54x32x64, x⟩, ⟨S192x16x32x64, y⟩]
      concatenates_S192x54x32x64_S192x16x32x64_S192x70x32x64_d1 (ix4 b p h k)
      = if hp : (p : ℕ) < 54 then x (ix4 b ⟨p, hp⟩ h k) else y (ix4 b ⟨p - 54, by omega⟩ h k) := by
  pointwise

/-- Scales of the cache followed by new scales. -/
theorem joinedScales_eq (x : FVec Ideal S192x54x32 .f32) (y : FVec Ideal S192x16x32 .f32) (b : Fin 192) (p : Fin 70)
    (h : Fin 32) :
    concatenate S192x70x32 1 [⟨S192x54x32, x⟩, ⟨S192x16x32, y⟩]
      concatenates_S192x54x32_S192x16x32_S192x70x32_d1 (ix3 b p h)
      = if hp : (p : ℕ) < 54 then x (ix3 b ⟨p, hp⟩ h) else y (ix3 b ⟨p - 54, by omega⟩ h) := by
  pointwise

/-- The stored codes. -/
theorem storedCodes_eq (v : Vec Ideal S192x16x32x64 .bf16) (x : Vec Ideal S192x54x32x64 .i8) (b : Fin 192) (p : Fin 70)
    (h : Fin 32) (k : Fin 64) :
    k0_pay3 v x (ix4 b p h k) = if hp : (p : ℕ) < 54 then x (ix4 b ⟨p, hp⟩ h k)
      else code (fun k' => v (ix4 b ⟨p - 54, by omega⟩ h k')) k := by
  refine (joinedCodes_eq x (coded (k0_pay1 v) (k0_pay2 v)) b p h k).trans ?_
  simp only [coded_eq, frames_eq, scales_eq]
  rfl

/-- The stored scales. -/
theorem storedScales_eq (v : Vec Ideal S192x16x32x64 .bf16) (x : Vec Ideal S192x54x32 .f32) (b : Fin 192) (p : Fin 70)
    (h : Fin 32) :
    k0_pay4 v x (ix3 b p h) = if hp : (p : ℕ) < 54 then x (ix3 b ⟨p, hp⟩ h)
      else scale fun k' => v (ix4 b ⟨p - 54, by omega⟩ h k') := by
  refine (joinedScales_eq x (k0_pay2 v) b p h).trans ?_
  simp only [scales_eq]

end Cert.RollVReferenceIdeal.Hand
-- ==== Proof.RollVRefFinal.lean ====
/-
  The two result arrays of a cache roll after the reference's run.
-/
module

public import proofs.«01_k».proof.Proof.RollVRef
public import Idealize.ShloMosaic.Lib.StableHlo.ReadAt

@[expose] public section

set_option maxRecDepth 16384

noncomputable section

namespace Cert.RollVReferenceIdeal.Hand

open Cert.RollVReferenceIdeal Cert.RollVReferenceIdeal.Gen Cert.RollVReferenceIdeal.Value Cert.Roll Idealize.ShloMosaic
  Idealize.ShloMosaic.TcCoe Idealize.SL.Sem

variable (m : (ℓ : Loc nD τ sig) → Buf (Elt Ideal) ℓ) (c : Dev nD)

/-- The block index of every window at the one grid point. -/
theorem idx : ∀ t : Fin grid0.N,
    win0_0.index t = ![0, 0, 0, 0]
    ∧ win0_1.index t = ![0, 0, 0, 0]
    ∧ win0_2.index t = ![0, 0, 0]
    ∧ win0_3.index t = ![0, 0, 0, 0]
    ∧ win0_4.index t = ![0, 0, 0] :=
  by decide +kernel

/-- The new frames' part as the region finds it. -/
theorem v2_eq (b : Fin 192) (s : Fin 16) (h : Fin 32) (k : Fin 64) :
    (V m c main_v2 : Vec Ideal S192x16x32x64 .bf16) (ix4 b s h k)
      = head 2 (m ((c : Thread nD τ).loc main_arg0)) b s h k := by
  unfold V head
  after_reads_at

/-- The new frames' part, as staged. -/
theorem head_eq (t : Fin cfg0.N) (b : Fin 192) (s : Fin 16) (h : Fin 32) (k : Fin 64) :
    (iblk m c 0 t : Vec Ideal S192x16x32x64 .bf16) (ix4 b s h k)
      = head 2 (m ((c : Thread nD τ).loc main_arg0)) b s h k := by
  refine Eq.trans ?_ (v2_eq m c b s h k)
  have e : (win0_0.blk t).view.emb (ix4 b s h k) = ix4 b s h k := by
    blk_ext [idx t]
  exact congrArg (V m c main_v2) e

/-- The cache's codes, as staged. -/
theorem cacheCodes_eq (t : Fin cfg0.N) (b : Fin 192) (p : Fin 70) (h : Fin 32) (k : Fin 64) :
    (iblk m c 1 t : Vec Ideal S192x70x32x64 .i8) (ix4 b p h k) = m ((c : Thread nD τ).loc main_arg1) (ix4 b p h k) := by
  blk_point [iblk, V, idx t]

/-- The cache's scales, as staged. -/
theorem cacheScales_eq (t : Fin cfg0.N) (b : Fin 192) (p : Fin 70) (h : Fin 32) :
    (iblk m c 2 t : Vec Ideal S192x70x32 .f32) (ix3 b p h) = m ((c : Thread nD τ).loc main_arg2) (ix3 b p h) := by
  blk_point [iblk, V, idx t]

/-- The load of the new frames. -/
theorem ld_frames (x0 : Vec Ideal S192x16x32x64 .bf16) (b : Fin 192) (s : Fin 16) (h : Fin 32) (k : Fin 64) :
    (View.ld x0 r0_0 : Vec Ideal S192x16x32x64 .bf16) (ix4 b s h k) = x0 (ix4 b s h k) := by
  pointwise

/-- The load of the cache's later codes. -/
theorem ld_codes (x1 : Vec Ideal S192x70x32x64 .i8) (b : Fin 192) (p : Fin 54) (h : Fin 32) (k : Fin 64) :
    (View.ld x1 r0_1 : Vec Ideal S192x54x32x64 .i8) (ix4 b p h k) = x1 (ix4 b ⟨p + 16, by omega⟩ h k) := by
  pointwise
  simp only [Nat.add_comm]

/-- The load of the cache's later scales. -/
theorem ld_scales (x2 : Vec Ideal S192x70x32 .f32) (b : Fin 192) (p : Fin 54) (h : Fin 32) :
    (View.ld x2 r0_3 : Vec Ideal S192x54x32 .f32) (ix3 b p h) = x2 (ix3 b ⟨p + 16, by omega⟩ h) := by
  pointwise
  simp only [Nat.add_comm]

/-- The codes that the body leaves. -/
theorem out_codes (x0 : Vec Ideal S192x16x32x64 .bf16) (x1 : Vec Ideal S192x70x32x64 .i8) (x2 : Vec Ideal S192x70x32 .f32)
    (b : Fin 192) (p : Fin 70) (h : Fin 32) (k : Fin 64) :
    out0_3 x0 x1 x2 (ix4 b p h k) = if hp : (p : ℕ) < 54 then x1 (ix4 b ⟨p + 16, by omega⟩ h k)
      else code (fun k' => x0 (ix4 b ⟨p - 54, by omega⟩ h k')) k := by
  unfold out0_3
  rw [View.canon_unit_zero (by decide), storedCodes_eq]
  exact dite_congr rfl (fun hp => ld_codes x1 b ⟨p, hp⟩ h k)
    fun hp => congrArg (fun w => code w k) (funext fun k' => ld_frames x0 b ⟨p - 54, by omega⟩ h k')

/-- The scales that the body leaves. -/
theorem out_scales (x0 : Vec Ideal S192x16x32x64 .bf16) (x1 : Vec Ideal S192x70x32x64 .i8) (x2 : Vec Ideal S192x70x32 .f32)
    (b : Fin 192) (p : Fin 70) (h : Fin 32) :
    out0_4 x0 x1 x2 (ix3 b p h) = if hp : (p : ℕ) < 54 then x2 (ix3 b ⟨p + 16, by omega⟩ h)
      else scale fun k' => x0 (ix4 b ⟨p - 54, by omega⟩ h k') := by
  unfold out0_4
  rw [View.canon_unit_zero (by decide), storedScales_eq]
  exact dite_congr rfl (fun hp => ld_scales x2 b ⟨p, hp⟩ h)
    fun hp => congrArg scale (funext fun k' => ld_frames x0 b ⟨p - 54, by omega⟩ h k')

/-- The array of codes after the run. -/
theorem final_codes : (dats m 0 c).arrAt 3 cfg0.N = newCodes 2 (m ((c : Thread nD τ).loc main_arg0))
    (m ((c : Thread nD τ).loc main_arg1)) := by
  refine (dats m 0 c).arrAt_eq_of_covers 3 _ (by decide +kernel) fun t hf y => ?_
  obtain ⟨b, p, h, k, rfl⟩ : ∃ (b : Fin 192) (p : Fin 70) (h : Fin 32) (k : Fin 64), y = ix4 b p h k :=
    ⟨y 0, y 1, y 2, y 3, eq_ix4 y⟩
  have he : (win0_3.blk t).view.emb (ix4 b p h k) = ix4 b p h k := by
    blk_ext [idx t]
  blk_simp
  rw [after0_3]
  refine Eq.trans ?_ (congrArg _ he.symm)
  rw [out_codes]
  simp only [head_eq, cacheCodes_eq]
  rfl

/-- The array of scales after the run. -/
theorem final_scales : (dats m 0 c).arrAt 4 cfg0.N = newScales 2 (m ((c : Thread nD τ).loc main_arg0))
    (m ((c : Thread nD τ).loc main_arg2)) := by
  refine (dats m 0 c).arrAt_eq_of_covers 4 _ (by decide +kernel) fun t hf y => ?_
  obtain ⟨b, p, h, rfl⟩ : ∃ (b : Fin 192) (p : Fin 70) (h : Fin 32), y = ix3 b p h := ⟨y 0, y 1, y 2, eq_ix3 y⟩
  have he : (win0_4.blk t).view.emb (ix3 b p h) = ix3 b p h := by
    blk_ext [idx t]
  blk_simp
  rw [after0_4]
  refine Eq.trans ?_ (congrArg _ he.symm)
  rw [out_scales]
  simp only [head_eq, cacheScales_eq]
  rfl

end Cert.RollVReferenceIdeal.Hand
-- ==== Proof.lean ====
module

public import proofs.«01_k».proof.Defs
public import proofs.«01_k».proof.Proof.Gen.Kernel.Frame
public import proofs.«01_k».proof.Proof.Gen.Qkv.Frame
public import proofs.«01_k».proof.Proof.Gen.On_normal_scales
public import proofs.«01_k».proof.Proof.Final
public import proofs.«01_k».proof.Proof.RefFinal
public import proofs.«01_k».proof.Proof.TailFinal
public import proofs.«01_k».proof.Proof.RefTailFinal
public import proofs.«01_k».proof.Proof.TailMask
public import proofs.«01_k».proof.Proof.QkvFinal
public import proofs.«01_k».proof.Proof.QkvRef
public import proofs.«01_k».proof.Proof.Gen.RollK.Frame
public import proofs.«01_k».proof.Proof.RollKFinal
public import proofs.«01_k».proof.Proof.RollKRefFinal
public import proofs.«01_k».proof.Proof.Gen.RollV.Frame
public import proofs.«01_k».proof.Proof.RollVFinal
public import proofs.«01_k».proof.Proof.RollVRefFinal
public import Idealize.ShloMosaic.Adequacy
public import Idealize.ShloMosaic.Init
public import Idealize.ShloMosaic.Lib.Quiescent

@[expose] public section

noncomputable section

namespace Cert.Proof

open Idealize.ShloMosaic Idealize.SL.Sem Cert.Conv

/-- The kernel and the reference of the convolution module agree where the mask is set. -/
theorem algebraic : Cert.algebraic_KernelIdeal_ReferenceIdeal_on_normal_scales := by
  intro m g m' g' _ hm
  refine ⟨fun c => yArr (m ((c.tc : Thread _ _).loc Cert.KernelIdeal.main_arg0)) (m ((c.tc : Thread _ _).loc
        Cert.KernelIdeal.main_arg1)) (m ((c.tc : Thread _ _).loc Cert.KernelIdeal.main_arg2)) (m ((c.tc : Thread _
        _).loc Cert.KernelIdeal.main_arg3)) (m ((c.tc : Thread _ _).loc Cert.KernelIdeal.main_arg4)) (m ((c.tc :
        Thread _ _).loc Cert.KernelIdeal.main_arg5)) (m ((c.tc : Thread _ _).loc Cert.KernelIdeal.main_arg6)) (m
        ((c.tc : Thread _ _).loc Cert.KernelIdeal.main_arg7)) (m ((c.tc : Thread _ _).loc Cert.KernelIdeal.main_arg8))
        (m ((c.tc : Thread _ _).loc Cert.KernelIdeal.main_arg9)) (m ((c.tc : Thread _ _).loc
        Cert.KernelIdeal.main_arg10)) (m ((c.tc : Thread _ _).loc Cert.KernelIdeal.main_arg11)) (m ((c.tc : Thread _
        _).loc Cert.KernelIdeal.main_arg12)) (m ((c.tc : Thread _ _).loc Cert.KernelIdeal.main_arg13)) (m ((c.tc :
        Thread _ _).loc Cert.KernelIdeal.main_arg14)),
    fun c => coArr (m ((c.tc : Thread _ _).loc Cert.KernelIdeal.main_arg0)) (m ((c.tc : Thread _ _).loc
        Cert.KernelIdeal.main_arg1)) (m ((c.tc : Thread _ _).loc Cert.KernelIdeal.main_arg2)) (m ((c.tc : Thread _
        _).loc Cert.KernelIdeal.main_arg3)) (m ((c.tc : Thread _ _).loc Cert.KernelIdeal.main_arg4)) (m ((c.tc :
        Thread _ _).loc Cert.KernelIdeal.main_arg5)) (m ((c.tc : Thread _ _).loc Cert.KernelIdeal.main_arg6)) (m
        ((c.tc : Thread _ _).loc Cert.KernelIdeal.main_arg7)) (m ((c.tc : Thread _ _).loc Cert.KernelIdeal.main_arg8))
        (m ((c.tc : Thread _ _).loc Cert.KernelIdeal.main_arg9)) (m ((c.tc : Thread _ _).loc
        Cert.KernelIdeal.main_arg10)) (m ((c.tc : Thread _ _).loc Cert.KernelIdeal.main_arg11)) (m ((c.tc : Thread _
        _).loc Cert.KernelIdeal.main_arg12)) (m ((c.tc : Thread _ _).loc Cert.KernelIdeal.main_arg13)) (m ((c.tc :
        Thread _ _).loc Cert.KernelIdeal.main_arg14)),
    fun c => codeArr (m ((c.tc : Thread _ _).loc Cert.KernelIdeal.main_arg0)) (m ((c.tc : Thread _ _).loc
        Cert.KernelIdeal.main_arg1)) (m ((c.tc : Thread _ _).loc Cert.KernelIdeal.main_arg2)) (m ((c.tc : Thread _
        _).loc Cert.KernelIdeal.main_arg3)) (m ((c.tc : Thread _ _).loc Cert.KernelIdeal.main_arg4)) (m ((c.tc :
        Thread _ _).loc Cert.KernelIdeal.main_arg5)) (m ((c.tc : Thread _ _).loc Cert.KernelIdeal.main_arg6)) (m
        ((c.tc : Thread _ _).loc Cert.KernelIdeal.main_arg7)) (m ((c.tc : Thread _ _).loc Cert.KernelIdeal.main_arg8))
        (m ((c.tc : Thread _ _).loc Cert.KernelIdeal.main_arg9)) (m ((c.tc : Thread _ _).loc
        Cert.KernelIdeal.main_arg10)) (m ((c.tc : Thread _ _).loc Cert.KernelIdeal.main_arg11)) (m ((c.tc : Thread _
        _).loc Cert.KernelIdeal.main_arg12)) (m ((c.tc : Thread _ _).loc Cert.KernelIdeal.main_arg13)) (m ((c.tc :
        Thread _ _).loc Cert.KernelIdeal.main_arg14)),
    fun c => scaleArr (m ((c.tc : Thread _ _).loc Cert.KernelIdeal.main_arg0)) (m ((c.tc : Thread _ _).loc
        Cert.KernelIdeal.main_arg1)) (m ((c.tc : Thread _ _).loc Cert.KernelIdeal.main_arg2)) (m ((c.tc : Thread _
        _).loc Cert.KernelIdeal.main_arg3)) (m ((c.tc : Thread _ _).loc Cert.KernelIdeal.main_arg4)) (m ((c.tc :
        Thread _ _).loc Cert.KernelIdeal.main_arg5)) (m ((c.tc : Thread _ _).loc Cert.KernelIdeal.main_arg6)) (m
        ((c.tc : Thread _ _).loc Cert.KernelIdeal.main_arg7)) (m ((c.tc : Thread _ _).loc Cert.KernelIdeal.main_arg8))
        (m ((c.tc : Thread _ _).loc Cert.KernelIdeal.main_arg9)) (m ((c.tc : Thread _ _).loc
        Cert.KernelIdeal.main_arg10)) (m ((c.tc : Thread _ _).loc Cert.KernelIdeal.main_arg11)) (m ((c.tc : Thread _
        _).loc Cert.KernelIdeal.main_arg12)) (m ((c.tc : Thread _ _).loc Cert.KernelIdeal.main_arg13)) (m ((c.tc :
        Thread _ _).loc Cert.KernelIdeal.main_arg14)), ?_, ?_⟩
  · refine (θ_run _ _ _).mono (fun r h c => ?_) (Cert.KernelIdeal.Value.run_blocks m g)
    obtain ⟨h0, h1, h2, h3, ha⟩ := h c
    exact ⟨fun i _ => congrFun (h0.trans (Cert.KernelIdeal.Hand.final_y m c)) i,
      fun i _ => congrFun (h1.trans (Cert.KernelIdeal.Hand.final_co m c)) i,
      fun i q => (congrFun (h2.trans (Cert.KernelIdeal.Hand.final_codes m c)) i).trans
        (kCode_eq _ _ _ _ _ _ _ _ _ _ _ _ _ _ _ i (Cert.On_normal_scales.Hand.inRange_codes _ _ _ _ _ _ _ _ _ _ _ _ _ _ _ i q)),
      fun i q => (congrFun (h3.trans (Cert.KernelIdeal.Hand.final_scales m c)) i).trans
        (kScale_eq _ _ _ _ _ _ _ _ _ _ _ _ _ _ _ i (Cert.On_normal_scales.Hand.inRange_scales _ _ _ _ _ _ _ _ _ _ _ _ _ _ _ i q)), ha⟩
  · refine (θ_run _ _ _).mono (fun r h c => ?_) (Cert.ReferenceIdeal.Value.run_blocks m' g')
    obtain ⟨h0, h1, h2, h3, ha⟩ := h c
    have fy := Cert.ReferenceIdeal.Hand.final_y m' c
    have fco := Cert.ReferenceIdeal.Hand.final_co m' c
    have fcodes := Cert.ReferenceIdeal.Hand.final_codes m' c
    have fscales := Cert.ReferenceIdeal.Hand.final_scales m' c
    obtain ⟨e0, e1, e2, e3, e4, e5, e6, e7, e8, e9, e10, e11, e12, e13, e14⟩ := hm c
    simp only [e0, e1, e2, e3, e4, e5, e6, e7, e8, e9, e10, e11, e12, e13, e14] at fy fco fcodes fscales
    exact ⟨fun i _ => congrFun (h0.trans fy) i, fun i _ => congrFun (h1.trans fco) i,
      fun i _ => congrFun (h2.trans fcodes) i, fun i _ => congrFun (h3.trans fscales) i, ha⟩

/-- The kernel and the reference of the first projection end with the same array. -/
theorem qkv_algebraic : Cert.algebraic_QkvIdeal_QkvReferenceIdeal := by
  intro m g m' g' _ hm
  refine ⟨fun c => Proj.qkvArr (m ((c.tc : Thread _ _).loc Cert.QkvIdeal.main_arg0))
      (m ((c.tc : Thread _ _).loc Cert.QkvIdeal.main_arg1)) (m ((c.tc : Thread _ _).loc Cert.QkvIdeal.main_arg2))
      (m ((c.tc : Thread _ _).loc Cert.QkvIdeal.main_arg3)) (m ((c.tc : Thread _ _).loc Cert.QkvIdeal.main_arg4)), ?_, ?_⟩
  · exact (θ_run _ _ _).mono (fun r h c => ⟨(h c).1.trans (Cert.QkvIdeal.Hand.final m c), (h c).2⟩)
      (Cert.QkvIdeal.Value.run_blocks m g)
  · refine (θ_run _ _ _).mono (fun r h c => ⟨(h c).1.trans ?_, (h c).2⟩) (Cert.QkvReferenceIdeal.Hand.run m' g')
    obtain ⟨e0, e1, e2, e3, e4⟩ := hm c
    rw [e0, e1, e2, e3, e4]

/-- The reference of the first projection runs and leaves its arguments as they were. -/
theorem qkv_reference_frame : Cert.quiescent_QkvReferenceIdeal := fun m g _ =>
  (θ_run Cert.QkvReferenceIdeal.defs _ _).mono (fun r h => ⟨fun c => (h c).2,
    sem_eq_zero_of_no_sems (by decide) r.2⟩) (Cert.QkvReferenceIdeal.Hand.run m g)

/-- The kernel and the reference of the roll of the cached keys end with the same codes and the same scales. -/
theorem roll_k_algebraic : Cert.algebraic_RollKIdeal_RollKReferenceIdeal := by
  intro m g m' g' _ hm
  refine ⟨fun c => Roll.newCodes 1 (m ((c.tc : Thread _ _).loc Cert.RollKIdeal.main_arg0))
      (m ((c.tc : Thread _ _).loc Cert.RollKIdeal.main_arg1)),
    fun c => Roll.newScales 1 (m ((c.tc : Thread _ _).loc Cert.RollKIdeal.main_arg0))
      (m ((c.tc : Thread _ _).loc Cert.RollKIdeal.main_arg2)), ?_, ?_⟩
  · exact Cert.RollKIdeal.Hand.run m g
  · refine (θ_run _ _ _).mono (fun r h c => ?_) (Cert.RollKReferenceIdeal.Value.run_blocks m' g')
    obtain ⟨h0, h1, ha⟩ := h c
    obtain ⟨e0, e1, e2⟩ := hm c
    have f0 := Cert.RollKReferenceIdeal.Hand.final_codes m' c
    have f1 := Cert.RollKReferenceIdeal.Hand.final_scales m' c
    rw [e0, e1] at f0
    rw [e0, e2] at f1
    exact ⟨h0.trans f0, h1.trans f1, ha⟩

/-- The kernel and the reference of the roll of the cached values end with the same codes and the same scales. -/
theorem roll_v_algebraic : Cert.algebraic_RollVIdeal_RollVReferenceIdeal := by
  intro m g m' g' _ hm
  refine ⟨fun c => Roll.newCodes 2 (m ((c.tc : Thread _ _).loc Cert.RollVIdeal.main_arg0))
      (m ((c.tc : Thread _ _).loc Cert.RollVIdeal.main_arg1)),
    fun c => Roll.newScales 2 (m ((c.tc : Thread _ _).loc Cert.RollVIdeal.main_arg0))
      (m ((c.tc : Thread _ _).loc Cert.RollVIdeal.main_arg2)), ?_, ?_⟩
  · exact Cert.RollVIdeal.Hand.run m g
  · refine (θ_run _ _ _).mono (fun r h c => ?_) (Cert.RollVReferenceIdeal.Value.run_blocks m' g')
    obtain ⟨h0, h1, ha⟩ := h c
    obtain ⟨e0, e1, e2⟩ := hm c
    have f0 := Cert.RollVReferenceIdeal.Hand.final_codes m' c
    have f1 := Cert.RollVReferenceIdeal.Hand.final_scales m' c
    rw [e0, e1] at f0
    rw [e0, e2] at f1
    exact ⟨h0.trans f0, h1.trans f1, ha⟩

/-- Every claim of the test holds. -/
theorem claim : Cert.Claim := ⟨Cert.Kernel.Gen.facts, Cert.KernelIdeal.Gen.facts, Cert.ReferenceIdeal.Gen.facts,
  Cert.Qkv.Gen.facts, Cert.QkvIdeal.Gen.facts, Cert.QkvReferenceIdeal.Gen.facts,
  Cert.RollK.Gen.facts, Cert.RollKIdeal.Gen.facts, Cert.RollKReferenceIdeal.Gen.facts,
  Cert.RollV.Gen.facts, Cert.RollVIdeal.Gen.facts, Cert.RollVReferenceIdeal.Gen.facts,
  Cert.On_normal_scales.Gen.facts, fun m ρ _ => Cert.Kernel.Gen.frame m ρ, fun m ρ _ => Cert.KernelIdeal.Gen.frame m ρ,
  fun m ρ _ => Cert.ReferenceIdeal.Gen.frame m ρ, fun m ρ _ => Cert.Qkv.Gen.frame m ρ,
  fun m ρ _ => Cert.QkvIdeal.Gen.frame m ρ, qkv_reference_frame,
  fun m ρ _ => Cert.RollK.Gen.frame m ρ, fun m ρ _ => Cert.RollKIdeal.Gen.frame m ρ,
  fun m ρ _ => Cert.RollKReferenceIdeal.Gen.frame m ρ, fun m ρ _ => Cert.RollV.Gen.frame m ρ,
  fun m ρ _ => Cert.RollVIdeal.Gen.frame m ρ, fun m ρ _ => Cert.RollVReferenceIdeal.Gen.frame m ρ,
  trivial, algebraic, trivial, qkv_algebraic, trivial, roll_k_algebraic, trivial, roll_v_algebraic⟩

end Cert.Proof

end
